-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables : Cert.Pre_tables.Facts] (m : (ℓ : Loc Cert.Kernel3.nD Cert.Kernel3.τ Cert.Kernel3.sig) → Buf (Elt Bits) ℓ) : Prop :=
  ∀ c : Dev Cert.Kernel3.nD,
    (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).1 = (fun _ => 1#1)
    ∧ (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).2 = (fun _ => 1#1)

def Pre_Kernel3Ideal [hPre_tables : Cert.Pre_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2 = (fun _ => 1#1)

def Pre_Reference3Ideal [hPre_tables : Cert.Pre_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_conditioning [hPre_conditioning : Cert.Pre_conditioning.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_conditioning.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_conditioning.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_conditioning [hPre_conditioning : Cert.Pre_conditioning.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_conditioning.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_conditioning.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_tables : Cert.Pre_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] [hPre_tables : Cert.Pre_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_conditioning [hKernel5Ideal : Cert.Kernel5Ideal.Facts] [hPre_conditioning : Cert.Pre_conditioning.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_conditioning m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_conditioning [hReference5Ideal : Cert.Reference5Ideal.Facts] [hPre_conditioning : Cert.Pre_conditioning.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_conditioning m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "lg0" .f32 0xBD020AEC#32 ((Real.log (31 / 32) : ℝ) : EReal)
  ∧ IdealRules.named_const.Statement Cert.KernelIdeal.κ "lg1" .f32 0xBC8102B3#32 ((Real.log (63 / 64) : ℝ) : EReal)
  ∧ IdealRules.named_const.Statement Cert.KernelIdeal.κ "lg2" .f32 0xBC0080AC#32 ((Real.log (127 / 128) : ℝ) : EReal)
  ∧ IdealRules.named_const.Statement Cert.KernelIdeal.κ "lg3" .f32 0xBB80402B#32 ((Real.log (255 / 256) : ℝ) : EReal)
  ∧ IdealRules.named_const.Statement Cert.KernelIdeal.κ "gc0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "gc1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "gc2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "gc3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_v64) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def preserves_Kernel5_Kernel5Ideal : Prop :=
  True

def algebraic_Kernel5Ideal_Reference5Ideal_pre_conditioning [hKernel5Ideal : Cert.Kernel5Ideal.Facts] [hReference5Ideal : Cert.Reference5Ideal.Facts] [hPre_conditioning : Cert.Pre_conditioning.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_conditioning m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v260) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_tables : Cert.Pre_tables.Facts) (hPre_conditioning : Cert.Pre_conditioning.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables := hPre_tables)
    ∧ quiescent_Kernel3Ideal (hKernel3Ideal := hKernel3Ideal) (hPre_tables := hPre_tables)
    ∧ quiescent_Reference3Ideal (hReference3Ideal := hReference3Ideal) (hPre_tables := hPre_tables)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_conditioning (hKernel5Ideal := hKernel5Ideal) (hPre_conditioning := hPre_conditioning)
    ∧ quiescent_Reference5Ideal (hReference5Ideal := hReference5Ideal)
    ∧ quiescent_Reference5Ideal_pre_conditioning (hReference5Ideal := hReference5Ideal) (hPre_conditioning := hPre_conditioning)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables := hPre_tables)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_conditioning (hKernel5Ideal := hKernel5Ideal) (hReference5Ideal := hReference5Ideal) (hPre_conditioning := hPre_conditioning)
    ∧ preserves_Kernel6_Kernel6Ideal
    ∧ algebraic_Kernel6Ideal_Reference6Ideal (hKernel6Ideal := hKernel6Ideal) (hReference6Ideal := hReference6Ideal)
-- ==== Pre_conditioning.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩

class Facts : Prop where
  bcast_S_S16x1024 : S_.BroadcastsInDim S16x1024 (![] : Fin 0 → Fin S16x1024.rank)
  bcast_S_S2x1024x6144 : S_.BroadcastsInDim S2x1024x6144 (![] : Fin 0 → Fin S2x1024x6144.rank)

variable [Facts]

def fn {F : FTy → Type} [FloatOps F] (main_arg0 : FVec F S16x1024 .f32) (main_arg1 : FVec F S2x1024x6144 .f32) (main_arg2 : FVec F S2x6144 .f32) : IVec S16x1024 1 × IVec S2x1024x6144 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_v3 : FVec F S2x1024x6144 .f32 := Host.absf main_arg1
  let main_cst_0 : FVec F S_ .f32 := constant S_ .f32 0x7F800000#32
  let main_v4 : FVec F S2x1024x6144 .f32 := broadcastInDim S2x1024x6144 ![] bcast_S_S2x1024x6144 main_cst_0
  let main_v5 : IVec S2x1024x6144 1 := cmpf .olt main_v3 main_v4
  (main_v2, main_v5)
-- ==== Pre_finite.lean ====
abbrev S32768x7680 : Shape := ⟨2, ![32768, 7680]⟩
abbrev S32768x128 : Shape := ⟨2, ![32768, 128]⟩
abbrev S512 : Shape := ⟨1, ![512]⟩
abbrev S32768x1536 : Shape := ⟨2, ![32768, 1536]⟩
abbrev S_ : Shape := ⟨0, ![]⟩

class Facts : Prop where
  slices_S32768x7680_S32768x1536_0_3072 : S32768x7680.Slices ![0, 3072] S32768x1536
  bitsLt_bf16_f32 : FTy.bits .bf16 < FTy.bits .f32
  bcast_S_S32768x1536 : S_.BroadcastsInDim S32768x1536 (![] : Fin 0 → Fin S32768x1536.rank)
  bcast_S_S32768x128 : S_.BroadcastsInDim S32768x128 (![] : Fin 0 → Fin S32768x128.rank)

variable [Facts]

def fn {F : FTy → Type} [FloatOps F] (main_arg0 : FVec F S32768x7680 .bf16) (main_arg1 : FVec F S32768x128 .f32) (main_arg2 : FVec F S512 .f32) : IVec S32768x1536 1 × IVec S32768x128 1 :=
  let main_v0 : FVec F S32768x1536 .bf16 := (extractStridedSlice S32768x1536 ![0, 3072] · slices_S32768x7680_S32768x1536_0_3072) main_arg0
  let main_v1 : FVec F S32768x1536 .f32 := (extf .f32 · bitsLt_bf16_f32) main_v0
  let main_v2 : FVec F S32768x1536 .f32 := Host.absf main_v1
  let main_cst : FVec F S_ .f32 := constant S_ .f32 0x7F800000#32
  let main_v3 : FVec F S32768x1536 .f32 := broadcastInDim S32768x1536 ![] bcast_S_S32768x1536 main_cst
  let main_v4 : IVec S32768x1536 1 := cmpf .olt main_v2 main_v3
  let main_v5 : FVec F S32768x128 .f32 := Host.absf main_arg1
  let main_cst_0 : FVec F S_ .f32 := constant S_ .f32 0x7F800000#32
  let main_v6 : FVec F S32768x128 .f32 := broadcastInDim S32768x128 ![] bcast_S_S32768x128 main_cst_0
  let main_v7 : IVec S32768x128 1 := cmpf .olt main_v5 main_v6
  (main_v4, main_v7)
-- ==== Pre_tables.lean ====
abbrev S112640x1152 : Shape := ⟨2, ![112640, 1152]⟩
abbrev S220 : Shape := ⟨1, ![220]⟩
abbrev S1 : Shape := ⟨1, ![1]⟩
abbrev S64x1024x512 : Shape := ⟨3, ![64, 1024, 512]⟩
abbrev S64x256x1024 : Shape := ⟨3, ![64, 256, 1024]⟩
abbrev S_ : Shape := ⟨0, ![]⟩

class Facts : Prop where
  bcast_S_S220 : S_.BroadcastsInDim S220 (![] : Fin 0 → Fin S220.rank)
  bcast_S_S1 : S_.BroadcastsInDim S1 (![] : Fin 0 → Fin S1.rank)

variable [Facts]

def fn {F : FTy → Type} [FloatOps F] (main_arg0 : FVec F S112640x1152 .bf16) (main_arg1 : IVec S220 32) (main_arg2 : IVec S1 32) (main_arg3 : FVec F S64x1024x512 .f32) (main_arg4 : FVec F S64x256x1024 .f32) : IVec S220 1 × IVec S1 1 :=
  let main_c : IVec S_ 32 := constantI S_ 32 0#32
  let main_v0 : IVec S220 32 := broadcastInDim S220 ![] bcast_S_S220 main_c
  let main_v1 : IVec S220 1 := cmpi .sge main_arg1 main_v0
  let main_c_0 : IVec S_ 32 := constantI S_ 32 64#32
  let main_v2 : IVec S220 32 := broadcastInDim S220 ![] bcast_S_S220 main_c_0
  let main_v3 : IVec S220 1 := cmpi .slt main_arg1 main_v2
  let main_v4 : IVec S220 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  (main_v4, main_v6)
-- ==== Kernel.lean ====
abbrev S32768x7680 : Shape := ⟨2, ![32768, 7680]⟩
abbrev S32768x128 : Shape := ⟨2, ![32768, 128]⟩
abbrev S512 : Shape := ⟨1, ![512]⟩
abbrev S1x512 : Shape := ⟨2, ![1, 512]⟩
abbrev S32768x512 : Shape := ⟨2, ![32768, 512]⟩
abbrev S256x512 : Shape := ⟨2, ![256, 512]⟩
abbrev S256x128 : Shape := ⟨2, ![256, 128]⟩
abbrev S4x128x128 : Shape := ⟨3, ![4, 128, 128]⟩
abbrev S4x256x256 : Shape := ⟨3, ![4, 256, 256]⟩
abbrev S256x256 : Shape := ⟨2, ![256, 256]⟩
abbrev S1x256x256 : Shape := ⟨3, ![1, 256, 256]⟩
abbrev S256x1 : Shape := ⟨2, ![256, 1]⟩
abbrev S1x128x128 : Shape := ⟨3, ![1, 128, 128]⟩
abbrev S128x128 : Shape := ⟨2, ![128, 128]⟩
abbrev S256 : Shape := ⟨1, ![256]⟩
abbrev S1x128 : Shape := ⟨2, ![1, 128]⟩

abbrev nBuf : Space → Nat
  | .hbm => 5
  | .vmem => 15
  | .smem => 0
  | _ => 0

abbrev bufTy : (tb : Table) → Fin (tcTables nBuf tb) → BufTy
  | .hbm, ⟨0, _⟩ => ⟨S32768x7680, .bf16⟩
  | .hbm, ⟨1, _⟩ => ⟨S32768x128, .f32⟩
  | .hbm, ⟨2, _⟩ => ⟨S512, .f32⟩
  | .hbm, ⟨3, _⟩ => ⟨S1x512, .f32⟩
  | .hbm, ⟨4, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x128, .f32⟩
  | .local _ .vmem, ⟨9, _⟩ => ⟨S256x128, .f32⟩
  | .local _ .vmem, ⟨10, _⟩ => ⟨S1x512, .f32⟩
  | .local _ .vmem, ⟨11, _⟩ => ⟨S256x512, .bf16⟩
  | .local _ .vmem, ⟨12, _⟩ => ⟨S256x512, .bf16⟩
  | .local _ .vmem, ⟨13, _⟩ => ⟨S4x128x128, .f32⟩
  | .local _ .vmem, ⟨14, _⟩ => ⟨S4x256x256, .f32⟩
  | _, _ => ⟨S32768x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let c0_i32 : BitVec 32 := 0#32
  ![v1.toNat, c7_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let c0_i32 : BitVec 32 := 0#32
  ![v1.toNat, c8_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "gc0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "gc1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "gc2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "gc3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== ReferenceIdeal.lean ====
abbrev S32768x7680 : Shape := ⟨2, ![32768, 7680]⟩
abbrev S32768x128 : Shape := ⟨2, ![32768, 128]⟩
abbrev S512 : Shape := ⟨1, ![512]⟩
abbrev S16x2048x7680 : Shape := ⟨3, ![16, 2048, 7680]⟩
abbrev S16x2048x512 : Shape := ⟨3, ![16, 2048, 512]⟩
abbrev S32768x64 : Shape := ⟨2, ![32768, 64]⟩
abbrev S16x2048x1x64 : Shape := ⟨4, ![16, 2048, 1, 64]⟩
abbrev S16x2048x4x128 : Shape := ⟨4, ![16, 2048, 4, 128]⟩
abbrev S16x2048x4x64 : Shape := ⟨4, ![16, 2048, 4, 64]⟩
abbrev S_ : Shape := ⟨0, ![]⟩
abbrev S4 : Shape := ⟨1, ![4]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S16x4x2048x2048 : Shape := ⟨4, ![16, 4, 2048, 2048]⟩
abbrev S1x4x2048x2048 : Shape := ⟨4, ![1, 4, 2048, 2048]⟩
abbrev S16x4x128x2048 : Shape := ⟨4, ![16, 4, 128, 2048]⟩
abbrev S16x2048x4 : Shape := ⟨3, ![16, 2048, 4]⟩
abbrev S16x2048x4x1 : Shape := ⟨4, ![16, 2048, 4, 1]⟩
abbrev S4x128 : Shape := ⟨2, ![4, 128]⟩
abbrev S1x1x4x128 : Shape := ⟨4, ![1, 1, 4, 128]⟩
abbrev S32768x512 : Shape := ⟨2, ![32768, 512]⟩

abbrev nBuf : Space → Nat
  | .hbm => 123
  | .vmem => 0
  | .smem => 0
  | _ => 0

abbrev bufTy : (tb : Table) → Fin (tcTables nBuf tb) → BufTy
  | .hbm, ⟨0, _⟩ => ⟨S32768x7680, .bf16⟩
  | .hbm, ⟨1, _⟩ => ⟨S32768x128, .f32⟩
  | .hbm, ⟨2, _⟩ => ⟨S512, .f32⟩
  | .hbm, ⟨3, _⟩ => ⟨S32768x7680, .f32⟩
  | .hbm, ⟨4, _⟩ => ⟨S16x2048x7680, .f32⟩
  | .hbm, ⟨5, _⟩ => ⟨S16x2048x512, .f32⟩
  | .hbm, ⟨6, _⟩ => ⟨S16x2048x512, .f32⟩
  | .hbm, ⟨7, _⟩ => ⟨S16x2048x512, .f32⟩
  | .hbm, ⟨8, _⟩ => ⟨S16x2048x512, .f32⟩
  | .hbm, ⟨9, _⟩ => ⟨S32768x64, .f32⟩
  | .hbm, ⟨10, _⟩ => ⟨S16x2048x1x64, .f32⟩
  | .hbm, ⟨11, _⟩ => ⟨S32768x64, .f32⟩
  | .hbm, ⟨12, _⟩ => ⟨S16x2048x1x64, .f32⟩
  | .hbm, ⟨13, _⟩ => ⟨S16x2048x4x128, .f32⟩
  | .hbm, ⟨14, _⟩ => ⟨S16x2048x4x64, .f32⟩
  | .hbm, ⟨15, _⟩ => ⟨S16x2048x4x64, .f32⟩
  | .hbm, ⟨16, _⟩ => ⟨S16x2048x4x64, .f32⟩
  | .hbm, ⟨17, _⟩ => ⟨S16x2048x4x64, .f32⟩
  | .hbm, ⟨18, _⟩ => ⟨S16x2048x4x64, .f32⟩
  | .hbm, ⟨19, _⟩ => ⟨S16x2048x4x64, .f32⟩
  | .hbm, ⟨20, _⟩ => ⟨S16x2048x4x64, .f32⟩
  | .hbm, ⟨21, _⟩ => ⟨S16x2048x4x64, .f32⟩
  | .hbm, ⟨22, _⟩ => ⟨S16x2048x4x64, .f32⟩
  | .hbm, ⟨23, _⟩ => ⟨S16x2048x4x64, .f32⟩
  | .hbm, ⟨24, _⟩ => ⟨S16x2048x4x64, .f32⟩
  | .hbm, ⟨25, _⟩ => ⟨S16x2048x4x64, .f32⟩
  | .hbm, ⟨26, _⟩ => ⟨S16x2048x4x128, .f32⟩
  | .hbm, ⟨27, _⟩ => ⟨S16x2048x4x128, .f32⟩
  | .hbm, ⟨28, _⟩ => ⟨S16x2048x4x64, .f32⟩
  | .hbm, ⟨29, _⟩ => ⟨S16x2048x4x64, .f32⟩
  | .hbm, ⟨30, _⟩ => ⟨S16x2048x4x64, .f32⟩
  | .hbm, ⟨31, _⟩ => ⟨S16x2048x4x64, .f32⟩
  | .hbm, ⟨32, _⟩ => ⟨S16x2048x4x64, .f32⟩
  | .hbm, ⟨33, _⟩ => ⟨S16x2048x4x64, .f32⟩
  | .hbm, ⟨34, _⟩ => ⟨S16x2048x4x64, .f32⟩
  | .hbm, ⟨35, _⟩ => ⟨S16x2048x4x64, .f32⟩
  | .hbm, ⟨36, _⟩ => ⟨S16x2048x4x64, .f32⟩
  | .hbm, ⟨37, _⟩ => ⟨S16x2048x4x64, .f32⟩
  | .hbm, ⟨38, _⟩ => ⟨S16x2048x4x64, .f32⟩
  | .hbm, ⟨39, _⟩ => ⟨S16x2048x4x64, .f32⟩
  | .hbm, ⟨40, _⟩ => ⟨S16x2048x4x128, .f32⟩
  | .hbm, ⟨41, _⟩ => ⟨S_, .f32⟩
  | .hbm, ⟨42, _⟩ => ⟨S16x2048x4x128, .f32⟩
  | .hbm, ⟨43, _⟩ => ⟨S16x2048x4x128, .f32⟩
  | .hbm, ⟨44, _⟩ => ⟨S16x2048x4x128, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S2048, .f32⟩
  | .hbm, ⟨55, _⟩ => ⟨S2048x1, .f32⟩
  | .hbm, ⟨56, _⟩ => ⟨S1x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S2048x2048, .f32⟩
  | .hbm, ⟨62, _⟩ => ⟨S2048x2048, .i1⟩
  | .hbm, ⟨63, _⟩ => ⟨S4x1x1, .f32⟩
  | .hbm, ⟨64, _⟩ => ⟨S_, .f32⟩
  | .hbm, ⟨65, _⟩ => ⟨S2048x2048, .f32⟩
  | .hbm, ⟨66, _⟩ => ⟨S2048x2048, .f32⟩
  | .hbm, ⟨67, _⟩ => ⟨S1x2048x2048, .f32⟩
  | .hbm, ⟨68, _⟩ => ⟨S4x2048x2048, .f32⟩
  | .hbm, ⟨69, _⟩ => ⟨S4x2048x2048, .f32⟩
  | .hbm, ⟨70, _⟩ => ⟨S4x2048x2048, .f32⟩
  | .hbm, ⟨71, _⟩ => ⟨S4x2048x2048, .f32⟩
  | .hbm, ⟨72, _⟩ => ⟨S_, .f32⟩
  | .hbm, ⟨73, _⟩ => ⟨S_, .f32⟩
  | .hbm, ⟨74, _⟩ => ⟨S4x2048x2048, .i1⟩
  | .hbm, ⟨75, _⟩ => ⟨S4x2048x2048, .f32⟩
  | .hbm, ⟨76, _⟩ => ⟨S4x2048x2048, .f32⟩
  | .hbm, ⟨77, _⟩ => ⟨S16x4x2048x2048, .f32⟩
  | .hbm, ⟨78, _⟩ => ⟨S1x4x2048x2048, .f32⟩
  | .hbm, ⟨79, _⟩ => ⟨S16x4x2048x2048, .f32⟩
  | .hbm, ⟨80, _⟩ => ⟨S16x4x2048x2048, .f32⟩
  | .hbm, ⟨81, _⟩ => ⟨S16x4x128x2048, .f32⟩
  | .hbm, ⟨82, _⟩ => ⟨S16x2048x4x128, .f32⟩
  | .hbm, ⟨83, _⟩ => ⟨S_, .f32⟩
  | .hbm, ⟨84, _⟩ => ⟨S16x2048x4, .f32⟩
  | .hbm, ⟨85, _⟩ => ⟨S16x2048x4x1, .f32⟩
  | .hbm, ⟨86, _⟩ => ⟨S_, .f32⟩
  | .hbm, ⟨87, _⟩ => ⟨S16x2048x4x1, .f32⟩
  | .hbm, ⟨88, _⟩ => ⟨S16x2048x4x1, .f32⟩
  | .hbm, ⟨89, _⟩ => ⟨S16x2048x4x128, .f32⟩
  | .hbm, ⟨90, _⟩ => ⟨S16x2048x4x128, .f32⟩
  | .hbm, ⟨91, _⟩ => ⟨S16x2048x4x128, .f32⟩
  | .hbm, ⟨92, _⟩ => ⟨S_, .f32⟩
  | .hbm, ⟨93, _⟩ => ⟨S16x2048x4, .f32⟩
  | .hbm, ⟨94, _⟩ => ⟨S16x2048x4x1, .f32⟩
  | .hbm, ⟨95, _⟩ => ⟨S_, .f32⟩
  | .hbm, ⟨96, _⟩ => ⟨S16x2048x4x1, .f32⟩
  | .hbm, ⟨97, _⟩ => ⟨S16x2048x4x1, .f32⟩
  | .hbm, ⟨98, _⟩ => ⟨S16x2048x4x128, .f32⟩
  | .hbm, ⟨99, _⟩ => ⟨S16x2048x4x128, .f32⟩
  | .hbm, ⟨100, _⟩ => ⟨S_, .f32⟩
  | .hbm, ⟨101, _⟩ => ⟨S16x2048x4x1, .f32⟩
  | .hbm, ⟨102, _⟩ => ⟨S16x2048x4x1, .f32⟩
  | .hbm, ⟨103, _⟩ => ⟨S16x2048x4x1, .f32⟩
  | .hbm, ⟨104, _⟩ => ⟨S16x2048x4x128, .f32⟩
  | .hbm, ⟨105, _⟩ => ⟨S16x2048x4x128, .f32⟩
  | .hbm, ⟨106, _⟩ => ⟨S4x128, .f32⟩
  | .hbm, ⟨107, _⟩ => ⟨S1x1x4x128, .f32⟩
  | .hbm, ⟨108, _⟩ => ⟨S16x2048x4x128, .f32⟩
  | .hbm, ⟨109, _⟩ => ⟨S16x2048x4x128, .f32⟩
  | .hbm, ⟨110, _⟩ => ⟨S16x2048x512, .f32⟩
  | .hbm, ⟨111, _⟩ => ⟨S16x2048x512, .f32⟩
  | .hbm, ⟨112, _⟩ => ⟨S16x2048x512, .f32⟩
  | .hbm, ⟨113, _⟩ => ⟨S_, .f32⟩
  | .hbm, ⟨114, _⟩ => ⟨S16x2048x512, .f32⟩
  | .hbm, ⟨115, _⟩ => ⟨S16x2048x512, .f32⟩
  | .hbm, ⟨116, _⟩ => ⟨S_, .f32⟩
  | .hbm, ⟨117, _⟩ => ⟨S16x2048x512, .f32⟩
  | .hbm, ⟨118, _⟩ => ⟨S16x2048x512, .f32⟩
  | .hbm, ⟨119, _⟩ => ⟨S16x2048x512, .f32⟩
  | .hbm, ⟨120, _⟩ => ⟨S16x2048x512, .f32⟩
  | .hbm, ⟨121, _⟩ => ⟨S16x2048x512, .bf16⟩
  | .hbm, ⟨122, _⟩ => ⟨S32768x512, .bf16⟩
  | _, _ => ⟨S32768x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_cst : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst_0 : Ref sig .tc := ⟨.hbm, 45, rfl⟩
abbrev main_v41 : Ref sig .tc := ⟨.hbm, 46, rfl⟩
abbrev main_v42 : Ref sig .tc := ⟨.hbm, 47, rfl⟩
abbrev main_cst_1 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_cst_2 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_cst_3 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_4 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_5 : Ref sig .tc := ⟨.hbm, 83, rfl⟩
abbrev main_v71 : Ref sig .tc := ⟨.hbm, 84, rfl⟩
abbrev main_v72 : Ref sig .tc := ⟨.hbm, 85, rfl⟩
abbrev main_cst_6 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_7 : Ref sig .tc := ⟨.hbm, 92, rfl⟩
abbrev main_v78 : Ref sig .tc := ⟨.hbm, 93, rfl⟩
abbrev main_v79 : Ref sig .tc := ⟨.hbm, 94, rfl⟩
abbrev main_cst_8 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_9 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x6144 : Shape := ⟨2, ![16, 6144]⟩
abbrev S1024 : Shape := ⟨1, ![1024]⟩
abbrev S1024x7680 : Shape := ⟨2, ![1024, 7680]⟩
abbrev S1024x3072 : Shape := ⟨2, ![1024, 3072]⟩
abbrev S1024x4608 : Shape := ⟨2, ![1024, 4608]⟩
abbrev S32768x1024 : Shape := ⟨2, ![32768, 1024]⟩
abbrev S16x6x1024 : Shape := ⟨3, ![16, 6, 1024]⟩
abbrev S1x1024 : Shape := ⟨2, ![1, 1024]⟩
abbrev S32768x7680 : Shape := ⟨2, ![32768, 7680]⟩
abbrev S1024x1024 : Shape := ⟨2, ![1024, 1024]⟩
abbrev S1x6x1024 : Shape := ⟨3, ![1, 6, 1024]⟩
abbrev S1024x2560 : Shape := ⟨2, ![1024, 2560]⟩
abbrev S1024x1 : Shape := ⟨2, ![1024, 1]⟩
abbrev S1x1x1024 : Shape := ⟨3, ![1, 1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x7680, .f32⟩
  | .hbm, ⟨4, _⟩ => ⟨S1024x3072, .f32⟩
  | .hbm, ⟨5, _⟩ => ⟨S1024x4608, .f32⟩
  | .hbm, ⟨6, _⟩ => ⟨S1024x7680, .f32⟩
  | .hbm, ⟨7, _⟩ => ⟨S1024x7680, .bf16⟩
  | .hbm, ⟨8, _⟩ => ⟨S32768x1024, .f32⟩
  | .hbm, ⟨9, _⟩ => ⟨S16x6x1024, .f32⟩
  | .hbm, ⟨10, _⟩ => ⟨S1x1024, .f32⟩
  | .hbm, ⟨11, _⟩ => ⟨S32768x7680, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2560, .bf16⟩
  | .local _ .vmem, ⟨6, _⟩ => ⟨S1024x2560, .bf16⟩
  | .local _ .vmem, ⟨7, _⟩ => ⟨S1024x2560, .bf16⟩
  | .local _ .vmem, ⟨8, _⟩ => ⟨S1024x2560, .bf16⟩
  | .local _ .vmem, ⟨9, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16x2048x1024 : Shape := ⟨3, ![16, 2048, 1024]⟩
abbrev S16x6144 : Shape := ⟨2, ![16, 6144]⟩
abbrev S1024 : Shape := ⟨1, ![1024]⟩
abbrev S1024x7680 : Shape := ⟨2, ![1024, 7680]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x7680 : Shape := ⟨3, ![16, 2048, 7680]⟩
abbrev S16x2048x4608 : Shape := ⟨3, ![16, 2048, 4608]⟩
abbrev S16x2048x3072 : Shape := ⟨3, ![16, 2048, 3072]⟩
abbrev S32768x7680 : Shape := ⟨2, ![32768, 7680]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x7680, .f32⟩
  | .hbm, ⟨4, _⟩ => ⟨S16x1024, .f32⟩
  | .hbm, ⟨5, _⟩ => ⟨S16x1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S16x1x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x1x1024, .f32⟩
  | .hbm, ⟨29, _⟩ => ⟨S16x2048x1024, .f32⟩
  | .hbm, ⟨30, _⟩ => ⟨S16x2048x1024, .f32⟩
  | .hbm, ⟨31, _⟩ => ⟨S16x2048x7680, .f32⟩
  | .hbm, ⟨32, _⟩ => ⟨S16x2048x4608, .f32⟩
  | .hbm, ⟨33, _⟩ => ⟨S16x2048x3072, .f32⟩
  | .hbm, ⟨34, _⟩ => ⟨S16x2048x7680, .f32⟩
  | .hbm, ⟨35, _⟩ => ⟨S16x2048x7680, .bf16⟩
  | .hbm, ⟨36, _⟩ => ⟨S32768x7680, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel3.lean ====
abbrev S112640x1152 : Shape := ⟨2, ![112640, 1152]⟩
abbrev S220 : Shape := ⟨1, ![220]⟩
abbrev S1 : Shape := ⟨1, ![1]⟩
abbrev S64x1024x512 : Shape := ⟨3, ![64, 1024, 512]⟩
abbrev S64x256x1024 : Shape := ⟨3, ![64, 256, 1024]⟩
abbrev S112640x1024 : Shape := ⟨2, ![112640, 1024]⟩
abbrev S1024x1152 : Shape := ⟨2, ![1024, 1152]⟩
abbrev S1x1024x512 : Shape := ⟨3, ![1, 1024, 512]⟩
abbrev S1x256x1024 : Shape := ⟨3, ![1, 256, 1024]⟩
abbrev S1024x1024 : Shape := ⟨2, ![1024, 1024]⟩
abbrev S2x1024x512 : Shape := ⟨3, ![2, 1024, 512]⟩
abbrev S2x256x1024 : Shape := ⟨3, ![2, 256, 1024]⟩
abbrev S1024x512 : Shape := ⟨2, ![1024, 512]⟩
abbrev S256x1024 : Shape := ⟨2, ![256, 1024]⟩
abbrev S512x1024 : Shape := ⟨2, ![512, 1024]⟩
abbrev S512x128 : Shape := ⟨2, ![512, 128]⟩
abbrev S512x1 : Shape := ⟨2, ![512, 1]⟩
abbrev S512x512 : Shape := ⟨2, ![512, 512]⟩
abbrev S512x256 : Shape := ⟨2, ![512, 256]⟩

abbrev nBuf : Space → Nat
  | .hbm => 4
  | .vmem => 14
  | .smem => 2
  | _ => 0

abbrev bufTy : (tb : Table) → Fin (tcTables nBuf tb) → BufTy
  | .hbm, ⟨0, _⟩ => ⟨S112640x1152, .bf16⟩
  | .hbm, ⟨1, _⟩ => ⟨S64x1024x512, .f32⟩
  | .hbm, ⟨2, _⟩ => ⟨S64x256x1024, .f32⟩
  | .hbm, ⟨3, _⟩ => ⟨S112640x1024, .bf16⟩
  | .local _ .vmem, ⟨0, _⟩ => ⟨S1024x1152, .bf16⟩
  | .local _ .vmem, ⟨1, _⟩ => ⟨S1024x1152, .bf16⟩
  | .local _ .vmem, ⟨2, _⟩ => ⟨S1x1024x512, .f32⟩
  | .local _ .vmem, ⟨3, _⟩ => ⟨S1x1024x512, .f32⟩
  | .local _ .vmem, ⟨4, _⟩ => ⟨S1x256x1024, .f32⟩
  | .local _ .vmem, ⟨5, _⟩ => ⟨S1x256x1024, .f32⟩
  | .local _ .vmem, ⟨6, _⟩ => ⟨S1x1024x512, .f32⟩
  | .local _ .vmem, ⟨7, _⟩ => ⟨S1x1024x512, .f32⟩
  | .local _ .vmem, ⟨8, _⟩ => ⟨S1x256x1024, .f32⟩
  | .local _ .vmem, ⟨9, _⟩ => ⟨S1x256x1024, .f32⟩
  | .local _ .vmem, ⟨10, _⟩ => ⟨S1024x1024, .bf16⟩
  | .local _ .vmem, ⟨11, _⟩ => ⟨S1024x1024, .bf16⟩
  | .local _ .vmem, ⟨12, _⟩ => ⟨S2x1024x512, .bf16⟩
  | .local _ .vmem, ⟨13, _⟩ => ⟨S2x256x1024, .bf16⟩
  | .local _ .smem, ⟨0, _⟩ => ⟨S220, .i32⟩
  | .local _ .smem, ⟨1, _⟩ => ⟨S1, .i32⟩
  | _, _ => ⟨S112640x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![110], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c2_i32_1 : BitVec 32 := 2#32
  let v5 : BitVec 32 := Scalar.subi v1 c2_i32_1
  let c0_i32_2 : BitVec 32 := 0#32
  let v6 : BitVec 32 := Scalar.maxsi v5 c0_i32_2
  let v7 : Index := Scalar.indexCast v6
  ![v7.toNat]
def k0_off3 (i : grid0.Coords) : Fin 1 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v46 : Index := Scalar.indexCast v1
  ![v46.toNat]
def k0_off4 (i : grid0.Coords) : Fin 1 → Nat :=
  let arg0 : BitVec 32 := BitVec.ofNat 32 (i 0).val
  let c2_i32_7 : BitVec 32 := 2#32
  let v21 : BitVec 32 := Scalar.muli arg0 c2_i32_7
  let c1_i32 : BitVec 32 := 1#32
  let v22 : BitVec 32 := Scalar.addi v21 c1_i32
  let v24 : Index := Scalar.indexCast v22
  ![v24.toNat]
def k0_off5 (i : grid0.Coords) : Fin 1 → Nat :=
  let arg0 : BitVec 32 := BitVec.ofNat 32 (i 0).val
  let c2_i32_7 : BitVec 32 := 2#32
  let v21 : BitVec 32 := Scalar.muli arg0 c2_i32_7
  let c1_i32 : BitVec 32 := 1#32
  let v22 : BitVec 32 := Scalar.addi v21 c1_i32
  let c2_i32_9 : BitVec 32 := 2#32
  let v26 : BitVec 32 := Scalar.subi v22 c2_i32_9
  let c0_i32_10 : BitVec 32 := 0#32
  let v27 : BitVec 32 := Scalar.maxsi v26 c0_i32_10
  let v28 : Index := Scalar.indexCast v27
  ![v28.toNat]
def k0_off6 (i : grid0.Coords) : Fin 1 → Nat :=
  let arg0 : BitVec 32 := BitVec.ofNat 32 (i 0).val
  let c2_i32_7 : BitVec 32 := 2#32
  let v21 : BitVec 32 := Scalar.muli arg0 c2_i32_7
  let c1_i32 : BitVec 32 := 1#32
  let v22 : BitVec 32 := Scalar.addi v21 c1_i32
  let v46 : Index := Scalar.indexCast v22
  ![v46.toNat]
def k0_cond2 (i : grid0.Coords) (v13 : BitVec 32) : BitVec 1 :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v14 : BitVec 1 := Scalar.cmpi .slt v1 v13
  let v15 : BitVec 32 := Scalar.extui v14
  let c0_i32_4 : BitVec 32 := 0#32
  let v16 : BitVec 1 := Scalar.cmpi .ne v15 c0_i32_4
  v16

def k0_cond3 (i : grid0.Coords) (v17 : BitVec 32) : BitVec 1 :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v18 : BitVec 1 := Scalar.cmpi .sge v1 v17
  let v19 : BitVec 32 := Scalar.extui v18
  let c0_i32_6 : BitVec 32 := 0#32
  let v20 : BitVec 1 := Scalar.cmpi .ne v19 c0_i32_6
  v20

def k0_cond5 (i : grid0.Coords) (v34 : BitVec 32) : BitVec 1 :=
  let arg0 : BitVec 32 := BitVec.ofNat 32 (i 0).val
  let c2_i32_7 : BitVec 32 := 2#32
  let v21 : BitVec 32 := Scalar.muli arg0 c2_i32_7
  let c1_i32 : BitVec 32 := 1#32
  let v22 : BitVec 32 := Scalar.addi v21 c1_i32
  let v35 : BitVec 1 := Scalar.cmpi .slt v22 v34
  let v36 : BitVec 32 := Scalar.extui v35
  let c0_i32_13 : BitVec 32 := 0#32
  let v37 : BitVec 1 := Scalar.cmpi .ne v36 c0_i32_13
  v37

def k0_cond6 (i : grid0.Coords) (v38 : BitVec 32) : BitVec 1 :=
  let arg0 : BitVec 32 := BitVec.ofNat 32 (i 0).val
  let c2_i32_7 : BitVec 32 := 2#32
  let v21 : BitVec 32 := Scalar.muli arg0 c2_i32_7
  let c1_i32 : BitVec 32 := 1#32
  let v22 : BitVec 32 := Scalar.addi v21 c1_i32
  let v39 : BitVec 1 := Scalar.cmpi .sge v22 v38
  let v40 : BitVec 32 := Scalar.extui v39
  let c0_i32_15 : BitVec 32 := 0#32
  let v41 : BitVec 1 := Scalar.cmpi .ne v40 c0_i32_15
  v41

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.minsi arg0 v18
  let c0_i32_5 : BitVec 32 := 0#32
  let c0_i32_6 : BitVec 32 := 0#32
  ![v19.toNat, c0_i32_5.toNat]

def cc0_transform_1 (k0_off1_inb : ∀ i : grid0.Coords, ∀ (r : Fin 2), ∀ a, (k0_off1 i (BitVec.ofNat 32 r.val)) a + S1.size a ≤ S220.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S220) ![v2.toNat] S1.size (k0_off1_inb i 0)) numel1_S1
  let c0_i32_0 : BitVec 32 := 0#32
  let v4 : BitVec 32 := Scalar.addi c0_i32_0 v3
  let c0_i32_1 : BitVec 32 := 0#32
  let c0_i32_2 : BitVec 32 := 0#32
  let c0_i32_3 : BitVec 32 := 0#32
  ![v4.toNat, c0_i32_1.toNat, c0_i32_2.toNat]

def cc0_transform_2 (k0_off1_inb : ∀ i : grid0.Coords, ∀ (r : Fin 2), ∀ a, (k0_off1 i (BitVec.ofNat 32 r.val)) a + S1.size a ≤ S220.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S220) ![v2.toNat] S1.size (k0_off1_inb i 0)) numel1_S1
  let c0_i32_0 : BitVec 32 := 0#32
  let v4 : BitVec 32 := Scalar.addi c0_i32_0 v3
  let c0_i32_1 : BitVec 32 := 0#32
  let c0_i32_2 : BitVec 32 := 0#32
  let c0_i32_3 : BitVec 32 := 0#32
  ![v4.toNat, c0_i32_1.toNat, c0_i32_2.toNat]

def cc0_transform_3 (k0_off1_inb : ∀ i : grid0.Coords, ∀ (r : Fin 2), ∀ a, (k0_off1 i (BitVec.ofNat 32 r.val)) a + S1.size a ≤ S220.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S220) ![v2.toNat] S1.size (k0_off1_inb i 1)) numel1_S1
  let c0_i32 : BitVec 32 := 0#32
  let v4 : BitVec 32 := Scalar.addi c0_i32 v3
  let c0_i32_0 : BitVec 32 := 0#32
  let c0_i32_1 : BitVec 32 := 0#32
  let c0_i32_2 : BitVec 32 := 0#32
  ![v4.toNat, c0_i32_0.toNat, c0_i32_1.toNat]

def cc0_transform_4 (k0_off1_inb : ∀ i : grid0.Coords, ∀ (r : Fin 2), ∀ a, (k0_off1 i (BitVec.ofNat 32 r.val)) a + S1.size a ≤ S220.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S220) ![v2.toNat] S1.size (k0_off1_inb i 1)) numel1_S1
  let c0_i32 : BitVec 32 := 0#32
  let v4 : BitVec 32 := Scalar.addi c0_i32 v3
  let c0_i32_0 : BitVec 32 := 0#32
  let c0_i32_1 : BitVec 32 := 0#32
  let c0_i32_2 : BitVec 32 := 0#32
  ![v4.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S112640x1152 : Shape := ⟨2, ![112640, 1152]⟩
abbrev S220 : Shape := ⟨1, ![220]⟩
abbrev S1 : Shape := ⟨1, ![1]⟩
abbrev S64x1024x512 : Shape := ⟨3, ![64, 1024, 512]⟩
abbrev S64x256x1024 : Shape := ⟨3, ![64, 256, 1024]⟩
abbrev S112640x1024 : Shape := ⟨2, ![112640, 1024]⟩
abbrev S220x512x1024 : Shape := ⟨3, ![220, 512, 1024]⟩
abbrev S112640x128 : Shape := ⟨2, ![112640, 128]⟩
abbrev S220x512x128 : Shape := ⟨3, ![220, 512, 128]⟩
abbrev S220x512x1 : Shape := ⟨3, ![220, 512, 1]⟩
abbrev S220x512 : Shape := ⟨2, ![220, 512]⟩
abbrev S220x1 : Shape := ⟨2, ![220, 1]⟩
abbrev S_ : Shape := ⟨0, ![]⟩
abbrev S220x1024x512 : Shape := ⟨3, ![220, 1024, 512]⟩
abbrev S220x512x512 : Shape := ⟨3, ![220, 512, 512]⟩
abbrev S220x512x256 : Shape := ⟨3, ![220, 512, 256]⟩
abbrev S220x256x1024 : Shape := ⟨3, ![220, 256, 1024]⟩
abbrev S220x1x1 : Shape := ⟨3, ![220, 1, 1]⟩
abbrev S1x1x1 : Shape := ⟨3, ![1, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S112640x1152, .bf16⟩
  | .hbm, ⟨1, _⟩ => ⟨S220, .i32⟩
  | .hbm, ⟨2, _⟩ => ⟨S1, .i32⟩
  | .hbm, ⟨3, _⟩ => ⟨S64x1024x512, .f32⟩
  | .hbm, ⟨4, _⟩ => ⟨S64x256x1024, .f32⟩
  | .hbm, ⟨5, _⟩ => ⟨S112640x1024, .bf16⟩
  | .hbm, ⟨6, _⟩ => ⟨S112640x1024, .f32⟩
  | .hbm, ⟨7, _⟩ => ⟨S220x512x1024, .f32⟩
  | .hbm, ⟨8, _⟩ => ⟨S112640x128, .bf16⟩
  | .hbm, ⟨9, _⟩ => ⟨S112640x128, .f32⟩
  | .hbm, ⟨10, _⟩ => ⟨S220x512x128, .f32⟩
  | .hbm, ⟨11, _⟩ => ⟨S220x512x1, .f32⟩
  | .hbm, ⟨12, _⟩ => ⟨S220x512, .f32⟩
  | .hbm, ⟨13, _⟩ => ⟨S220x1, .i32⟩
  | .hbm, ⟨14, _⟩ => ⟨S220x1, .f32⟩
  | .hbm, ⟨15, _⟩ => ⟨S220x512, .f32⟩
  | .hbm, ⟨16, _⟩ => ⟨S220x512, .i1⟩
  | .hbm, ⟨17, _⟩ => ⟨S220x512x1, .f32⟩
  | .hbm, ⟨18, _⟩ => ⟨S220x512, .f32⟩
  | .hbm, ⟨19, _⟩ => ⟨S220x512x1, .f32⟩
  | .hbm, ⟨20, _⟩ => ⟨S220x512, .f32⟩
  | .hbm, ⟨21, _⟩ => ⟨S220x512, .f32⟩
  | .hbm, ⟨22, _⟩ => ⟨S220x512x1, .f32⟩
  | .hbm, ⟨23, _⟩ => ⟨S220x512, .f32⟩
  | .hbm, ⟨24, _⟩ => ⟨S220x512x1, .f32⟩
  | .hbm, ⟨25, _⟩ => ⟨S220x512, .f32⟩
  | .hbm, ⟨26, _⟩ => ⟨S220x512, .f32⟩
  | .hbm, ⟨27, _⟩ => ⟨S220x512, .f32⟩
  | .hbm, ⟨28, _⟩ => ⟨S_, .i32⟩
  | .hbm, ⟨29, _⟩ => ⟨S220, .i32⟩
  | .hbm, ⟨30, _⟩ => ⟨S220, .i1⟩
  | .hbm, ⟨31, _⟩ => ⟨S_, .i32⟩
  | .hbm, ⟨32, _⟩ => ⟨S220, .i32⟩
  | .hbm, ⟨33, _⟩ => ⟨S220, .i32⟩
  | .hbm, ⟨34, _⟩ => ⟨S220, .i32⟩
  | .hbm, ⟨35, _⟩ => ⟨S220x1, .i32⟩
  | .hbm, ⟨36, _⟩ => ⟨S220x1024x512, .f32⟩
  | .hbm, ⟨37, _⟩ => ⟨S220x512x512, .f32⟩
  | .hbm, ⟨38, _⟩ => ⟨S220x512x256, .f32⟩
  | .hbm, ⟨39, _⟩ => ⟨S220x512x256, .f32⟩
  | .hbm, ⟨40, _⟩ => ⟨S220x512x256, .f32⟩
  | .hbm, ⟨41, _⟩ => ⟨S220x512x256, .f32⟩
  | .hbm, ⟨42, _⟩ => ⟨S_, .f32⟩
  | .hbm, ⟨43, _⟩ => ⟨S220x512x256, .f32⟩
  | .hbm, ⟨44, _⟩ => ⟨S220x512x256, .f32⟩
  | .hbm, ⟨45, _⟩ => ⟨S_, .f32⟩
  | .hbm, ⟨46, _⟩ => ⟨S220x512x256, .f32⟩
  | .hbm, ⟨47, _⟩ => ⟨S220x512x256, .f32⟩
  | .hbm, ⟨48, _⟩ => ⟨S220x512x256, .f32⟩
  | .hbm, ⟨49, _⟩ => ⟨S220x512x256, .f32⟩
  | .hbm, ⟨50, _⟩ => ⟨S220x512x1, .f32⟩
  | .hbm, ⟨51, _⟩ => ⟨S220x512x256, .f32⟩
  | .hbm, ⟨52, _⟩ => ⟨S220x512x256, .f32⟩
  | .hbm, ⟨53, _⟩ => ⟨S_, .i32⟩
  | .hbm, ⟨54, _⟩ => ⟨S220, .i32⟩
  | .hbm, ⟨55, _⟩ => ⟨S220, .i1⟩
  | .hbm, ⟨56, _⟩ => ⟨S_, .i32⟩
  | .hbm, ⟨57, _⟩ => ⟨S220, .i32⟩
  | .hbm, ⟨58, _⟩ => ⟨S220, .i32⟩
  | .hbm, ⟨59, _⟩ => ⟨S220, .i32⟩
  | .hbm, ⟨60, _⟩ => ⟨S220x1, .i32⟩
  | .hbm, ⟨61, _⟩ => ⟨S220x256x1024, .f32⟩
  | .hbm, ⟨62, _⟩ => ⟨S220x512x1024, .f32⟩
  | .hbm, ⟨63, _⟩ => ⟨S220, .i32⟩
  | .hbm, ⟨64, _⟩ => ⟨S220x1x1, .i32⟩
  | .hbm, ⟨65, _⟩ => ⟨S1x1x1, .i32⟩
  | .hbm, ⟨66, _⟩ => ⟨S220x1x1, .i32⟩
  | .hbm, ⟨67, _⟩ => ⟨S220x1x1, .i1⟩
  | .hbm, ⟨68, _⟩ => ⟨S_, .f32⟩
  | .hbm, ⟨69, _⟩ => ⟨S_, .f32⟩
  | .hbm, ⟨70, _⟩ => ⟨S220x512x1024, .i1⟩
  | .hbm, ⟨71, _⟩ => ⟨S220x512x1024, .f32⟩
  | .hbm, ⟨72, _⟩ => ⟨S220x512x1024, .f32⟩
  | .hbm, ⟨73, _⟩ => ⟨S220x512x1024, .bf16⟩
  | .hbm, ⟨74, _⟩ => ⟨S112640x1024, .bf16⟩
  | _, _ => ⟨S112640x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_c_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_1 : Ref sig .tc := ⟨.hbm, 53, rfl⟩
abbrev main_v38 : Ref sig .tc := ⟨.hbm, 54, rfl⟩
abbrev main_v39 : Ref sig .tc := ⟨.hbm, 55, rfl⟩
abbrev main_c_2 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel4.lean ====
abbrev S16x2048x1024 : Shape := ⟨3, ![16, 2048, 1024]⟩
abbrev S32768x7680 : Shape := ⟨2, ![32768, 7680]⟩
abbrev S32768x512 : Shape := ⟨2, ![32768, 512]⟩
abbrev S3072 : Shape := ⟨1, ![3072]⟩
abbrev S16x6144 : Shape := ⟨2, ![16, 6144]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1024x256 : Shape := ⟨2, ![1024, 256]⟩
abbrev S32768x1024 : Shape := ⟨2, ![32768, 1024]⟩
abbrev S16x6x1024 : Shape := ⟨3, ![16, 6, 1024]⟩
abbrev S1x3072 : Shape := ⟨2, ![1, 3072]⟩
abbrev S1x1024 : Shape := ⟨2, ![1, 1024]⟩
abbrev S32768x128 : Shape := ⟨2, ![32768, 128]⟩
abbrev S64x1x128 : Shape := ⟨3, ![64, 1, 128]⟩
abbrev S512x512 : Shape := ⟨2, ![512, 512]⟩
abbrev S1x6x1024 : Shape := ⟨3, ![1, 6, 1024]⟩
abbrev S512x128 : Shape := ⟨2, ![512, 128]⟩
abbrev S1x1x128 : Shape := ⟨3, ![1, 1, 128]⟩
abbrev S1x1x1024 : Shape := ⟨3, ![1, 1, 1024]⟩
abbrev S512 : Shape := ⟨1, ![512]⟩
abbrev S512x1 : Shape := ⟨2, ![512, 1]⟩
abbrev S512x256 : Shape := ⟨2, ![512, 256]⟩

abbrev nBuf : Space → Nat
  | .hbm => 40
  | .vmem => 33
  | .smem => 0
  | _ => 0

abbrev bufTy : (tb : Table) → Fin (tcTables nBuf tb) → BufTy
  | .hbm, ⟨0, _⟩ => ⟨S16x2048x1024, .f32⟩
  | .hbm, ⟨1, _⟩ => ⟨S32768x7680, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S3072, .f32⟩
  | .hbm, ⟨6, _⟩ => ⟨S16x6144, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S_, .f32⟩
  | .hbm, ⟨17, _⟩ => ⟨S1024x92, .f32⟩
  | .hbm, ⟨18, _⟩ => ⟨S1024x128, .f32⟩
  | .hbm, ⟨19, _⟩ => ⟨S_, .f32⟩
  | .hbm, ⟨20, _⟩ => ⟨S92, .f32⟩
  | .hbm, ⟨21, _⟩ => ⟨S128, .f32⟩
  | .hbm, ⟨22, _⟩ => ⟨S1x128, .f32⟩
  | .hbm, ⟨23, _⟩ => ⟨S1024x128, .bf16⟩
  | .hbm, ⟨24, _⟩ => ⟨S1024x128, .f32⟩
  | .hbm, ⟨25, _⟩ => ⟨S1024x128, .f32⟩
  | .hbm, ⟨26, _⟩ => ⟨S1024x128, .bf16⟩
  | .hbm, ⟨27, _⟩ => ⟨S1024x256, .bf16⟩
  | .hbm, ⟨28, _⟩ => ⟨S32768x1024, .f32⟩
  | .hbm, ⟨29, _⟩ => ⟨S16x6x1024, .f32⟩
  | .hbm, ⟨30, _⟩ => ⟨S512x1024, .bf16⟩
  | .hbm, ⟨31, _⟩ => ⟨S512x1024, .bf16⟩
  | .hbm, ⟨32, _⟩ => ⟨S512x1024, .bf16⟩
  | .hbm, ⟨33, _⟩ => ⟨S1024x1024, .bf16⟩
  | .hbm, ⟨34, _⟩ => ⟨S1x3072, .f32⟩
  | .hbm, ⟨35, _⟩ => ⟨S1x1024, .f32⟩
  | .hbm, ⟨36, _⟩ => ⟨S32768x1024, .f32⟩
  | .hbm, ⟨37, _⟩ => ⟨S32768x1024, .bf16⟩
  | .hbm, ⟨38, _⟩ => ⟨S32768x128, .f32⟩
  | .hbm, ⟨39, _⟩ => ⟨S64x1x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x3072, .f32⟩
  | .local _ .vmem, ⟨15, _⟩ => ⟨S1x6x1024, .f32⟩
  | .local _ .vmem, ⟨16, _⟩ => ⟨S1x6x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x256, .bf16⟩
  | .local _ .vmem, ⟨23, _⟩ => ⟨S1x128, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S512x128, .f32⟩
  | .local _ .vmem, ⟨29, _⟩ => ⟨S512x128, .f32⟩
  | .local _ .vmem, ⟨30, _⟩ => ⟨S1x1x128, .f32⟩
  | .local _ .vmem, ⟨31, _⟩ => ⟨S1x1x128, .f32⟩
  | .local _ .vmem, ⟨32, _⟩ => ⟨S512x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v18_2 : Ref sig .tc := ⟨.hbm, 38, rfl⟩
abbrev main_v18_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S16x2048x1024 : Shape := ⟨3, ![16, 2048, 1024]⟩
abbrev S32768x7680 : Shape := ⟨2, ![32768, 7680]⟩
abbrev S32768x512 : Shape := ⟨2, ![32768, 512]⟩
abbrev S3072 : Shape := ⟨1, ![3072]⟩
abbrev S16x6144 : Shape := ⟨2, ![16, 6144]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S16x1024 : Shape := ⟨2, ![16, 1024]⟩
abbrev S32768x3072 : Shape := ⟨2, ![32768, 3072]⟩
abbrev S16x2048x3072 : Shape := ⟨3, ![16, 2048, 3072]⟩
abbrev S16x2048x512 : Shape := ⟨3, ![16, 2048, 512]⟩
abbrev S1x1x3072 : Shape := ⟨3, ![1, 1, 3072]⟩
abbrev S16x2048x3x1024 : Shape := ⟨4, ![16, 2048, 3, 1024]⟩
abbrev S_ : Shape := ⟨0, ![]⟩
abbrev S16x2048x1x1024 : Shape := ⟨4, ![16, 2048, 1, 1024]⟩
abbrev S16x1x1024 : Shape := ⟨3, ![16, 1, 1024]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 87
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S32768x7680, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S3072, .f32⟩
  | .hbm, ⟨6, _⟩ => ⟨S16x6144, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S32768x3072, .bf16⟩
  | .hbm, ⟨20, _⟩ => ⟨S32768x3072, .f32⟩
  | .hbm, ⟨21, _⟩ => ⟨S16x2048x3072, .f32⟩
  | .hbm, ⟨22, _⟩ => ⟨S32768x512, .f32⟩
  | .hbm, ⟨23, _⟩ => ⟨S16x2048x512, .f32⟩
  | .hbm, ⟨24, _⟩ => ⟨S16x2048x1024, .f32⟩
  | .hbm, ⟨25, _⟩ => ⟨S32768x512, .f32⟩
  | .hbm, ⟨26, _⟩ => ⟨S16x2048x512, .f32⟩
  | .hbm, ⟨27, _⟩ => ⟨S16x2048x1024, .f32⟩
  | .hbm, ⟨28, _⟩ => ⟨S32768x512, .f32⟩
  | .hbm, ⟨29, _⟩ => ⟨S16x2048x512, .f32⟩
  | .hbm, ⟨30, _⟩ => ⟨S16x2048x1024, .f32⟩
  | .hbm, ⟨31, _⟩ => ⟨S1x1x3072, .f32⟩
  | .hbm, ⟨32, _⟩ => ⟨S16x2048x3072, .f32⟩
  | .hbm, ⟨33, _⟩ => ⟨S16x2048x3072, .f32⟩
  | .hbm, ⟨34, _⟩ => ⟨S16x2048x3x1024, .f32⟩
  | .hbm, ⟨35, _⟩ => ⟨S16x2048x3x1024, .f32⟩
  | .hbm, ⟨36, _⟩ => ⟨S16x2048x3x1024, .f32⟩
  | .hbm, ⟨37, _⟩ => ⟨S_, .f32⟩
  | .hbm, ⟨38, _⟩ => ⟨S16x2048x3x1024, .f32⟩
  | .hbm, ⟨39, _⟩ => ⟨S16x2048x3x1024, .f32⟩
  | .hbm, ⟨40, _⟩ => ⟨S_, .f32⟩
  | .hbm, ⟨41, _⟩ => ⟨S16x2048x3x1024, .f32⟩
  | .hbm, ⟨42, _⟩ => ⟨S16x2048x3x1024, .f32⟩
  | .hbm, ⟨43, _⟩ => ⟨S16x2048x1x1024, .f32⟩
  | .hbm, ⟨44, _⟩ => ⟨S16x2048x1024, .f32⟩
  | .hbm, ⟨45, _⟩ => ⟨S16x2048x1024, .f32⟩
  | .hbm, ⟨46, _⟩ => ⟨S16x2048x1x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x1x1024, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S16x1x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S_, .f32⟩
  | .hbm, ⟨61, _⟩ => ⟨S16x2048, .f32⟩
  | .hbm, ⟨62, _⟩ => ⟨S16x2048x1, .f32⟩
  | .hbm, ⟨63, _⟩ => ⟨S_, .f32⟩
  | .hbm, ⟨64, _⟩ => ⟨S16x2048x1, .f32⟩
  | .hbm, ⟨65, _⟩ => ⟨S16x2048x1, .f32⟩
  | .hbm, ⟨66, _⟩ => ⟨S_, .f32⟩
  | .hbm, ⟨67, _⟩ => ⟨S16x2048x1, .f32⟩
  | .hbm, ⟨68, _⟩ => ⟨S16x2048x1, .f32⟩
  | .hbm, ⟨69, _⟩ => ⟨S16x2048x1, .f32⟩
  | .hbm, ⟨70, _⟩ => ⟨S16x2048x1024, .f32⟩
  | .hbm, ⟨71, _⟩ => ⟨S16x2048x1024, .f32⟩
  | .hbm, ⟨72, _⟩ => ⟨S1x1x1024, .f32⟩
  | .hbm, ⟨73, _⟩ => ⟨S16x2048x1024, .f32⟩
  | .hbm, ⟨74, _⟩ => ⟨S16x2048x1024, .f32⟩
  | .hbm, ⟨75, _⟩ => ⟨S16x1x1024, .f32⟩
  | .hbm, ⟨76, _⟩ => ⟨S_, .f32⟩
  | .hbm, ⟨77, _⟩ => ⟨S16x1x1024, .f32⟩
  | .hbm, ⟨78, _⟩ => ⟨S16x1x1024, .f32⟩
  | .hbm, ⟨79, _⟩ => ⟨S16x2048x1024, .f32⟩
  | .hbm, ⟨80, _⟩ => ⟨S16x2048x1024, .f32⟩
  | .hbm, ⟨81, _⟩ => ⟨S16x1x1024, .f32⟩
  | .hbm, ⟨82, _⟩ => ⟨S16x2048x1024, .f32⟩
  | .hbm, ⟨83, _⟩ => ⟨S16x2048x1024, .f32⟩
  | .hbm, ⟨84, _⟩ => ⟨S32768x1024, .f32⟩
  | .hbm, ⟨85, _⟩ => ⟨S16x2048x1024, .bf16⟩
  | .hbm, ⟨86, _⟩ => ⟨S32768x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_1 : Ref sig .tc := ⟨.hbm, 60, rfl⟩
abbrev main_v42 : Ref sig .tc := ⟨.hbm, 61, rfl⟩
abbrev main_v43 : Ref sig .tc := ⟨.hbm, 62, rfl⟩
abbrev main_cst_2 : Ref sig .tc := ⟨.hbm, 63, rfl⟩
abbrev main_v44 : Ref sig .tc := ⟨.hbm, 64, rfl⟩
abbrev main_v45 : Ref sig .tc := ⟨.hbm, 65, rfl⟩
abbrev main_cst_3 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_4 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel5.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x6144, .f32⟩
  | .hbm, ⟨30, _⟩ => ⟨S1024x6144, .f32⟩
  | .hbm, ⟨31, _⟩ => ⟨S16x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S1x16x6144, .f32⟩
  | .hbm, ⟨38, _⟩ => ⟨S1x16x6144, .f32⟩
  | .hbm, ⟨39, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel6.lean ====
abbrev S32768x7680 : Shape := ⟨2, ![32768, 7680]⟩
abbrev S31x1x512 : Shape := ⟨3, ![31, 1, 512]⟩
abbrev S512 : Shape := ⟨1, ![512]⟩
abbrev S31x512 : Shape := ⟨2, ![31, 512]⟩
abbrev S1x512 : Shape := ⟨2, ![1, 512]⟩
abbrev S32768x512 : Shape := ⟨2, ![32768, 512]⟩
abbrev S512x512 : Shape := ⟨2, ![512, 512]⟩
abbrev S544x512 : Shape := ⟨2, ![544, 512]⟩
abbrev S7x544x512 : Shape := ⟨3, ![7, 544, 512]⟩
abbrev S32x512 : Shape := ⟨2, ![32, 512]⟩
abbrev S128x512 : Shape := ⟨2, ![128, 512]⟩
abbrev S1x128x512 : Shape := ⟨3, ![1, 128, 512]⟩
abbrev S24x512 : Shape := ⟨2, ![24, 512]⟩
abbrev S1x24x512 : Shape := ⟨3, ![1, 24, 512]⟩
abbrev S64x512 : Shape := ⟨2, ![64, 512]⟩
abbrev S1x64x512 : Shape := ⟨3, ![1, 64, 512]⟩
abbrev S64 : Shape := ⟨1, ![64]⟩
abbrev S64x1 : Shape := ⟨2, ![64, 1]⟩

abbrev nBuf : Space → Nat
  | .hbm => 10
  | .vmem => 12
  | .smem => 0
  | _ => 0

abbrev bufTy : (tb : Table) → Fin (tcTables nBuf tb) → BufTy
  | .hbm, ⟨0, _⟩ => ⟨S32768x7680, .bf16⟩
  | .hbm, ⟨1, _⟩ => ⟨S31x1x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S31x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S544x512, .f32⟩
  | .local _ .vmem, ⟨11, _⟩ => ⟨S7x544x512, .f32⟩
  | _, _ => ⟨S32768x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c10_i32 : BitVec 32 := 10#32
  let c0_i32 : BitVec 32 := 0#32
  ![v1.toNat, c10_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c11_i32 : BitVec 32 := 11#32
  let c0_i32 : BitVec 32 := 0#32
  ![v1.toNat, c11_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S32768x7680 : Shape := ⟨2, ![32768, 7680]⟩
abbrev S31x1x512 : Shape := ⟨3, ![31, 1, 512]⟩
abbrev S512 : Shape := ⟨1, ![512]⟩
abbrev S32768x1024 : Shape := ⟨2, ![32768, 1024]⟩
abbrev S16x2048x1024 : Shape := ⟨3, ![16, 2048, 1024]⟩
abbrev S16x2048x512 : Shape := ⟨3, ![16, 2048, 512]⟩
abbrev S_ : Shape := ⟨0, ![]⟩
abbrev S16x2078x512 : Shape := ⟨3, ![16, 2078, 512]⟩
abbrev S1x1x512 : Shape := ⟨3, ![1, 1, 512]⟩
abbrev S16x2048 : Shape := ⟨2, ![16, 2048]⟩
abbrev S16x2048x1 : Shape := ⟨3, ![16, 2048, 1]⟩
abbrev S32768x512 : Shape := ⟨2, ![32768, 512]⟩

abbrev nBuf : Space → Nat
  | .hbm => 284
  | .vmem => 0
  | .smem => 0
  | _ => 0

abbrev hbmTy0_0 (i : Nat) : BufTy := match i % 128 with
  | 0 => ⟨S32768x7680, .bf16⟩
  | 1 => ⟨S31x1x512, .f32⟩
  | 2 => ⟨S512, .f32⟩
  | 3 => ⟨S512, .f32⟩
  | 4 => ⟨S512, .f32⟩
  | 5 => ⟨S32768x1024, .bf16⟩
  | 6 => ⟨S32768x1024, .f32⟩
  | 7 => ⟨S16x2048x1024, .f32⟩
  | 8 => ⟨S16x2048x512, .f32⟩
  | 9 => ⟨S16x2048x512, .f32⟩
  | 10 => ⟨S16x2048x512, .f32⟩
  | 11 => ⟨S16x2048x512, .f32⟩
  | 12 => ⟨S_, .f32⟩
  | 13 => ⟨S16x2048x512, .f32⟩
  | 14 => ⟨S16x2048x512, .f32⟩
  | 15 => ⟨S_, .f32⟩
  | 16 => ⟨S16x2048x512, .f32⟩
  | 17 => ⟨S16x2048x512, .f32⟩
  | 18 => ⟨S16x2048x512, .f32⟩
  | 19 => ⟨S_, .i32⟩
  | 20 => ⟨S_, .f32⟩
  | 21 => ⟨S16x2078x512, .f32⟩
  | 22 => ⟨S16x2048x512, .f32⟩
  | 23 => ⟨S1x1x512, .f32⟩
  | 24 => ⟨S512, .f32⟩
  | 25 => ⟨S1x1x512, .f32⟩
  | 26 => ⟨S16x2048x512, .f32⟩
  | 27 => ⟨S16x2048x512, .f32⟩
  | 28 => ⟨S_, .f32⟩
  | 29 => ⟨S16x2048x512, .f32⟩
  | 30 => ⟨S16x2048x512, .f32⟩
  | 31 => ⟨S16x2048x512, .f32⟩
  | 32 => ⟨S1x1x512, .f32⟩
  | 33 => ⟨S512, .f32⟩
  | 34 => ⟨S1x1x512, .f32⟩
  | 35 => ⟨S16x2048x512, .f32⟩
  | 36 => ⟨S16x2048x512, .f32⟩
  | 37 => ⟨S16x2048x512, .f32⟩
  | 38 => ⟨S16x2048x512, .f32⟩
  | 39 => ⟨S1x1x512, .f32⟩
  | 40 => ⟨S512, .f32⟩
  | 41 => ⟨S1x1x512, .f32⟩
  | 42 => ⟨S16x2048x512, .f32⟩
  | 43 => ⟨S16x2048x512, .f32⟩
  | 44 => ⟨S16x2048x512, .f32⟩
  | 45 => ⟨S16x2048x512, .f32⟩
  | 46 => ⟨S1x1x512, .f32⟩
  | 47 => ⟨S512, .f32⟩
  | 48 => ⟨S1x1x512, .f32⟩
  | 49 => ⟨S16x2048x512, .f32⟩
  | 50 => ⟨S16x2048x512, .f32⟩
  | 51 => ⟨S16x2048x512, .f32⟩
  | 52 => ⟨S16x2048x512, .f32⟩
  | 53 => ⟨S1x1x512, .f32⟩
  | 54 => ⟨S512, .f32⟩
  | 55 => ⟨S1x1x512, .f32⟩
  | 56 => ⟨S16x2048x512, .f32⟩
  | 57 => ⟨S16x2048x512, .f32⟩
  | 58 => ⟨S16x2048x512, .f32⟩
  | 59 => ⟨S16x2048x512, .f32⟩
  | 60 => ⟨S1x1x512, .f32⟩
  | 61 => ⟨S512, .f32⟩
  | 62 => ⟨S1x1x512, .f32⟩
  | 63 => ⟨S16x2048x512, .f32⟩
  | 64 => ⟨S16x2048x512, .f32⟩
  | 65 => ⟨S16x2048x512, .f32⟩
  | 66 => ⟨S16x2048x512, .f32⟩
  | 67 => ⟨S1x1x512, .f32⟩
  | 68 => ⟨S512, .f32⟩
  | 69 => ⟨S1x1x512, .f32⟩
  | 70 => ⟨S16x2048x512, .f32⟩
  | 71 => ⟨S16x2048x512, .f32⟩
  | 72 => ⟨S16x2048x512, .f32⟩
  | 73 => ⟨S16x2048x512, .f32⟩
  | 74 => ⟨S1x1x512, .f32⟩
  | 75 => ⟨S512, .f32⟩
  | 76 => ⟨S1x1x512, .f32⟩
  | 77 => ⟨S16x2048x512, .f32⟩
  | 78 => ⟨S16x2048x512, .f32⟩
  | 79 => ⟨S16x2048x512, .f32⟩
  | 80 => ⟨S16x2048x512, .f32⟩
  | 81 => ⟨S1x1x512, .f32⟩
  | 82 => ⟨S512, .f32⟩
  | 83 => ⟨S1x1x512, .f32⟩
  | 84 => ⟨S16x2048x512, .f32⟩
  | 85 => ⟨S16x2048x512, .f32⟩
  | 86 => ⟨S16x2048x512, .f32⟩
  | 87 => ⟨S16x2048x512, .f32⟩
  | 88 => ⟨S1x1x512, .f32⟩
  | 89 => ⟨S512, .f32⟩
  | 90 => ⟨S1x1x512, .f32⟩
  | 91 => ⟨S16x2048x512, .f32⟩
  | 92 => ⟨S16x2048x512, .f32⟩
  | 93 => ⟨S16x2048x512, .f32⟩
  | 94 => ⟨S16x2048x512, .f32⟩
  | 95 => ⟨S1x1x512, .f32⟩
  | 96 => ⟨S512, .f32⟩
  | 97 => ⟨S1x1x512, .f32⟩
  | 98 => ⟨S16x2048x512, .f32⟩
  | 99 => ⟨S16x2048x512, .f32⟩
  | 100 => ⟨S16x2048x512, .f32⟩
  | 101 => ⟨S16x2048x512, .f32⟩
  | 102 => ⟨S1x1x512, .f32⟩
  | 103 => ⟨S512, .f32⟩
  | 104 => ⟨S1x1x512, .f32⟩
  | 105 => ⟨S16x2048x512, .f32⟩
  | 106 => ⟨S16x2048x512, .f32⟩
  | 107 => ⟨S16x2048x512, .f32⟩
  | 108 => ⟨S16x2048x512, .f32⟩
  | 109 => ⟨S1x1x512, .f32⟩
  | 110 => ⟨S512, .f32⟩
  | 111 => ⟨S1x1x512, .f32⟩
  | 112 => ⟨S16x2048x512, .f32⟩
  | 113 => ⟨S16x2048x512, .f32⟩
  | 114 => ⟨S16x2048x512, .f32⟩
  | 115 => ⟨S16x2048x512, .f32⟩
  | 116 => ⟨S1x1x512, .f32⟩
  | 117 => ⟨S512, .f32⟩
  | 118 => ⟨S1x1x512, .f32⟩
  | 119 => ⟨S16x2048x512, .f32⟩
  | 120 => ⟨S16x2048x512, .f32⟩
  | 121 => ⟨S16x2048x512, .f32⟩
  | 122 => ⟨S16x2048x512, .f32⟩
  | 123 => ⟨S1x1x512, .f32⟩
  | 124 => ⟨S512, .f32⟩
  | 125 => ⟨S1x1x512, .f32⟩
  | 126 => ⟨S16x2048x512, .f32⟩
  | 127 => ⟨S16x2048x512, .f32⟩
  | _ => ⟨S32768x7680, .bf16⟩

abbrev hbmTy0_1 (i : Nat) : BufTy := match i % 128 with
  | 0 => ⟨S16x2048x512, .f32⟩
  | 1 => ⟨S16x2048x512, .f32⟩
  | 2 => ⟨S1x1x512, .f32⟩
  | 3 => ⟨S512, .f32⟩
  | 4 => ⟨S1x1x512, .f32⟩
  | 5 => ⟨S16x2048x512, .f32⟩
  | 6 => ⟨S16x2048x512, .f32⟩
  | 7 => ⟨S16x2048x512, .f32⟩
  | 8 => ⟨S16x2048x512, .f32⟩
  | 9 => ⟨S1x1x512, .f32⟩
  | 10 => ⟨S512, .f32⟩
  | 11 => ⟨S1x1x512, .f32⟩
  | 12 => ⟨S16x2048x512, .f32⟩
  | 13 => ⟨S16x2048x512, .f32⟩
  | 14 => ⟨S16x2048x512, .f32⟩
  | 15 => ⟨S16x2048x512, .f32⟩
  | 16 => ⟨S1x1x512, .f32⟩
  | 17 => ⟨S512, .f32⟩
  | 18 => ⟨S1x1x512, .f32⟩
  | 19 => ⟨S16x2048x512, .f32⟩
  | 20 => ⟨S16x2048x512, .f32⟩
  | 21 => ⟨S16x2048x512, .f32⟩
  | 22 => ⟨S16x2048x512, .f32⟩
  | 23 => ⟨S1x1x512, .f32⟩
  | 24 => ⟨S512, .f32⟩
  | 25 => ⟨S1x1x512, .f32⟩
  | 26 => ⟨S16x2048x512, .f32⟩
  | 27 => ⟨S16x2048x512, .f32⟩
  | 28 => ⟨S16x2048x512, .f32⟩
  | 29 => ⟨S16x2048x512, .f32⟩
  | 30 => ⟨S1x1x512, .f32⟩
  | 31 => ⟨S512, .f32⟩
  | 32 => ⟨S1x1x512, .f32⟩
  | 33 => ⟨S16x2048x512, .f32⟩
  | 34 => ⟨S16x2048x512, .f32⟩
  | 35 => ⟨S16x2048x512, .f32⟩
  | 36 => ⟨S16x2048x512, .f32⟩
  | 37 => ⟨S1x1x512, .f32⟩
  | 38 => ⟨S512, .f32⟩
  | 39 => ⟨S1x1x512, .f32⟩
  | 40 => ⟨S16x2048x512, .f32⟩
  | 41 => ⟨S16x2048x512, .f32⟩
  | 42 => ⟨S16x2048x512, .f32⟩
  | 43 => ⟨S16x2048x512, .f32⟩
  | 44 => ⟨S1x1x512, .f32⟩
  | 45 => ⟨S512, .f32⟩
  | 46 => ⟨S1x1x512, .f32⟩
  | 47 => ⟨S16x2048x512, .f32⟩
  | 48 => ⟨S16x2048x512, .f32⟩
  | 49 => ⟨S16x2048x512, .f32⟩
  | 50 => ⟨S16x2048x512, .f32⟩
  | 51 => ⟨S1x1x512, .f32⟩
  | 52 => ⟨S512, .f32⟩
  | 53 => ⟨S1x1x512, .f32⟩
  | 54 => ⟨S16x2048x512, .f32⟩
  | 55 => ⟨S16x2048x512, .f32⟩
  | 56 => ⟨S16x2048x512, .f32⟩
  | 57 => ⟨S16x2048x512, .f32⟩
  | 58 => ⟨S1x1x512, .f32⟩
  | 59 => ⟨S512, .f32⟩
  | 60 => ⟨S1x1x512, .f32⟩
  | 61 => ⟨S16x2048x512, .f32⟩
  | 62 => ⟨S16x2048x512, .f32⟩
  | 63 => ⟨S16x2048x512, .f32⟩
  | 64 => ⟨S16x2048x512, .f32⟩
  | 65 => ⟨S1x1x512, .f32⟩
  | 66 => ⟨S512, .f32⟩
  | 67 => ⟨S1x1x512, .f32⟩
  | 68 => ⟨S16x2048x512, .f32⟩
  | 69 => ⟨S16x2048x512, .f32⟩
  | 70 => ⟨S16x2048x512, .f32⟩
  | 71 => ⟨S16x2048x512, .f32⟩
  | 72 => ⟨S1x1x512, .f32⟩
  | 73 => ⟨S512, .f32⟩
  | 74 => ⟨S1x1x512, .f32⟩
  | 75 => ⟨S16x2048x512, .f32⟩
  | 76 => ⟨S16x2048x512, .f32⟩
  | 77 => ⟨S16x2048x512, .f32⟩
  | 78 => ⟨S16x2048x512, .f32⟩
  | 79 => ⟨S1x1x512, .f32⟩
  | 80 => ⟨S512, .f32⟩
  | 81 => ⟨S1x1x512, .f32⟩
  | 82 => ⟨S16x2048x512, .f32⟩
  | 83 => ⟨S16x2048x512, .f32⟩
  | 84 => ⟨S16x2048x512, .f32⟩
  | 85 => ⟨S16x2048x512, .f32⟩
  | 86 => ⟨S1x1x512, .f32⟩
  | 87 => ⟨S512, .f32⟩
  | 88 => ⟨S1x1x512, .f32⟩
  | 89 => ⟨S16x2048x512, .f32⟩
  | 90 => ⟨S16x2048x512, .f32⟩
  | 91 => ⟨S16x2048x512, .f32⟩
  | 92 => ⟨S16x2048x512, .f32⟩
  | 93 => ⟨S1x1x512, .f32⟩
  | 94 => ⟨S512, .f32⟩
  | 95 => ⟨S1x1x512, .f32⟩
  | 96 => ⟨S16x2048x512, .f32⟩
  | 97 => ⟨S16x2048x512, .f32⟩
  | 98 => ⟨S16x2048x512, .f32⟩
  | 99 => ⟨S16x2048x512, .f32⟩
  | 100 => ⟨S1x1x512, .f32⟩
  | 101 => ⟨S512, .f32⟩
  | 102 => ⟨S1x1x512, .f32⟩
  | 103 => ⟨S16x2048x512, .f32⟩
  | 104 => ⟨S16x2048x512, .f32⟩
  | 105 => ⟨S16x2048x512, .f32⟩
  | 106 => ⟨S16x2048x512, .f32⟩
  | 107 => ⟨S1x1x512, .f32⟩
  | 108 => ⟨S512, .f32⟩
  | 109 => ⟨S1x1x512, .f32⟩
  | 110 => ⟨S16x2048x512, .f32⟩
  | 111 => ⟨S16x2048x512, .f32⟩
  | 112 => ⟨S16x2048x512, .f32⟩
  | 113 => ⟨S1x1x512, .f32⟩
  | 114 => ⟨S16x2048x512, .f32⟩
  | 115 => ⟨S16x2048x512, .f32⟩
  | 116 => ⟨S_, .f32⟩
  | 117 => ⟨S16x2048, .f32⟩
  | 118 => ⟨S16x2048x1, .f32⟩
  | 119 => ⟨S_, .f32⟩
  | 120 => ⟨S16x2048x1, .f32⟩
  | 121 => ⟨S16x2048x1, .f32⟩
  | 122 => ⟨S16x2048x512, .f32⟩
  | 123 => ⟨S16x2048x512, .f32⟩
  | 124 => ⟨S16x2048x512, .f32⟩
  | 125 => ⟨S_, .f32⟩
  | 126 => ⟨S16x2048, .f32⟩
  | 127 => ⟨S16x2048x1, .f32⟩
  | _ => ⟨S32768x7680, .bf16⟩

abbrev hbmTy0_2 (i : Nat) : BufTy := match i % 128 with
  | 0 => ⟨S_, .f32⟩
  | 1 => ⟨S16x2048x1, .f32⟩
  | 2 => ⟨S16x2048x1, .f32⟩
  | 3 => ⟨S16x2048x512, .f32⟩
  | 4 => ⟨S16x2048x512, .f32⟩
  | 5 => ⟨S_, .f32⟩
  | 6 => ⟨S16x2048x1, .f32⟩
  | 7 => ⟨S16x2048x1, .f32⟩
  | 8 => ⟨S16x2048x1, .f32⟩
  | 9 => ⟨S16x2048x512, .f32⟩
  | 10 => ⟨S16x2048x512, .f32⟩
  | 11 => ⟨S1x1x512, .f32⟩
  | 12 => ⟨S16x2048x512, .f32⟩
  | 13 => ⟨S16x2048x512, .f32⟩
  | 14 => ⟨S1x1x512, .f32⟩
  | 15 => ⟨S16x2048x512, .f32⟩
  | 16 => ⟨S16x2048x512, .f32⟩
  | 17 => ⟨S16x2048x512, .f32⟩
  | 18 => ⟨S16x2048x512, .f32⟩
  | 19 => ⟨S_, .f32⟩
  | 20 => ⟨S16x2048x512, .f32⟩
  | 21 => ⟨S16x2048x512, .f32⟩
  | 22 => ⟨S_, .f32⟩
  | 23 => ⟨S16x2048x512, .f32⟩
  | 24 => ⟨S16x2048x512, .f32⟩
  | 25 => ⟨S16x2048x512, .f32⟩
  | 26 => ⟨S16x2048x512, .bf16⟩
  | 27 => ⟨S32768x512, .bf16⟩
  | _ => ⟨S32768x7680, .bf16⟩

abbrev hbmTy (i : Nat) : BufTy := match i / 128 with
  | 0 => hbmTy0_0 i
  | 1 => hbmTy0_1 i
  | 2 => hbmTy0_2 i
  | _ => ⟨S32768x7680, .bf16⟩

abbrev bufTy : (tb : Table) → Fin (tcTables nBuf tb) → BufTy
  | .hbm, ⟨i, _⟩ => hbmTy i
  | _, _ => ⟨S32768x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_cst_2 : Ref sig .tc := ⟨.hbm, 244, rfl⟩
abbrev main_v234 : Ref sig .tc := ⟨.hbm, 245, rfl⟩
abbrev main_v235 : Ref sig .tc := ⟨.hbm, 246, rfl⟩
abbrev main_cst_3 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_cst_4 : Ref sig .tc := ⟨.hbm, 253, rfl⟩
abbrev main_v241 : Ref sig .tc := ⟨.hbm, 254, rfl⟩
abbrev main_v242 : Ref sig .tc := ⟨.hbm, 255, rfl⟩
abbrev main_cst_5 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_cst_6 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_call1_v0 : Ref sig .tc := ⟨.hbm, 273, rfl⟩
abbrev main_call1_v1 : Ref sig .tc := ⟨.hbm, 274, rfl⟩
abbrev main_call1_cst : Ref sig .tc := ⟨.hbm, 275, rfl⟩
abbrev main_call1_v2 : Ref sig .tc := ⟨.hbm, 276, rfl⟩
abbrev main_call1_v3 : Ref sig .tc := ⟨.hbm, 277, rfl⟩
abbrev main_call1_cst_0 : Ref sig .tc := ⟨.hbm, 278, rfl⟩
abbrev main_call1_v4 : Ref sig .tc := ⟨.hbm, 279, rfl⟩
abbrev main_call1_v5 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩

abbrev nD : Nat := 1
abbrev τ : Topo := Topo.v7x

variable {F : FTy → Type} [FloatOps F]
-- ==== Proof.Head.lean ====
/-
  Hand-written, untrusted. What ONE HEAD of one grid point computes, as vector functions shared by the four heads: the
  rotated queries and keys, the head's raw retention (the part within the block by the decay table, the part of the
  earlier blocks by the carried state), its group norm and gate, and the state it leaves. The four unrolled heads of
  the kernel body are this one head at four pairs of constants, by definition.
-/
module

public import proofs.«01_k».proof.Proof.Gen.KernelIdeal.Value

@[expose] public section

set_option maxRecDepth 16384

noncomputable section

namespace Cert.KernelIdeal.Ret

open Idealize.ShloMosaic Idealize.SL.Sem
open Cert.KernelIdeal Cert.KernelIdeal.Gen

variable {F : FTy → Type} [FloatOps F] [Named F]

/-- One rotated row block: `x·cos + roll(x)·sin`, the tables already spread over both halves. -/
def rot (c s : FVec F S256x128 .f32) (x : Vec F S256x128 .bf16) : FVec F S256x128 .f32 :=
  addf (mulf (extf .f32 x bitsLt_bf16_f32) c)
    (mulf (dynamicRotate 1 64#32 none (extf .f32 x bitsLt_bf16_f32) rotates_S256x128_d1) s)

/-- A rotated key block, scaled. -/
def rotK (c s : FVec F S256x128 .f32) (x : Vec F S256x128 .bf16) : FVec F S256x128 .f32 :=
  mulf (rot c s x) (broadcast S256x128 (Scalar.ofBits .f32 0x3DB504F3#32))

/-- The head's raw retention: scores within the block against the values, plus the queries against the carried state. -/
def raw (lg : F .f32) (q k : FVec F S256x128 .f32) (v : Vec F S256x128 .bf16) (dec : Vec F S1x256x256 .f32)
    (st : Vec F S1x128x128 .f32) : FVec F S256x128 .f32 :=
  addf
    (matmul dot_S256x256_S256x128_S256x128_1_0_0_1_n_n none
      (truncf .bf16 (mulf
        (matmul dot_S256x128_S256x128_S256x256_1_1_0_0_n_n none (truncf .bf16 q bitsLt_bf16_f32)
          (truncf .bf16 k bitsLt_bf16_f32) (constant S256x256 .f32 0x00000000#32))
        (shapeCast S256x256 dec shapeCasts_S1x256x256_S256x256)) bitsLt_bf16_f32)
      v (constant S256x128 .f32 0x00000000#32))
    (mulf
      (matmul dot_S256x128_S128x128_S256x128_1_0_0_1_n_n none (truncf .bf16 q bitsLt_bf16_f32)
        (truncf .bf16 (shapeCast S128x128 st shapeCasts_S1x128x128_S128x128) bitsLt_bf16_f32)
        (constant S256x128 .f32 0x00000000#32))
      (broadcastTo S256x128 (exp (mulf (broadcast S256x1 lg)
        (addf k0_pay13 (broadcast S256x1 (Scalar.ofBits .f32 0x3F800000#32))))) broadcasts_S256x1_S256x128))

/-- A row block less its mean over the head's channels. -/
def cen (o : FVec F S256x128 .f32) : FVec F S256x128 .f32 :=
  subf o (broadcastTo S256x128 (divf (shapeCast S256x1
    (multiReduction .add [1] S256 o 0x00000000#32 reduces_S256x128_S256 (.inl rfl) rfl) shapeCasts_S256_S256x1)
      (broadcast S256x1 (Scalar.ofBits .f32 0x43000000#32))) broadcasts_S256x1_S256x128)

/-- The head's written block: the group norm of the raw retention, times the gain, times the gate's `g·logistic g`. -/
def gated (o : FVec F S256x128 .f32) (gn : Vec F S1x128 .f32) (g : Vec F S256x128 .bf16) : FVec F S256x128 .bf16 :=
  truncf .bf16 (mulf
    (mulf (mulf (cen o) (broadcastTo S256x128 (rsqrt (addf (divf (shapeCast S256x1
        (multiReduction .add [1] S256 (mulf (cen o) (cen o)) 0x00000000#32 reduces_S256x128_S256 (.inl rfl) rfl)
          shapeCasts_S256_S256x1) (broadcast S256x1 (Scalar.ofBits .f32 0x43000000#32)))
        (broadcast S256x1 (Scalar.ofBits .f32 0x358637BD#32)))) broadcasts_S256x1_S256x128))
      (broadcastTo S256x128 (shapeCast S1x128 gn shapeCasts_S1x128_S1x128) broadcasts_S1x128_S256x128))
    (mulf (extf .f32 g bitsLt_bf16_f32) (logistic (extf .f32 g bitsLt_bf16_f32)))) bitsLt_bf16_f32

/-- The state the head leaves: the old one decayed over the block, plus the block's decayed keys against its values. -/
def next (lg gc : F .f32) (k : FVec F S256x128 .f32) (v : Vec F S256x128 .bf16) (st : Vec F S1x128x128 .f32) :
    FVec F S1x128x128 .f32 :=
  shapeCast S1x128x128
    (addf (mulf (broadcast S128x128 gc) (shapeCast S128x128 st shapeCasts_S1x128x128_S128x128))
      (matmul dot_S256x128_S256x128_S128x128_0_0_1_1_n_n none
        (truncf .bf16 (mulf k (broadcastTo S256x128 (exp (mulf (broadcast S256x1 lg)
          (subf (broadcast S256x1 (Scalar.ofBits .f32 0x437F0000#32)) k0_pay13))) broadcasts_S256x1_S256x128))
          bitsLt_bf16_f32)
        v (constant S128x128 .f32 0x00000000#32)))
    shapeCasts_S128x128_S1x128x128

/-- The decay table of a head: `exp (lg·(r - c))` on and below the diagonal, `0` above it. -/
def tab (lg : F .f32) : FVec F S1x256x256 .f32 :=
  shapeCast S1x256x256
    (select (cmpf .oge (k0_pay2 (F := F)) (broadcast S256x256 (Scalar.ofBits .f32 0x00000000#32)))
      (exp (mulf (broadcast S256x256 lg) (maximumf (k0_pay2 (F := F)) (broadcast S256x256 (Scalar.ofBits .f32 0x00000000#32)))))
      (broadcast S256x256 (Scalar.ofBits .f32 0x00000000#32)))
    shapeCasts_S256x256_S1x256x256

/-- The four heads' logarithms of the decay per frame. -/
def lg (h : Fin 4) : F .f32 :=
  match h with
  | 0 => Named.named κ "lg0" 0xBD020AEC#32
  | 1 => Named.named κ "lg1" 0xBC8102B3#32
  | 2 => Named.named κ "lg2" 0xBC0080AC#32
  | 3 => Named.named κ "lg3" 0xBB80402B#32

/-- The four heads' decays over one block. -/
def gc (h : Fin 4) : F .f32 :=
  match h with
  | 0 => Named.named κ "gc0" 0x399ACCA1#32
  | 1 => Named.named κ "gc1" 0x3C9160A5#32
  | 2 => Named.named κ "gc2" 0x3E097FCE#32
  | 3 => Named.named κ "gc3" 0x3EBBFC5D#32

theorem tab0 : k0_pay3 (F := F) = tab (lg 0) := rfl
theorem tab1 : k0_pay4 (F := F) = tab (lg 1) := rfl
theorem tab2 : k0_pay7 (k0_pay5 (F := F)) = tab (lg 2) := rfl
theorem tab3 : k0_pay8 (k0_pay2 (F := F)) = tab (lg 3) := rfl

section
variable (cs : Vec F S256x128 .f32) (q k v g : Vec F S256x128 .bf16) (dec : Vec F S1x256x256 .f32)
  (st : Vec F S1x128x128 .f32) (gn : Vec F S1x128 .f32)

/-- The block head `h` writes, from the blocks it reads. -/
def headOut (h : Fin 4) : FVec F S256x128 .bf16 :=
  gated (raw (lg h) (rot (k0_pay11 cs) (k0_pay12 cs) q) (rotK (k0_pay11 cs) (k0_pay12 cs) k) v dec st) gn g

/-- The state head `h` leaves, from the blocks it reads. -/
def headNext (h : Fin 4) : FVec F S1x128x128 .f32 :=
  next (lg h) (gc h) (rotK (k0_pay11 cs) (k0_pay12 cs) k) v st

/-- The first head's stores are the shared head's. -/
theorem out0 : k0_pay21 (k0_pay19 k0_pay13 v (k0_pay14 cs q) (k0_pay16 cs k) (constant S256x256 .f32 0x00000000#32) dec st)
      (k0_pay20 k0_pay13 v (k0_pay14 cs q) (k0_pay16 cs k) (constant S256x256 .f32 0x00000000#32) dec st) gn g
    = headOut cs q k v g dec st gn 0 := rfl
theorem next0 : k0_pay18 k0_pay13 v (k0_pay15 cs k) st = headNext cs k v st 0 := rfl

/-- The second head's. -/
theorem out1 : k0_pay29
      (k0_pay27 k0_pay13 v (k0_pay22 (k0_pay11 cs) (k0_pay12 cs) q) (k0_pay24 (k0_pay11 cs) (k0_pay12 cs) q k) dec st)
      (k0_pay28 k0_pay13 v (k0_pay22 (k0_pay11 cs) (k0_pay12 cs) q) (k0_pay24 (k0_pay11 cs) (k0_pay12 cs) q k) dec st) gn g
    = headOut cs q k v g dec st gn 1 := rfl
theorem next1 : k0_pay26 k0_pay13 v (k0_pay23 (k0_pay11 cs) (k0_pay12 cs) k) st = headNext cs k v st 1 := rfl

/-- The third head's. -/
theorem out2 : k0_pay38
      (k0_pay36 k0_pay13 v (k0_pay30 (k0_pay11 cs) (k0_pay12 cs) q) (k0_pay32 (k0_pay11 cs) (k0_pay12 cs) q k) (k0_pay33 dec) st)
      (k0_pay37 k0_pay13 v (k0_pay30 (k0_pay11 cs) (k0_pay12 cs) q) (k0_pay32 (k0_pay11 cs) (k0_pay12 cs) q k) (k0_pay33 dec) st) gn g
    = headOut cs q k v g dec st gn 2 := rfl
theorem next2 : k0_pay35 k0_pay13 v (k0_pay31 (k0_pay11 cs) (k0_pay12 cs) k) st = headNext cs k v st 2 := rfl

/-- The fourth head's. -/
theorem out3 : k0_pay1
      (k0_pay44 k0_pay13 v (k0_pay39 (k0_pay11 cs) (k0_pay12 cs) q) (k0_pay41 (k0_pay11 cs) (k0_pay12 cs) q k dec) (constant S256x128 .f32 0x00000000#32) st)
      (k0_pay45 k0_pay13 v (k0_pay39 (k0_pay11 cs) (k0_pay12 cs) q) (k0_pay41 (k0_pay11 cs) (k0_pay12 cs) q k dec) (constant S256x128 .f32 0x00000000#32) st) gn g
    = headOut cs q k v g dec st gn 3 := rfl
theorem next3 : k0_pay43 k0_pay13 v (k0_pay40 (k0_pay11 cs) (k0_pay12 cs) k) st = headNext cs k v st 3 := rfl

end

end Cert.KernelIdeal.Ret

end
-- ==== Proof.Block.lean ====
/-
  Hand-written, untrusted. What ONE GRID POINT computes: the written block, the carried state and the decay table after
  it, as functions of the point's input blocks and of the state and table before it, head by head (`Head.lean`).
-/
module

public import proofs.«01_k».proof.Proof.Head
public import Idealize.ShloMosaic.Lib.Pointwise.Index
public import Idealize.ShloMosaic.Lib.Pipeline.ReadBack
public import Idealize.ShloMosaic.Lib.Pipeline.ValueKit.Acc
public import Idealize.ShloMosaic.Lib.Pipeline.ValueKit.Tiles

@[expose] public section

set_option maxRecDepth 16384

noncomputable section

namespace Cert.KernelIdeal.Ret

open Idealize.ShloMosaic Idealize.SL.Sem
open Cert.KernelIdeal Cert.KernelIdeal.Gen

variable {F : FTy → Type} [FloatOps F] [Named F]

theorem inbC (h : Fin 4) : ∀ a, ![0, 128 * h.val] a + S256x128.size a ≤ S256x512.size a := by
  intro a; have := h.isLt; fin_cases a
  · show 0 + 256 ≤ 256; omega
  · show 128 * h.val + 128 ≤ 512; omega

theorem inbG (h : Fin 4) : ∀ a, ![0, 128 * h.val] a + S1x128.size a ≤ S1x512.size a := by
  intro a; have := h.isLt; fin_cases a
  · show 0 + 1 ≤ 1; omega
  · show 128 * h.val + 128 ≤ 512; omega

theorem inbS (h : Fin 4) : ∀ a, ![h.val, 0, 0] a + S1x128x128.size a ≤ S4x128x128.size a := by
  intro a; have := h.isLt; fin_cases a
  · show h.val + 1 ≤ 4; omega
  · show 0 + 128 ≤ 128; omega
  · show 0 + 128 ≤ 128; omega

theorem inbD (h : Fin 4) : ∀ a, ![h.val, 0, 0] a + S1x256x256.size a ≤ S4x256x256.size a := by
  intro a; have := h.isLt; fin_cases a
  · show h.val + 1 ≤ 4; omega
  · show 0 + 256 ≤ 256; omega
  · show 0 + 256 ≤ 256; omega

/-- The columns of head `h` in a block of four heads' columns. -/
def cols {e : EltTy} (x : Vec F S256x512 e) (h : Fin 4) : Vec F S256x128 e :=
  View.ld x (Rect.unit ![0, 128 * h.val] S256x128.size (inbC h))

/-- The gains of head `h`. -/
def gains (x : Vec F S1x512 .f32) (h : Fin 4) : Vec F S1x128 .f32 :=
  View.ld x (Rect.unit ![0, 128 * h.val] S1x128.size (inbG h))

/-- The state of head `h`. -/
def stOf (x : Vec F S4x128x128 .f32) (h : Fin 4) : Vec F S1x128x128 .f32 :=
  View.ld x (Rect.unit ![h.val, 0, 0] S1x128x128.size (inbS h))

/-- The decay table of head `h`. -/
def decOf (x : Vec F S4x256x256 .f32) (h : Fin 4) : Vec F S1x256x256 .f32 :=
  View.ld x (Rect.unit ![h.val, 0, 0] S1x256x256.size (inbD h))

/-- The four heads' decay tables. -/
def decTab : Vec F S4x256x256 .f32 := fun y => tab (lg (y 0)) (ix3 0 (y 1) (y 2))

theorem decTab_emb (h : Fin 4) (inb) (x : S1x256x256.Idx) :
    decTab (F := F) ((Rect.unit (s := S4x256x256) ![h.val, 0, 0] S1x256x256.size inb).emb x) = tab (lg h) x := by
  have h0 : (x 0 : ℕ) < 1 := (x 0).isLt
  unfold decTab
  congr 1
  · congr 1
    refine Fin.ext ?_
    show h.val + 1 * (x 0 : ℕ) = h.val
    omega
  · funext a
    refine Fin.ext ?_
    fin_cases a
    · show 0 = (x 0 : ℕ); omega
    · show 0 + 1 * (x 1 : ℕ) = (x 1 : ℕ); omega
    · show 0 + 1 * (x 2 : ℕ) = (x 2 : ℕ); omega

theorem decOf_decTab (h : Fin 4) : decOf (F := F) decTab h = tab (lg h) := funext (decTab_emb h _)

section
variable (x0 x1 x2 x3 : Vec F S256x512 .bf16) (x4 : Vec F S256x128 .f32) (x5 : Vec F S1x512 .f32)
  (S : Vec F S4x128x128 .f32) (D : Vec F S4x256x256 .f32)

/-- Head `h`'s part of the written block. -/
def outH (h : Fin 4) : FVec F S256x128 .bf16 :=
  headOut x4 (cols x0 h) (cols x1 h) (cols x2 h) (cols x3 h) (decOf D h) (stOf S h) (gains x5 h) h

/-- Head `h`'s new state. -/
def nextH (h : Fin 4) : FVec F S1x128x128 .f32 := headNext x4 (cols x1 h) (cols x2 h) (stOf S h) h

/-- The written block: head `y₁ / 128`'s part at channel `y₁ % 128`. -/
def blkOut : Vec F S256x512 .bf16 := fun y =>
  outH x0 x1 x2 x3 x4 x5 S D ⟨(y 1 : ℕ) / 128, by have := (y 1).isLt; change (y 1 : ℕ) < 512 at this; omega⟩
    (ix2 (y 0) ⟨(y 1 : ℕ) % 128, by omega⟩)

/-- The new state. -/
def blkNext : Vec F S4x128x128 .f32 := fun y => nextH x1 x2 x4 S (y 0) (ix3 0 (y 1) (y 2))

theorem blkOut_emb (h : Fin 4) (inb) (x : S256x128.Idx) :
    blkOut x0 x1 x2 x3 x4 x5 S D ((Rect.unit (s := S256x512) ![0, 128 * h.val] S256x128.size inb).emb x)
      = outH x0 x1 x2 x3 x4 x5 S D h x := by
  have h1 : (x 1 : ℕ) < 128 := (x 1).isLt
  have e1 : (((Rect.unit (s := S256x512) ![0, 128 * h.val] S256x128.size inb).emb x) 1 : ℕ) = 128 * h.val + 1 * (x 1 : ℕ) := rfl
  unfold blkOut
  congr 1
  · refine Fin.ext ?_
    show (((Rect.unit (s := S256x512) ![0, 128 * h.val] S256x128.size inb).emb x) 1 : ℕ) / 128 = h.val
    rw [e1]; omega
  · funext a
    refine Fin.ext ?_
    fin_cases a
    · show 0 + 1 * (x 0 : ℕ) = (x 0 : ℕ); omega
    · show (((Rect.unit (s := S256x512) ![0, 128 * h.val] S256x128.size inb).emb x) 1 : ℕ) % 128 = (x 1 : ℕ)
      rw [e1]; omega

theorem blkNext_emb (h : Fin 4) (inb) (x : S1x128x128.Idx) :
    blkNext x1 x2 x4 S ((Rect.unit (s := S4x128x128) ![h.val, 0, 0] S1x128x128.size inb).emb x) = nextH x1 x2 x4 S h x := by
  have h0 : (x 0 : ℕ) < 1 := (x 0).isLt
  unfold blkNext
  congr 1
  · refine Fin.ext ?_
    show h.val + 1 * (x 0 : ℕ) = h.val
    omega
  · funext a
    refine Fin.ext ?_
    fin_cases a
    · show 0 = (x 0 : ℕ); omega
    · show 0 + 1 * (x 1 : ℕ) = (x 1 : ℕ); omega
    · show 0 + 1 * (x 2 : ℕ) = (x 2 : ℕ); omega
end

section
variable (c : Dev nD) (i : grid0.Coords) (arg2 : Memref sig .tc .vmem S256x512 .bf16) (harg2 : arg2.IsWhole)
    (arg3 : Memref sig .tc .vmem S256x512 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S256x128 .f32) (harg6 : arg6.IsWhole)
    (arg7 : Memref sig .tc .vmem S1x512 .f32) (harg7 : arg7.IsWhole) (arg8 : Memref sig .tc .vmem S256x512 .bf16) (harg8 : arg8.IsWhole)
    (arg9 : Memref sig .tc .vmem S4x128x128 .f32) (harg9 : arg9.IsWhole) (arg10 : Memref sig .tc .vmem S4x256x256 .f32) (harg10 : arg10.IsWhole) (hc0 : cond0_0 i) (hc1 : cond0_1 i)
    (x0 x1 x2 x3 : Vec F S256x512 .bf16) (x4 : Vec F S256x128 .f32) (x5 : Vec F S1x512 .f32)

/-- The written block at the very first point, which fills the table and clears the state. -/
theorem out_A : out0_A_6 c i arg2 harg2 arg3 harg3 arg4 harg4 arg5 harg5 arg6 harg6 arg7 harg7 arg8 harg8 arg9 harg9 arg10 harg10 hc0 hc1 x0 x1 x2 x3 x4 x5 = blkOut x0 x1 x2 x3 x4 x5 k0_pay6 decTab := by
  unfold out0_A_6; rw [View.read_writes_junk_eq_canon]; unfold kernelRun0_A; dsimp only; sl_unfold_words
  simp (config := {decide := true}) only [↓View.readCov_skip, ↓View.readCov_cons_toLoadRect, ↓View.readCov_fill, View.readAt_eq_ld, Memref.IsWhole.read_unread, View.ld_unit_lit']
  funext y
  refine View.canon_append_of_piecesOf _ [] [_, _, _, _] ⟨fun x => ?_, fun x => ?_, fun x => ?_, fun x => ?_, trivial⟩ y (View.cover_of_tiled_head _ _ _ rfl y)
  · refine Eq.trans ?_ (blkOut_emb x0 x1 x2 x3 x4 x5 k0_pay6 decTab 3 (inbC 3) x).symm
    unfold outH; rw [decOf_decTab]
    rw [← tab3]
    exact congrFun (out3 ..) x
  · refine Eq.trans ?_ (blkOut_emb x0 x1 x2 x3 x4 x5 k0_pay6 decTab 2 (inbC 2) x).symm
    unfold outH; rw [decOf_decTab]
    rw [← tab2]
    exact congrFun (out2 ..) x
  · refine Eq.trans ?_ (blkOut_emb x0 x1 x2 x3 x4 x5 k0_pay6 decTab 1 (inbC 1) x).symm
    unfold outH; rw [decOf_decTab]
    rw [← tab1]
    exact congrFun (out1 ..) x
  · refine Eq.trans ?_ (blkOut_emb x0 x1 x2 x3 x4 x5 k0_pay6 decTab 0 (inbC 0) x).symm
    unfold outH; rw [decOf_decTab]
    rw [← tab0]
    exact congrFun (out0 ..) x

/-- The state after it. -/
theorem st_A : sout0_A_0 c i arg2 harg2 arg3 harg3 arg4 harg4 arg5 harg5 arg6 harg6 arg7 harg7 arg8 harg8 arg9 harg9 arg10 harg10 hc0 hc1 x0 x1 x2 x3 x4 x5 = blkNext x1 x2 x4 k0_pay6 := by
  unfold sout0_A_0; rw [View.read_writes_junk_eq_canon]; unfold kernelRun0_A; dsimp only; sl_unfold_words
  simp (config := {decide := true}) only [↓View.readCov_skip, ↓View.readCov_cons_toLoadRect, ↓View.readCov_fill, View.readAt_eq_ld, Memref.IsWhole.read_unread, View.ld_unit_lit']
  funext y
  refine View.canon_append_of_piecesOf _ [_] [_, _, _, _] ⟨fun x => ?_, fun x => ?_, fun x => ?_, fun x => ?_, trivial⟩ y (View.cover_of_tiled_head _ _ _ rfl y)
  · refine Eq.trans ?_ (blkNext_emb x1 x2 x4 k0_pay6 3 (inbS 3) x).symm
    exact congrFun (next3 ..) x
  · refine Eq.trans ?_ (blkNext_emb x1 x2 x4 k0_pay6 2 (inbS 2) x).symm
    exact congrFun (next2 ..) x
  · refine Eq.trans ?_ (blkNext_emb x1 x2 x4 k0_pay6 1 (inbS 1) x).symm
    exact congrFun (next1 ..) x
  · refine Eq.trans ?_ (blkNext_emb x1 x2 x4 k0_pay6 0 (inbS 0) x).symm
    exact congrFun (next0 ..) x

/-- The table after it. -/
theorem dec_A : sout0_A_1 c i arg2 harg2 arg3 harg3 arg4 harg4 arg5 harg5 arg6 harg6 arg7 harg7 arg8 harg8 arg9 harg9 arg10 harg10 hc0 hc1 x0 x1 x2 x3 x4 x5 = decTab := by
  unfold sout0_A_1; rw [View.read_writes_junk_eq_canon]; unfold kernelRun0_A; dsimp only; sl_unfold_words
  funext y
  refine View.canon_append_of_piecesOf _ [] [_, _, _, _] ⟨fun x => ?_, fun x => ?_, fun x => ?_, fun x => ?_, trivial⟩ y (View.cover_of_tiled_head _ _ _ rfl y)
  · exact (congrFun tab3 x).trans (decTab_emb 3 (inbD 3) x).symm
  · exact (congrFun tab2 x).trans (decTab_emb 2 (inbD 2) x).symm
  · exact (congrFun tab1 x).trans (decTab_emb 1 (inbD 1) x).symm
  · exact (congrFun tab0 x).trans (decTab_emb 0 (inbD 0) x).symm
end

section
variable (c : Dev nD) (i : grid0.Coords) (arg2 : Memref sig .tc .vmem S256x512 .bf16) (harg2 : arg2.IsWhole)
    (arg3 : Memref sig .tc .vmem S256x512 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S256x128 .f32) (harg6 : arg6.IsWhole)
    (arg7 : Memref sig .tc .vmem S1x512 .f32) (harg7 : arg7.IsWhole) (arg8 : Memref sig .tc .vmem S256x512 .bf16) (harg8 : arg8.IsWhole)
    (arg9 : Memref sig .tc .vmem S4x128x128 .f32) (harg9 : arg9.IsWhole) (arg10 : Memref sig .tc .vmem S4x256x256 .f32) (harg10 : arg10.IsWhole) (hc0 : ¬cond0_0 i) (hc1 : ¬cond0_1 i)
    (x0 x1 x2 x3 : Vec F S256x512 .bf16) (x4 : Vec F S256x128 .f32) (x5 : Vec F S1x512 .f32) (xs0 : Vec F S4x128x128 .f32) (xs1 : Vec F S4x256x256 .f32)

/-- The written block at a later block of a sequence. -/
theorem out_B : out0_B_6 c i arg2 harg2 arg3 harg3 arg4 harg4 arg5 harg5 arg6 harg6 arg7 harg7 arg8 harg8 arg9 harg9 arg10 harg10 hc0 hc1 x0 x1 x2 x3 x4 x5 xs0 xs1 = blkOut x0 x1 x2 x3 x4 x5 xs0 xs1 := by
  unfold out0_B_6; rw [View.read_writes_junk_eq_canon]; unfold kernelRun0_B; dsimp only; sl_unfold_words
  simp (config := {decide := true}) only [↓View.readCov_skip, ↓View.readCov_cons_toLoadRect, ↓View.readCov_fill, View.readAt_eq_ld, Memref.IsWhole.read_unread, View.ld_unit_lit']
  funext y
  refine View.canon_append_of_piecesOf _ [] [_, _, _, _] ⟨fun x => ?_, fun x => ?_, fun x => ?_, fun x => ?_, trivial⟩ y (View.cover_of_tiled_head _ _ _ rfl y)
  · refine Eq.trans ?_ (blkOut_emb x0 x1 x2 x3 x4 x5 xs0 xs1 3 (inbC 3) x).symm
    exact congrFun (out3 ..) x
  · refine Eq.trans ?_ (blkOut_emb x0 x1 x2 x3 x4 x5 xs0 xs1 2 (inbC 2) x).symm
    exact congrFun (out2 ..) x
  · refine Eq.trans ?_ (blkOut_emb x0 x1 x2 x3 x4 x5 xs0 xs1 1 (inbC 1) x).symm
    exact congrFun (out1 ..) x
  · refine Eq.trans ?_ (blkOut_emb x0 x1 x2 x3 x4 x5 xs0 xs1 0 (inbC 0) x).symm
    exact congrFun (out0 ..) x

/-- The state after it. -/
theorem st_B : sout0_B_0 c i arg2 harg2 arg3 harg3 arg4 harg4 arg5 harg5 arg6 harg6 arg7 harg7 arg8 harg8 arg9 harg9 arg10 harg10 hc0 hc1 x0 x1 x2 x3 x4 x5 xs0 xs1 = blkNext x1 x2 x4 xs0 := by
  unfold sout0_B_0; rw [View.read_writes_junk_eq_canon]; unfold kernelRun0_B; dsimp only; sl_unfold_words
  simp (config := {decide := true}) only [↓View.readCov_skip, ↓View.readCov_cons_toLoadRect, ↓View.readCov_fill, View.readAt_eq_ld, Memref.IsWhole.read_unread, View.ld_unit_lit']
  funext y
  refine View.canon_append_of_piecesOf _ [] [_, _, _, _] ⟨fun x => ?_, fun x => ?_, fun x => ?_, fun x => ?_, trivial⟩ y (View.cover_of_tiled_head _ _ _ rfl y)
  · refine Eq.trans ?_ (blkNext_emb x1 x2 x4 xs0 3 (inbS 3) x).symm
    exact congrFun (next3 ..) x
  · refine Eq.trans ?_ (blkNext_emb x1 x2 x4 xs0 2 (inbS 2) x).symm
    exact congrFun (next2 ..) x
  · refine Eq.trans ?_ (blkNext_emb x1 x2 x4 xs0 1 (inbS 1) x).symm
    exact congrFun (next1 ..) x
  · refine Eq.trans ?_ (blkNext_emb x1 x2 x4 xs0 0 (inbS 0) x).symm
    exact congrFun (next0 ..) x

/-- The table is kept. -/
theorem dec_B : sout0_B_1 c i arg2 harg2 arg3 harg3 arg4 harg4 arg5 harg5 arg6 harg6 arg7 harg7 arg8 harg8 arg9 harg9 arg10 harg10 hc0 hc1 x0 x1 x2 x3 x4 x5 xs0 xs1 = xs1 := rfl
end

section
variable (c : Dev nD) (i : grid0.Coords) (arg2 : Memref sig .tc .vmem S256x512 .bf16) (harg2 : arg2.IsWhole)
    (arg3 : Memref sig .tc .vmem S256x512 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S256x128 .f32) (harg6 : arg6.IsWhole)
    (arg7 : Memref sig .tc .vmem S1x512 .f32) (harg7 : arg7.IsWhole) (arg8 : Memref sig .tc .vmem S256x512 .bf16) (harg8 : arg8.IsWhole)
    (arg9 : Memref sig .tc .vmem S4x128x128 .f32) (harg9 : arg9.IsWhole) (arg10 : Memref sig .tc .vmem S4x256x256 .f32) (harg10 : arg10.IsWhole) (hc0 : cond0_0 i) (hc1 : ¬cond0_1 i)
    (x0 x1 x2 x3 : Vec F S256x512 .bf16) (x4 : Vec F S256x128 .f32) (x5 : Vec F S1x512 .f32) (xs1 : Vec F S4x256x256 .f32)

/-- The written block at the first block of a later sequence, which clears the state. -/
theorem out_C : out0_C_6 c i arg2 harg2 arg3 harg3 arg4 harg4 arg5 harg5 arg6 harg6 arg7 harg7 arg8 harg8 arg9 harg9 arg10 harg10 hc0 hc1 x0 x1 x2 x3 x4 x5 xs1 = blkOut x0 x1 x2 x3 x4 x5 k0_pay6 xs1 := by
  unfold out0_C_6; rw [View.read_writes_junk_eq_canon]; unfold kernelRun0_C; dsimp only; sl_unfold_words
  simp (config := {decide := true}) only [↓View.readCov_skip, ↓View.readCov_cons_toLoadRect, ↓View.readCov_fill, View.readAt_eq_ld, Memref.IsWhole.read_unread, View.ld_unit_lit']
  funext y
  refine View.canon_append_of_piecesOf _ [] [_, _, _, _] ⟨fun x => ?_, fun x => ?_, fun x => ?_, fun x => ?_, trivial⟩ y (View.cover_of_tiled_head _ _ _ rfl y)
  · refine Eq.trans ?_ (blkOut_emb x0 x1 x2 x3 x4 x5 k0_pay6 xs1 3 (inbC 3) x).symm
    exact congrFun (out3 ..) x
  · refine Eq.trans ?_ (blkOut_emb x0 x1 x2 x3 x4 x5 k0_pay6 xs1 2 (inbC 2) x).symm
    exact congrFun (out2 ..) x
  · refine Eq.trans ?_ (blkOut_emb x0 x1 x2 x3 x4 x5 k0_pay6 xs1 1 (inbC 1) x).symm
    exact congrFun (out1 ..) x
  · refine Eq.trans ?_ (blkOut_emb x0 x1 x2 x3 x4 x5 k0_pay6 xs1 0 (inbC 0) x).symm
    exact congrFun (out0 ..) x

/-- The state after it. -/
theorem st_C : sout0_C_0 c i arg2 harg2 arg3 harg3 arg4 harg4 arg5 harg5 arg6 harg6 arg7 harg7 arg8 harg8 arg9 harg9 arg10 harg10 hc0 hc1 x0 x1 x2 x3 x4 x5 xs1 = blkNext x1 x2 x4 k0_pay6 := by
  unfold sout0_C_0; rw [View.read_writes_junk_eq_canon]; unfold kernelRun0_C; dsimp only; sl_unfold_words
  simp (config := {decide := true}) only [↓View.readCov_skip, ↓View.readCov_cons_toLoadRect, ↓View.readCov_fill, View.readAt_eq_ld, Memref.IsWhole.read_unread, View.ld_unit_lit']
  funext y
  refine View.canon_append_of_piecesOf _ [_] [_, _, _, _] ⟨fun x => ?_, fun x => ?_, fun x => ?_, fun x => ?_, trivial⟩ y (View.cover_of_tiled_head _ _ _ rfl y)
  · refine Eq.trans ?_ (blkNext_emb x1 x2 x4 k0_pay6 3 (inbS 3) x).symm
    exact congrFun (next3 ..) x
  · refine Eq.trans ?_ (blkNext_emb x1 x2 x4 k0_pay6 2 (inbS 2) x).symm
    exact congrFun (next2 ..) x
  · refine Eq.trans ?_ (blkNext_emb x1 x2 x4 k0_pay6 1 (inbS 1) x).symm
    exact congrFun (next1 ..) x
  · refine Eq.trans ?_ (blkNext_emb x1 x2 x4 k0_pay6 0 (inbS 0) x).symm
    exact congrFun (next0 ..) x

/-- The table is kept. -/
theorem dec_C : sout0_C_1 c i arg2 harg2 arg3 harg3 arg4 harg4 arg5 harg5 arg6 harg6 arg7 harg7 arg8 harg8 arg9 harg9 arg10 harg10 hc0 hc1 x0 x1 x2 x3 x4 x5 xs1 = xs1 := rfl
end

end Cert.KernelIdeal.Ret
-- ==== Proof.Point.lean ====
/-
  Hand-written, untrusted. One head of one grid point READ AT AN INDEX, over the real numbers: when the blocks it reads
  hold reals, the rotation, the raw retention and the new state hold the reals of their defining sums; the group norm
  and gate are read as they stand.
-/
module

public import proofs.«01_k».proof.Proof.Block
public import Idealize.ShloMosaic.Lib.Pointwise.Tactic
public import Idealize.ShloMosaic.Lib.ValueIdxCore

@[expose] public section

set_option maxRecDepth 16384

noncomputable section

namespace Cert.KernelIdeal.Ret

open Idealize.ShloMosaic Idealize.SL.Sem
open Idealize.ShloMosaic.ValueIdx (contrEquiv1)
open Cert.KernelIdeal Cert.KernelIdeal.Gen

/-! ## The four block products and the layout operations -/

theorem dotQK (l r : FVec Ideal S256x128 .bf16) (a b : Fin 256) :
    matmul (F := Ideal) dot_S256x128_S256x128_S256x256_1_1_0_0_n_n none l r (constant S256x256 .f32 0x00000000#32) (ix2 a b)
      = ∑ k : Fin 128, l (ix2 a k) * r (ix2 b k) := by
  refine (Ideal.matmul_constant_zero_apply dot_S256x128_S256x128_S256x256_1_1_0_0_n_n none l r (ix2 a b)).trans ?_
  rw [← (contrEquiv1 dot_S256x128_S256x128_S256x256_1_1_0_0_n_n 128 rfl rfl).symm.sum_comp]
  refine Finset.sum_congr rfl fun k _ => congrArg₂ (· * ·) (congrArg l ?_) (congrArg r ?_) <;>
    exact funext fun i => Fin.ext (by match i with | ⟨0, _⟩ => rfl | ⟨1, _⟩ => rfl)

theorem dotSV (l : FVec Ideal S256x256 .bf16) (r : FVec Ideal S256x128 .bf16) (a : Fin 256) (e : Fin 128) :
    matmul (F := Ideal) dot_S256x256_S256x128_S256x128_1_0_0_1_n_n none l r (constant S256x128 .f32 0x00000000#32) (ix2 a e)
      = ∑ k : Fin 256, l (ix2 a k) * r (ix2 k e) := by
  refine (Ideal.matmul_constant_zero_apply dot_S256x256_S256x128_S256x128_1_0_0_1_n_n none l r (ix2 a e)).trans ?_
  rw [← (contrEquiv1 dot_S256x256_S256x128_S256x128_1_0_0_1_n_n 256 rfl rfl).symm.sum_comp]
  refine Finset.sum_congr rfl fun k _ => congrArg₂ (· * ·) (congrArg l ?_) (congrArg r ?_) <;>
    exact funext fun i => Fin.ext (by match i with | ⟨0, _⟩ => rfl | ⟨1, _⟩ => rfl)

theorem dotQS (l : FVec Ideal S256x128 .bf16) (r : FVec Ideal S128x128 .bf16) (a : Fin 256) (e : Fin 128) :
    matmul (F := Ideal) dot_S256x128_S128x128_S256x128_1_0_0_1_n_n none l r (constant S256x128 .f32 0x00000000#32) (ix2 a e)
      = ∑ k : Fin 128, l (ix2 a k) * r (ix2 k e) := by
  refine (Ideal.matmul_constant_zero_apply dot_S256x128_S128x128_S256x128_1_0_0_1_n_n none l r (ix2 a e)).trans ?_
  rw [← (contrEquiv1 dot_S256x128_S128x128_S256x128_1_0_0_1_n_n 128 rfl rfl).symm.sum_comp]
  refine Finset.sum_congr rfl fun k _ => congrArg₂ (· * ·) (congrArg l ?_) (congrArg r ?_) <;>
    exact funext fun i => Fin.ext (by match i with | ⟨0, _⟩ => rfl | ⟨1, _⟩ => rfl)

theorem dotKV (l r : FVec Ideal S256x128 .bf16) (d e : Fin 128) :
    matmul (F := Ideal) dot_S256x128_S256x128_S128x128_0_0_1_1_n_n none l r (constant S128x128 .f32 0x00000000#32) (ix2 d e)
      = ∑ k : Fin 256, l (ix2 k d) * r (ix2 k e) := by
  refine (Ideal.matmul_constant_zero_apply dot_S256x128_S256x128_S128x128_0_0_1_1_n_n none l r (ix2 d e)).trans ?_
  rw [← (contrEquiv1 dot_S256x128_S256x128_S128x128_0_0_1_1_n_n 256 rfl rfl).symm.sum_comp]
  refine Finset.sum_congr rfl fun k _ => congrArg₂ (· * ·) (congrArg l ?_) (congrArg r ?_) <;>
    exact funext fun i => Fin.ext (by match i with | ⟨0, _⟩ => rfl | ⟨1, _⟩ => rfl)

theorem cast_tab {α : Type} (x : S256x256.Idx → α) (r c : Fin 256) :
    shapeCast S1x256x256 x shapeCasts_S256x256_S1x256x256 (ix3 0 r c) = x (ix2 r c) :=
  shapeCast_apply x _ _ (ix2 r c) (by
    rw [Shape.rowMajor_val_two, Shape.rowMajor_val_three]; show (r.val * 256 + c.val) = (0 * 256 + r.val) * 256 + c.val; omega)

theorem cast_dec {α : Type} (x : S1x256x256.Idx → α) (r c : Fin 256) :
    shapeCast S256x256 x shapeCasts_S1x256x256_S256x256 (ix2 r c) = x (ix3 0 r c) :=
  shapeCast_apply x _ _ (ix3 0 r c) (by
    rw [Shape.rowMajor_val_two, Shape.rowMajor_val_three]; show (0 * 256 + r.val) * 256 + c.val = (r.val * 256 + c.val); omega)

theorem cast_st {α : Type} (x : S1x128x128.Idx → α) (d e : Fin 128) :
    shapeCast S128x128 x shapeCasts_S1x128x128_S128x128 (ix2 d e) = x (ix3 0 d e) :=
  shapeCast_apply x _ _ (ix3 0 d e) (by
    rw [Shape.rowMajor_val_two, Shape.rowMajor_val_three]; show (0 * 128 + d.val) * 128 + e.val = (d.val * 128 + e.val); omega)

theorem cast_next {α : Type} (x : S128x128.Idx → α) (d e : Fin 128) :
    shapeCast S1x128x128 x shapeCasts_S128x128_S1x128x128 (ix3 0 d e) = x (ix2 d e) :=
  shapeCast_apply x _ _ (ix2 d e) (by
    rw [Shape.rowMajor_val_two, Shape.rowMajor_val_three]; show (d.val * 128 + e.val) = (0 * 128 + d.val) * 128 + e.val; omega)

theorem cast_col {α : Type} (x : S256.Idx → α) (r : Fin 256) :
    shapeCast S256x1 x shapeCasts_S256_S256x1 (ix2 r 0) = x (ix1 r) :=
  shapeCast_apply x _ _ (ix1 r) (by
    rw [Shape.rowMajor_val_two, Shape.rowMajor_val_one]; show r.val = r.val * 1 + 0; omega)

theorem cast_gn {α : Type} (x : S1x128.Idx → α) (e : Fin 128) :
    shapeCast S1x128 x shapeCasts_S1x128_S1x128 (ix2 0 e) = x (ix2 0 e) := by rw [shapeCast_self]

theorem row_sum (x : FVec Ideal S256x128 .f32) (r : Fin 256) (h1 h2) :
    multiReduction (F := Ideal) .add [1] S256 x 0x00000000#32 reduces_S256x128_S256 h1 h2 (ix1 r) = ∑ e : Fin 128, x (ix2 r e) := by
  refine (Ideal.multiReduction_add_single _ _ _ _ _ _).trans ?_
  refine Finset.sum_congr rfl fun k _ => congrArg x ?_
  exact funext fun i => Fin.ext (by match i with | ⟨0, _⟩ => rfl | ⟨1, _⟩ => rfl)

/-! ## The group norm and the gate, over the extended reals -/

/-- The group norm of a row, times its gain, times its gate, over the extended reals. -/
def finish (O : Fin 128 → EReal) (gn g : EReal) (e : Fin 128) : EReal :=
  (O e - Ideal.div (∑ a, O a) (Ideal.ofBits .f32 0x43000000#32))
    * Ideal.rsqrt (Ideal.div (∑ b, (O b - Ideal.div (∑ a, O a) (Ideal.ofBits .f32 0x43000000#32))
        * (O b - Ideal.div (∑ a, O a) (Ideal.ofBits .f32 0x43000000#32))) (Ideal.ofBits .f32 0x43000000#32)
        + Ideal.ofBits .f32 0x358637BD#32)
    * gn * (g * Ideal.logistic g)

theorem cen_apply (o : FVec Ideal S256x128 .f32) (r : Fin 256) (e : Fin 128) :
    cen (F := Ideal) o (ix2 r e)
      = o (ix2 r e) - Ideal.div (∑ a : Fin 128, o (ix2 r a)) (Ideal.ofBits .f32 0x43000000#32) := by
  unfold cen
  pointwise
  refine congrArg (fun t => o (ix2 r e) - Ideal.div t _) ?_
  exact (cast_col _ r).trans (row_sum o r _ _)

theorem gated_apply (o : FVec Ideal S256x128 .f32) (gn : Vec Ideal S1x128 .f32) (g : Vec Ideal S256x128 .bf16)
    (r : Fin 256) (e : Fin 128) :
    gated (F := Ideal) o gn g (ix2 r e) = finish (fun a => o (ix2 r a)) (gn (ix2 0 e)) (g (ix2 r e)) e := by
  unfold gated finish
  have hv : ∀ b : Fin 128, mulf (cen (F := Ideal) o) (cen o) (ix2 r b) = cen (F := Ideal) o (ix2 r b) * cen (F := Ideal) o (ix2 r b) := fun b => rfl
  simp only [← cen_apply]
  have := row_sum (mulf (cen (F := Ideal) o) (cen o)) r (.inl rfl) rfl
  simp only [hv] at this
  rw [← this]
  generalize cen (F := Ideal) o = x
  pointwise
  rw [cast_col, cast_gn]

/-- A finite sum of reals, read in the extended reals. -/
theorem coe_sum {n : ℕ} (f : Fin n → ℝ) : ((∑ i, f i : ℝ) : EReal) = ∑ i, ((f i : ℝ) : EReal) := by
  exact map_sum (⟨⟨Real.toEReal, EReal.coe_zero⟩, EReal.coe_add⟩ : ℝ →+ EReal) f Finset.univ

/-- The rotation of a row at a channel, over the reals: `x·cos - y·sin` on the first half, `x·sin + y·cos` on the second. -/
def rotR (X C : ℕ → ℝ) (d : ℕ) : ℝ :=
  if d < 64 then X d * C d - X (d + 64) * C (d + 64) else X (d - 64) * C d + X d * C (d - 64)

/-! ## The decay table and the decays -/

/-- The decay per frame of each head. -/
def gam (h : Fin 4) : ℝ := match h with | 0 => 31 / 32 | 1 => 63 / 64 | 2 => 127 / 128 | 3 => 255 / 256

theorem gam_pos (h : Fin 4) : 0 < gam h := by fin_cases h <;> simp only [gam] <;> norm_num

theorem lg_eq (h : Fin 4) : lg (F := Ideal) h = ((Real.log (gam h) : ℝ) : EReal) := by
  fin_cases h <;> exact IdealRules.named_const.ideal_named_scalar _ _ _ _ rfl

theorem gc_eq (h : Fin 4) : gc (F := Ideal) h = ((gam h ^ 256 : ℝ) : EReal) := by
  have e : ∀ (a b : ℝ), (a / b) ^ 256 = a ^ 256 / b ^ 256 := fun a b => div_pow a b 256
  fin_cases h
  · refine (IdealRules.named_const.ideal_named_scalar Cert.KernelIdeal.κ "gc0" _ _ rfl).trans ?_
    simp only [gam]; congr 1; norm_num
  · refine (IdealRules.named_const.ideal_named_scalar Cert.KernelIdeal.κ "gc1" _ _ rfl).trans ?_
    simp only [gam]; congr 1; norm_num
  · refine (IdealRules.named_const.ideal_named_scalar Cert.KernelIdeal.κ "gc2" _ _ rfl).trans ?_
    simp only [gam]; congr 1; norm_num
  · refine (IdealRules.named_const.ideal_named_scalar Cert.KernelIdeal.κ "gc3" _ _ rfl).trans ?_
    simp only [gam]; congr 1; norm_num

theorem exp_log_mul (h : Fin 4) (n : ℕ) : Real.exp (Real.log (gam h) * n) = gam h ^ n := by
  rw [mul_comm, Real.exp_nat_mul, Real.exp_log (gam_pos h)]

/-- An index below `2^31` read back from its 32-bit word. -/
theorem toInt_word (n : ℕ) (hn : n < 256) : (BitVec.ofNat 32 n).toInt = (n : ℤ) := by
  rw [BitVec.toInt_ofNat']; simp only [Int.bmod]; split_ifs <;> omega

theorem row_word (r : Fin 256) : (FloatOps.sitofp .f32 (BitVec.ofNat 32 r.val) : Ideal .f32) = ((r.val : ℝ) : EReal) := by
  show (((BitVec.ofNat 32 r.val).toInt : ℝ) : EReal) = _
  rw [toInt_word _ r.isLt]; norm_cast

theorem oge_one (x : EReal) (h : 0 ≤ x) : FloatOps.cmpf (F := Ideal) (φ := .f32) .oge x (0 : EReal) = 1#1 := by
  show Ideal.cmp .oge x 0 = _
  simp only [Ideal.cmp]; rw [decide_eq_true h]; rfl

theorem oge_zero (x : EReal) (h : ¬ 0 ≤ x) : FloatOps.cmpf (F := Ideal) (φ := .f32) .oge x (0 : EReal) = 0#1 := by
  show Ideal.cmp .oge x 0 = _
  simp only [Ideal.cmp]; rw [decide_eq_false h]; rfl

/-- The decay table of a head: `γ^(r - c)` on and below the diagonal, `0` above. -/
theorem tab_apply (h : Fin 4) (r c : Fin 256) :
    tab (F := Ideal) (lg h) (ix3 0 r c) = ((if c.val ≤ r.val then gam h ^ (r.val - c.val) else 0 : ℝ) : EReal) := by
  have hs : (FloatOps.sitofp .f32 (BitVec.ofNat 32 r.val - BitVec.ofNat 32 c.val) : Ideal .f32) = (((r.val : ℝ) - c.val : ℝ) : EReal) := by
    show (((BitVec.ofNat 32 r.val - BitVec.ofNat 32 c.val).toInt : ℝ) : EReal) = _
    have : (BitVec.ofNat 32 r.val - BitVec.ofNat 32 c.val).toInt = (r.val : ℤ) - c.val := by
      have h1 := r.isLt; have h2 := c.isLt
      rw [BitVec.toInt_sub, toInt_word _ h1, toInt_word _ h2]
      simp only [Int.bmod]; split_ifs <;> omega
    rw [this]; push_cast; rfl
  unfold tab k0_pay2
  rw [cast_tab]
  pointwise
  have hs' : (FloatOps.sitofp .f32 (IntOp.subi (BitVec.ofNat 32 r.val) (BitVec.ofNat 32 c.val)) : Ideal .f32) = (((r.val : ℝ) - c.val : ℝ) : EReal) := hs
  rw [hs', lg_eq]
  by_cases hc : c.val ≤ r.val
  · have h0 : (0 : ℝ) ≤ (r.val : ℝ) - c.val := by have : (c.val : ℝ) ≤ r.val := by exact_mod_cast hc
                                                  linarith
    have h0' : (0 : EReal) ≤ (((r.val : ℝ) - c.val : ℝ) : EReal) := by exact_mod_cast h0
    rw [if_pos hc, max_eq_left h0', ← EReal.coe_mul, Ideal.exp_coe, ← Nat.cast_sub hc, exp_log_mul]
    rw [oge_one _ (by exact_mod_cast Nat.zero_le _)]
    rfl
  · have h0 : ¬ (0 : EReal) ≤ (((r.val : ℝ) - c.val : ℝ) : EReal) := by
      have : (r.val : ℝ) < c.val := by exact_mod_cast not_le.mp hc
      intro hle
      have : (0 : ℝ) ≤ (r.val : ℝ) - c.val := by exact_mod_cast hle
      linarith
    rw [oge_zero _ h0, if_neg hc]
    rfl

/-- The keys' scale, the number its pattern denotes. -/
def kscale : ℝ := 11863283 / 134217728

theorem kscale_eq : Ideal.ofBits .f32 0x3DB504F3#32 = ((kscale : ℝ) : EReal) := by
  simp [Ideal.ofBits, Ideal.ieee, -EReal.coe_mul, kscale]; norm_num

theorem c255 : Ideal.ofBits .f32 0x437F0000#32 = ((255 : ℝ) : EReal) := by
  simp [Ideal.ofBits, Ideal.ieee, -EReal.coe_mul]; norm_num

theorem cinf : Ideal.ofBits .f32 0x7F800000#32 = ⊤ := by simp [Ideal.ofBits, Ideal.ieee]

theorem c2 : Ideal.ofBits .f32 0x40000000#32 = ((2 : ℝ) : EReal) := by
  simp [Ideal.ofBits, Ideal.ieee, -EReal.coe_mul]; norm_num

theorem cm5 : Ideal.ofBits .f32 0xC0A00000#32 = ((-5 : ℝ) : EReal) := by
  simp [Ideal.ofBits, Ideal.ieee, -EReal.coe_mul]; norm_num

/-! ## The blocks, read over the reals -/

theorem rot_read (cs : Vec Ideal S256x128 .f32) (x : Vec Ideal S256x128 .bf16) (X C : ℕ → ℝ) (r : Fin 256)
    (hx : ∀ d : Fin 128, x (ix2 r d) = ((X d.val : ℝ) : EReal)) (hc : ∀ d : Fin 128, cs (ix2 r d) = ((C d.val : ℝ) : EReal)) (d : Fin 128) :
    rot (F := Ideal) (k0_pay11 cs) (k0_pay12 cs) x (ix2 r d) = ((rotR X C d.val : ℝ) : EReal) := by
  unfold rot k0_pay11 k0_pay12 k0_pay10 k0_pay9
  pointwise
  rw [hx, hx, hc, hc]
  have hd := d.isLt
  by_cases h : d.val < 64
  · rw [show IntOp.cmpi .slt (BitVec.ofNat 32 d.val) 64#32 = 1#1 from by
      show BitVec.ofBool (decide ((BitVec.ofNat 32 d.val).toInt < (64#32).toInt)) = _
      rw [toInt_word _ (by omega), decide_eq_true (by show (d.val : ℤ) < 64; omega)]; rfl]
    have e : (d.val + 128 - 64) % 128 = d.val + 64 := by omega
    simp only [Scalar.select, rotR, if_pos h, e]
    rw [if_pos (by decide), if_pos (by decide), zero_sub, ← EReal.coe_neg, ← EReal.coe_mul, ← EReal.coe_mul, ← EReal.coe_add]
    congr 1; ring
  · rw [show IntOp.cmpi .slt (BitVec.ofNat 32 d.val) 64#32 = 0#1 from by
      show BitVec.ofBool (decide ((BitVec.ofNat 32 d.val).toInt < (64#32).toInt)) = _
      rw [toInt_word _ (by omega), decide_eq_false (by show ¬ (d.val : ℤ) < 64; omega)]; rfl]
    have e : (d.val + 128 - 64) % 128 = d.val - 64 := by omega
    simp only [Scalar.select, rotR, if_neg h, e]
    rw [if_neg (by decide), if_neg (by decide), ← EReal.coe_mul, ← EReal.coe_mul, ← EReal.coe_add]
    congr 1; ring

theorem raw_read (h : Fin 4) (q k : FVec Ideal S256x128 .f32) (v : Vec Ideal S256x128 .bf16) (dec : Vec Ideal S1x256x256 .f32)
    (st : Vec Ideal S1x128x128 .f32) (Q K V : Fin 256 → Fin 128 → ℝ) (S : Fin 128 → Fin 128 → ℝ) (D : Fin 256 → Fin 256 → ℝ)
    (hq : ∀ r d, q (ix2 r d) = ((Q r d : ℝ) : EReal)) (hk : ∀ r d, k (ix2 r d) = ((K r d : ℝ) : EReal))
    (hv : ∀ r d, v (ix2 r d) = ((V r d : ℝ) : EReal)) (hs : ∀ d e, st (ix3 0 d e) = ((S d e : ℝ) : EReal))
    (hd : ∀ r c, dec (ix3 0 r c) = ((D r c : ℝ) : EReal)) (r : Fin 256) (e : Fin 128) :
    raw (F := Ideal) (lg h) q k v dec st (ix2 r e)
      = (((∑ c, (∑ d, Q r d * K c d) * D r c * V c e) + (∑ d, Q r d * S d e) * gam h ^ (r.val + 1) : ℝ) : EReal) := by
  have e1 : ∀ c : Fin 256, (mulf (matmul dot_S256x128_S256x128_S256x256_1_1_0_0_n_n none (truncf .bf16 q bitsLt_bf16_f32)
          (truncf .bf16 k bitsLt_bf16_f32) (constant S256x256 .f32 0x00000000#32))
        (shapeCast S256x256 dec shapeCasts_S1x256x256_S256x256) : FVec Ideal S256x256 .f32) (ix2 r c)
      = (((∑ d, Q r d * K c d) * D r c : ℝ) : EReal) := by
    intro c
    refine (congrArg₂ (· * ·) (dotQK _ _ r c) (cast_dec dec r c)).trans ?_
    rw [hd, EReal.coe_mul, coe_sum]
    refine congrArg (· * _) (Finset.sum_congr rfl fun d _ => ?_)
    rw [EReal.coe_mul, ← hq, ← hk]; rfl
  have e2 : ∀ d : Fin 128, truncf (F := Ideal) .bf16 (shapeCast S128x128 st shapeCasts_S1x128x128_S128x128) bitsLt_bf16_f32 (ix2 d e)
      = ((S d e : ℝ) : EReal) := fun d => (cast_st st d e).trans (hs d e)
  unfold raw
  refine (addf_apply _ _ _).trans ?_
  rw [EReal.coe_add]
  refine congrArg₂ (· + ·) ((dotSV _ _ r e).trans ?_) ?_
  · rw [coe_sum]
    refine Finset.sum_congr rfl fun c _ => ?_
    rw [EReal.coe_mul, ← e1 c, ← hv]; rfl
  · refine (mulf_apply _ _ _).trans ?_
    rw [EReal.coe_mul]
    refine congrArg₂ (· * ·) ((dotQS _ _ r e).trans ?_) ?_
    · rw [coe_sum]
      refine Finset.sum_congr rfl fun d _ => ?_
      rw [EReal.coe_mul, ← e2 d, ← hq]; rfl
    · unfold k0_pay13
      pointwise
      rw [row_word, lg_eq, ← EReal.coe_one, ← EReal.coe_add, ← EReal.coe_mul, Ideal.exp_coe]
      have := exp_log_mul h (r.val + 1)
      push_cast at this
      rw [this]

theorem next_read (h : Fin 4) (k : FVec Ideal S256x128 .f32) (v : Vec Ideal S256x128 .bf16)
    (st : Vec Ideal S1x128x128 .f32) (K V : Fin 256 → Fin 128 → ℝ) (S : Fin 128 → Fin 128 → ℝ)
    (hk : ∀ r d, k (ix2 r d) = ((K r d : ℝ) : EReal))
    (hv : ∀ r d, v (ix2 r d) = ((V r d : ℝ) : EReal)) (hs : ∀ d e, st (ix3 0 d e) = ((S d e : ℝ) : EReal)) (d e : Fin 128) :
    next (F := Ideal) (lg h) (gc h) k v st (ix3 0 d e)
      = ((gam h ^ 256 * S d e + ∑ r, (K r d * gam h ^ (255 - r.val)) * V r e : ℝ) : EReal) := by
  unfold next
  rw [cast_next]
  refine (addf_apply _ _ _).trans ?_
  rw [EReal.coe_add]
  refine congrArg₂ (· + ·) ?_ ((dotKV _ _ d e).trans ?_)
  · rw [EReal.coe_mul, ← gc_eq, ← hs]
    exact congrArg (gc (F := Ideal) h * ·) (cast_st st d e)
  · rw [coe_sum]
    refine Finset.sum_congr rfl fun r _ => ?_
    rw [EReal.coe_mul, ← hv]
    refine congrArg (· * _) ?_
    rw [EReal.coe_mul, ← hk]
    refine congrArg (k (ix2 r d) * ·) ?_
    unfold k0_pay13
    pointwise
    rw [row_word, lg_eq, c255, ← EReal.coe_sub, ← EReal.coe_mul, Ideal.exp_coe]
    have := exp_log_mul h (255 - r.val)
    rw [Nat.cast_sub (by have := r.isLt; omega)] at this
    push_cast at this
    rw [this]

/-- One head's rotated keys are scaled by a named pattern's value. -/
theorem rotK_read (cs : Vec Ideal S256x128 .f32) (x : Vec Ideal S256x128 .bf16) (X C : ℕ → ℝ) (r : Fin 256)
    (hx : ∀ d : Fin 128, x (ix2 r d) = ((X d.val : ℝ) : EReal)) (hc : ∀ d : Fin 128, cs (ix2 r d) = ((C d.val : ℝ) : EReal)) (d : Fin 128) :
    rotK (F := Ideal) (k0_pay11 cs) (k0_pay12 cs) x (ix2 r d) = ((rotR X C d.val * kscale : ℝ) : EReal) := by
  rw [EReal.coe_mul, ← rot_read cs x X C r hx hc d, ← kscale_eq]
  rfl

end Cert.KernelIdeal.Ret
-- ==== Proof.Sums.lean ====
/-
  Hand-written, untrusted. The mathematics of the blockwise retention, over the real numbers: the state carried over the
  blocks is the decayed sum over the frames before, and a block's own part plus the state's part is the whole causal sum.
-/
module

public import Mathlib.Algebra.BigOperators.Fin
public import Mathlib.Data.Real.Basic
public import Mathlib.Tactic.Ring
public import Mathlib.Algebra.BigOperators.Ring.Finset

@[expose] public section

namespace Cert.Retention

open Finset

/-- The decayed sum of the first `M` frames' keys against values. -/
noncomputable def stSum (γ : ℝ) (k v : ℕ → ℝ) (M : ℕ) : ℝ := ∑ m ∈ range M, γ ^ (M - 1 - m) * k m * v m

/-- One block more: the old sum decayed over the block, plus the block's decayed keys against its values. -/
theorem stSum_step (γ : ℝ) (k v : ℕ → ℝ) (M : ℕ) :
    γ ^ 256 * stSum γ k v M + ∑ r : Fin 256, (k (M + r.val) * γ ^ (255 - r.val)) * v (M + r.val) = stSum γ k v (M + 256) := by
  unfold stSum
  rw [sum_range_add, Fin.sum_univ_eq_sum_range (fun r => (k (M + r) * γ ^ (255 - r)) * v (M + r)) 256, mul_sum]
  congr 1
  · refine sum_congr rfl fun m hm => ?_
    have hm := mem_range.mp hm
    rw [show M + 256 - 1 - m = 256 + (M - 1 - m) by omega, pow_add]
    ring
  · refine sum_congr rfl fun r hr => ?_
    have hr := mem_range.mp hr
    rw [show M + 256 - 1 - (M + r) = 255 - r by omega]
    ring

/-- The causal retention at frame `n`: every frame `m` up to `n`, its score decayed by `γ^(n - m)`. -/
noncomputable def outSum (γ : ℝ) (s : ℕ → ℝ) (v : ℕ → ℝ) (n : ℕ) : ℝ :=
  ∑ m : Fin 2048, s m.val * (if m.val ≤ n then γ ^ (n - m.val) else 0) * v m.val

/-- The blocks before, the block itself and the blocks after it, whose frames the causal mask drops. -/
theorem range_split (γ : ℝ) (q : Fin 128 → ℝ) (k : ℕ → Fin 128 → ℝ) (v : ℕ → ℝ) (M R N r : ℕ) (hN : N = M + 256 + R) (hr : r < 256) :
    (∑ c ∈ range 256, (∑ d, q d * k (M + c) d) * (if c ≤ r then γ ^ (r - c) else 0) * v (M + c))
        + (∑ d, q d * stSum γ (fun m => k m d) v M) * γ ^ (r + 1)
      = ∑ m ∈ range N, (∑ d, q d * k m d) * (if m ≤ M + r then γ ^ (M + r - m) else 0) * v m := by
  have hz : (∑ x ∈ range R, (∑ d, q d * k (M + 256 + x) d)
      * (if M + 256 + x ≤ M + r then γ ^ (M + r - (M + 256 + x)) else 0) * v (M + 256 + x)) = 0 := by
    refine sum_eq_zero fun x _ => ?_
    rw [if_neg (by omega), mul_zero, zero_mul]
  rw [hN, sum_range_add, sum_range_add, hz, add_zero, add_comm]
  congr 1
  · unfold stSum
    simp only [mul_sum, sum_mul]
    rw [sum_comm]
    refine sum_congr rfl fun m hm => ?_
    have hm := mem_range.mp hm
    refine sum_congr rfl fun d _ => ?_
    rw [if_pos (by omega), show M + r - m = (M - 1 - m) + (r + 1) by omega, pow_add]
    ring
  · refine sum_congr rfl fun c _ => ?_
    rw [show M + r - (M + c) = r - c by omega]
    by_cases hc : c ≤ r
    · rw [if_pos hc, if_pos (by omega)]
    · rw [if_neg hc, if_neg (by omega)]

/-- A block's causal part plus the carried state's part is the retention over the whole sequence. -/
theorem outSum_split (γ : ℝ) (q : Fin 128 → ℝ) (k : ℕ → Fin 128 → ℝ) (v : ℕ → ℝ) (i : ℕ) (hi : i < 8) (r : Fin 256) :
    (∑ c : Fin 256, (∑ d, q d * k (256 * i + c.val) d) * (if c.val ≤ r.val then γ ^ (r.val - c.val) else 0) * v (256 * i + c.val))
        + (∑ d, q d * stSum γ (fun m => k m d) v (256 * i)) * γ ^ (r.val + 1)
      = outSum γ (fun m => ∑ d, q d * k m d) v (256 * i + r.val) := by
  unfold outSum
  rw [Fin.sum_univ_eq_sum_range (fun c => (∑ d, q d * k (256 * i + c) d) * (if c ≤ r.val then γ ^ (r.val - c) else 0) * v (256 * i + c)) 256,
    range_split γ q k v (256 * i) (2048 - (256 * i + 256)) 2048 r.val (by omega) r.isLt]
  exact (Fin.sum_univ_eq_sum_range (fun m => (∑ d, q d * k m d) * (if m ≤ 256 * i + r.val then γ ^ (256 * i + r.val - m) else 0) * v m) 2048).symm

end Cert.Retention
-- ==== Proof.Step.lean ====
/-
  Hand-written, untrusted. One grid point over the real numbers, against the sequence: when its blocks hold a block of
  frames and the state holds the decayed sum of the frames before, the new state holds the decayed sum up to the block's
  end and the written block holds the normed and gated causal retention of its frames.
-/
module

public import proofs.«01_k».proof.Proof.Point
public import proofs.«01_k».proof.Proof.Sums

@[expose] public section

set_option maxRecDepth 16384

noncomputable section

namespace Cert.KernelIdeal.Ret

open Idealize.ShloMosaic Idealize.SL.Sem
open Cert.KernelIdeal Cert.KernelIdeal.Gen Cert.Retention

/-! ## The queries, keys and values of a frame -/

section
variable (P C : ℕ → ℕ → ℝ)

/-- Head `h`'s rotated query of frame `n`. -/
def qR (h : Fin 4) (n : ℕ) (d : Fin 128) : ℝ := rotR (fun e => P n (3072 + (128 * h.val + e))) (C n) d.val
/-- Head `h`'s rotated and scaled key of frame `n`. -/
def kR (h : Fin 4) (n : ℕ) (d : Fin 128) : ℝ := rotR (fun e => P n (3584 + (128 * h.val + e))) (C n) d.val * kscale
/-- Head `h`'s value of frame `n`. -/
def vR (h : Fin 4) (n : ℕ) (e : Fin 128) : ℝ := P n (4096 + (128 * h.val + e.val))

/-- Head `h`'s retention of the sequence that starts at frame `B`, at its frame `t`. -/
def retAt (h : Fin 4) (B t : ℕ) (e : Fin 128) : ℝ :=
  outSum (gam h) (fun m => ∑ d, qR P C h (B + t) d * kR P C h (B + m) d) (fun m => vR P h (B + m) e) t
end

/-! ## One head's part of a block -/

theorem cols_apply (x : Vec Ideal S256x512 .bf16) (h : Fin 4) (r : Fin 256) (d : Fin 128) :
    cols x h (ix2 r d) = x (ix2 r ⟨128 * h.val + d.val, by omega⟩) := by
  unfold cols View.ld
  refine congrArg x (funext fun a => Fin.ext ?_)
  match a with
  | ⟨0, _⟩ => show 0 + 1 * r.val = r.val; omega
  | ⟨1, _⟩ => show 128 * h.val + 1 * d.val = 128 * h.val + d.val; omega

theorem gains_apply (x : Vec Ideal S1x512 .f32) (h : Fin 4) (e : Fin 128) :
    gains x h (ix2 0 e) = x (ix2 0 ⟨128 * h.val + e.val, by omega⟩) := by
  unfold gains View.ld
  refine congrArg x (funext fun a => Fin.ext ?_)
  match a with
  | ⟨0, _⟩ => rfl
  | ⟨1, _⟩ => show 128 * h.val + 1 * e.val = 128 * h.val + e.val; omega

theorem stOf_apply (x : Vec Ideal S4x128x128 .f32) (h : Fin 4) (d e : Fin 128) :
    stOf x h (ix3 0 d e) = x (ix3 h d e) := by
  unfold stOf View.ld
  refine congrArg x (funext fun a => Fin.ext ?_)
  match a with
  | ⟨0, _⟩ => show h.val + 1 * 0 = h.val; omega
  | ⟨1, _⟩ => show 0 + 1 * d.val = d.val; omega
  | ⟨2, _⟩ => show 0 + 1 * e.val = e.val; omega

section
variable (P C : ℕ → ℕ → ℝ) (B M : ℕ) (x0 x1 x2 x3 : Vec Ideal S256x512 .bf16) (x4 : Vec Ideal S256x128 .f32)
  (x5 : Vec Ideal S1x512 .f32) (S : Vec Ideal S4x128x128 .f32)
  (hx1 : ∀ (r : Fin 256) (j : Fin 512), x1 (ix2 r j) = ((P (B + (M + r.val)) (3584 + j.val) : ℝ) : EReal))
  (hx2 : ∀ (r : Fin 256) (j : Fin 512), x2 (ix2 r j) = ((P (B + (M + r.val)) (4096 + j.val) : ℝ) : EReal))
  (hx4 : ∀ (r : Fin 256) (d : Fin 128), x4 (ix2 r d) = ((C (B + (M + r.val)) d.val : ℝ) : EReal))
  (hS : ∀ (h : Fin 4) (d e : Fin 128), S (ix3 h d e)
      = ((stSum (gam h) (fun m => kR P C h (B + m) d) (fun m => vR P h (B + m) e) M : ℝ) : EReal))

include hx1 hx2 hx4 hS

/-- The state after a block of 256 frames is the decayed sum up to the block's end. -/
theorem blkNext_read (h : Fin 4) (d e : Fin 128) : blkNext x1 x2 x4 S (ix3 h d e)
      = ((stSum (gam h) (fun m => kR P C h (B + m) d) (fun m => vR P h (B + m) e) (M + 256) : ℝ) : EReal) := by
  refine (next_read h _ _ _ (fun r d => kR P C h (B + (M + r.val)) d) (fun r e => vR P h (B + (M + r.val)) e)
    (fun d e => stSum (gam h) (fun m => kR P C h (B + m) d) (fun m => vR P h (B + m) e) M) (fun r d => ?_) (fun r e => ?_) (fun d e => ?_) d e).trans ?_
  · exact rotK_read x4 _ (fun e => P (B + (M + r.val)) (3584 + (128 * h.val + e))) (C (B + (M + r.val))) r
      (fun d => (cols_apply x1 h r d).trans (hx1 r _)) (fun d => hx4 r d) d
  · exact (cols_apply x2 h r e).trans (hx2 r _)
  · exact (stOf_apply S h d e).trans (hS h d e)
  · exact congrArg Real.toEReal (stSum_step (gam h) (fun m => kR P C h (B + m) d) (fun m => vR P h (B + m) e) M)

/-- The written block: the group norm and gate of the causal retention of the block's frames. -/
theorem blkOut_read (i : ℕ) (hi : i < 8) (hM : M = 256 * i)
    (hx0 : ∀ (r : Fin 256) (j : Fin 512), x0 (ix2 r j) = ((P (B + (M + r.val)) (3072 + j.val) : ℝ) : EReal)) (r : Fin 256) (h : Fin 4) (e : Fin 128) :
    blkOut x0 x1 x2 x3 x4 x5 S decTab (ix2 r ⟨128 * h.val + e.val, by omega⟩)
      = finish (fun a => ((retAt P C h B (M + r.val) a : ℝ) : EReal)) (x5 (ix2 0 ⟨128 * h.val + e.val, by omega⟩))
          (x3 (ix2 r ⟨128 * h.val + e.val, by omega⟩)) e := by
  have e1 : (⟨(128 * h.val + e.val) / 128, by omega⟩ : Fin 4) = h := Fin.ext (by show _ / 128 = _; omega)
  have e2 : (⟨(128 * h.val + e.val) % 128, by omega⟩ : Fin 128) = e := Fin.ext (by show _ % 128 = _; omega)
  have hb : blkOut x0 x1 x2 x3 x4 x5 S decTab (ix2 r ⟨128 * h.val + e.val, by omega⟩)
      = outH x0 x1 x2 x3 x4 x5 S decTab h (ix2 r e) := by
    show outH x0 x1 x2 x3 x4 x5 S decTab ⟨(128 * h.val + e.val) / 128, _⟩ (ix2 r ⟨(128 * h.val + e.val) % 128, _⟩) = _
    rw [e1, e2]
  rw [hb]
  unfold outH headOut
  rw [gated_apply, gains_apply, cols_apply]
  congr 1
  funext a
  refine (raw_read h _ _ _ _ _ (fun r d => qR P C h (B + (M + r.val)) d) (fun r d => kR P C h (B + (M + r.val)) d)
    (fun r e => vR P h (B + (M + r.val)) e)
    (fun d e => stSum (gam h) (fun m => kR P C h (B + m) d) (fun m => vR P h (B + m) e) M)
    (fun r c => if c.val ≤ r.val then gam h ^ (r.val - c.val) else 0)
    (fun r d => ?_) (fun r d => ?_) (fun r e => ?_) (fun d e => ?_) (fun r c => ?_) r a).trans ?_
  · exact rot_read x4 _ (fun e => P (B + (M + r.val)) (3072 + (128 * h.val + e))) (C (B + (M + r.val))) r
      (fun d => (cols_apply x0 h r d).trans (hx0 r _)) (fun d => hx4 r d) d
  · exact rotK_read x4 _ (fun e => P (B + (M + r.val)) (3584 + (128 * h.val + e))) (C (B + (M + r.val))) r
      (fun d => (cols_apply x1 h r d).trans (hx1 r _)) (fun d => hx4 r d) d
  · exact (cols_apply x2 h r e).trans (hx2 r _)
  · exact (stOf_apply S h d e).trans (hS h d e)
  · rw [decOf_decTab]; exact tab_apply h r c
  · subst hM
    exact congrArg Real.toEReal (outSum_split (gam h) (fun d => qR P C h (B + (256 * i + r.val)) d)
      (fun m d => kR P C h (B + m) d) (fun m => vR P h (B + m) a) i hi r)
end

/-- The cleared state is the sum of no frames. -/
theorem clear_read (P C : ℕ → ℕ → ℝ) (B : ℕ) (h : Fin 4) (d e : Fin 128) : k0_pay6 (F := Ideal) (ix3 h d e)
      = ((stSum (gam h) (fun m => kR P C h (B + m) d) (fun m => vR P h (B + m) e) 0 : ℝ) : EReal) := by
  unfold k0_pay6
  rw [shapeCast_self]
  pointwise
  unfold stSum
  simp

end Cert.KernelIdeal.Ret
-- ==== Proof.Fold.lean ====
/-
  Hand-written, untrusted. What THE WRITTEN ARRAY holds: the blocks the grid points read are the launched arrays' rows;
  over the points the decay table is kept and the state is the decayed sum of the sequence's frames so far; so every
  written row is the group norm and gate of its frame's causal retention.
-/
module

public import proofs.«01_k».proof.Proof.Step
public import proofs.«01_k».proof.Proof.Gen.KernelIdeal.Value

@[expose] public section

set_option maxRecDepth 16384

noncomputable section

namespace Cert.KernelIdeal.Ret

open Idealize.ShloMosaic Idealize.ShloMosaic.TcCoe Idealize.SL.Sem
open Cert.KernelIdeal Cert.KernelIdeal.Gen Cert.KernelIdeal.Value Cert.Retention

section reads
variable {F : FTy → Type} [FloatOps F] [Named F] (m : (ℓ : Loc nD τ sig) → Buf (Elt F) ℓ) (c : Dev nD)

/-! ## The windows' blocks read at the launch memory -/

theorem ix_0 : ∀ t : Fin cfg0.N, win0_0.index t (0 : Fin 2) = t.val ∧ win0_0.index t (1 : Fin 2) = 6 :=
  (by decide +kernel : ∀ t : Fin grid0.N, _)
theorem ix_1 : ∀ t : Fin cfg0.N, win0_1.index t (0 : Fin 2) = t.val ∧ win0_1.index t (1 : Fin 2) = 7 :=
  (by decide +kernel : ∀ t : Fin grid0.N, _)
theorem ix_2 : ∀ t : Fin cfg0.N, win0_2.index t (0 : Fin 2) = t.val ∧ win0_2.index t (1 : Fin 2) = 8 :=
  (by decide +kernel : ∀ t : Fin grid0.N, _)
theorem ix_3 : ∀ t : Fin cfg0.N, win0_3.index t (0 : Fin 2) = t.val ∧ win0_3.index t (1 : Fin 2) = 9 :=
  (by decide +kernel : ∀ t : Fin grid0.N, _)
theorem ix_4 : ∀ t : Fin cfg0.N, win0_4.index t (0 : Fin 2) = t.val ∧ win0_4.index t (1 : Fin 2) = 0 :=
  (by decide +kernel : ∀ t : Fin grid0.N, _)
theorem ix_5 : ∀ t : Fin cfg0.N, win0_5.index t (0 : Fin 2) = 0 ∧ win0_5.index t (1 : Fin 2) = 0 :=
  (by decide +kernel : ∀ t : Fin grid0.N, _)

theorem lt_N (t : Fin cfg0.N) : t.val < 128 := lt_of_lt_of_eq t.isLt N_0

theorem read_0 (t : Fin cfg0.N) (r : Fin 256) (j : Fin 512) : iblk m c 0 t (ix2 r j)
    = m ((c : Thread nD τ).loc main_arg0) (ix2 ⟨256 * t.val + r.val, by have := lt_N t; omega⟩ ⟨3072 + j.val, by omega⟩) := by
  obtain ⟨e0, e1⟩ := ix_0 t
  rw [← V_main_arg0 m c]
  refine congrArg (V m c main_arg0) (funext fun a => Fin.ext ?_)
  match a with
  | ⟨0, _⟩ => show win0_0.index t (0 : Fin 2) * 256 + 1 * r.val = 256 * t.val + r.val; omega
  | ⟨1, _⟩ => show win0_0.index t (1 : Fin 2) * 512 + 1 * j.val = 3072 + j.val; omega

theorem read_1 (t : Fin cfg0.N) (r : Fin 256) (j : Fin 512) : iblk m c 1 t (ix2 r j)
    = m ((c : Thread nD τ).loc main_arg0) (ix2 ⟨256 * t.val + r.val, by have := lt_N t; omega⟩ ⟨3584 + j.val, by omega⟩) := by
  obtain ⟨e0, e1⟩ := ix_1 t
  rw [← V_main_arg0 m c]
  refine congrArg (V m c main_arg0) (funext fun a => Fin.ext ?_)
  match a with
  | ⟨0, _⟩ => show win0_1.index t (0 : Fin 2) * 256 + 1 * r.val = 256 * t.val + r.val; omega
  | ⟨1, _⟩ => show win0_1.index t (1 : Fin 2) * 512 + 1 * j.val = 3584 + j.val; omega

theorem read_2 (t : Fin cfg0.N) (r : Fin 256) (j : Fin 512) : iblk m c 2 t (ix2 r j)
    = m ((c : Thread nD τ).loc main_arg0) (ix2 ⟨256 * t.val + r.val, by have := lt_N t; omega⟩ ⟨4096 + j.val, by omega⟩) := by
  obtain ⟨e0, e1⟩ := ix_2 t
  rw [← V_main_arg0 m c]
  refine congrArg (V m c main_arg0) (funext fun a => Fin.ext ?_)
  match a with
  | ⟨0, _⟩ => show win0_2.index t (0 : Fin 2) * 256 + 1 * r.val = 256 * t.val + r.val; omega
  | ⟨1, _⟩ => show win0_2.index t (1 : Fin 2) * 512 + 1 * j.val = 4096 + j.val; omega

theorem read_3 (t : Fin cfg0.N) (r : Fin 256) (j : Fin 512) : iblk m c 3 t (ix2 r j)
    = m ((c : Thread nD τ).loc main_arg0) (ix2 ⟨256 * t.val + r.val, by have := lt_N t; omega⟩ ⟨4608 + j.val, by omega⟩) := by
  obtain ⟨e0, e1⟩ := ix_3 t
  rw [← V_main_arg0 m c]
  refine congrArg (V m c main_arg0) (funext fun a => Fin.ext ?_)
  match a with
  | ⟨0, _⟩ => show win0_3.index t (0 : Fin 2) * 256 + 1 * r.val = 256 * t.val + r.val; omega
  | ⟨1, _⟩ => show win0_3.index t (1 : Fin 2) * 512 + 1 * j.val = 4608 + j.val; omega

theorem read_4 (t : Fin cfg0.N) (r : Fin 256) (d : Fin 128) : iblk m c 4 t (ix2 r d)
    = m ((c : Thread nD τ).loc main_arg1) (ix2 ⟨256 * t.val + r.val, by have := lt_N t; omega⟩ d) := by
  obtain ⟨e0, e1⟩ := ix_4 t
  rw [← V_main_arg1 m c]
  refine congrArg (V m c main_arg1) (funext fun a => Fin.ext ?_)
  match a with
  | ⟨0, _⟩ => show win0_4.index t (0 : Fin 2) * 256 + 1 * r.val = 256 * t.val + r.val; omega
  | ⟨1, _⟩ => show win0_4.index t (1 : Fin 2) * 128 + 1 * d.val = d.val; omega

/-- The gains reach the kernel as one row. -/
theorem V_gains (j : Fin 512) : V m c main_v0 (ix2 0 j) = m ((c : Thread nD τ).loc main_arg2) (ix1 j) := by
  show StableHlo.after hostOps0 (fun b => m (c, b)) (Proc.devRef .tc main_v0) (ix2 0 j) = _
  simp only [StableHlo.after_cons, StableHlo.after_nil]
  rw [StableHlo.reshape_result]
  exact shapeCast_apply _ _ _ (ix1 j) (by
    show (S512.rowMajor (ix1 j)).val = (S1x512.rowMajor (ix2 0 j)).val
    rw [Shape.rowMajor_val_two, Shape.rowMajor_val_one]; show j.val = 0 * 512 + j.val; omega)

theorem read_5 (t : Fin cfg0.N) (j : Fin 512) : iblk m c 5 t (ix2 0 j) = m ((c : Thread nD τ).loc main_arg2) (ix1 j) := by
  obtain ⟨e0, e1⟩ := ix_5 t
  rw [← V_gains m c]
  refine congrArg (V m c main_v0) (funext fun a => Fin.ext ?_)
  match a with
  | ⟨0, _⟩ => show win0_5.index t (0 : Fin 2) * 1 + 1 * 0 = 0; omega
  | ⟨1, _⟩ => show win0_5.index t (1 : Fin 2) * 512 + 1 * j.val = j.val; omega

/-! ## One step -/

/-- What a point leaves: the written block, the state, the table, from the state `S` and the table `D` it starts from. -/
abbrev left (t : Fin cfg0.N) (S : Vec F S4x128x128 .f32) (D : Vec F S4x256x256 .f32) :
    Vec F S256x512 .bf16 × Vec F S4x128x128 .f32 × Vec F S4x256x256 .f32 :=
  (blkOut (iblk m c 0 t) (iblk m c 1 t) (iblk m c 2 t) (iblk m c 3 t) (iblk m c 4 t) (iblk m c 5 t) S D,
    blkNext (iblk m c 1 t) (iblk m c 2 t) (iblk m c 4 t) S, D)

/-- The first point clears the state and writes the table. -/
theorem step_A (t : Fin cfg0.N) (h0 : t.val % 8 = 0) (h1 : t.val % 128 = 0) :
    outsAt0 m c t.val t.isLt = left m c t k0_pay6 decTab := by
  rw [outsAt0_A m c t h0 h1, out_A, st_A, dec_A]

/-- A later block of a sequence goes on from the state left. -/
theorem step_B (t : Fin cfg0.N) (h0 : ¬t.val % 8 = 0) (h1 : ¬t.val % 128 = 0) :
    outsAt0 m c t.val t.isLt = left m c t (outsAt0 m c (t.val - 1) (Nat.lt_of_le_of_lt (Nat.sub_le _ _) t.isLt)).2.1
      (outsAt0 m c (t.val - 1) (Nat.lt_of_le_of_lt (Nat.sub_le _ _) t.isLt)).2.2 := by
  rw [outsAt0_B m c t h0 h1, out_B, st_B, dec_B]

/-- The first block of a later sequence clears the state and keeps the table. -/
theorem step_C (t : Fin cfg0.N) (h0 : t.val % 8 = 0) (h1 : ¬t.val % 128 = 0) :
    outsAt0 m c t.val t.isLt = left m c t k0_pay6
      (outsAt0 m c (t.val - 1) (Nat.lt_of_le_of_lt (Nat.sub_le _ _) t.isLt)).2.2 := by
  rw [outsAt0_C m c t h0 h1, out_C, st_C, dec_C]
end reads

/-! ## Over the points -/

section
variable (m : (ℓ : Loc nD τ sig) → Buf (Elt Ideal) ℓ) (c : Dev nD) (P C : ℕ → ℕ → ℝ)

/-- The queries', keys' and values' columns and the rotary table hold these real numbers. -/
def Holds : Prop :=
  (∀ (n : Fin 32768) (j : Fin 7680), 3072 ≤ j.val → j.val < 4608 →
      m ((c : Thread nD τ).loc main_arg0) (ix2 n j) = ((P n.val j.val : ℝ) : EReal))
    ∧ ∀ (n : Fin 32768) (d : Fin 128), m ((c : Thread nD τ).loc main_arg1) (ix2 n d) = ((C n.val d.val : ℝ) : EReal)

/-- The state after point `n`: every head's decayed sum over the frames of its sequence so far. -/
def StateAt (n : ℕ) (S : Vec Ideal S4x128x128 .f32) : Prop :=
  ∀ (h : Fin 4) (d e : Fin 128), S (ix3 h d e) = ((stSum (gam h) (fun k => kR P C h (2048 * (n / 8) + k) d)
      (fun k => vR P h (2048 * (n / 8) + k) e) (256 * (n % 8) + 256) : ℝ) : EReal)

/-- The state a point starts from. -/
def StateBefore (n : ℕ) (S : Vec Ideal S4x128x128 .f32) : Prop :=
  ∀ (h : Fin 4) (d e : Fin 128), S (ix3 h d e) = ((stSum (gam h) (fun k => kR P C h (2048 * (n / 8) + k) d)
      (fun k => vR P h (2048 * (n / 8) + k) e) (256 * (n % 8)) : ℝ) : EReal)

/-- The block written at point `n`. -/
def OutAt (n : ℕ) (t : Fin cfg0.N) (O : Vec Ideal S256x512 .bf16) : Prop :=
  ∀ (r : Fin 256) (h : Fin 4) (e : Fin 128), O (ix2 r ⟨128 * h.val + e.val, by omega⟩)
    = finish (fun a => ((retAt P C h (2048 * (n / 8)) (256 * (n % 8) + r.val) a : ℝ) : EReal))
        (m ((c : Thread nD τ).loc main_arg2) (ix1 ⟨128 * h.val + e.val, by omega⟩))
        (m ((c : Thread nD τ).loc main_arg0) (ix2 ⟨256 * t.val + r.val, by have := lt_N t; omega⟩ ⟨4608 + (128 * h.val + e.val), by omega⟩)) e

theorem left_read (H : Holds m c P C) (t : Fin cfg0.N) (S : Vec Ideal S4x128x128 .f32) (hS : StateBefore P C t.val S) :
    StateAt P C t.val (left m c t S decTab).2.1 ∧ OutAt m c P C t.val t (left m c t S decTab).1 := by
  have ht := lt_N t
  have en : ∀ r : Fin 256, 256 * t.val + r.val = 2048 * (t.val / 8) + (256 * (t.val % 8) + r.val) := fun r => by omega
  have h0 : ∀ (r : Fin 256) (j : Fin 512), iblk m c 0 t (ix2 r j)
      = ((P (2048 * (t.val / 8) + (256 * (t.val % 8) + r.val)) (3072 + j.val) : ℝ) : EReal) := fun r j => by
    rw [read_0, H.1 _ _ (by show 3072 ≤ 3072 + j.val; omega) (by show 3072 + j.val < 4608; omega), ← en r]
  have h1 : ∀ (r : Fin 256) (j : Fin 512), iblk m c 1 t (ix2 r j)
      = ((P (2048 * (t.val / 8) + (256 * (t.val % 8) + r.val)) (3584 + j.val) : ℝ) : EReal) := fun r j => by
    rw [read_1, H.1 _ _ (by show 3072 ≤ 3584 + j.val; omega) (by show 3584 + j.val < 4608; omega), ← en r]
  have h2 : ∀ (r : Fin 256) (j : Fin 512), iblk m c 2 t (ix2 r j)
      = ((P (2048 * (t.val / 8) + (256 * (t.val % 8) + r.val)) (4096 + j.val) : ℝ) : EReal) := fun r j => by
    rw [read_2, H.1 _ _ (by show 3072 ≤ 4096 + j.val; omega) (by show 4096 + j.val < 4608; omega), ← en r]
  have h4 : ∀ (r : Fin 256) (d : Fin 128), iblk m c 4 t (ix2 r d)
      = ((C (2048 * (t.val / 8) + (256 * (t.val % 8) + r.val)) d.val : ℝ) : EReal) := fun r d => by
    rw [read_4, H.2, ← en r]
  refine ⟨fun h d e => ?_, fun r h e => ?_⟩
  · exact blkNext_read P C _ _ _ _ _ S h1 h2 h4 hS h d e
  · refine (blkOut_read P C _ _ _ _ _ _ _ _ S h1 h2 h4 hS (t.val % 8) (Nat.mod_lt _ (by omega)) rfl h0 r h e).trans ?_
    rw [read_5, read_3]

/-- A cleared state is what the first block of a sequence starts from. -/
theorem before_clear (n : ℕ) (h0 : n % 8 = 0) : StateBefore P C n (k0_pay6 (F := Ideal)) := by
  intro h d e
  rw [h0]
  exact clear_read P C _ h d e

/-- After every point: the table as the first point wrote it, the state, and the block written there. -/
theorem points (H : Holds m c P C) : ∀ (n : ℕ) (t : Fin cfg0.N), t.val = n → (outsAt0 m c t.val t.isLt).2.2 = decTab
    ∧ StateAt P C t.val (outsAt0 m c t.val t.isLt).2.1 ∧ OutAt m c P C t.val t (outsAt0 m c t.val t.isLt).1 := by
  intro n
  induction n with
  | zero =>
    intro t ht
    rw [step_A m c t (by omega) (by omega)]
    exact ⟨rfl, left_read m c P C H t (k0_pay6 (F := Ideal)) (before_clear P C t.val (by omega))⟩
  | succ n ih =>
    intro t ht
    have hN := lt_N t
    have hp : t.val - 1 < cfg0.N := Nat.lt_of_le_of_lt (Nat.sub_le _ _) t.isLt
    obtain ⟨i1, i2, -⟩ := ih ⟨t.val - 1, hp⟩ (by show t.val - 1 = n; omega)
    have i1 : (outsAt0 m c (t.val - 1) hp).2.2 = decTab := i1
    have i2 : StateAt P C (t.val - 1) (outsAt0 m c (t.val - 1) hp).2.1 := i2
    by_cases h0 : t.val % 8 = 0
    · rw [step_C m c t h0 (by omega), i1]
      exact ⟨rfl, left_read m c P C H t (k0_pay6 (F := Ideal)) (before_clear P C t.val h0)⟩
    · rw [step_B m c t h0 (by omega), i1]
      refine ⟨rfl, left_read m c P C H t _ (fun h d e => ?_)⟩
      have := i2 h d e
      rw [show (t.val - 1) / 8 = t.val / 8 by omega, show 256 * ((t.val - 1) % 8) + 256 = 256 * (t.val % 8) by omega] at this
      exact this

/-- THE WRITTEN ARRAY at frame `n`, head `h`, channel `e`. -/
theorem array (H : Holds m c P C) (n : Fin 32768) (h : Fin 4) (e : Fin 128) : G6 m c (ix2 n ⟨128 * h.val + e.val, by omega⟩)
    = finish (fun a => ((retAt P C h (2048 * (n.val / 2048)) (n.val % 2048) a : ℝ) : EReal))
        (m ((c : Thread nD τ).loc main_arg2) (ix1 ⟨128 * h.val + e.val, by omega⟩))
        (m ((c : Thread nD τ).loc main_arg0) (ix2 n ⟨4608 + (128 * h.val + e.val), by omega⟩)) e := by
  have hn := n.isLt
  have hp : pt6Of (ix2 n (⟨128 * h.val + e.val, by omega⟩ : Fin 512)) = n.val / 256 := by
    show 1 * (n.val / 256 - 0) + 1 * ((128 * h.val + e.val) / 512 - 0) = _; omega
  have hlt : n.val / 256 < cfg0.N := lt_of_lt_of_eq (by omega : n.val / 256 < 128) N_0.symm
  have hl : loc6Of (ix2 n (⟨128 * h.val + e.val, by omega⟩ : Fin 512))
      = ix2 (⟨n.val % 256, by omega⟩ : Fin 256) (⟨128 * h.val + e.val, by omega⟩ : Fin 512) := by
    funext a
    match a with
    | ⟨0, _⟩ => rfl
    | ⟨1, _⟩ => exact Fin.ext (by show (128 * h.val + e.val) % 512 = 128 * h.val + e.val; omega)
  unfold G6
  rw [dif_pos (by rw [hp]; exact hlt), hl]
  have key := (points m c P C H (n.val / 256) ⟨n.val / 256, hlt⟩ rfl).2.2 ⟨n.val % 256, by omega⟩ h e
  rw [outsAt0_sweep] at key
  have hc := fold0_congr m c (pt6Of (ix2 n (⟨128 * h.val + e.val, by omega⟩ : Fin 512))) (by rw [Nat.zero_add, hp]; exact hlt)
    (n.val / 256) (by rw [Nat.zero_add]; exact hlt) hp
  rw [hc, key]
  have e3 : (⟨256 * (n.val / 256) + n.val % 256, by omega⟩ : Fin 32768) = n := Fin.ext (by show 256 * (n.val / 256) + n.val % 256 = n.val; omega)
  have e1 : 2048 * (n.val / 256 / 8) = 2048 * (n.val / 2048) := by omega
  have e2 : 256 * (n.val / 256 % 8) + n.val % 256 = n.val % 2048 := by omega
  show finish (fun a => ((retAt P C h (2048 * (n.val / 256 / 8)) (256 * (n.val / 256 % 8) + n.val % 256) a : ℝ) : EReal)) _
    (m ((c : Thread nD τ).loc main_arg0) (ix2 (⟨256 * (n.val / 256) + n.val % 256, _⟩ : Fin 32768) _)) e = _
  rw [e1, e2, e3]
end

end Cert.KernelIdeal.Ret
-- ==== Proof.Ref.lean ====
/-
  Hand-written, untrusted. What THE REFERENCE computes, read one frame, head and channel at a time: the rotated queries and
  keys, the decay of every pair of frames, the causal retention as one sum over the sequence, its group norm and gate.
-/
module

public import proofs.«01_k».proof.Proof.Step
public import proofs.«01_k».proof.Proof.Gen.ReferenceIdeal.Read
public import Idealize.ShloMosaic.Lib.IdealHost

@[expose] public section

set_option maxRecDepth 16384

noncomputable section

namespace Cert.ReferenceIdeal.Ret

open Idealize.ShloMosaic Idealize.SL.Sem
open Cert.ReferenceIdeal Cert.ReferenceIdeal.Gen Cert.ReferenceIdeal.Read Cert.Retention
open Cert.KernelIdeal.Ret (rotR kscale kscale_eq gam gam_pos coe_sum finish qR kR vR retAt c2 cm5 oge_one oge_zero exp_log_mul)

/-- Frame `t` of sequence `b` as a row of the projections. -/
abbrev row (b : Fin 16) (t : Fin 2048) : Fin 32768 := ⟨2048 * b.val + t.val, by omega⟩

section layout
variable (x0 : (⟨S32768x7680, .bf16⟩ : BufTy).Contents (Elt Ideal)) (x1 : (⟨S32768x128, .f32⟩ : BufTy).Contents (Elt Ideal))
  (x2 : (⟨S512, .f32⟩ : BufTy).Contents (Elt Ideal))

theorem v1_at (b : Fin 16) (t : Fin 2048) (j : Fin 7680) : val_main_v1 (F := Ideal) x0 (ix3 b t j) = x0 (ix2 (row b t) j) := by
  rw [val_main_v1_apply]
  refine congrArg x0 (funext fun a => Fin.ext ?_)
  match a with
  | ⟨0, _⟩ => show ((b.val * 2048 + t.val) * 7680 + j.val) / 7680 = 2048 * b.val + t.val; omega
  | ⟨1, _⟩ => show ((b.val * 2048 + t.val) * 7680 + j.val) % 7680 = j.val; omega

/-- The queries of frame `t`, head `h`. -/
theorem v10_at (b : Fin 16) (t : Fin 2048) (h : Fin 4) (d : Fin 128) : val_main_v10 (F := Ideal) x0 (ix4 b t h d)
    = x0 (ix2 (row b t) ⟨3072 + (128 * h.val + d.val), by omega⟩) := by
  rw [val_main_v10_apply, val_main_v2_apply, ← v1_at x0]
  refine congrArg (val_main_v1 (F := Ideal) x0) (funext fun a => Fin.ext ?_)
  match a with
  | ⟨0, _⟩ => show (((b.val * 2048 + t.val) * 4 + h.val) * 128 + d.val) / 1048576 = b.val; omega
  | ⟨1, _⟩ => show (((b.val * 2048 + t.val) * 4 + h.val) * 128 + d.val) / 512 % 2048 = t.val; omega
  | ⟨2, _⟩ => show 3072 + (((b.val * 2048 + t.val) * 4 + h.val) * 128 + d.val) % 512 = 3072 + (128 * h.val + d.val); omega

/-- The keys of frame `t`, head `h`. -/
theorem v24_at (b : Fin 16) (t : Fin 2048) (h : Fin 4) (d : Fin 128) : val_main_v24 (F := Ideal) x0 (ix4 b t h d)
    = x0 (ix2 (row b t) ⟨3584 + (128 * h.val + d.val), by omega⟩) := by
  rw [val_main_v24_apply, val_main_v3_apply, ← v1_at x0]
  refine congrArg (val_main_v1 (F := Ideal) x0) (funext fun a => Fin.ext ?_)
  match a with
  | ⟨0, _⟩ => show (((b.val * 2048 + t.val) * 4 + h.val) * 128 + d.val) / 1048576 = b.val; omega
  | ⟨1, _⟩ => show (((b.val * 2048 + t.val) * 4 + h.val) * 128 + d.val) / 512 % 2048 = t.val; omega
  | ⟨2, _⟩ => show 3584 + (((b.val * 2048 + t.val) * 4 + h.val) * 128 + d.val) % 512 = 3584 + (128 * h.val + d.val); omega

/-- The values of frame `t`, head `h`. -/
theorem v40_at (b : Fin 16) (t : Fin 2048) (h : Fin 4) (d : Fin 128) : val_main_v40 (F := Ideal) x0 (ix4 b t h d)
    = x0 (ix2 (row b t) ⟨4096 + (128 * h.val + d.val), by omega⟩) := by
  rw [val_main_v40_apply, val_main_v4_apply, ← v1_at x0]
  refine congrArg (val_main_v1 (F := Ideal) x0) (funext fun a => Fin.ext ?_)
  match a with
  | ⟨0, _⟩ => show (((b.val * 2048 + t.val) * 4 + h.val) * 128 + d.val) / 1048576 = b.val; omega
  | ⟨1, _⟩ => show (((b.val * 2048 + t.val) * 4 + h.val) * 128 + d.val) / 512 % 2048 = t.val; omega
  | ⟨2, _⟩ => show 4096 + (((b.val * 2048 + t.val) * 4 + h.val) * 128 + d.val) % 512 = 4096 + (128 * h.val + d.val); omega

/-- The gates. -/
theorem v5_at (b : Fin 16) (t : Fin 2048) (j : Fin 512) : val_main_v5 (F := Ideal) x0 (ix3 b t j)
    = x0 (ix2 (row b t) ⟨4608 + j.val, by omega⟩) := by
  rw [val_main_v5_apply, ← v1_at x0]
  refine congrArg (val_main_v1 (F := Ideal) x0) (funext fun a => Fin.ext ?_)
  match a with
  | ⟨0, _⟩ => rfl
  | ⟨1, _⟩ => rfl
  | ⟨2, _⟩ => rfl

/-- The cosines. -/
theorem v7_at (b : Fin 16) (t : Fin 2048) (z : Fin 1) (e : Fin 64) : val_main_v7 (F := Ideal) x1 (ix4 b t z e)
    = x1 (ix2 (row b t) ⟨0 + e.val, by omega⟩) := by
  rw [val_main_v7_apply, val_main_v6_apply]
  have hz := z.isLt
  refine congrArg x1 (funext fun a => Fin.ext ?_)
  match a with
  | ⟨0, _⟩ => show (((b.val * 2048 + t.val) * 1 + z.val) * 64 + e.val) / 64 = 2048 * b.val + t.val; omega
  | ⟨1, _⟩ => show (((b.val * 2048 + t.val) * 1 + z.val) * 64 + e.val) % 64 = 0 + e.val; omega

/-- The sines. -/
theorem v9_at (b : Fin 16) (t : Fin 2048) (z : Fin 1) (e : Fin 64) : val_main_v9 (F := Ideal) x1 (ix4 b t z e)
    = x1 (ix2 (row b t) ⟨64 + e.val, by omega⟩) := by
  rw [val_main_v9_apply, val_main_v8_apply]
  have hz := z.isLt
  refine congrArg x1 (funext fun a => Fin.ext ?_)
  match a with
  | ⟨0, _⟩ => show (((b.val * 2048 + t.val) * 1 + z.val) * 64 + e.val) / 64 = 2048 * b.val + t.val; omega
  | ⟨1, _⟩ => show 64 + (((b.val * 2048 + t.val) * 1 + z.val) * 64 + e.val) % 64 = 64 + e.val; omega

end layout

section
variable (x0 : (⟨S32768x7680, .bf16⟩ : BufTy).Contents (Elt Ideal)) (x1 : (⟨S32768x128, .f32⟩ : BufTy).Contents (Elt Ideal))
  (x2 : (⟨S512, .f32⟩ : BufTy).Contents (Elt Ideal)) (P C : ℕ → ℕ → ℝ)
  (hP : ∀ (n : Fin 32768) (j : Fin 7680), 3072 ≤ j.val → j.val < 4608 → x0 (ix2 n j) = ((P n.val j.val : ℝ) : EReal))
  (hC : ∀ (n : Fin 32768) (d : Fin 128), x1 (ix2 n d) = ((C n.val d.val : ℝ) : EReal))

include hP hC

/-- The rotated queries. -/
theorem v23_at (b : Fin 16) (t : Fin 2048) (h : Fin 4) (d : Fin 128) : val_main_v23 (F := Ideal) x0 x1 (ix4 b t h d)
    = ((rotR (fun e => P (2048 * b.val + t.val) (3072 + (128 * h.val + e))) (C (2048 * b.val + t.val)) d.val : ℝ) : EReal) := by
  have hx : ∀ e : Fin 128, val_main_v10 (F := Ideal) x0 (ix4 b t h e)
      = ((P (2048 * b.val + t.val) (3072 + (128 * h.val + e.val)) : ℝ) : EReal) := fun e => by
    rw [v10_at, hP _ _ (by show 3072 ≤ 3072 + (128 * h.val + e.val); omega) (by show 3072 + (128 * h.val + e.val) < 4608; omega)]
  have hlo : ∀ e : Fin 64, val_main_v11 (F := Ideal) x0 (ix4 b t h e)
      = ((P (2048 * b.val + t.val) (3072 + (128 * h.val + e.val)) : ℝ) : EReal) := fun e => by
    rw [val_main_v11_apply]; exact (congrArg _ (funext fun a => by match a with | ⟨0, _⟩ => rfl | ⟨1, _⟩ => rfl | ⟨2, _⟩ => rfl | ⟨3, _⟩ => rfl)).trans (hx ⟨e.val, by omega⟩)
  have hhi : ∀ e : Fin 64, val_main_v12 (F := Ideal) x0 (ix4 b t h e)
      = ((P (2048 * b.val + t.val) (3072 + (128 * h.val + (64 + e.val))) : ℝ) : EReal) := fun e => by
    rw [val_main_v12_apply]; exact (congrArg _ (funext fun a => by match a with | ⟨0, _⟩ => rfl | ⟨1, _⟩ => rfl | ⟨2, _⟩ => rfl | ⟨3, _⟩ => rfl)).trans (hx ⟨64 + e.val, by omega⟩)
  have hcos : ∀ e : Fin 64, val_main_v7 (F := Ideal) x1 (ix4 b t 0 e) = ((C (2048 * b.val + t.val) e.val : ℝ) : EReal) := fun e => by
    rw [v7_at, hC]; simp only [Nat.zero_add]
  have hsin : ∀ e : Fin 64, val_main_v9 (F := Ideal) x1 (ix4 b t 0 e) = ((C (2048 * b.val + t.val) (64 + e.val) : ℝ) : EReal) := fun e => by
    rw [v9_at, hC]
  have hb1 : ∀ e : Fin 64, idx_main_v13 (ix4 b t h e) = ix4 b t 0 e := fun e =>
    funext fun a => by match a with | ⟨0, _⟩ => rfl | ⟨1, _⟩ => rfl | ⟨2, _⟩ => rfl | ⟨3, _⟩ => rfl
  have hb2 : ∀ e : Fin 64, idx_main_v15 (ix4 b t h e) = ix4 b t 0 e := fun e =>
    funext fun a => by match a with | ⟨0, _⟩ => rfl | ⟨1, _⟩ => rfl | ⟨2, _⟩ => rfl | ⟨3, _⟩ => rfl
  have hb3 : ∀ e : Fin 64, idx_main_v18 (ix4 b t h e) = ix4 b t 0 e := fun e =>
    funext fun a => by match a with | ⟨0, _⟩ => rfl | ⟨1, _⟩ => rfl | ⟨2, _⟩ => rfl | ⟨3, _⟩ => rfl
  have hb4 : ∀ e : Fin 64, idx_main_v20 (ix4 b t h e) = ix4 b t 0 e := fun e =>
    funext fun a => by match a with | ⟨0, _⟩ => rfl | ⟨1, _⟩ => rfl | ⟨2, _⟩ => rfl | ⟨3, _⟩ => rfl
  have hd := d.isLt
  unfold val_main_v23 rotR
  by_cases hl : d.val < 64
  · rw [if_pos hl]
    refine (concatenate_pair_apply_left (3 : Fin S16x2048x4x128.rank) (val_main_v17 (F := Ideal) x0 x1) (val_main_v22 (F := Ideal) x0 x1)
      concatenates_S16x2048x4x64_S16x2048x4x64_S16x2048x4x128_d3 (ix4 b t h d) rfl (ix4 b t h (⟨d.val, hl⟩ : Fin 64)) (fun a => by
      match a with | ⟨0, _⟩ => rfl | ⟨1, _⟩ => rfl | ⟨2, _⟩ => rfl | ⟨3, _⟩ => rfl)).trans ?_
    rw [val_main_v17_apply, val_main_v14_apply, val_main_v16_apply, val_main_v13_apply, val_main_v15_apply, hlo, hhi, hb1, hb2, hcos, hsin,
      Nat.add_comm d.val 64, EReal.coe_sub, EReal.coe_mul, EReal.coe_mul]
    rfl
  · rw [if_neg hl]
    refine (concatenate_pair_apply_right (3 : Fin S16x2048x4x128.rank) (val_main_v17 (F := Ideal) x0 x1) (val_main_v22 (F := Ideal) x0 x1)
      concatenates_S16x2048x4x64_S16x2048x4x64_S16x2048x4x128_d3 (ix4 b t h d) rfl rfl (ix4 b t h (⟨d.val - 64, by omega⟩ : Fin 64)) (fun a ha => by
      match a with | ⟨0, _⟩ => rfl | ⟨1, _⟩ => rfl | ⟨2, _⟩ => rfl | ⟨3, _⟩ => exact absurd rfl ha)
      (by show d.val - 64 + 64 = d.val; omega)).trans ?_
    rw [val_main_v22_apply, val_main_v19_apply, val_main_v21_apply, val_main_v18_apply, val_main_v20_apply, hlo, hhi, hb3, hb4, hcos, hsin,
      EReal.coe_add, EReal.coe_mul, EReal.coe_mul]
    show (_ : EReal) * ((C _ (64 + (d.val - 64)) : ℝ) : EReal) + ((P _ (3072 + (128 * h.val + (64 + (d.val - 64)))) : ℝ) : EReal) * _ = _
    rw [show 64 + (d.val - 64) = d.val by omega]

/-- The rotated keys. -/
theorem v37_at (b : Fin 16) (t : Fin 2048) (h : Fin 4) (d : Fin 128) : val_main_v37 (F := Ideal) x0 x1 (ix4 b t h d)
    = ((rotR (fun e => P (2048 * b.val + t.val) (3584 + (128 * h.val + e))) (C (2048 * b.val + t.val)) d.val : ℝ) : EReal) := by
  have hx : ∀ e : Fin 128, val_main_v24 (F := Ideal) x0 (ix4 b t h e)
      = ((P (2048 * b.val + t.val) (3584 + (128 * h.val + e.val)) : ℝ) : EReal) := fun e => by
    rw [v24_at, hP _ _ (by show 3072 ≤ 3584 + (128 * h.val + e.val); omega) (by show 3584 + (128 * h.val + e.val) < 4608; omega)]
  have hlo : ∀ e : Fin 64, val_main_v25 (F := Ideal) x0 (ix4 b t h e)
      = ((P (2048 * b.val + t.val) (3584 + (128 * h.val + e.val)) : ℝ) : EReal) := fun e => by
    rw [val_main_v25_apply]; exact (congrArg _ (funext fun a => by match a with | ⟨0, _⟩ => rfl | ⟨1, _⟩ => rfl | ⟨2, _⟩ => rfl | ⟨3, _⟩ => rfl)).trans (hx ⟨e.val, by omega⟩)
  have hhi : ∀ e : Fin 64, val_main_v26 (F := Ideal) x0 (ix4 b t h e)
      = ((P (2048 * b.val + t.val) (3584 + (128 * h.val + (64 + e.val))) : ℝ) : EReal) := fun e => by
    rw [val_main_v26_apply]; exact (congrArg _ (funext fun a => by match a with | ⟨0, _⟩ => rfl | ⟨1, _⟩ => rfl | ⟨2, _⟩ => rfl | ⟨3, _⟩ => rfl)).trans (hx ⟨64 + e.val, by omega⟩)
  have hcos : ∀ e : Fin 64, val_main_v7 (F := Ideal) x1 (ix4 b t 0 e) = ((C (2048 * b.val + t.val) e.val : ℝ) : EReal) := fun e => by
    rw [v7_at, hC]; simp only [Nat.zero_add]
  have hsin : ∀ e : Fin 64, val_main_v9 (F := Ideal) x1 (ix4 b t 0 e) = ((C (2048 * b.val + t.val) (64 + e.val) : ℝ) : EReal) := fun e => by
    rw [v9_at, hC]
  have hb1 : ∀ e : Fin 64, idx_main_v27 (ix4 b t h e) = ix4 b t 0 e := fun e =>
    funext fun a => by match a with | ⟨0, _⟩ => rfl | ⟨1, _⟩ => rfl | ⟨2, _⟩ => rfl | ⟨3, _⟩ => rfl
  have hb2 : ∀ e : Fin 64, idx_main_v29 (ix4 b t h e) = ix4 b t 0 e := fun e =>
    funext fun a => by match a with | ⟨0, _⟩ => rfl | ⟨1, _⟩ => rfl | ⟨2, _⟩ => rfl | ⟨3, _⟩ => rfl
  have hb3 : ∀ e : Fin 64, idx_main_v32 (ix4 b t h e) = ix4 b t 0 e := fun e =>
    funext fun a => by match a with | ⟨0, _⟩ => rfl | ⟨1, _⟩ => rfl | ⟨2, _⟩ => rfl | ⟨3, _⟩ => rfl
  have hb4 : ∀ e : Fin 64, idx_main_v34 (ix4 b t h e) = ix4 b t 0 e := fun e =>
    funext fun a => by match a with | ⟨0, _⟩ => rfl | ⟨1, _⟩ => rfl | ⟨2, _⟩ => rfl | ⟨3, _⟩ => rfl
  have hd := d.isLt
  unfold val_main_v37 rotR
  by_cases hl : d.val < 64
  · rw [if_pos hl]
    refine (concatenate_pair_apply_left (3 : Fin S16x2048x4x128.rank) (val_main_v31 (F := Ideal) x0 x1) (val_main_v36 (F := Ideal) x0 x1)
      concatenates_S16x2048x4x64_S16x2048x4x64_S16x2048x4x128_d3 (ix4 b t h d) rfl (ix4 b t h (⟨d.val, hl⟩ : Fin 64)) (fun a => by
      match a with | ⟨0, _⟩ => rfl | ⟨1, _⟩ => rfl | ⟨2, _⟩ => rfl | ⟨3, _⟩ => rfl)).trans ?_
    rw [val_main_v31_apply, val_main_v28_apply, val_main_v30_apply, val_main_v27_apply, val_main_v29_apply, hlo, hhi, hb1, hb2, hcos, hsin,
      Nat.add_comm d.val 64, EReal.coe_sub, EReal.coe_mul, EReal.coe_mul]
    rfl
  · rw [if_neg hl]
    refine (concatenate_pair_apply_right (3 : Fin S16x2048x4x128.rank) (val_main_v31 (F := Ideal) x0 x1) (val_main_v36 (F := Ideal) x0 x1)
      concatenates_S16x2048x4x64_S16x2048x4x64_S16x2048x4x128_d3 (ix4 b t h d) rfl rfl (ix4 b t h (⟨d.val - 64, by omega⟩ : Fin 64)) (fun a ha => by
      match a with | ⟨0, _⟩ => rfl | ⟨1, _⟩ => rfl | ⟨2, _⟩ => rfl | ⟨3, _⟩ => exact absurd rfl ha)
      (by show d.val - 64 + 64 = d.val; omega)).trans ?_
    rw [val_main_v36_apply, val_main_v33_apply, val_main_v35_apply, val_main_v32_apply, val_main_v34_apply, hlo, hhi, hb3, hb4, hcos, hsin,
      EReal.coe_add, EReal.coe_mul, EReal.coe_mul]
    show (_ : EReal) * ((C _ (64 + (d.val - 64)) : ℝ) : EReal) + ((P _ (3584 + (128 * h.val + (64 + (d.val - 64)))) : ℝ) : EReal) * _ = _
    rw [show 64 + (d.val - 64) = d.val by omega]

/-- The rotated queries and scaled keys, and the values. -/
theorem q_at (b : Fin 16) (t : Fin 2048) (h : Fin 4) (d : Fin 128) :
    val_main_v23 (F := Ideal) x0 x1 (ix4 b t h d) = ((qR P C h (2048 * b.val + t.val) d : ℝ) : EReal) := v23_at x0 x1 P C hP hC b t h d

theorem k_at (b : Fin 16) (t : Fin 2048) (h : Fin 4) (d : Fin 128) :
    val_main_v39 (F := Ideal) x0 x1 (ix4 b t h d) = ((kR P C h (2048 * b.val + t.val) d : ℝ) : EReal) := by
  rw [val_main_v39_apply, v37_at x0 x1 P C hP hC, val_main_v38_apply, val_main_cst_apply]
  unfold kR
  rw [EReal.coe_mul, ← kscale_eq]
  rfl

omit hC in
theorem v_at (b : Fin 16) (t : Fin 2048) (h : Fin 4) (e : Fin 128) :
    val_main_v40 (F := Ideal) x0 (ix4 b t h e) = ((vR P h (2048 * b.val + t.val) e : ℝ) : EReal) := by
  rw [v40_at, hP _ _ (by show 3072 ≤ 4096 + (128 * h.val + e.val); omega) (by show 4096 + (128 * h.val + e.val) < 4608; omega)]
  rfl

/-! ## The decay of a pair of frames -/

omit hP hC in
/-- An index below `2^31` as a float. -/
theorem word (n : ℕ) (hn : n < 2048) : (FloatOps.sitofp .f32 (BitVec.ofNat 32 n) : Ideal .f32) = ((n : ℝ) : EReal) := by
  show (((BitVec.ofNat 32 n).toInt : ℝ) : EReal) = _
  have : (BitVec.ofNat 32 n).toInt = (n : ℤ) := by
    rw [BitVec.toInt_ofNat']; simp only [Int.bmod]; split_ifs <;> omega
  rw [this]; norm_cast

omit hP hC in
/-- The logarithm of head `h`'s decay per frame, `1 - 2^(-5-h)`. -/
theorem logs (h : Fin 4) : val_main_v47 (F := Ideal) (ix1 h) = ((Real.log (gam h) : ℝ) : EReal) := by
  rw [val_main_v47_apply, val_main_v46_apply, val_main_v45_apply, val_main_v44_apply, val_main_v43_apply, val_main_v41_apply,
    val_main_cst_0_apply, val_main_cst_1_apply, Ideal.hostUnary_log1p_def, Ideal.hostNegf_def, Ideal.hostPowf_def, Ideal.subf_def, Ideal.ofBits_def, Ideal.ofBits_def, c2, cm5]
  have e : val_main_v42 (F := Ideal) (ix1 h) = ((h.val : ℝ) : EReal) := word h.val (by omega)
  rw [e, ← EReal.coe_sub, Ideal.pow_coe_coe]
  show Ideal.log1p (-(((2 : ℝ).rpow (-5 - (h.val : ℝ)) : ℝ) : EReal)) = _
  rw [← EReal.coe_neg]
  unfold Ideal.log1p
  rw [← EReal.coe_one, ← EReal.coe_add, Ideal.log_coe]
  have hp : (2 : ℝ).rpow (-5 - (h.val : ℝ)) = (2 : ℝ)⁻¹ ^ (5 + h.val) := by
    show (2 : ℝ) ^ (-5 - (h.val : ℝ)) = _
    rw [show (-5 - (h.val : ℝ)) = -((5 + h.val : ℕ) : ℝ) by push_cast; ring, Real.rpow_neg (by norm_num), Real.rpow_natCast, inv_pow]
  have hg : (1 : ℝ) + -(2 : ℝ).rpow (-5 - (h.val : ℝ)) = gam h := by
    rw [hp]
    fin_cases h <;> simp only [gam] <;> norm_num
  rw [hg, if_neg (not_le.mpr (gam_pos h))]

omit hP hC in
/-- The decay from frame `m` to frame `n`: `γ^(n - m)` when `m` is not after `n`, else `0`. -/
theorem decay_at (h : Fin 4) (n k : Fin 2048) : val_main_v64 (F := Ideal) (ix3 h n k)
    = ((if k.val ≤ n.val then gam h ^ (n.val - k.val) else 0 : ℝ) : EReal) := by
  have hdiff : val_main_v53 (F := Ideal) (ix2 n k) = (((n.val : ℝ) - k.val : ℝ) : EReal) := by
    rw [val_main_v53_apply, val_main_v51_apply, val_main_v52_apply, val_main_v49_apply, val_main_v50_apply, EReal.coe_sub]
    exact congrArg₂ (· - ·) (word n.val n.isLt) (word k.val k.isLt)
  have hz : ∀ i, val_main_v54 (F := Ideal) i = (0 : EReal) := fun i => by
    rw [val_main_v54_apply, val_main_cst_2_apply]; exact Ideal.ofBits_zero_f32
  have hz' : ∀ i, val_main_v57 (F := Ideal) i = (0 : EReal) := fun i => by
    rw [val_main_v57_apply, val_main_cst_3_apply]; exact Ideal.ofBits_zero_f32
  have hz2 : ∀ i, val_main_call0_v2 (F := Ideal) i = (0 : EReal) := fun i => by
    rw [val_main_call0_v2_apply, val_main_call0_v0_apply, val_main_cst_4_apply]; exact Ideal.ofBits_zero_f32
  have hm : val_main_call0_v1 (F := Ideal) (ix3 h n k) = FloatOps.cmpf (F := Ideal) (φ := .f32) .oge (((n.val : ℝ) - k.val : ℝ) : EReal) (0 : EReal) := by
    rw [val_main_call0_v1_apply, val_main_v55_apply, hz, ← hdiff]
    refine congrArg (fun i => FloatOps.cmpf (F := Ideal) (φ := .f32) .oge (val_main_v53 (F := Ideal) i) (0 : EReal)) (funext fun a => ?_)
    match a with | ⟨0, _⟩ => rfl | ⟨1, _⟩ => rfl
  have hl : val_main_v60 (F := Ideal) (ix3 h n k) = ((Real.log (gam h) : ℝ) : EReal) := by
    rw [val_main_v60_apply, val_main_v56_apply, ← logs]
    refine congrArg _ (funext fun a => ?_)
    match a with | ⟨0, _⟩ => rfl
  have hx : val_main_v61 (F := Ideal) (ix3 h n k) = max (((n.val : ℝ) - k.val : ℝ) : EReal) 0 := by
    rw [val_main_v61_apply, val_main_v59_apply, val_main_v58_apply, hz', ← hdiff]
    refine congrArg (fun i => max (val_main_v53 (F := Ideal) i) 0) (funext fun a => ?_)
    match a with | ⟨0, _⟩ => rfl | ⟨1, _⟩ => rfl
  rw [val_main_v64_apply, hm, hz2, val_main_v63_apply, val_main_v62_apply, hl, hx, Ideal.hostUnary_exp_def, Ideal.mulf_def]
  by_cases hc : k.val ≤ n.val
  · have h0 : (0 : ℝ) ≤ (n.val : ℝ) - k.val := by
      have : (k.val : ℝ) ≤ n.val := by exact_mod_cast hc
      linarith
    have h0' : (0 : EReal) ≤ (((n.val : ℝ) - k.val : ℝ) : EReal) := by exact_mod_cast h0
    rw [oge_one _ h0', max_eq_left h0', if_pos hc, ← Nat.cast_sub hc, ← EReal.coe_mul, Ideal.exp_coe, exp_log_mul]
    rfl
  · have h0 : ¬ (0 : EReal) ≤ (((n.val : ℝ) - k.val : ℝ) : EReal) := by
      have : (n.val : ℝ) < k.val := by exact_mod_cast not_le.mp hc
      intro hle
      have : (0 : ℝ) ≤ (n.val : ℝ) - k.val := by exact_mod_cast hle
      linarith
    rw [oge_zero _ h0, if_neg hc]
    rfl

/-! ## The retention -/

/-- The retention of frame `t`, head `h`. -/
theorem v70_at (b : Fin 16) (t : Fin 2048) (h : Fin 4) (e : Fin 128) : val_main_v70 (F := Ideal) x0 x1 (ix4 b t h e)
    = ((retAt P C h (2048 * b.val) t.val e : ℝ) : EReal) := by
  rw [val_main_v70_apply, val_main_v69_apply]
  unfold retAt outSum
  rw [coe_sum]
  refine Finset.sum_congr rfl fun k _ => ?_
  have e1 : lidx_main_v69 (idx_main_v70 (ix4 b t h e)) k = ix4 b k h e := funext fun a => by
    match a with | ⟨0, _⟩ => rfl | ⟨1, _⟩ => rfl | ⟨2, _⟩ => rfl | ⟨3, _⟩ => rfl
  have e2 : ridx_main_v69 (idx_main_v70 (ix4 b t h e)) k = ix4 b h t k := funext fun a => by
    match a with | ⟨0, _⟩ => rfl | ⟨1, _⟩ => rfl | ⟨2, _⟩ => rfl | ⟨3, _⟩ => rfl
  have e3 : idx_main_v66 (idx_main_v67 (ix4 b h t k)) = ix3 h t k := funext fun a => by
    match a with | ⟨0, _⟩ => rfl | ⟨1, _⟩ => rfl | ⟨2, _⟩ => rfl
  have e4 : val_main_v65 (F := Ideal) x0 x1 (ix4 b h t k)
      = ((∑ d, qR P C h (2048 * b.val + t.val) d * kR P C h (2048 * b.val + k.val) d : ℝ) : EReal) := by
    rw [val_main_v65_apply, coe_sum]
    refine Finset.sum_congr rfl fun d _ => ?_
    rw [EReal.coe_mul, ← q_at x0 x1 P C hP hC b t h d, ← k_at x0 x1 P C hP hC b k h d]
    refine congrArg₂ (· * ·) (congrArg _ (funext fun a => ?_)) (congrArg _ (funext fun a => ?_)) <;>
      (match a with | ⟨0, _⟩ => rfl | ⟨1, _⟩ => rfl | ⟨2, _⟩ => rfl | ⟨3, _⟩ => rfl)
  rw [e1, e2, v_at x0 P hP, val_main_v68_apply, val_main_v67_apply, val_main_v66_apply, e3, decay_at, e4, Ideal.mulf_def,
    ← EReal.coe_mul, ← EReal.coe_mul]
  exact congrArg Real.toEReal (mul_comm _ _)

/-! ## The group norm, the gain and the gate -/

omit hP hC in
/-- The gate `g · sigmoid(g)`. -/
theorem v94_at (i : S16x2048x512.Idx) : val_main_v94 (F := Ideal) x0 i
    = val_main_v5 (F := Ideal) x0 i * Ideal.logistic (val_main_v5 (F := Ideal) x0 i) := by
  have h1 : val_main_call1_v2 (F := Ideal) i = (1 : EReal) := by
    rw [val_main_call1_v2_apply, val_main_call1_cst_apply]; exact Ideal.ofBits_one_f32
  have h2 : val_main_call1_v4 (F := Ideal) i = (1 : EReal) := by
    rw [val_main_call1_v4_apply, val_main_call1_cst_0_apply]; exact Ideal.ofBits_one_f32
  rw [val_main_v94_apply, val_main_call1_v5_apply, val_main_call1_v3_apply, val_main_call1_v1_apply, val_main_call1_v0_apply, h1, h2]
  rfl

/-- The normed and gained retention, times its gate. -/
theorem v95_at (b : Fin 16) (t : Fin 2048) (h : Fin 4) (e : Fin 128) :
    val_main_v95 (F := Ideal) x0 x1 x2 (ix3 b t ⟨128 * h.val + e.val, by omega⟩)
      = finish (fun a => ((retAt P C h (2048 * b.val) t.val a : ℝ) : EReal)) (x2 (ix1 ⟨128 * h.val + e.val, by omega⟩))
          (x0 (ix2 (row b t) ⟨4608 + (128 * h.val + e.val), by omega⟩)) e := by
  have z5 : ∀ i, val_main_cst_5 (F := Ideal) i = (0 : EReal) := fun i => Ideal.ofBits_zero_f32
  have z7 : ∀ i, val_main_cst_7 (F := Ideal) i = (0 : EReal) := fun i => Ideal.ofBits_zero_f32
  have r4 : ∀ (f : S16x2048x4x128.Idx) (a : Fin 128), (f = ix4 b t h a) →
      val_main_v70 (F := Ideal) x0 x1 f = ((retAt P C h (2048 * b.val) t.val a : ℝ) : EReal) := fun f a hf => by
    rw [hf]; exact v70_at x0 x1 P C hP hC b t h a
  have hmean : ∀ i : S16x2048x4x1.Idx, i = ix4 b t h 0 → val_main_v74 (F := Ideal) x0 x1 i
      = Ideal.div (∑ a : Fin 128, ((retAt P C h (2048 * b.val) t.val a : ℝ) : EReal)) (Ideal.ofBits .f32 0x43000000#32) := by
    intro i hi
    subst hi
    rw [val_main_v74_apply, val_main_v72_apply, val_main_v71_apply, val_main_v73_apply, val_main_cst_6_apply, z5, zero_add]
    refine congrArg (fun s => Ideal.div s _) (Finset.sum_congr rfl fun a _ => r4 _ a (funext fun a => ?_))
    match a with | ⟨0, _⟩ => rfl | ⟨1, _⟩ => rfl | ⟨2, _⟩ => rfl | ⟨3, _⟩ => rfl
  have hcen : ∀ a : Fin 128, val_main_v76 (F := Ideal) x0 x1 (ix4 b t h a) = ((retAt P C h (2048 * b.val) t.val a : ℝ) : EReal)
      - Ideal.div (∑ a : Fin 128, ((retAt P C h (2048 * b.val) t.val a : ℝ) : EReal)) (Ideal.ofBits .f32 0x43000000#32) := fun a => by
    rw [val_main_v76_apply, val_main_v75_apply, r4 _ a rfl, hmean _ (funext fun a => by
      match a with | ⟨0, _⟩ => rfl | ⟨1, _⟩ => rfl | ⟨2, _⟩ => rfl | ⟨3, _⟩ => rfl)]
    rfl
  have hcen' : ∀ a : Fin 128, val_main_v83 (F := Ideal) x0 x1 (ix4 b t h a) = ((retAt P C h (2048 * b.val) t.val a : ℝ) : EReal)
      - Ideal.div (∑ a : Fin 128, ((retAt P C h (2048 * b.val) t.val a : ℝ) : EReal)) (Ideal.ofBits .f32 0x43000000#32) := fun a => by
    rw [val_main_v83_apply, val_main_v82_apply, r4 _ a rfl, hmean _ (funext fun a => by
      match a with | ⟨0, _⟩ => rfl | ⟨1, _⟩ => rfl | ⟨2, _⟩ => rfl | ⟨3, _⟩ => rfl)]
    rfl
  have hi : idx_main_v93 (ix3 b t (⟨128 * h.val + e.val, by omega⟩ : Fin 512)) = ix4 b t h e := funext fun a => Fin.ext (by
    match a with
    | ⟨0, _⟩ => show ((b.val * 2048 + t.val) * 512 + (128 * h.val + e.val)) / 1048576 = b.val; omega
    | ⟨1, _⟩ => show ((b.val * 2048 + t.val) * 512 + (128 * h.val + e.val)) / 512 % 2048 = t.val; omega
    | ⟨2, _⟩ => show ((b.val * 2048 + t.val) * 512 + (128 * h.val + e.val)) / 128 % 4 = h.val; omega
    | ⟨3, _⟩ => show ((b.val * 2048 + t.val) * 512 + (128 * h.val + e.val)) % 128 = e.val; omega)
  have hg : val_main_v91 (F := Ideal) x2 (ix4 b t h e) = x2 (ix1 ⟨128 * h.val + e.val, by omega⟩) := by
    rw [val_main_v91_apply, val_main_v90_apply, val_main_v89_apply]
    refine congrArg x2 (funext fun a => Fin.ext ?_)
    match a with | ⟨0, _⟩ => show h.val * 128 + e.val = 128 * h.val + e.val; omega
  have hr : val_main_v87 (F := Ideal) x0 x1 (ix4 b t h e) = Ideal.rsqrt (Ideal.div (∑ a : Fin 128,
        val_main_v76 (F := Ideal) x0 x1 (ix4 b t h a) * val_main_v76 (F := Ideal) x0 x1 (ix4 b t h a)) (Ideal.ofBits .f32 0x43000000#32)
        + Ideal.ofBits .f32 0x358637BD#32) := by
    rw [val_main_v87_apply, val_main_v86_apply, val_main_v85_apply, val_main_v81_apply, val_main_v79_apply, val_main_v78_apply,
      val_main_v80_apply, val_main_cst_8_apply, val_main_v84_apply, val_main_cst_9_apply, z7, zero_add]
    refine congrArg (fun s => Ideal.rsqrt (Ideal.div s _ + _)) (Finset.sum_congr rfl fun a _ => ?_)
    rw [val_main_v77_apply]
    have : idx_main_v78 (idx_main_v79 (idx_main_v87 (ix4 b t h e))) a = ix4 b t h a := funext fun a => by
      match a with | ⟨0, _⟩ => rfl | ⟨1, _⟩ => rfl | ⟨2, _⟩ => rfl | ⟨3, _⟩ => rfl
    rw [this]
    rfl
  rw [val_main_v95_apply, val_main_v93_apply, hi, val_main_v92_apply, val_main_v88_apply, hg, hr, hcen', v94_at, v5_at]
  simp only [hcen]
  rfl

/-- THE REFERENCE'S RESULT at frame `n`, head `h`, channel `e`. -/
theorem result (n : Fin 32768) (h : Fin 4) (e : Fin 128) : val_main_v97 (F := Ideal) x0 x1 x2 (ix2 n ⟨128 * h.val + e.val, by omega⟩)
    = finish (fun a => ((retAt P C h (2048 * (n.val / 2048)) (n.val % 2048) a : ℝ) : EReal)) (x2 (ix1 ⟨128 * h.val + e.val, by omega⟩))
        (x0 (ix2 n ⟨4608 + (128 * h.val + e.val), by omega⟩)) e := by
  have hn := n.isLt
  have e1 : idx_main_v97 (ix2 n (⟨128 * h.val + e.val, by omega⟩ : Fin 512))
      = ix3 (⟨n.val / 2048, by omega⟩ : Fin 16) (⟨n.val % 2048, by omega⟩ : Fin 2048) (⟨128 * h.val + e.val, by omega⟩ : Fin 512) :=
    funext fun a => Fin.ext (by
      match a with
      | ⟨0, _⟩ => show (n.val * 512 + (128 * h.val + e.val)) / 1048576 = n.val / 2048; omega
      | ⟨1, _⟩ => show (n.val * 512 + (128 * h.val + e.val)) / 512 % 2048 = n.val % 2048; omega
      | ⟨2, _⟩ => show (n.val * 512 + (128 * h.val + e.val)) % 512 = 128 * h.val + e.val; omega)
  have e2 : row (⟨n.val / 2048, by omega⟩ : Fin 16) (⟨n.val % 2048, by omega⟩ : Fin 2048) = n :=
    Fin.ext (by show 2048 * (n.val / 2048) + n.val % 2048 = n.val; omega)
  rw [val_main_v97_apply, val_main_v96_apply, e1]
  refine (v95_at x0 x1 x2 P C hP hC _ _ h e).trans ?_
  rw [e2]
end

end Cert.ReferenceIdeal.Ret
-- ==== Proof.Equal.lean ====
/-
  Hand-written, untrusted. THE EQUATION: under the precondition every projection and rotary factor the heads read is a real
  number, and then the kernel's written array and the reference's result are the same function of the arguments.
-/
module

public import proofs.«01_k».proof.Proof.Fold
public import proofs.«01_k».proof.Proof.Ref
public import proofs.«01_k».proof.Proof.Gen.Pre_finite

@[expose] public section

set_option maxRecDepth 16384

noncomputable section

namespace Cert.Retention

open Idealize.ShloMosaic Idealize.SL.Sem

/-- A value whose magnitude is below infinity is the real number it reads as. -/
theorem real_of_finite (x : EReal)
    (h : FloatOps.cmpf (F := Ideal) (φ := .f32) .olt (max x (-x)) (Ideal.ofBits .f32 0x7F800000#32) = 1#1) : x = ((x.toReal : ℝ) : EReal) := by
  have hlt : max x (-x) < ⊤ := by
    by_contra hn
    rw [Cert.KernelIdeal.Ret.cinf] at h
    have h0 : FloatOps.cmpf (F := Ideal) (φ := .f32) .olt (max x (-x)) (⊤ : EReal) = 0#1 := by
      show Ideal.cmp .olt (max x (-x)) ⊤ = _
      simp only [Ideal.cmp]; rw [decide_eq_false hn]; rfl
    rw [h0] at h
    exact absurd h (by decide)
  rw [max_lt_iff] at hlt
  refine (EReal.coe_toReal hlt.1.ne fun hb => ?_).symm
  rw [hb] at hlt
  exact absurd hlt.2 (by simp)

/-- The projections under the precondition. -/
theorem projections (x0 : FVec Ideal Cert.Pre_finite.S32768x7680 .bf16) (x1 : FVec Ideal Cert.Pre_finite.S32768x128 .f32)
    (x2 : FVec Ideal Cert.Pre_finite.S512 .f32) (h : (Cert.Pre_finite.fn (F := Ideal) x0 x1 x2).1 = fun _ => 1#1)
    (n : Fin 32768) (j : Fin 7680) (h1 : 3072 ≤ j.val) (h2 : j.val < 4608) : x0 (ix2 n j) = (((x0 (ix2 n j)).toReal : ℝ) : EReal) := by
  refine real_of_finite _ ?_
  have := congrFun h (ix2 n (⟨j.val - 3072, by omega⟩ : Fin 1536))
  refine Eq.trans (congrArg (fun y : EReal => FloatOps.cmpf (F := Ideal) (φ := .f32) .olt (max y (-y)) (Ideal.ofBits .f32 0x7F800000#32))
    (congrArg x0 (funext fun a => Fin.ext ?_))) this
  match a with
  | ⟨0, _⟩ => show n.val = 0 + n.val; omega
  | ⟨1, _⟩ => show j.val = 3072 + (j.val - 3072); omega

/-- The rotary factors under the precondition. -/
theorem rotary (x0 : FVec Ideal Cert.Pre_finite.S32768x7680 .bf16) (x1 : FVec Ideal Cert.Pre_finite.S32768x128 .f32)
    (x2 : FVec Ideal Cert.Pre_finite.S512 .f32) (h : (Cert.Pre_finite.fn (F := Ideal) x0 x1 x2).2 = fun _ => 1#1)
    (n : Fin 32768) (d : Fin 128) : x1 (ix2 n d) = (((x1 (ix2 n d)).toReal : ℝ) : EReal) :=
  real_of_finite _ (congrFun h (ix2 n d))

/-- Every entry of the kernel's array is the reference's. -/
theorem equal (m : (ℓ : Loc Cert.KernelIdeal.nD Cert.KernelIdeal.τ Cert.KernelIdeal.sig) → Buf (Elt Ideal) ℓ) (c : Dev Cert.KernelIdeal.nD)
    (h : (Cert.Pre_finite.fn (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))).1 = (fun _ => 1#1)
      ∧ (Cert.Pre_finite.fn (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))).2 = (fun _ => 1#1)) :
    Cert.ReferenceIdeal.Read.val_main_v97 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Value.G6 m c := by
  let x0 : FVec Ideal Cert.Pre_finite.S32768x7680 .bf16 := m ((c.tc : Thread Cert.KernelIdeal.nD Cert.KernelIdeal.τ).loc Cert.KernelIdeal.main_arg0)
  let x1 : FVec Ideal Cert.Pre_finite.S32768x128 .f32 := m ((c.tc : Thread Cert.KernelIdeal.nD Cert.KernelIdeal.τ).loc Cert.KernelIdeal.main_arg1)
  let P : ℕ → ℕ → ℝ := fun n j => if hn : n < 32768 then (if hj : j < 7680 then EReal.toReal (x0 (ix2 ⟨n, hn⟩ ⟨j, hj⟩)) else 0) else 0
  let C : ℕ → ℕ → ℝ := fun n d => if hn : n < 32768 then (if hd : d < 128 then EReal.toReal (x1 (ix2 ⟨n, hn⟩ ⟨d, hd⟩)) else 0) else 0
  have hP : ∀ (n : Fin 32768) (j : Fin 7680), 3072 ≤ j.val → j.val < 4608 → x0 (ix2 n j) = ((P n.val j.val : ℝ) : EReal) := fun n j h1 h2 => by
    refine (projections x0 x1 _ h.1 n j h1 h2).trans (congrArg Real.toEReal ?_)
    show _ = if hn : n.val < 32768 then (if hj : j.val < 7680 then EReal.toReal (x0 (ix2 ⟨n.val, hn⟩ ⟨j.val, hj⟩)) else 0) else 0
    rw [dif_pos n.isLt, dif_pos j.isLt]
  have hC : ∀ (n : Fin 32768) (d : Fin 128), x1 (ix2 n d) = ((C n.val d.val : ℝ) : EReal) := fun n d => by
    refine (rotary x0 x1 _ h.2 n d).trans (congrArg Real.toEReal ?_)
    show _ = if hn : n.val < 32768 then (if hd : d.val < 128 then EReal.toReal (x1 (ix2 ⟨n.val, hn⟩ ⟨d.val, hd⟩)) else 0) else 0
    rw [dif_pos n.isLt, dif_pos d.isLt]
  funext i
  have hj : (i 1).val < 512 := (i 1).isLt
  have hi : i = ix2 (i 0 : Fin 32768) (⟨128 * ((i 1).val / 128) + (i 1).val % 128, by omega⟩ : Fin 512) := funext fun a => Fin.ext (by
    match a with
    | ⟨0, _⟩ => rfl
    | ⟨1, _⟩ => show (i 1).val = 128 * ((i 1).val / 128) + (i 1).val % 128; omega)
  rw [hi]
  exact (Cert.ReferenceIdeal.Ret.result x0 x1 _ P C hP hC (i 0) ⟨(i 1).val / 128, by omega⟩ ⟨(i 1).val % 128, by omega⟩).trans
    (Cert.KernelIdeal.Ret.array m c P C ⟨hP, hC⟩ (i 0) ⟨(i 1).val / 128, by omega⟩ ⟨(i 1).val % 128, by omega⟩).symm

end Cert.Retention
-- ==== Proof.Norm.lean ====
/-
  Hand-written, untrusted. The normed first projection, ONE GRID POINT: the first point of a row block writes the block's
  modulated norms and their product with the weights' columns, the later ones the product with theirs; each entry read as
  its sum over the extended reals.
-/
module

public import proofs.«01_k».proof.Proof.Gen.Kernel2Ideal.Frame
public import Idealize.ShloMosaic.Lib.Pointwise.Index
public import Idealize.ShloMosaic.Lib.Pointwise.Tactic
public import Idealize.ShloMosaic.Lib.ValueIdxCore
public import Idealize.ShloMosaic.Lib.Pipeline.ReadBack
public import Idealize.ShloMosaic.Lib.Pipeline.ValueKit.Acc
public import Idealize.ShloMosaic.Lib.Pipeline.ValueKit.Tiles

@[expose] public section

set_option maxRecDepth 16384

noncomputable section

namespace Cert.Kernel2Ideal.Proj

open Idealize.ShloMosaic Idealize.SL.Sem
open Idealize.ShloMosaic.ValueIdx (contrEquiv1)
open Cert.Kernel2Ideal Cert.Kernel2Ideal.Gen

section
variable {F : FTy → Type} [FloatOps F]

/-- The row of scales in a sequence's six modulation rows. -/
def scaleRow (x : Vec F S1x6x1024 .f32) : Vec F S1x1x1024 .f32 :=
  View.ld x (Rect.unit ![0, 1, 0] S1x1x1024.size inb_S1x6x1024_S1x1x1024_0_1_0)

/-- The row of shifts. -/
def shiftRow (x : Vec F S1x6x1024 .f32) : Vec F S1x1x1024 .f32 :=
  View.ld x (Rect.unit ![0, 0, 0] S1x1x1024.size inb_S1x6x1024_S1x1x1024_0_0_0)

/-- The modulated norms of a block of rows. -/
def normed (x0 : Vec F S1024x1024 .f32) (x1 : Vec F S1x6x1024 .f32) (x2 : Vec F S1x1024 .f32) : FVec F S1024x1024 .bf16 :=
  k0_pay1 x0 x2 (scaleRow x1) (shiftRow x1)

variable (c : Dev nD) (i : grid0.Coords) (arg2 : Memref sig .tc .vmem S1024x1024 .f32) (harg2 : arg2.IsWhole)
    (arg3 : Memref sig .tc .vmem S1x6x1024 .f32) (harg3 : arg3.IsWhole) (arg4 : Memref sig .tc .vmem S1x1024 .f32) (harg4 : arg4.IsWhole)
    (arg5 : Memref sig .tc .vmem S1024x2560 .bf16) (harg5 : arg5.IsWhole) (arg6 : Memref sig .tc .vmem S1024x2560 .bf16) (harg6 : arg6.IsWhole)
    (arg7 : Memref sig .tc .vmem S1024x1024 .bf16) (harg7 : arg7.IsWhole)
    (x0 : Vec F S1024x1024 .f32) (x1 : Vec F S1x6x1024 .f32) (x2 : Vec F S1x1024 .f32) (x3 : Vec F S1024x2560 .bf16)

/-- The norms kept by a row block's first point. -/
theorem kept_A (hc0 : cond0_0 i) :
    sout0_A_0 c i arg2 harg2 arg3 harg3 arg4 harg4 arg5 harg5 arg6 harg6 arg7 harg7 hc0 x0 x1 x2 x3 = normed x0 x1 x2 := by
  unfold sout0_A_0; rw [View.read_writes_junk_eq_canon]; unfold kernelRun0_A; dsimp only; sl_unfold_words
  simp (config := {decide := true}) only [↓View.readCov_skip, ↓View.readCov_cons_toLoadRect, ↓View.readCov_fill, View.readAt_eq_ld, Memref.IsWhole.read_unread, View.ld_unit_lit', View.canon_cons_unit_lit']
  rfl

/-- The product it writes. -/
theorem out_A (hc0 : cond0_0 i) :
    out0_A_4 c i arg2 harg2 arg3 harg3 arg4 harg4 arg5 harg5 arg6 harg6 arg7 harg7 hc0 x0 x1 x2 x3 = k0_pay2 (normed x0 x1 x2) x3 := by
  unfold out0_A_4; rw [View.read_writes_junk_eq_canon]; unfold kernelRun0_A; dsimp only; sl_unfold_words
  simp (config := {decide := true}) only [↓View.readCov_skip, ↓View.readCov_cons_toLoadRect, ↓View.readCov_fill, View.readAt_eq_ld, Memref.IsWhole.read_unread, View.ld_unit_lit', View.canon_cons_unit_lit']
  rfl

/-- The product a later point writes, from the norms `S` kept. -/
theorem out_B (hc0 : ¬cond0_0 i) (S : Vec F S1024x1024 .bf16) :
    out0_B_4 c i arg2 harg2 arg3 harg3 arg4 harg4 arg5 harg5 arg6 harg6 arg7 harg7 hc0 x0 x1 x2 x3 S = k0_pay2 S x3 := by
  unfold out0_B_4; rw [View.read_writes_junk_eq_canon]; unfold kernelRun0_B; dsimp only; sl_unfold_words
  simp (config := {decide := true}) only [↓View.readCov_skip, ↓View.readCov_cons_toLoadRect, ↓View.readCov_fill, View.readAt_eq_ld, Memref.IsWhole.read_unread, View.ld_unit_lit', View.canon_cons_unit_lit']
end

/-! ## Read at an index -/

/-- A row's modulated norm, over the extended reals. -/
def modn (X : Fin 1024 → EReal) (g s b : EReal) (k : Fin 1024) : EReal :=
  X k * Ideal.rsqrt (Ideal.div (∑ a, X a * X a) (Ideal.ofBits .f32 0x44800000#32) + Ideal.ofBits .f32 0x358637BD#32)
    * g * (Ideal.ofBits .f32 0x3F800000#32 + s) + b

theorem dotW (l : FVec Ideal S1024x1024 .bf16) (r : FVec Ideal S1024x2560 .bf16) (a : Fin 1024) (e : Fin 2560) :
    matmul (F := Ideal) dot_S1024x1024_S1024x2560_S1024x2560_1_0_0_1_n_n none l r (constant S1024x2560 .f32 0x00000000#32) (ix2 a e)
      = ∑ k : Fin 1024, l (ix2 a k) * r (ix2 k e) := by
  refine (Ideal.matmul_constant_zero_apply dot_S1024x1024_S1024x2560_S1024x2560_1_0_0_1_n_n none l r (ix2 a e)).trans ?_
  rw [← (contrEquiv1 dot_S1024x1024_S1024x2560_S1024x2560_1_0_0_1_n_n 1024 rfl rfl).symm.sum_comp]
  refine Finset.sum_congr rfl fun k _ => congrArg₂ (· * ·) (congrArg l ?_) (congrArg r ?_) <;>
    exact funext fun i => Fin.ext (by match i with | ⟨0, _⟩ => rfl | ⟨1, _⟩ => rfl)

theorem cast_col {α : Type} (x : S1024.Idx → α) (r : Fin 1024) :
    shapeCast S1024x1 x shapeCasts_S1024_S1024x1 (ix2 r 0) = x (ix1 r) :=
  shapeCast_apply x _ _ (ix1 r) (by
    rw [Shape.rowMajor_val_two, Shape.rowMajor_val_one]; show r.val = r.val * 1 + 0; omega)

theorem cast_row {α : Type} (x : S1x1x1024.Idx → α) (k : Fin 1024) :
    shapeCast S1x1024 x shapeCasts_S1x1x1024_S1x1024 (ix2 0 k) = x (ix3 0 0 k) :=
  shapeCast_apply x _ _ (ix3 0 0 k) (by
    rw [Shape.rowMajor_val_two, Shape.rowMajor_val_three]; show (0 * 1 + 0) * 1024 + k.val = 0 * 1024 + k.val; omega)

theorem row_sum (x : FVec Ideal S1024x1024 .f32) (r : Fin 1024) (h1 h2) :
    multiReduction (F := Ideal) .add [1] S1024 x 0x00000000#32 reduces_S1024x1024_S1024 h1 h2 (ix1 r) = ∑ e : Fin 1024, x (ix2 r e) := by
  refine (Ideal.multiReduction_add_single _ _ _ _ _ _).trans ?_
  refine Finset.sum_congr rfl fun k _ => congrArg x ?_
  exact funext fun i => Fin.ext (by match i with | ⟨0, _⟩ => rfl | ⟨1, _⟩ => rfl)

theorem pay1_apply (x : Vec Ideal S1024x1024 .f32) (g : Vec Ideal S1x1024 .f32) (s b : Vec Ideal S1x1x1024 .f32) (r k : Fin 1024) :
    k0_pay1 (F := Ideal) x g s b (ix2 r k)
      = modn (fun a => x (ix2 r a)) (g (ix2 0 k)) (s (ix3 0 0 k)) (b (ix3 0 0 k)) k := by
  unfold k0_pay1 modn
  have hv : ∀ e : Fin 1024, mulf (F := Ideal) (φ := .f32) x x (ix2 r e) = x (ix2 r e) * x (ix2 r e) := fun e => rfl
  have := row_sum (mulf (F := Ideal) (φ := .f32) x x) r (.inl rfl) rfl
  simp only [hv] at this
  rw [← this]
  simp only [shapeCast_self]
  pointwise
  rw [cast_col, cast_row, cast_row]

theorem normed_apply (x0 : Vec Ideal S1024x1024 .f32) (x1 : Vec Ideal S1x6x1024 .f32) (x2 : Vec Ideal S1x1024 .f32) (r k : Fin 1024) :
    normed (F := Ideal) x0 x1 x2 (ix2 r k)
      = modn (fun a => x0 (ix2 r a)) (x2 (ix2 0 k)) (x1 (ix3 0 1 k)) (x1 (ix3 0 0 k)) k := by
  refine (pay1_apply ..).trans ?_
  refine congrArg₂ (fun s b => modn _ _ s b k) (congrArg x1 ?_) (congrArg x1 ?_) <;>
    exact funext fun a => Fin.ext (by match a with | ⟨0, _⟩ => rfl | ⟨1, _⟩ => rfl | ⟨2, _⟩ => show 0 + 1 * k.val = k.val; omega)

theorem pay2_apply (h : Vec Ideal S1024x1024 .bf16) (w : Vec Ideal S1024x2560 .bf16) (r : Fin 1024) (j : Fin 2560) :
    k0_pay2 (F := Ideal) h w (ix2 r j) = ∑ k : Fin 1024, h (ix2 r k) * w (ix2 k j) := by
  unfold k0_pay2
  simp only [shapeCast_self]
  exact dotW h w r j

end Cert.Kernel2Ideal.Proj

end
-- ==== Proof.Proj.lean ====
/-
  Hand-written, untrusted. What the normed first projection's ARRAY holds: the blocks its points read are the launched
  arrays' rows and columns, the norms are kept along a row block, so every entry is its row's modulated norm times the
  weights' column, the gates' columns before the heads'.
-/
module

public import proofs.«01_k».proof.Proof.Norm
public import proofs.«01_k».proof.Proof.Gen.Kernel2Ideal.Value
public import Idealize.ShloMosaic.Lib.StableHlo.RunRead

@[expose] public section

set_option maxRecDepth 16384

noncomputable section

namespace Cert.Kernel2Ideal.Proj

open Idealize.ShloMosaic Idealize.ShloMosaic.TcCoe Idealize.SL.Sem
open Cert.Kernel2Ideal Cert.Kernel2Ideal.Gen Cert.Kernel2Ideal.Value

/-- The column of the weights that is written at column `j`: the gates' columns, then the heads'. -/
def srcCol (j : Fin 7680) : Fin 7680 :=
  if h : j.val < 3072 then ⟨4608 + j.val, by omega⟩ else ⟨j.val - 3072, by omega⟩

variable (m : (ℓ : Loc nD τ sig) → Buf (Elt Ideal) ℓ) (c : Dev nD)

/-! ## The windows' blocks read at the launch memory -/

theorem ix_0 : ∀ t : Fin cfg0.N, win0_0.index t (0 : Fin 2) = t.val / 3 ∧ win0_0.index t (1 : Fin 2) = 0 :=
  (by decide +kernel : ∀ t : Fin grid0.N, _)
theorem ix_1 : ∀ t : Fin cfg0.N, win0_1.index t (0 : Fin 3) = t.val / 6 ∧ win0_1.index t (1 : Fin 3) = 0 ∧ win0_1.index t (2 : Fin 3) = 0 :=
  (by decide +kernel : ∀ t : Fin grid0.N, _)
theorem ix_2 : ∀ t : Fin cfg0.N, win0_2.index t (0 : Fin 2) = 0 ∧ win0_2.index t (1 : Fin 2) = 0 :=
  (by decide +kernel : ∀ t : Fin grid0.N, _)
theorem ix_3 : ∀ t : Fin cfg0.N, win0_3.index t (0 : Fin 2) = 0 ∧ win0_3.index t (1 : Fin 2) = t.val % 3 :=
  (by decide +kernel : ∀ t : Fin grid0.N, _)

theorem lt_N (t : Fin cfg0.N) : t.val < 96 := lt_of_lt_of_eq t.isLt N_0

/-- The rows of `x`, one array of rows. -/
theorem V_x (b : Fin 16) (f : Fin 2048) (k : Fin 1024) :
    V m c main_v4 (ix2 (⟨2048 * b.val + f.val, by omega⟩ : Fin 32768) k) = m ((c : Thread nD τ).loc main_arg0) (ix3 b f k) := by
  show StableHlo.after hostOps0 (fun b => m (c, b)) (Proc.devRef .tc main_v4) (ix2 _ k) = _
  after_reads_simp
  refine shapeCast_apply _ _ _ (ix3 b f k) ?_
  show (S16x2048x1024.rowMajor (ix3 b f k)).val = (S32768x1024.rowMajor (ix2 _ k)).val
  rw [Shape.rowMajor_val_two, Shape.rowMajor_val_three]
  show (b.val * 2048 + f.val) * 1024 + k.val = (2048 * b.val + f.val) * 1024 + k.val; omega

/-- The modulation rows of a sequence. -/
theorem V_mod (b : Fin 16) (q : Fin 6) (k : Fin 1024) :
    V m c main_v5 (ix3 b q k) = m ((c : Thread nD τ).loc main_arg1) (ix2 b (⟨1024 * q.val + k.val, by omega⟩ : Fin 6144)) := by
  show StableHlo.after hostOps0 (fun b => m (c, b)) (Proc.devRef .tc main_v5) (ix3 b q k) = _
  after_reads_simp
  refine shapeCast_apply _ _ _ (ix2 b (⟨1024 * q.val + k.val, by omega⟩ : Fin 6144)) ?_
  show (S16x6144.rowMajor (ix2 b _)).val = (S16x6x1024.rowMajor (ix3 b q k)).val
  rw [Shape.rowMajor_val_two, Shape.rowMajor_val_three]
  show b.val * 6144 + (1024 * q.val + k.val) = (b.val * 6 + q.val) * 1024 + k.val; omega

/-- The gains reach the kernel as one row. -/
theorem V_g (k : Fin 1024) : V m c main_v6 (ix2 0 k) = m ((c : Thread nD τ).loc main_arg2) (ix1 k) := by
  show StableHlo.after hostOps0 (fun b => m (c, b)) (Proc.devRef .tc main_v6) (ix2 0 k) = _
  after_reads_simp
  refine shapeCast_apply _ _ _ (ix1 k) ?_
  show (S1024.rowMajor (ix1 k)).val = (S1x1024.rowMajor (ix2 0 k)).val
  rw [Shape.rowMajor_val_two, Shape.rowMajor_val_one]; show k.val = 0 * 1024 + k.val; omega

/-- The weights' columns reach it reordered. -/
theorem V_w (k : Fin 1024) (j : Fin 7680) : V m c main_v3 (ix2 k j) = m ((c : Thread nD τ).loc main_arg3) (ix2 k (srcCol j)) := by
  show StableHlo.after hostOps0 (fun b => m (c, b)) (Proc.devRef .tc main_v3) (ix2 k j) = _
  after_reads_simp
  have e0 : ∀ i : Fin 3072, StableHlo.upto hostOps0 (fun b => m (c, b)) 2 (Proc.devRef .tc main_v0) (ix2 k i)
      = m ((c : Thread nD τ).loc main_arg3) (ix2 k (⟨4608 + i.val, by omega⟩ : Fin 7680)) := fun i => by
    after_reads_simp
    exact extractStridedSlice_apply ![0, 4608] (m ((c : Thread nD τ).loc main_arg3)) slices_S1024x7680_S1024x3072_0_4608 (ix2 k i)
      (ix2 k (⟨4608 + i.val, by omega⟩ : Fin 7680)) (fun a => by
      match a with
      | ⟨0, _⟩ => show k.val = 0 + k.val; omega
      | ⟨1, _⟩ => rfl)
  have e1 : ∀ i : Fin 4608, StableHlo.upto hostOps0 (fun b => m (c, b)) 2 (Proc.devRef .tc main_v1) (ix2 k i)
      = m ((c : Thread nD τ).loc main_arg3) (ix2 k (⟨i.val, by omega⟩ : Fin 7680)) := fun i => by
    after_reads_simp
    exact extractStridedSlice_apply ![0, 0] (m ((c : Thread nD τ).loc main_arg3)) slices_S1024x7680_S1024x4608_0_0 (ix2 k i)
      (ix2 k (⟨i.val, by omega⟩ : Fin 7680)) (fun a => by
      match a with
      | ⟨0, _⟩ => show k.val = 0 + k.val; omega
      | ⟨1, _⟩ => show i.val = 0 + i.val; omega)
  have hj := j.isLt
  unfold srcCol
  by_cases hl : j.val < 3072
  · rw [dif_pos hl]
    refine Eq.trans ?_ (e0 ⟨j.val, hl⟩)
    exact concatenate_pair_apply_left (1 : Fin S1024x7680.rank) _ _ concatenates_S1024x3072_S1024x4608_S1024x7680_d1 (ix2 k j) rfl
      (ix2 k (⟨j.val, hl⟩ : Fin 3072)) (fun a => by match a with | ⟨0, _⟩ => rfl | ⟨1, _⟩ => rfl)
  · rw [dif_neg hl]
    refine Eq.trans ?_ (e1 ⟨j.val - 3072, by omega⟩)
    exact concatenate_pair_apply_right (1 : Fin S1024x7680.rank) _ _ concatenates_S1024x3072_S1024x4608_S1024x7680_d1 (ix2 k j) rfl rfl
      (ix2 k (⟨j.val - 3072, by omega⟩ : Fin 4608)) (fun a ha => by match a with | ⟨0, _⟩ => rfl | ⟨1, _⟩ => exact absurd rfl ha)
      (by show (j.val - 3072) + 3072 = j.val; omega)

theorem read_x (t : Fin cfg0.N) (r k : Fin 1024) : iblk m c 0 t (ix2 r k)
    = m ((c : Thread nD τ).loc main_arg0) (ix3 (⟨t.val / 6, by have := lt_N t; omega⟩ : Fin 16)
        (⟨1024 * (t.val / 3 % 2) + r.val, by omega⟩ : Fin 2048) k) := by
  obtain ⟨e0, e1⟩ := ix_0 t
  rw [← V_x m c]
  refine congrArg (V m c main_v4) (funext fun a => Fin.ext ?_)
  match a with
  | ⟨0, _⟩ => show win0_0.index t (0 : Fin 2) * 1024 + 1 * r.val = 2048 * (t.val / 6) + (1024 * (t.val / 3 % 2) + r.val); omega
  | ⟨1, _⟩ => show win0_0.index t (1 : Fin 2) * 1024 + 1 * k.val = k.val; omega

theorem read_mod (t : Fin cfg0.N) (q : Fin 6) (k : Fin 1024) : iblk m c 1 t (ix3 0 q k)
    = m ((c : Thread nD τ).loc main_arg1) (ix2 (⟨t.val / 6, by have := lt_N t; omega⟩ : Fin 16) (⟨1024 * q.val + k.val, by omega⟩ : Fin 6144)) := by
  obtain ⟨e0, e1, e2⟩ := ix_1 t
  rw [← V_mod m c]
  refine congrArg (V m c main_v5) (funext fun a => Fin.ext ?_)
  match a with
  | ⟨0, _⟩ => show win0_1.index t (0 : Fin 3) * 1 + 1 * 0 = t.val / 6; omega
  | ⟨1, _⟩ => show win0_1.index t (1 : Fin 3) * 6 + 1 * q.val = q.val; omega
  | ⟨2, _⟩ => show win0_1.index t (2 : Fin 3) * 1024 + 1 * k.val = k.val; omega

theorem read_g (t : Fin cfg0.N) (k : Fin 1024) : iblk m c 2 t (ix2 0 k) = m ((c : Thread nD τ).loc main_arg2) (ix1 k) := by
  obtain ⟨e0, e1⟩ := ix_2 t
  rw [← V_g m c]
  refine congrArg (V m c main_v6) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

theorem read_w (t : Fin cfg0.N) (k : Fin 1024) (j : Fin 2560) : iblk m c 3 t (ix2 k j)
    = m ((c : Thread nD τ).loc main_arg3) (ix2 k (srcCol ⟨2560 * (t.val % 3) + j.val, by omega⟩)) := by
  obtain ⟨e0, e1⟩ := ix_3 t
  rw [← V_w m c]
  refine congrArg (V m c main_v3) (funext fun a => Fin.ext ?_)
  match a with
  | ⟨0, _⟩ => show win0_3.index t (0 : Fin 2) * 1024 + 1 * k.val = k.val; omega
  | ⟨1, _⟩ => show win0_3.index t (1 : Fin 2) * 2560 + 1 * j.val = 2560 * (t.val % 3) + j.val; omega

/-! ## Over the points -/

/-- The modulated norm of frame `f` of sequence `b`, from the launched arrays. -/
def normAt (b : Fin 16) (f : Fin 2048) (k : Fin 1024) : EReal :=
  modn (fun a => m ((c : Thread nD τ).loc main_arg0) (ix3 b f a)) (m ((c : Thread nD τ).loc main_arg2) (ix1 k))
    (m ((c : Thread nD τ).loc main_arg1) (ix2 b (⟨1024 + k.val, by omega⟩ : Fin 6144)))
    (m ((c : Thread nD τ).loc main_arg1) (ix2 b (⟨k.val, by omega⟩ : Fin 6144))) k

/-- The norms kept after point `t`. -/
theorem kept : ∀ (n : ℕ) (t : Fin cfg0.N), t.val = n → ∀ r k : Fin 1024, (outsAt0 m c t.val t.isLt).2 (ix2 r k)
    = normAt m c ⟨t.val / 6, by have := lt_N t; omega⟩ ⟨1024 * (t.val / 3 % 2) + r.val, by omega⟩ k := by
  have hA : ∀ (t : Fin cfg0.N), t.val % 3 = 0 → ∀ r k : Fin 1024, (outsAt0 m c t.val t.isLt).2 (ix2 r k)
      = normAt m c ⟨t.val / 6, by have := lt_N t; omega⟩ ⟨1024 * (t.val / 3 % 2) + r.val, by omega⟩ k := fun t h0 r k => by
    rw [outsAt0_A m c t h0, kept_A]
    refine (normed_apply ..).trans ?_
    rw [read_mod, read_mod, read_g]
    simp only [read_x]
    refine congrArg₂ (fun i i' => modn _ _ (m ((c : Thread nD τ).loc main_arg1) i) (m ((c : Thread nD τ).loc main_arg1) i') k)
      (congrArg (ix2 _) (Fin.ext ?_)) (congrArg (ix2 _) (Fin.ext ?_))
    · show 1024 * 1 + k.val = 1024 + k.val; omega
    · show 1024 * 0 + k.val = k.val; omega
  intro n
  induction n with
  | zero => exact fun t ht => hA t (by omega)
  | succ n ih =>
    intro t ht r k
    by_cases h0 : t.val % 3 = 0
    · exact hA t h0 r k
    · rw [outsAt0_B m c t h0]
      have hp : t.val - 1 < cfg0.N := Nat.lt_of_le_of_lt (Nat.sub_le _ _) t.isLt
      refine (ih ⟨t.val - 1, hp⟩ (by show t.val - 1 = n; omega) r k).trans ?_
      refine congrArg₂ (fun b f => normAt m c b f k) (Fin.ext ?_) (Fin.ext ?_)
      · show (t.val - 1) / 6 = t.val / 6; omega
      · show 1024 * ((t.val - 1) / 3 % 2) + r.val = 1024 * (t.val / 3 % 2) + r.val; omega

/-- The projection of frame `f` of sequence `b` written at column `j`. -/
def prodAt (b : Fin 16) (f : Fin 2048) (j : Fin 7680) : EReal :=
  ∑ k : Fin 1024, normAt m c b f k * m ((c : Thread nD τ).loc main_arg3) (ix2 k (srcCol j))

/-- The block written at point `t`. -/
theorem written (t : Fin cfg0.N) (r : Fin 1024) (j : Fin 2560) : (outsAt0 m c t.val t.isLt).1 (ix2 r j)
    = prodAt m c ⟨t.val / 6, by have := lt_N t; omega⟩ ⟨1024 * (t.val / 3 % 2) + r.val, by omega⟩ ⟨2560 * (t.val % 3) + j.val, by omega⟩ := by
  have hk := kept m c t.val t rfl r
  have ho : (outsAt0 m c t.val t.isLt).1 = k0_pay2 (outsAt0 m c t.val t.isLt).2 (iblk m c 3 t) := by
    by_cases h0 : t.val % 3 = 0
    · rw [outsAt0_A m c t h0, out_A, kept_A]
    · rw [outsAt0_B m c t h0, out_B]; rfl
  rw [ho, pay2_apply]
  simp only [hk, read_w]
  rfl

/-- THE WRITTEN ARRAY at frame `f` of sequence `b`, column `j`. -/
theorem array (b : Fin 16) (f : Fin 2048) (j : Fin 7680) : G4 m c (ix2 (⟨2048 * b.val + f.val, by omega⟩ : Fin 32768) j)
    = prodAt m c b f j := by
  have hb := b.isLt; have hf := f.isLt; have hj := j.isLt
  have hp : pt4Of (ix2 (⟨2048 * b.val + f.val, by omega⟩ : Fin 32768) j) = 3 * ((2048 * b.val + f.val) / 1024) + j.val / 2560 := by
    show 3 * ((2048 * b.val + f.val) / 1024 - 0) + 1 * (j.val / 2560 - 0) = _; omega
  have hlt : 3 * ((2048 * b.val + f.val) / 1024) + j.val / 2560 < cfg0.N :=
    lt_of_lt_of_eq (by omega : 3 * ((2048 * b.val + f.val) / 1024) + j.val / 2560 < 96) N_0.symm
  have hl : loc4Of (ix2 (⟨2048 * b.val + f.val, by omega⟩ : Fin 32768) j)
      = ix2 (⟨(2048 * b.val + f.val) % 1024, by omega⟩ : Fin 1024) (⟨j.val % 2560, by omega⟩ : Fin 2560) := by
    funext a
    match a with
    | ⟨0, _⟩ => rfl
    | ⟨1, _⟩ => rfl
  unfold G4
  rw [dif_pos (by rw [hp]; exact hlt), hl]
  have key := written m c ⟨3 * ((2048 * b.val + f.val) / 1024) + j.val / 2560, hlt⟩ ⟨(2048 * b.val + f.val) % 1024, by omega⟩ ⟨j.val % 2560, by omega⟩
  rw [outsAt0_sweep] at key
  have hc := fold0_congr m c (pt4Of (ix2 (⟨2048 * b.val + f.val, by omega⟩ : Fin 32768) j)) (by rw [Nat.zero_add, hp]; exact hlt)
    (3 * ((2048 * b.val + f.val) / 1024) + j.val / 2560) (by rw [Nat.zero_add]; exact hlt) hp
  rw [hc, key]
  have e1 : (⟨(3 * ((2048 * b.val + f.val) / 1024) + j.val / 2560) / 6, by omega⟩ : Fin 16) = b := Fin.ext (by
    show (3 * ((2048 * b.val + f.val) / 1024) + j.val / 2560) / 6 = b.val; omega)
  have e2 : (⟨1024 * ((3 * ((2048 * b.val + f.val) / 1024) + j.val / 2560) / 3 % 2) + (2048 * b.val + f.val) % 1024, by omega⟩ : Fin 2048) = f :=
    Fin.ext (by show 1024 * ((3 * ((2048 * b.val + f.val) / 1024) + j.val / 2560) / 3 % 2) + (2048 * b.val + f.val) % 1024 = f.val; omega)
  have e3 : (⟨2560 * ((3 * ((2048 * b.val + f.val) / 1024) + j.val / 2560) % 3) + j.val % 2560, by omega⟩ : Fin 7680) = j :=
    Fin.ext (by show 2560 * ((3 * ((2048 * b.val + f.val) / 1024) + j.val / 2560) % 3) + j.val % 2560 = j.val; omega)
  exact congr (congr (congrArg (prodAt m c) e1) e2) e3

end Cert.Kernel2Ideal.Proj

end
-- ==== Proof.Ref2.lean ====
/-
  Hand-written, untrusted. What the REFERENCE's first projection computes, read at one frame and column, and that the
  kernel's array holds it.
-/
module

public import proofs.«01_k».proof.Proof.Proj
public import proofs.«01_k».proof.Proof.Gen.Reference2Ideal.Read
public import Idealize.ShloMosaic.Lib.IdealHost

@[expose] public section

set_option maxRecDepth 16384

noncomputable section

namespace Cert.Reference2Ideal.Proj

open Idealize.ShloMosaic Idealize.SL.Sem
open Cert.Reference2Ideal Cert.Reference2Ideal.Gen Cert.Reference2Ideal.Read
open Cert.Kernel2Ideal.Proj (modn srcCol normAt array)

variable (x0 : (⟨S16x2048x1024, .f32⟩ : BufTy).Contents (Elt Ideal)) (x1 : (⟨S16x6144, .f32⟩ : BufTy).Contents (Elt Ideal))
  (x2 : (⟨S1024, .f32⟩ : BufTy).Contents (Elt Ideal)) (x3 : (⟨S1024x7680, .f32⟩ : BufTy).Contents (Elt Ideal))

/-- The reciprocal root mean square of a frame. -/
theorem v9_at (b : Fin 16) (f : Fin 2048) : val_main_v9 (F := Ideal) x0 (ix3 b f 0)
    = Ideal.rsqrt (Ideal.div (∑ a : Fin 1024, x0 (ix3 b f a) * x0 (ix3 b f a)) (Ideal.ofBits .f32 0x44800000#32) + Ideal.ofBits .f32 0x358637BD#32) := by
  have hs : val_main_v3 (F := Ideal) x0 (ix2 b f) = ∑ a : Fin 1024, x0 (ix3 b f a) * x0 (ix3 b f a) := by
    rw [val_main_v3_apply, val_main_cst_apply]
    refine (congrArg (· + _) (show FloatOps.ofBits (F := Ideal) .f32 0x00000000#32 = 0 from Ideal.ofBits_zero_f32)).trans ?_
    rw [zero_add]
    refine Finset.sum_congr rfl fun k _ => ?_
    rw [val_main_v2_apply]
    have hi : idx_main_v3 (ix2 b f) k = ix3 b f k := funext fun a => by match a with | ⟨0, _⟩ => rfl | ⟨1, _⟩ => rfl | ⟨2, _⟩ => rfl
    rw [hi]; rfl
  have h4 : idx_main_v4 (ix3 b f 0) = ix2 b f := funext fun a => by match a with | ⟨0, _⟩ => rfl | ⟨1, _⟩ => rfl
  rw [val_main_v9_apply, val_main_v8_apply, val_main_v6_apply, val_main_v7_apply, val_main_v5_apply, val_main_cst_1_apply, val_main_cst_0_apply,
    val_main_v4_apply, h4, hs]
  rfl

/-- The modulated norm of a frame. -/
theorem v22_at (b : Fin 16) (f : Fin 2048) (k : Fin 1024) : val_main_v22 (F := Ideal) x0 x1 x2 (ix3 b f k)
    = modn (fun a => x0 (ix3 b f a)) (x2 (ix1 k)) (x1 (ix2 b (⟨1024 + k.val, by omega⟩ : Fin 6144))) (x1 (ix2 b (⟨k.val, by omega⟩ : Fin 6144))) k := by
  have h10 : idx_main_v10 (ix3 b f k) = ix3 b f 0 := funext fun a => by match a with | ⟨0, _⟩ => rfl | ⟨1, _⟩ => rfl | ⟨2, _⟩ => rfl
  have h12 : idx_main_v12 (idx_main_v13 (ix3 b f k)) = ix1 k := funext fun a => by match a with | ⟨0, _⟩ => rfl
  have h1 : idx_main_v1 (idx_main_v15 (idx_main_v18 (ix3 b f k))) = ix2 b (⟨1024 + k.val, by omega⟩ : Fin 6144) :=
    funext fun a => by match a with | ⟨0, _⟩ => rfl | ⟨1, _⟩ => rfl
  have h0 : idx_main_v0 (idx_main_v20 (idx_main_v21 (ix3 b f k))) = ix2 b (⟨k.val, by omega⟩ : Fin 6144) :=
    funext fun a => by match a with | ⟨0, _⟩ => rfl | ⟨1, _⟩ => rfl
  rw [val_main_v22_apply, val_main_v19_apply, val_main_v14_apply, val_main_v11_apply, val_main_v10_apply, h10, v9_at, val_main_v13_apply,
    val_main_v12_apply, h12, val_main_v18_apply, val_main_v17_apply, val_main_v16_apply, val_main_cst_2_apply, val_main_v15_apply,
    val_main_v1_apply, h1, val_main_v21_apply, val_main_v20_apply, val_main_v0_apply, h0]
  rfl

/-- The projection of a frame. -/
theorem v23_at (b : Fin 16) (f : Fin 2048) (j : Fin 7680) : val_main_v23 (F := Ideal) x0 x1 x2 x3 (ix3 b f j)
    = ∑ k : Fin 1024, modn (fun a => x0 (ix3 b f a)) (x2 (ix1 k)) (x1 (ix2 b (⟨1024 + k.val, by omega⟩ : Fin 6144)))
        (x1 (ix2 b (⟨k.val, by omega⟩ : Fin 6144))) k * x3 (ix2 k j) := by
  rw [val_main_v23_apply]
  refine Finset.sum_congr rfl fun k _ => ?_
  have hl : lidx_main_v23 (ix3 b f j) k = ix3 b f k := funext fun a => by match a with | ⟨0, _⟩ => rfl | ⟨1, _⟩ => rfl | ⟨2, _⟩ => rfl
  have hr : ridx_main_v23 (ix3 b f j) k = ix2 k j := funext fun a => by match a with | ⟨0, _⟩ => rfl | ⟨1, _⟩ => rfl
  rw [hl, hr, v22_at]

/-- THE RESULT at frame `f` of sequence `b`, column `j`. -/
theorem result (b : Fin 16) (f : Fin 2048) (j : Fin 7680) :
    val_main_v28 (F := Ideal) x0 x1 x2 x3 (ix2 (⟨2048 * b.val + f.val, by omega⟩ : Fin 32768) j)
      = val_main_v23 (F := Ideal) x0 x1 x2 x3 (ix3 b f (srcCol j)) := by
  have hb := b.isLt; have hf := f.isLt; have hj := j.isLt
  have hi : idx_main_v28 (ix2 (⟨2048 * b.val + f.val, by omega⟩ : Fin 32768) j) = ix3 b f j := funext fun a => Fin.ext (by
    match a with
    | ⟨0, _⟩ => show ((2048 * b.val + f.val) * 7680 + j.val) / 15728640 = b.val; omega
    | ⟨1, _⟩ => show ((2048 * b.val + f.val) * 7680 + j.val) / 7680 % 2048 = f.val; omega
    | ⟨2, _⟩ => show ((2048 * b.val + f.val) * 7680 + j.val) % 7680 = j.val; omega)
  rw [val_main_v28_apply, hi, val_main_v27_apply]
  show val_main_v26 (F := Ideal) x0 x1 x2 x3 (ix3 b f j) = _
  unfold val_main_v26 srcCol
  by_cases hl : j.val < 3072
  · rw [dif_pos hl]
    refine (concatenate_pair_apply_left (2 : Fin S16x2048x7680.rank) (val_main_v25 (F := Ideal) x0 x1 x2 x3) (val_main_v24 (F := Ideal) x0 x1 x2 x3)
      concatenates_S16x2048x3072_S16x2048x4608_S16x2048x7680_d2 (ix3 b f j) rfl (ix3 b f (⟨j.val, hl⟩ : Fin 3072)) (fun a => by
      match a with | ⟨0, _⟩ => rfl | ⟨1, _⟩ => rfl | ⟨2, _⟩ => rfl)).trans ?_
    rw [val_main_v25_apply]
    exact congrArg _ (funext fun a => by match a with | ⟨0, _⟩ => rfl | ⟨1, _⟩ => rfl | ⟨2, _⟩ => rfl)
  · rw [dif_neg hl]
    refine (concatenate_pair_apply_right (2 : Fin S16x2048x7680.rank) (val_main_v25 (F := Ideal) x0 x1 x2 x3) (val_main_v24 (F := Ideal) x0 x1 x2 x3)
      concatenates_S16x2048x3072_S16x2048x4608_S16x2048x7680_d2 (ix3 b f j) rfl rfl (ix3 b f (⟨j.val - 3072, by omega⟩ : Fin 4608)) (fun a ha => by
      match a with | ⟨0, _⟩ => rfl | ⟨1, _⟩ => rfl | ⟨2, _⟩ => exact absurd rfl ha) (by show (j.val - 3072) + 3072 = j.val; omega)).trans ?_
    rw [val_main_v24_apply]
    exact congrArg _ (funext fun a => by match a with | ⟨0, _⟩ => rfl | ⟨1, _⟩ => rfl | ⟨2, _⟩ => rfl)

/-- Every entry of the kernel's array is the reference's. -/
theorem equal (m : (ℓ : Loc Cert.Kernel2Ideal.nD Cert.Kernel2Ideal.τ Cert.Kernel2Ideal.sig) → Buf (Elt Ideal) ℓ) (c : Dev Cert.Kernel2Ideal.nD) :
    val_main_v28 (F := Ideal) (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
      = Cert.Kernel2Ideal.Value.G4 m c := by
  funext i
  have h0 : (i 0).val < 32768 := (i 0).isLt
  have hi : i = ix2 (⟨2048 * (⟨(i 0).val / 2048, by omega⟩ : Fin 16).val + (⟨(i 0).val % 2048, by omega⟩ : Fin 2048).val,
      by show 2048 * ((i 0).val / 2048) + (i 0).val % 2048 < 32768; omega⟩ : Fin 32768) (i 1 : Fin 7680) := funext fun a => Fin.ext (by
    match a with
    | ⟨0, _⟩ => show (i 0).val = 2048 * ((i 0).val / 2048) + (i 0).val % 2048; omega
    | ⟨1, _⟩ => rfl)
  rw [hi]
  refine (result _ _ _ _ ⟨(i 0).val / 2048, by omega⟩ ⟨(i 0).val % 2048, by omega⟩ (i 1)).trans ?_
  exact (v23_at ..).trans (array m c ⟨(i 0).val / 2048, by omega⟩ ⟨(i 0).val % 2048, by omega⟩ (i 1)).symm

end Cert.Reference2Ideal.Proj

end
-- ==== Proof.Expert.Run.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.VecWindow
public import Idealize.ShloMosaic.Lib.Tactic

@[expose] public section

set_option maxRecDepth 16384

noncomputable section

namespace Cert.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (put window)

variable {F : FTy → Type} [FloatOps F]

local notation "𝕄" => MT nD τ sig Unit (Elt F) ℕ (UR sig nD τ) ℕ

/-! # One grid point of the expert call, on any staging buffers

A step works two tiles, the lower and the upper half of its rows. Each half first refreshes its kept copy of the
expert's weights (when the tile's expert is not the one of two tiles before), then writes its half of the output. -/

/-! ## Reading a buffer under a condition -/

section Kept

variable {s : Shape} {e : EltTy} (M : Memref sig .tc .vmem s e) {off size : Fin s.rank → ℕ} (inb : ∀ a, off a + size a ≤ s.size a)

/-- A window refreshed under a condition, and otherwise already at the payload, reads the payload. -/
theorem window_kept (C : Prop) [Decidable C] (f : M.view.ty.Contents (Elt F)) (p : (Rect.unit off size inb).shape.Idx → Elt F e)
    (h : ¬ C → window (M.view.read (Elt F) f) off size inb = p) :
    window (M.view.read (Elt F) (if hc : C then M.view.writes (Elt F) f [⟨Rect.unit off size inb, p⟩] else f)) off size inb = p := by
  by_cases hc : C
  · rw [dif_pos hc, View.read_writes_cons_put M.view f inb p [] rfl]
    exact VecWindow.window_put_same _ off size inb p
  · rw [dif_neg hc]; exact h hc

/-- The same, of a load. -/
theorem readAt_kept (C : Prop) [Decidable C] (f : M.view.ty.Contents (Elt F)) (p : (Rect.unit off size inb).shape.Idx → Elt F e)
    (h : ¬ C → window (M.view.read (Elt F) f) off size inb = p) :
    M.view.readAt (Elt F) (Rect.unit off size inb).toLoadRect
      (if hc : C then M.view.writes (Elt F) f [⟨Rect.unit off size inb, p⟩] else f) = p := by
  rw [View.readAt_unit M.view _ inb rfl inb]
  exact window_kept M inb C f p h

/-- A window apart from the one refreshed reads what it read before. -/
theorem window_other (C : Prop) [Decidable C] (f : M.view.ty.Contents (Elt F)) (p : (Rect.unit off size inb).shape.Idx → Elt F e)
    {off' size' : Fin s.rank → ℕ} (inb' : ∀ a, off' a + size' a ≤ s.size a) (a : Fin s.rank)
    (ha : off' a + size' a ≤ off a ∨ off a + size a ≤ off' a) :
    window (M.view.read (Elt F) (if hc : C then M.view.writes (Elt F) f [⟨Rect.unit off size inb, p⟩] else f)) off' size' inb'
      = window (M.view.read (Elt F) f) off' size' inb' := by
  by_cases hc : C
  · rw [dif_pos hc, View.read_writes_cons_put M.view f inb p [] rfl, View.writes_nil]
    exact VecWindow.window_put_of_disjoint _ off size off' size' inb' p a ha
  · rw [dif_neg hc]

/-- A buffer's contents after two windows are refreshed, each under its condition. -/
def twice {off' size' : Fin s.rank → ℕ} (inb' : ∀ a, off' a + size' a ≤ s.size a) (C C' : Prop) [Decidable C] [Decidable C']
    (f : M.view.ty.Contents (Elt F)) (p : (Rect.unit off size inb).shape.Idx → Elt F e) (p' : (Rect.unit off' size' inb').shape.Idx → Elt F e) :
    M.view.ty.Contents (Elt F) :=
  if hc : C' then M.view.writes (Elt F) (if hc : C then M.view.writes (Elt F) f [⟨Rect.unit off size inb, p⟩] else f) [⟨Rect.unit off' size' inb', p'⟩]
  else if hc : C then M.view.writes (Elt F) f [⟨Rect.unit off size inb, p⟩] else f

/-- After them the first window reads its payload, and so does the second, if each did wherever it was not refreshed. -/
theorem window_twice_left {off' size' : Fin s.rank → ℕ} (inb' : ∀ a, off' a + size' a ≤ s.size a) (C C' : Prop) [Decidable C] [Decidable C']
    (f : M.view.ty.Contents (Elt F)) (p : (Rect.unit off size inb).shape.Idx → Elt F e) (p' : (Rect.unit off' size' inb').shape.Idx → Elt F e)
    (a : Fin s.rank) (ha : off a + size a ≤ off' a ∨ off' a + size' a ≤ off a)
    (h : ¬ C → window (M.view.read (Elt F) f) off size inb = p) :
    window (M.view.read (Elt F) (twice M inb inb' C C' f p p')) off size inb = p := by
  unfold twice
  rw [window_other M inb' C' _ p' inb a ha]
  exact window_kept M inb C f p h
theorem window_twice_right {off' size' : Fin s.rank → ℕ} (inb' : ∀ a, off' a + size' a ≤ s.size a) (C C' : Prop) [Decidable C] [Decidable C']
    (f : M.view.ty.Contents (Elt F)) (p : (Rect.unit off size inb).shape.Idx → Elt F e) (p' : (Rect.unit off' size' inb').shape.Idx → Elt F e)
    (a : Fin s.rank) (ha : off' a + size' a ≤ off a ∨ off a + size a ≤ off' a)
    (h : ¬ C' → window (M.view.read (Elt F) f) off' size' inb' = p') :
    window (M.view.read (Elt F) (twice M inb inb' C C' f p p')) off' size' inb' = p' := by
  unfold twice
  refine window_kept M inb' C' _ p' fun hc => ?_
  rw [window_other M inb C f p inb' a ha]
  exact h hc

/-- One window stored under a condition or its negation: it reads the one payload or the other. -/
theorem read_twice_same (C C' : Prop) [Decidable C] [Decidable C'] (f : M.view.ty.Contents (Elt F)) (p p' : (Rect.unit off size inb).shape.Idx → Elt F e)
    (hcc : C' ↔ ¬ C) :
    M.view.read (Elt F) (twice M inb inb C C' f p p') = put (M.view.read (Elt F) f) off size (if C then p else p') := by
  unfold twice
  by_cases hc : C
  · rw [dif_neg (fun h => hcc.1 h hc), dif_pos hc, if_pos hc, View.read_writes_cons_put M.view f inb p [] rfl]; rfl
  · rw [dif_pos (hcc.2 hc), dif_neg hc, if_neg hc, View.read_writes_cons_put M.view f inb p' [] rfl]; rfl

end Kept

/-! ## What a point works with -/

/-- The call's two tables as the body is handed them: whole buffers, held at half the full share. -/
abbrev teM : Memref sig .tc .smem S220 .i32 := Memref.whole main_arg1
abbrev hteM : teM.IsWhole := Memref.isWhole_whole _
abbrev nvM : Memref sig .tc .smem S1 .i32 := Memref.whole main_arg2
abbrev hnvM : nvM.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of the experts' table at an offset, and the number of tiles with rows. -/
def teAt {c : Dev nD} (t : TbBuf (F := F) c teM) (off : Fin 1 → ℕ) (inb : ∀ a, off a + S1.size a ≤ S220.size a) : BitVec 32 :=
  teM.view.readAt (Elt F) (Rect.unit (s := S220) off S1.size inb).toLoadRect t (Shape.Idx.first (show 0 < S1.numel by decide))
def nvAt {c : Dev nD} (t : TbBuf (F := F) c nvM) : BitVec 32 :=
  nvM.view.readAt (Elt F) (Rect.unit (s := S1) ![0] S1.size inb_S1_S1_0).toLoadRect t (Shape.Idx.first (show 0 < S1.numel by decide))

/-- When a half refreshes its copy of the weights: at the first point, or where the tile's expert is not the last one's. -/
abbrev Fresh (i : grid0.Coords) (w w' : BitVec 32) : Prop :=
  Scalar.cmpi .ne (Scalar.extui (Scalar.ori (Scalar.cmpi .eq (BitVec.ofNat 32 (i 0).val) 0#32) (Scalar.cmpi .ne w w')) : BitVec 32) 0#32 = 1#1
/-- The lower half's condition, and the upper's. -/
abbrev FreshLo {c : Dev nD} (i : grid0.Coords) (te : TbBuf (F := F) c teM) : Prop :=
  Fresh i (teAt te (k0_off1 i 0#32) (k0_off1_inb i 0)) (teAt te (k0_off2 i) (k0_off2_inb i))
abbrev FreshHi {c : Dev nD} (i : grid0.Coords) (te : TbBuf (F := F) c teM) : Prop :=
  Fresh i (teAt te (k0_off4 i) (k0_off4_inb i)) (teAt te (k0_off5 i) (k0_off5_inb i))

/-- The two halves of the kept copies. -/
abbrev upLo (y : Vec F S2x1024x512 .bf16) := window y ![0, 0, 0] S1x1024x512.size inb_S2x1024x512_S1x1024x512_0_0_0
abbrev upHi (y : Vec F S2x1024x512 .bf16) := window y ![1, 0, 0] S1x1024x512.size inb_S2x1024x512_S1x1024x512_1_0_0
abbrev dnLo (y : Vec F S2x256x1024 .bf16) := window y ![0, 0, 0] S1x256x1024.size inb_S2x256x1024_S1x256x1024_0_0_0
abbrev dnHi (y : Vec F S2x256x1024 .bf16) := window y ![1, 0, 0] S1x256x1024.size inb_S2x256x1024_S1x256x1024_1_0_0

/-- The lower halves of the kept copies are these weight blocks, rounded; the upper halves. -/
abbrev KeptLo (x1 : Vec F S1x1024x512 .f32) (x2 : Vec F S1x256x1024 .f32) (y0 : Vec F S2x1024x512 .bf16) (y1 : Vec F S2x256x1024 .bf16) : Prop :=
  upLo y0 = k0_pay3 x1 ∧ dnLo y1 = k0_pay4 x2
abbrev KeptHi (x3 : Vec F S1x1024x512 .f32) (x4 : Vec F S1x256x1024 .f32) (y0 : Vec F S2x1024x512 .bf16) (y1 : Vec F S2x256x1024 .bf16) : Prop :=
  upHi y0 = k0_pay7 x3 ∧ dnHi y1 = k0_pay8 x4

/-- A half of the output: the tile's rows through its expert, or zeros past the tiles with rows. -/
def outLo {c : Dev nD} (i : grid0.Coords) (te : TbBuf (F := F) c teM) (nv : TbBuf (F := F) c nvM)
    (x0 : Vec F S1024x1152 .bf16) (x1 : Vec F S1x1024x512 .f32) (x2 : Vec F S1x256x1024 .f32) : Vec F S512x1024 .bf16 :=
  if k0_cond2 i (nvAt nv) = 1#1 then
    k0_pay5 (window x0 ![0, 0] S512x1024.size inb_S1024x1152_S512x1024_0_0) (window x0 ![0, 1024] S512x128.size inb_S1024x1152_S512x128_0_1024)
      (teAt te (k0_off3 i) (k0_off3_inb i)) (k0_pay3 x1) (k0_pay4 x2)
  else k0_pay6
def outHi {c : Dev nD} (i : grid0.Coords) (te : TbBuf (F := F) c teM) (nv : TbBuf (F := F) c nvM)
    (x0 : Vec F S1024x1152 .bf16) (x3 : Vec F S1x1024x512 .f32) (x4 : Vec F S1x256x1024 .f32) : Vec F S512x1024 .bf16 :=
  if k0_cond5 i (nvAt nv) = 1#1 then
    k0_pay1 (window x0 ![512, 0] S512x1024.size inb_S1024x1152_S512x1024_512_0) (window x0 ![512, 1024] S512x128.size inb_S1024x1152_S512x128_512_1024)
      (teAt te (k0_off6 i) (k0_off6_inb i)) (k0_pay7 x3) (k0_pay8 x4)
  else k0_pay2

/-- Two blocks of 512 rows, one over the other. -/
def stack (a b : Vec F S512x1024 .bf16) : Vec F S1024x1024 .bf16 := fun y =>
  if h : (y 0).val < 512 then a (fun | 0 => ⟨(y 0).val, h⟩ | 1 => y 1) else b (fun | 0 => ⟨(y 0).val - 512, by have := (y 0).isLt; show _ < 512; change (y 0).val < 1024 at this; omega⟩ | 1 => y 1)

/-- What the two halves' stores leave, whatever was there. -/
theorem put_put_stack (x : Vec F S1024x1024 .bf16) (a b : Vec F S512x1024 .bf16) :
    put (put x ![0, 0] S512x1024.size a) ![512, 0] S512x1024.size b = stack a b := by
  funext y
  have h0 : (y 0).val < 1024 := (y 0).isLt
  have h1 : (y 1).val < 1024 := (y 1).isLt
  unfold put stack
  by_cases h : (y 0).val < 512
  · rw [dif_neg (fun hh => by have := (hh 0).1; change 512 ≤ (y 0).val at this; omega), dif_pos h,
      dif_pos (by intro k; match k with
        | 0 => exact ⟨Nat.zero_le _, by show (y 0).val < 0 + 512; omega⟩
        | 1 => exact ⟨Nat.zero_le _, by show (y 1).val < 0 + 1024; omega⟩)]
    exact congrArg a (funext fun k => match k with
      | 0 => Fin.ext (by show (y 0).val - 0 = _; rfl)
      | 1 => Fin.ext (by show (y 1).val - 0 = _; rfl))
  · rw [dif_neg h, dif_pos (by intro k; match k with
        | 0 => exact ⟨by show 512 ≤ (y 0).val; omega, by show (y 0).val < 512 + 512; omega⟩
        | 1 => exact ⟨Nat.zero_le _, by show (y 1).val < 0 + 1024; omega⟩)]
    exact congrArg b (funext fun k => match k with
      | 0 => Fin.ext (by show (y 0).val - 512 = _; rfl)
      | 1 => Fin.ext (by show (y 1).val - 0 = _; rfl))

/-- A comparison's bit, widened and compared with zero, as a branch reads it. -/
theorem bit_iff (p : Prop) [Decidable p] : Scalar.cmpi .ne (Scalar.extui (BitVec.ofBool (decide p)) : BitVec 32) 0#32 = 1#1 ↔ p := by
  by_cases h : p
  · simp only [h, decide_true, iff_true]; decide
  · simp only [h, decide_false, iff_false]; decide

/-- The lower half has rows when its tile, twice the point, is under the number of tiles with rows; the upper the next tile. -/
abbrev tileLo (i : grid0.Coords) : BitVec 32 := Scalar.addi (Scalar.muli (BitVec.ofNat 32 (i 0).val) 2#32) 0#32
abbrev tileHi (i : grid0.Coords) : BitVec 32 := Scalar.addi (Scalar.muli (BitVec.ofNat 32 (i 0).val) 2#32) 1#32
theorem cond2_iff (i : grid0.Coords) (w : BitVec 32) : k0_cond2 i w = 1#1 ↔ (tileLo i).toInt < w.toInt := bit_iff _
theorem cond5_iff (i : grid0.Coords) (w : BitVec 32) : k0_cond5 i w = 1#1 ↔ (tileHi i).toInt < w.toInt := bit_iff _
/-- Exactly one of a half's two stores happens. -/
theorem cond3_iff (i : grid0.Coords) (w : BitVec 32) : k0_cond3 i w = 1#1 ↔ ¬ k0_cond2 i w = 1#1 := by
  rw [cond2_iff]; exact (bit_iff (w.toInt ≤ (tileLo i).toInt)).trans not_lt.symm
theorem cond6_iff (i : grid0.Coords) (w : BitVec 32) : k0_cond6 i w = 1#1 ↔ ¬ k0_cond5 i w = 1#1 := by
  rw [cond5_iff]; exact (bit_iff (w.toInt ≤ (tileHi i).toInt)).trans not_lt.symm

/-- What the two kept copies' buffers hold after the point. -/
abbrev upAfter {c : Dev nD} (i : grid0.Coords) (te : TbBuf (F := F) c teM) (arg4 : Memref sig .tc .vmem S1x1024x512 .f32) (harg4 : arg4.IsWhole)
    (arg6 : Memref sig .tc .vmem S1x1024x512 .f32) (harg6 : arg6.IsWhole) (arg9 : Memref sig .tc .vmem S2x1024x512 .bf16) (harg9 : arg9.IsWhole)
    (x1 x3 : Vec F S1x1024x512 .f32) (y0 : Vec F S2x1024x512 .bf16) : arg9.view.ty.Contents (Elt F) :=
  twice arg9 inb_S2x1024x512_S1x1024x512_0_0_0 inb_S2x1024x512_S1x1024x512_1_0_0 (FreshLo i te) (FreshHi i te) (harg9.unread y0)
    (k0_pay3 (arg4.view.readAt (Elt F) (Rect.unit ![0, 0, 0] S1x1024x512.size inb_S1x1024x512_S1x1024x512_0_0_0).toLoadRect (harg4.unread x1)))
    (k0_pay7 (arg6.view.readAt (Elt F) (Rect.unit ![0, 0, 0] S1x1024x512.size inb_S1x1024x512_S1x1024x512_0_0_0).toLoadRect (harg6.unread x3)))
abbrev dnAfter {c : Dev nD} (i : grid0.Coords) (te : TbBuf (F := F) c teM) (arg5 : Memref sig .tc .vmem S1x256x1024 .f32) (harg5 : arg5.IsWhole)
    (arg7 : Memref sig .tc .vmem S1x256x1024 .f32) (harg7 : arg7.IsWhole) (arg10 : Memref sig .tc .vmem S2x256x1024 .bf16) (harg10 : arg10.IsWhole)
    (x2 x4 : Vec F S1x256x1024 .f32) (y1 : Vec F S2x256x1024 .bf16) : arg10.view.ty.Contents (Elt F) :=
  twice arg10 inb_S2x256x1024_S1x256x1024_0_0_0 inb_S2x256x1024_S1x256x1024_1_0_0 (FreshLo i te) (FreshHi i te) (harg10.unread y1)
    (k0_pay4 (arg5.view.readAt (Elt F) (Rect.unit ![0, 0, 0] S1x256x1024.size inb_S1x256x1024_S1x256x1024_0_0_0).toLoadRect (harg5.unread x2)))
    (k0_pay8 (arg7.view.readAt (Elt F) (Rect.unit ![0, 0, 0] S1x256x1024.size inb_S1x256x1024_S1x256x1024_0_0_0).toLoadRect (harg7.unread x4)))

set_option maxHeartbeats 1000000 in
/-- THE BODY: on whole staging buffers holding the point's blocks, with the kept copies right wherever they are not
    refreshed, it leaves the inputs as they were, the two halves' outputs, and the kept copies right. -/
theorem body_run (c : Dev nD) (i : grid0.Coords) (arg3 : Memref sig .tc .vmem S1024x1152 .bf16) (harg3 : arg3.IsWhole) (arg4 : Memref sig .tc .vmem S1x1024x512 .f32) (harg4 : arg4.IsWhole) (arg5 : Memref sig .tc .vmem S1x256x1024 .f32) (harg5 : arg5.IsWhole) (arg6 : Memref sig .tc .vmem S1x1024x512 .f32) (harg6 : arg6.IsWhole) (arg7 : Memref sig .tc .vmem S1x256x1024 .f32) (harg7 : arg7.IsWhole) (arg8 : Memref sig .tc .vmem S1024x1024 .bf16) (harg8 : arg8.IsWhole) (arg9 : Memref sig .tc .vmem S2x1024x512 .bf16) (harg9 : arg9.IsWhole) (arg10 : Memref sig .tc .vmem S2x256x1024 .bf16) (harg10 : arg10.IsWhole)
    (x0 : Vec F S1024x1152 .bf16) (x1 : Vec F S1x1024x512 .f32) (x2 : Vec F S1x256x1024 .f32) (x3 : Vec F S1x1024x512 .f32) (x4 : Vec F S1x256x1024 .f32)
    (x5 : Vec F S1024x1024 .bf16) (y0 : Vec F S2x1024x512 .bf16) (y1 : Vec F S2x256x1024 .bf16) (te : TbBuf (F := F) c teM) (nv : TbBuf (F := F) c nvM)
    (hlo : ¬ FreshLo i te → KeptLo x1 x2 y0 y1) (hhi : ¬ FreshHi i te → KeptHi x3 x4 y0 y1) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare y0 ∗ owns (c : Thread nD τ) arg10 fullShare y1 ∗ tbPt c teM te ∗ tbPt c nvM nv
        ∗ (∀ z0 z1, iprop(owns (c : Thread nD τ) arg9 fullShare z0 ∗ owns (c : Thread nD τ) arg10 fullShare z1 ∗ owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
            ∗ owns (c : Thread nD τ) arg8 fullShare (stack (outLo i te nv x0 x1 x2) (outHi i te nv x0 x3 x4))
            ∗ tbPt c teM te ∗ tbPt c nvM nv ∗ ⌜KeptLo x1 x2 z0 z1 ∧ KeptHi x3 x4 z0 z1⌝) -∗ K ⟨⟩))
      ⊢ wp frame (wpE (defs₀ (F := F)) Variants.none c none) E (cc0_moe_experts i teM hteM nvM hnvM arg3 harg3 arg4 harg4 arg5 harg5 arg6 harg6 arg7 harg7 arg8 harg8 arg9 harg9 arg10 harg10) K := by
  simp only [cc0_moe_experts_eq_skeleton, k0_part1_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hf5; obtain rfl := harg9.eq_unread hs0; obtain rfl := harg10.eq_unread hs1
  sl_exec
  sl_step
  have k1 : k0_pay3 (arg4.view.readAt (Elt F) (Rect.unit ![0, 0, 0] S1x1024x512.size inb_S1x1024x512_S1x1024x512_0_0_0).toLoadRect (harg4.unread x1)) = k0_pay3 x1 := by
    rw [View.readAt_full, hf1]
  have k2 : k0_pay4 (arg5.view.readAt (Elt F) (Rect.unit ![0, 0, 0] S1x256x1024.size inb_S1x256x1024_S1x256x1024_0_0_0).toLoadRect (harg5.unread x2)) = k0_pay4 x2 := by
    rw [View.readAt_full, hf2]
  have k3 : k0_pay7 (arg6.view.readAt (Elt F) (Rect.unit ![0, 0, 0] S1x1024x512.size inb_S1x1024x512_S1x1024x512_0_0_0).toLoadRect (harg6.unread x3)) = k0_pay7 x3 := by
    rw [View.readAt_full, hf3]
  have k4 : k0_pay8 (arg7.view.readAt (Elt F) (Rect.unit ![0, 0, 0] S1x256x1024.size inb_S1x256x1024_S1x256x1024_0_0_0).toLoadRect (harg7.unread x4)) = k0_pay8 x4 := by
    rw [View.readAt_full, hf4]
  have q1 : upLo (arg9.view.read (Elt F) (upAfter i te arg4 harg4 arg6 harg6 arg9 harg9 x1 x3 y0)) = k0_pay3 x1 :=
    (window_twice_left arg9 _ _ _ _ _ _ _ 0 (.inl (by decide)) fun h => by rw [k1, hs0]; exact (hlo h).1).trans k1
  have q2 : dnLo (arg10.view.read (Elt F) (dnAfter i te arg5 harg5 arg7 harg7 arg10 harg10 x2 x4 y1)) = k0_pay4 x2 :=
    (window_twice_left arg10 _ _ _ _ _ _ _ 0 (.inl (by decide)) fun h => by rw [k2, hs1]; exact (hlo h).2).trans k2
  have q3 : upHi (arg9.view.read (Elt F) (upAfter i te arg4 harg4 arg6 harg6 arg9 harg9 x1 x3 y0)) = k0_pay7 x3 :=
    (window_twice_right arg9 _ _ _ _ _ _ _ 0 (.inr (by decide)) fun h => by rw [k3, hs0]; exact (hhi h).1).trans k3
  have q4 : dnHi (arg10.view.read (Elt F) (dnAfter i te arg5 harg5 arg7 harg7 arg10 harg10 x2 x4 y1)) = k0_pay8 x4 :=
    (window_twice_right arg10 _ _ _ _ _ _ _ 0 (.inr (by decide)) fun h => by rw [k4, hs1]; exact (hhi h).2).trans k4
  ispecialize Hk $$ %(arg9.view.read (Elt F) (upAfter i te arg4 harg4 arg6 harg6 arg9 harg9 x1 x3 y0)) %(arg10.view.read (Elt F) (dnAfter i te arg5 harg5 arg7 harg7 arg10 harg10 x2 x4 y1))
  iapply Hk
  isplitl [HS0]
  · iexists (upAfter i te arg4 harg4 arg6 harg6 arg9 harg9 x1 x3 y0); isplitr; · ipureintro; rfl
    iexact HS0
  isplitl [HS1]
  · iexists (dnAfter i te arg5 harg5 arg7 harg7 arg10 harg10 x2 x4 y1); isplitr; · ipureintro; rfl
    iexact HS1
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _
    isplitr
    rotate_left
    · iexact H5
    · ipureintro
      show arg8.view.read (Elt F) (twice arg8 inb_S1024x1024_S512x1024_512_0 inb_S1024x1024_S512x1024_512_0 (k0_cond5 i (nvAt nv) = 1#1) (k0_cond6 i (nvAt nv) = 1#1)
        (twice arg8 inb_S1024x1024_S512x1024_0_0 inb_S1024x1024_S512x1024_0_0 (k0_cond2 i (nvAt nv) = 1#1) (k0_cond3 i (nvAt nv) = 1#1) (harg8.unread x5)
          (k0_pay5 (arg3.view.readAt (Elt F) (Rect.unit (s := S1024x1152) ![0, 0] S512x1024.size inb_S1024x1152_S512x1024_0_0).toLoadRect (harg3.unread x0))
            (arg3.view.readAt (Elt F) (Rect.unit (s := S1024x1152) ![0, 1024] S512x128.size inb_S1024x1152_S512x128_0_1024).toLoadRect (harg3.unread x0))
            (teAt te (k0_off3 i) (k0_off3_inb i)) (body_run.sl.v58 c i arg4 harg4 arg9 harg9 x1 y0 te) (body_run.sl.v69 c i arg5 harg5 arg10 harg10 x2 y1 te)) k0_pay6)
        (k0_pay1 (arg3.view.readAt (Elt F) (Rect.unit (s := S1024x1152) ![512, 0] S512x1024.size inb_S1024x1152_S512x1024_512_0).toLoadRect (harg3.unread x0))
            (arg3.view.readAt (Elt F) (Rect.unit (s := S1024x1152) ![512, 1024] S512x128.size inb_S1024x1152_S512x128_512_1024).toLoadRect (harg3.unread x0))
            (teAt te (k0_off6 i) (k0_off6_inb i)) (body_run.sl.v58_1 c i arg4 harg4 arg6 harg6 arg9 harg9 x1 x3 y0 te) (body_run.sl.v69_1 c i arg5 harg5 arg7 harg7 arg10 harg10 x2 x4 y1 te)) k0_pay2) = _
      rw [read_twice_same _ _ _ _ _ _ _ (cond6_iff i _), read_twice_same _ _ _ _ _ _ _ (cond3_iff i _), put_put_stack]
      have e58 : body_run.sl.v58 c i arg4 harg4 arg9 harg9 x1 y0 te = k0_pay3 x1 :=
        (readAt_kept arg9 inb_S2x1024x512_S1x1024x512_0_0_0 (FreshLo i te) (harg9.unread y0) _ fun h => by rw [k1, hs0]; exact (hlo h).1).trans k1
      have e69 : body_run.sl.v69 c i arg5 harg5 arg10 harg10 x2 y1 te = k0_pay4 x2 :=
        (readAt_kept arg10 inb_S2x256x1024_S1x256x1024_0_0_0 (FreshLo i te) (harg10.unread y1) _ fun h => by rw [k2, hs1]; exact (hlo h).2).trans k2
      have e58' : body_run.sl.v58_1 c i arg4 harg4 arg6 harg6 arg9 harg9 x1 x3 y0 te = k0_pay7 x3 :=
        (View.readAt_unit arg9.view (upAfter i te arg4 harg4 arg6 harg6 arg9 harg9 x1 x3 y0) inb_S2x1024x512_S1x1024x512_1_0_0 rfl inb_S2x1024x512_S1x1024x512_1_0_0).trans q3
      have e69' : body_run.sl.v69_1 c i arg5 harg5 arg7 harg7 arg10 harg10 x2 x4 y1 te = k0_pay8 x4 :=
        (View.readAt_unit arg10.view (dnAfter i te arg5 harg5 arg7 harg7 arg10 harg10 x2 x4 y1) inb_S2x256x1024_S1x256x1024_1_0_0 rfl inb_S2x256x1024_S1x256x1024_1_0_0).trans q4
      rw [e58, e69, e58', e69', View.readAt_unit arg3.view _ inb_S1024x1152_S512x1024_0_0 rfl inb_S1024x1152_S512x1024_0_0,
        View.readAt_unit arg3.view _ inb_S1024x1152_S512x128_0_1024 rfl inb_S1024x1152_S512x128_0_1024,
        View.readAt_unit arg3.view _ inb_S1024x1152_S512x1024_512_0 rfl inb_S1024x1152_S512x1024_512_0,
        View.readAt_unit arg3.view _ inb_S1024x1152_S512x128_512_1024 rfl inb_S1024x1152_S512x128_512_1024, hf0]
      rfl
  isplitl [HT0]; · iexact HT0
  isplitl [HT1]; · iexact HT1
  ipureintro
  exact ⟨⟨q1, q2⟩, q3, q4⟩

end Cert.Expert

end
-- ==== Proof.Expert.Kit.lean ====
module

public import proofs.«01_k».proof.Proof.Expert.Run

@[expose] public section

set_option maxRecDepth 16384

noncomputable section

namespace Cert.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (put window)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The expert call's region: its arrays, its tables, and the blocks its windows bring -/

/-- Core `c`'s buffers when the region is entered: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents when the region is entered; there is one device. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The blocks that the tables name lie inside their arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves that the region lends the body. -/
theorem PhiT_eq (c : Dev nD) : (Pipeline.ΦT pre0 (tbl m) c : sProp 𝕄) = iprop(tbPt c teM (tbl m 0) ∗ tbPt c nvM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The output is written back at every point. -/
theorem flush_out (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The kernel's body at point `t`, as the pipeline calls it. -/
abbrev bodyAt (a : (pcfg0 (F := F)).Adm) (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-- The kept copies' buffers. -/
abbrev upM : Memref sig .tc .vmem S2x1024x512 .bf16 := Memref.whole cc0_scratch0
abbrev dnM : Memref sig .tc .vmem S2x256x1024 .bf16 := Memref.whole cc0_scratch1
theorem PhiA_eq (c : Dev nD) :
    (Pipeline.ΦA spec0 c : sProp 𝕄)
      = iprop(iprop((∃ d, owns (c : Thread nD τ) upM fullShare d) ∗ (∃ d, owns (c : Thread nD τ) dnM fullShare d)) ∗ (∃ r, prngReg c r)) := by
  unfold Pipeline.ΦA; rw [scopedRest0_eq]; simp only [upM, dnM, owns_whole]; try rfl

/-! ## The tables' words -/

/-- Word `k` of the experts' table, and the number of tiles with rows. -/
abbrev wordOf (A : IVec S220 32) (k : ℕ) (hk : k < 220) : BitVec 32 := A (fun | 0 => ⟨k, hk⟩)
abbrev oneOf (A : IVec S1 32) : BitVec 32 := A (fun | 0 => ⟨0, Nat.one_pos⟩)
abbrev te (k : ℕ) (hk : k < 220) : BitVec 32 := wordOf (tbl m 0) k hk
abbrev nv : BitVec 32 := oneOf (tbl m 1)

theorem teAt_eq {c : Dev nD} (off : Fin 1 → ℕ) (inb : ∀ a, off a + S1.size a ≤ S220.size a) (k : ℕ) (h : off 0 = k) (hk : k < 220) :
    teAt (c := c) (tbl m 0) off inb = te m k hk := by
  subst h
  exact congrArg (tbl m 0 : IVec S220 32) (funext fun a => match a with | 0 => Fin.ext (Nat.add_zero _))
theorem at_eq (off : Fin 1 → ℕ) (inb : ∀ a, off a + S1.size a ≤ S220.size a) (k : ℕ) (h : off 0 = k) (hk : k < 220) (h1 : S1.numel = 1) :
    (tbl m).at 0 (Rect.unit (s := S220) off S1.size inb) h1 = te m k hk := teAt_eq (c := 0) m off inb k h hk
theorem nvAt_eq {c : Dev nD} : nvAt (c := c) (tbl m 1) = nv m :=
  congrArg (tbl m 1 : IVec S1 32) (funext fun a => match a with | 0 => rfl)

/-- The grid's coordinate is the point. -/
theorem coord (t : Fin grid0.N) : (grid0.coords t 0).val = t.val := by
  have ht : t.val < 110 := Nat.lt_of_lt_of_eq t.isLt N_0
  rw [show (grid0.coords t 0).val = t.val / 1 % 110 from Pipeline.Grid.coords_val t 0 (by decide) rfl, Nat.div_one, Nat.mod_eq_of_lt ht]

/-- The two tiles of a point, and the two of the point before, as the kernel computes them. -/
theorem word_lo : ∀ n : Fin 110, (Scalar.indexCast (Scalar.addi (Scalar.muli (BitVec.ofNat 32 n.val) 2#32) 0#32)).toNat = 2 * n.val := by decide +kernel
theorem word_hi : ∀ n : Fin 110, (Scalar.indexCast (Scalar.addi (Scalar.muli (BitVec.ofNat 32 n.val) 2#32) 1#32)).toNat = 2 * n.val + 1 := by decide +kernel
theorem word_lo_before : ∀ n : Fin 110, (Scalar.indexCast (Scalar.maxsi (Scalar.subi (Scalar.addi (Scalar.muli (BitVec.ofNat 32 n.val) 2#32) 0#32) 2#32) 0#32)).toNat = 2 * (n.val - 1) := by decide +kernel
theorem word_hi_before : ∀ n : Fin 110, n.val ≠ 0 → (Scalar.indexCast (Scalar.maxsi (Scalar.subi (Scalar.addi (Scalar.muli (BitVec.ofNat 32 n.val) 2#32) 1#32) 2#32) 0#32)).toNat = 2 * (n.val - 1) + 1 := by decide +kernel

theorem off1_lo (i : grid0.Coords) : k0_off1 i 0#32 0 = 2 * (i 0).val := word_lo (i 0)
theorem off1_hi (i : grid0.Coords) : k0_off1 i 1#32 0 = 2 * (i 0).val + 1 := word_hi (i 0)
theorem off2_eq (i : grid0.Coords) : k0_off2 i 0 = 2 * ((i 0).val - 1) := word_lo_before (i 0)
theorem off3_eq (i : grid0.Coords) : k0_off3 i 0 = 2 * (i 0).val := word_lo (i 0)
theorem off4_eq (i : grid0.Coords) : k0_off4 i 0 = 2 * (i 0).val + 1 := word_hi (i 0)
theorem off5_eq (i : grid0.Coords) (h : (i 0).val ≠ 0) : k0_off5 i 0 = 2 * ((i 0).val - 1) + 1 := word_hi_before (i 0) h
theorem off6_eq (i : grid0.Coords) : k0_off6 i 0 = 2 * (i 0).val + 1 := word_hi (i 0)

/-- A half that is not refreshed is past the first point, and its expert is the last point's. -/
theorem not_fresh (i : grid0.Coords) (w w' : BitVec 32) (h : ¬ Fresh i w w') : (i 0).val ≠ 0 ∧ w = w' := by
  have hb : ∀ a b : BitVec 1, ¬ (Scalar.cmpi .ne (Scalar.extui (Scalar.ori a b) : BitVec 32) 0#32 = 1#1) → a = 0#1 ∧ b = 0#1 := by decide
  obtain ⟨ha, hb⟩ := hb _ _ h
  constructor
  · intro e
    have : Scalar.cmpi .eq (BitVec.ofNat 32 (i 0).val) 0#32 = 1#1 := by rw [e]; decide
    rw [this] at ha; exact absurd ha (by decide)
  · by_contra hne
    have : Scalar.cmpi .ne w w' = 1#1 := by
      simp only [Scalar.cmpi, IntOp.cmpi, bne_iff_ne.mpr hne]; rfl
    rw [this] at hb; exact absurd hb (by decide)

/-! ## The weight blocks -/

/-- The array's slab of one expert. -/
def upSlab (A : Vec F S64x1024x512 .f32) (e : ℕ) (he : e < 64) : Vec F S1x1024x512 .f32 := fun y => A (fun | 0 => ⟨e, he⟩ | 1 => y 1 | 2 => y 2)
def dnSlab (A : Vec F S64x256x1024 .f32) (e : ℕ) (he : e < 64) : Vec F S1x256x1024 .f32 := fun y => A (fun | 0 => ⟨e, he⟩ | 1 => y 1 | 2 => y 2)

theorem tile_lt (t : Fin grid0.N) : 2 * t.val < 220 ∧ 2 * t.val + 1 < 220 := by
  have ht : t.val < 110 := Nat.lt_of_lt_of_eq t.isLt N_0
  omega

/-- The expert that the maps of windows 1 and 2 name at a point, and windows 3 and 4. -/
theorem map_lo (t : Fin grid0.N) : cc0_transform_1 k0_off1_inb numel1_S1 (tbl m) (grid0.coords t) = ![(te m (2 * t.val) (tile_lt t).1).toNat, 0, 0] := by
  have h : (tbl m).at 0 (Rect.unit (s := S220) (k0_off1 (grid0.coords t) 0#32) S1.size (k0_off1_inb (grid0.coords t) 0)) numel1_S1 = te m (2 * t.val) (tile_lt t).1 :=
    at_eq m _ _ _ ((off1_lo _).trans (by rw [coord])) _ _
  show ![(Scalar.addi 0#32 ((tbl m).at 0 (Rect.unit (s := S220) (k0_off1 (grid0.coords t) 0#32) S1.size (k0_off1_inb (grid0.coords t) 0)) numel1_S1)).toNat, 0, 0] = _
  rw [h, show Scalar.addi 0#32 (te m (2 * t.val) (tile_lt t).1) = te m (2 * t.val) (tile_lt t).1 from BitVec.zero_add _]
theorem map_hi (t : Fin grid0.N) : cc0_transform_3 k0_off1_inb numel1_S1 (tbl m) (grid0.coords t) = ![(te m (2 * t.val + 1) (tile_lt t).2).toNat, 0, 0] := by
  have h : (tbl m).at 0 (Rect.unit (s := S220) (k0_off1 (grid0.coords t) 1#32) S1.size (k0_off1_inb (grid0.coords t) 1)) numel1_S1 = te m (2 * t.val + 1) (tile_lt t).2 :=
    at_eq m _ _ _ ((off1_hi _).trans (by rw [coord])) _ _
  show ![(Scalar.addi 0#32 ((tbl m).at 0 (Rect.unit (s := S220) (k0_off1 (grid0.coords t) 1#32) S1.size (k0_off1_inb (grid0.coords t) 1)) numel1_S1)).toNat, 0, 0] = _
  rw [h, show Scalar.addi 0#32 (te m (2 * t.val + 1) (tile_lt t).2) = te m (2 * t.val + 1) (tile_lt t).2 from BitVec.zero_add _]

/-- The experts named lie among the array's. -/
theorem te_lo_lt (hO : Ok m) (t : Fin grid0.N) : (te m (2 * t.val) (tile_lt t).1).toNat < 64 := by
  obtain ⟨h, -⟩ := hO.2.1 (grid0.coords t)
  have := h 0
  rw [map_lo] at this
  change ((te m (2 * t.val) (tile_lt t).1).toNat + 1) * 1 ≤ 64 at this
  omega
theorem te_hi_lt (hO : Ok m) (t : Fin grid0.N) : (te m (2 * t.val + 1) (tile_lt t).2).toNat < 64 := by
  obtain ⟨h, -⟩ := hO.2.2.2.1 (grid0.coords t)
  have := h 0
  rw [map_hi] at this
  change ((te m (2 * t.val + 1) (tile_lt t).2).toNat + 1) * 1 ≤ 64 at this
  omega

/-- A block at `[e, 0, 0]` is the slab of `e`. -/
theorem read_upSlab (A : Vec F S64x1024x512 .f32) (ix : Fin 3 → ℕ) (e : ℕ) (he : e < 64) (h : ix = ![e, 0, 0]) (y : S1x1024x512.Idx)
    (inb : ∀ a : Fin 3, ix a * S1x1024x512.size a + 1 * (y a).val < S64x1024x512.size a) :
    A (fun a => ⟨ix a * S1x1024x512.size a + 1 * (y a).val, inb a⟩) = upSlab A e he y := by
  subst h
  exact congrArg A (funext fun a => Fin.ext (match a with
    | 0 => by have : (y 0).val < 1 := (y 0).isLt; show e * 1 + 1 * (y 0).val = e; omega
    | 1 => by show 0 * 1024 + 1 * (y 1).val = (y 1).val; omega
    | 2 => by show 0 * 512 + 1 * (y 2).val = (y 2).val; omega))
theorem read_dnSlab (A : Vec F S64x256x1024 .f32) (ix : Fin 3 → ℕ) (e : ℕ) (he : e < 64) (h : ix = ![e, 0, 0]) (y : S1x256x1024.Idx)
    (inb : ∀ a : Fin 3, ix a * S1x256x1024.size a + 1 * (y a).val < S64x256x1024.size a) :
    A (fun a => ⟨ix a * S1x256x1024.size a + 1 * (y a).val, inb a⟩) = dnSlab A e he y := by
  subst h
  exact congrArg A (funext fun a => Fin.ext (match a with
    | 0 => by have : (y 0).val < 1 := (y 0).isLt; show e * 1 + 1 * (y 0).val = e; omega
    | 1 => by show 0 * 256 + 1 * (y 1).val = (y 1).val; omega
    | 2 => by show 0 * 1024 + 1 * (y 2).val = (y 2).val; omega))

theorem iblk_1 (hO : Ok m) (c : Dev nD) (t : Fin grid0.N) : iblk m hO c 1 t = upSlab (V m c main_arg3) (te m (2 * t.val) (tile_lt t).1).toNat (te_lo_lt m hO t) :=
  funext fun y => read_upSlab (V m c main_arg3) _ _ (te_lo_lt m hO t) (map_lo m t) y _
theorem iblk_2 (hO : Ok m) (c : Dev nD) (t : Fin grid0.N) : iblk m hO c 2 t = dnSlab (V m c main_arg4) (te m (2 * t.val) (tile_lt t).1).toNat (te_lo_lt m hO t) :=
  funext fun y => read_dnSlab (V m c main_arg4) _ _ (te_lo_lt m hO t) (map_lo m t) y _
theorem iblk_3 (hO : Ok m) (c : Dev nD) (t : Fin grid0.N) : iblk m hO c 3 t = upSlab (V m c main_arg3) (te m (2 * t.val + 1) (tile_lt t).2).toNat (te_hi_lt m hO t) :=
  funext fun y => read_upSlab (V m c main_arg3) _ _ (te_hi_lt m hO t) (map_hi m t) y _
theorem iblk_4 (hO : Ok m) (c : Dev nD) (t : Fin grid0.N) : iblk m hO c 4 t = dnSlab (V m c main_arg4) (te m (2 * t.val + 1) (tile_lt t).2).toNat (te_hi_lt m hO t) :=
  funext fun y => read_dnSlab (V m c main_arg4) _ _ (te_hi_lt m hO t) (map_hi m t) y _

/-- A half that is not refreshed at a point works the expert it worked at the point before. -/
theorem same_lo {c : Dev nD} (t : Fin grid0.N) (h : ¬ FreshLo (c := c) (grid0.coords t) (tbl m 0)) :
    t.val ≠ 0 ∧ te m (2 * t.val) (tile_lt t).1 = te m (2 * (t.val - 1)) (by have := tile_lt t; omega) := by
  obtain ⟨h0, hw⟩ := not_fresh _ _ _ h
  rw [coord] at h0
  rw [teAt_eq m _ _ (2 * t.val) ((off1_lo _).trans (by rw [coord])) (tile_lt t).1,
    teAt_eq m _ _ (2 * (t.val - 1)) ((off2_eq _).trans (by rw [coord])) (by have := tile_lt t; omega)] at hw
  exact ⟨h0, hw⟩
theorem same_hi {c : Dev nD} (t : Fin grid0.N) (h : ¬ FreshHi (c := c) (grid0.coords t) (tbl m 0)) :
    t.val ≠ 0 ∧ te m (2 * t.val + 1) (tile_lt t).2 = te m (2 * (t.val - 1) + 1) (by have := tile_lt t; omega) := by
  obtain ⟨h0, hw⟩ := not_fresh _ _ _ h
  rw [teAt_eq m _ _ (2 * t.val + 1) ((off4_eq _).trans (by rw [coord])) (tile_lt t).2,
    teAt_eq m _ _ (2 * (t.val - 1) + 1) ((off5_eq _ h0).trans (by rw [coord])) (by have := tile_lt t; omega)] at hw
  rw [coord] at h0
  exact ⟨h0, hw⟩

end Cert.Expert

end
-- ==== Proof.Expert.Pre.lean ====
module

public import proofs.«01_k».proof.Proof.Expert.Kit
public import proofs.«01_k».proof.Proof.Gen.Pre_tables
public import Idealize.ShloMosaic.Lib.WordArith
public import Idealize.ShloMosaic.Lib.Routing.Words

@[expose] public section

set_option maxRecDepth 16384

noncomputable section

namespace Cert.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (put window)

open Idealize.ShloMosaic.WordCmp Idealize.ShloMosaic.Routing

variable {F : FTy → Type} [FloatOps F]
variable (m : (ℓ : Loc nD τ sig) → Buf (Elt F) ℓ)

/-! # The precondition: what it says of the tables, and that the blocks they name lie inside the arrays -/

/-- Every tile's expert is one of the 64 stacked, and at least one tile has rows. -/
def Tables : Prop := (∀ k hk, (te m k hk).toNat < 64) ∧ ∃ a : ℕ, a + 1 < 2 ^ 31 ∧ nv m = BitVec.ofNat 32 (a + 1)

theorem andi_one (a b : BitVec 1) : IntOp.andi a b = 1#1 ↔ a = 1#1 ∧ b = 1#1 := by revert a b; decide

/-- The precondition's first result says the first. -/
theorem experts_of (x0 x3 x4) (A : IVec S220 32) (B : IVec S1 32) (h : (Cert.Pre_tables.fn (F := F) x0 A B x3 x4).1 = fun _ => 1#1)
    (k : ℕ) (hk : k < 220) : (wordOf A k hk).toNat < 64 := by
  have h' : IntOp.andi (IntOp.cmpi .sge (wordOf A k hk) 0#32) (IntOp.cmpi .slt (wordOf A k hk) 64#32) = 1#1 := congrFun h _
  rw [show (64#32 : BitVec 32) = BitVec.ofNat 32 64 from rfl, andi_sge_zero_slt_ofNat (by decide), ofBool_decide_eq_one_iff] at h'
  exact h'
/-- Its second result says the second. -/
theorem count_of (x0 x3 x4) (A : IVec S220 32) (B : IVec S1 32) (h : (Cert.Pre_tables.fn (F := F) x0 A B x3 x4).2 = fun _ => 1#1) :
    ∃ a : ℕ, a + 1 < 2 ^ 31 ∧ oneOf B = BitVec.ofNat 32 (a + 1) := by
  have h' : IntOp.cmpi .sge (oneOf B) 1#32 = 1#1 := congrFun h _
  rw [cmpi_sge_eq, ofBool_decide_eq_one_iff, show (1#32 : BitVec 32).toInt = 1 from rfl] at h'
  have e := BitVec.toInt_eq_toNat_cond (oneOf B)
  have hl := (oneOf B).isLt
  refine ⟨(oneOf B).toNat - 1, by split at e <;> omega, ?_⟩
  rw [show (oneOf B).toNat - 1 + 1 = (oneOf B).toNat by split at e <;> omega, BitVec.ofNat_toNat, BitVec.setWidth_eq]

/-! ## The row block a point reads -/

/-- The rounded half of a word, as the kernel's index map computes it. -/
abbrev floorHalf (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 2#32 0#32)) (Scalar.extui (Scalar.cmpi .slt 2#32 0#32) : BitVec 32)))
      (Scalar.cmpi .ne (Scalar.remsi v 2#32) 0#32))
    (Scalar.subi (Scalar.divsi v 2#32) 1#32) (Scalar.divsi v 2#32)

theorem floorHalf_word (a : ℕ) (ha : a < 2 ^ 31) : floorHalf (BitVec.ofNat 32 a) = BitVec.ofNat 32 (a / 2) := by
  have hd : Scalar.divsi (BitVec.ofNat 32 a) 2#32 = BitVec.ofNat 32 (a / 2) := divsi_word .scalar (b := 2) ha (by decide) (by decide)
  have hr : Scalar.remsi (BitVec.ofNat 32 a) 2#32 = BitVec.ofNat 32 (a % 2) := remsi_word .scalar (b := 2) ha (by decide) (by decide)
  have hs : Scalar.cmpi .slt (BitVec.ofNat 32 a) 0#32 = 0#1 := by
    refine (cmpi_slt_ofNat (w := 32) (b := 0) ha (by decide)).trans ?_
    simp
  have hg : Scalar.cmpi .sgt (BitVec.ofNat 32 a) 0#32 = BitVec.ofBool (decide (0 < a)) := cmpi_sgt_ofNat (w := 32) (b := 0) ha (by decide)
  unfold floorHalf
  rw [hd, hr, hs, hg]
  have hc : ∀ (p : Bool) (q : BitVec 1), (p = false → q = 0#1) → Scalar.andi (Scalar.cmpi .ne (Scalar.subi (Scalar.extui (BitVec.ofBool p)) (Scalar.extui 0#1))
      (Scalar.subi (Scalar.extui (Scalar.cmpi .sgt 2#32 0#32)) (Scalar.extui (Scalar.cmpi .slt 2#32 0#32) : BitVec 32))) q = 0#1 := by
    intro p q h
    cases p with
    | true => revert q; decide
    | false => rw [h rfl]; decide
  rw [hc _ _ (fun h => by
    have h0 : a = 0 := by have := of_decide_eq_false h; omega
    subst h0; rfl)]
  rfl

/-- Rows' block: the point's own, or the last that has rows. -/
theorem map_x (t : Fin grid0.N) (a : ℕ) (ha : a + 1 < 2 ^ 31) (h : nv m = BitVec.ofNat 32 (a + 1)) :
    cc0_transform_0 inb_S1_S1_0 numel1_S1 (tbl m) (grid0.coords t) = ![min t.val (a / 2), 0] := by
  have ht : t.val < 110 := Nat.lt_of_lt_of_eq t.isLt N_0
  have hn : (tbl m).at 1 (Rect.unit (s := S1) ![0] S1.size inb_S1_S1_0) numel1_S1 = BitVec.ofNat 32 (a + 1) := (nvAt_eq (c := 0) m).trans h
  have hsub : Scalar.subi (BitVec.ofNat 32 (a + 1)) 1#32 = BitVec.ofNat 32 a := by
    apply BitVec.eq_of_toNat_eq
    show (BitVec.ofNat 32 (a + 1) - 1#32).toNat = _
    rw [BitVec.toNat_sub, BitVec.toNat_ofNat, BitVec.toNat_ofNat]
    show (2 ^ 32 - 1 + (a + 1) % 2 ^ 32) % 2 ^ 32 = a % 2 ^ 32
    omega
  show ![(Scalar.minsi (BitVec.ofNat 32 (grid0.coords t 0).val) (floorHalf (Scalar.subi ((tbl m).at 1 (Rect.unit (s := S1) ![0] S1.size inb_S1_S1_0) numel1_S1) 1#32))).toNat, 0] = _
  rw [hn, hsub, floorHalf_word a (by omega), coord]
  rw [show Scalar.minsi (BitVec.ofNat 32 t.val) (BitVec.ofNat 32 (a / 2)) = IntOp.minsi (BitVec.ofNat 32 t.val) (BitVec.ofNat 32 (a / 2)) from rfl,
    WordArith.toNat_minsi_of_lt _ _ (by rw [BitVec.toNat_ofNat]; omega) (by rw [BitVec.toNat_ofNat]; omega), BitVec.toNat_ofNat, BitVec.toNat_ofNat,
    Nat.mod_eq_of_lt (by omega), Nat.mod_eq_of_lt (by omega)]

/-! ## The blocks lie inside -/

/-- Every coordinate of the grid is some point's. -/
theorem point_of (i : grid0.Coords) : ∃ t : Fin grid0.N, grid0.coords t = i := by
  refine ⟨⟨(i 0).val, Nat.lt_of_lt_of_eq (i 0).isLt N_0.symm⟩, funext fun a => ?_⟩
  obtain rfl : a = 0 := Subsingleton.elim _ _
  exact Fin.ext (coord _)

theorem ok_of (h : Tables m) : Ok m := by
  obtain ⟨he, a, ha, hn⟩ := h
  refine ⟨fun i => ?_, fun i => ?_, fun i => ?_, fun i => ?_, fun i => ?_⟩ <;> obtain ⟨t, rfl⟩ := point_of i
  · have ht : t.val < 110 := Nat.lt_of_lt_of_eq t.isLt N_0
    refine ⟨fun b => ?_, .inr (Affine.block_words_dvd (of_decide_eq_true rfl) (by decide))⟩
    rw [map_x m t a ha hn]
    match b with
    | 0 => show (min t.val (a / 2) + 1) * 1024 ≤ 112640; omega
    | 1 => show (0 + 1) * 1152 ≤ 1152; decide
  · refine ⟨fun b => ?_, .inl rfl⟩
    have h1 := he _ (tile_lt t).1
    rw [map_lo]
    match b with
    | 0 => show ((te m (2 * t.val) (tile_lt t).1).toNat + 1) * 1 ≤ 64; omega
    | 1 => show (0 + 1) * 1024 ≤ 1024; decide
    | 2 => show (0 + 1) * 512 ≤ 512; decide
  · refine ⟨fun b => ?_, .inl rfl⟩
    have h1 := he _ (tile_lt t).1
    show (cc0_transform_1 k0_off1_inb numel1_S1 (tbl m) (grid0.coords t) b + 1) * _ ≤ _
    rw [map_lo]
    match b with
    | 0 => show ((te m (2 * t.val) (tile_lt t).1).toNat + 1) * 1 ≤ 64; omega
    | 1 => show (0 + 1) * 256 ≤ 256; decide
    | 2 => show (0 + 1) * 1024 ≤ 1024; decide
  · refine ⟨fun b => ?_, .inl rfl⟩
    have h1 := he _ (tile_lt t).2
    rw [map_hi]
    match b with
    | 0 => show ((te m (2 * t.val + 1) (tile_lt t).2).toNat + 1) * 1 ≤ 64; omega
    | 1 => show (0 + 1) * 1024 ≤ 1024; decide
    | 2 => show (0 + 1) * 512 ≤ 512; decide
  · refine ⟨fun b => ?_, .inl rfl⟩
    have h1 := he _ (tile_lt t).2
    show (cc0_transform_3 k0_off1_inb numel1_S1 (tbl m) (grid0.coords t) b + 1) * _ ≤ _
    rw [map_hi]
    match b with
    | 0 => show ((te m (2 * t.val + 1) (tile_lt t).2).toNat + 1) * 1 ≤ 64; omega
    | 1 => show (0 + 1) * 256 ≤ 256; decide
    | 2 => show (0 + 1) * 1024 ≤ 1024; decide

end Cert.Expert

end
-- ==== Proof.Expert.Frame.lean ====
module

public import proofs.«01_k».proof.Proof.Expert.Kit
public import Idealize.ShloMosaic.Lib.Claim

@[expose] public section

set_option maxRecDepth 16384

noncomputable section

namespace Cert.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (put window)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The expert call's run, under the condition that the tables name blocks inside the arrays -/

/-- The output's block after point `t`: the two tiles', stacked. -/
def outAt (hO : Ok m) (c : Dev nD) (t : Fin (cfgM m hO).N) : Vec F S1024x1024 .bf16 :=
  stack (outLo (c := c) (grid0.coords t) (tbl m 0) (tbl m 1) (iblk m hO c 0 t) (iblk m hO c 1 t) (iblk m hO c 2 t))
    (outHi (c := c) (grid0.coords t) (tbl m 0) (tbl m 1) (iblk m hO c 0 t) (iblk m hO c 3 t) (iblk m hO c 4 t))

/-- The kept copies hold the weights of point `t`'s two experts, rounded. -/
abbrev Kept (hO : Ok m) (c : Dev nD) (t : Fin (cfgM m hO).N) (y0 : Vec F S2x1024x512 .bf16) (y1 : Vec F S2x256x1024 .bf16) : Prop :=
  KeptLo (iblk m hO c 1 t) (iblk m hO c 2 t) y0 y1 ∧ KeptHi (iblk m hO c 3 t) (iblk m hO c 4 t) y0 y1

/-- What holds before point `n`: the kept copies at anything before the first, at the last point's experts after it. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop((∃ z0 z1, owns (c : Thread nD τ) upM fullShare z0 ∗ owns (c : Thread nD τ) dnM fullShare z1 ∗ ⌜Kept m hO c ⟨n, hn⟩ z0 z1⌝) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl
theorem PhiS_succ (hO : Ok m) (c : Dev nD) (n : ℕ) (hn : n < (cfgM m hO).N) :
    PhiS m hO c (n + 1) hn = iprop(iprop((∃ z0 z1, owns (c : Thread nD τ) upM fullShare z0 ∗ owns (c : Thread nD τ) dnM fullShare z1 ∗ ⌜Kept m hO c ⟨n, hn⟩ z0 z1⌝) ∗ (∃ r, prngReg c r)) ∗ Pipeline.ΦT pre0 (tbl m) c) := rfl
theorem PhiS_pos (hO : Ok m) (c : Dev nD) (n : ℕ) (h : n ≤ (cfgM m hO).N) (hz : n ≠ 0) :
    PhiS m hO c n h = iprop(iprop((∃ z0 z1, owns (c : Thread nD τ) upM fullShare z0 ∗ owns (c : Thread nD τ) dnM fullShare z1 ∗ ⌜Kept m hO c ⟨n - 1, by omega⟩ z0 z1⌝) ∗ (∃ r, prngReg c r)) ∗ Pipeline.ΦT pre0 (tbl m) c) := by
  cases n with
  | zero => exact absurd rfl hz
  | succ n => rfl

/-- The proof data: the arrays as launched, each input's buffer left at its block, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- An input's staging buffer holds its block at every point, fetched there or not. -/
theorem before_in (hO : Ok m) (c : Dev nD) (w : Fin (cfgM m hO).W) (hw : ((cfgM m hO).win w).isOut = false) (hlive : ∀ i, (cfgM m hO).idle w i = false)
    (hclip : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (hkeep : ∀ t, ((cfgM m hO).win w).cut ((cfgM m hO).grid.coords t) ((dats m hO 0 c).after w t) = (dats m hO 0 c).blockOf w t)
    (t : Fin (cfgM m hO).N) (d) : (dats m hO 0 c).before w t d = (dats m hO 0 c).fetched w t d :=
  (dats m hO 0 c).before_in_eq_fetched w hw hlive hclip hkeep t d
theorem before_0 (hO : Ok m) (c : Dev nD) (t : Fin (cfgM m hO).N) (d) : (dats m hO 0 c).before 0 t d = iblk m hO c 0 t :=
  before_in m hO c 0 rfl (fun _ => rfl) (fun _ _ _ => rfl) (fun _ => rfl) t d
theorem before_1 (hO : Ok m) (c : Dev nD) (t : Fin (cfgM m hO).N) (d) : (dats m hO 0 c).before 1 t d = iblk m hO c 1 t :=
  before_in m hO c 1 rfl (fun _ => rfl) (fun _ _ _ => rfl) (fun _ => rfl) t d
theorem before_2 (hO : Ok m) (c : Dev nD) (t : Fin (cfgM m hO).N) (d) : (dats m hO 0 c).before 2 t d = iblk m hO c 2 t :=
  before_in m hO c 2 rfl (fun _ => rfl) (fun _ _ _ => rfl) (fun _ => rfl) t d
theorem before_3 (hO : Ok m) (c : Dev nD) (t : Fin (cfgM m hO).N) (d) : (dats m hO 0 c).before 3 t d = iblk m hO c 3 t :=
  before_in m hO c 3 rfl (fun _ => rfl) (fun _ _ _ => rfl) (fun _ => rfl) t d
theorem before_4 (hO : Ok m) (c : Dev nD) (t : Fin (cfgM m hO).N) (d) : (dats m hO 0 c).before 4 t d = iblk m hO c 4 t :=
  before_in m hO c 4 rfl (fun _ => rfl) (fun _ _ _ => rfl) (fun _ => rfl) t d

/-! ## The body at a point -/

theorem upSlab_congr (A : Vec F S64x1024x512 .f32) {e e' : ℕ} (h : e = e') (he he') : upSlab A e he = upSlab A e' he' := by subst h; rfl
theorem dnSlab_congr (A : Vec F S64x256x1024 .f32) {e e' : ℕ} (h : e = e') (he he') : dnSlab A e he = dnSlab A e' he' := by subst h; rfl

/-- What the copies kept from the point before serve: a half not refreshed has its experts' weights there already. -/
theorem kept_lo (hO : Ok m) (c : Dev nD) (t : Fin (cfgM m hO).N) (y0 : Vec F S2x1024x512 .bf16) (y1 : Vec F S2x256x1024 .bf16)
    (hk : ∀ h : t.val ≠ 0, Kept m hO c ⟨t.val - 1, by omega⟩ y0 y1) (hf : ¬ FreshLo (c := c) (grid0.coords t) (tbl m 0)) :
    KeptLo (iblk m hO c 1 t) (iblk m hO c 2 t) y0 y1 := by
  obtain ⟨h0, he⟩ := same_lo m t hf
  have e1 : iblk m hO c 1 t = iblk m hO c 1 ⟨t.val - 1, Nat.lt_of_le_of_lt (Nat.sub_le _ _) t.isLt⟩ :=
    (iblk_1 m hO c t).trans ((upSlab_congr _ (congrArg BitVec.toNat he) _ _).trans (iblk_1 m hO c ⟨t.val - 1, Nat.lt_of_le_of_lt (Nat.sub_le _ _) t.isLt⟩).symm)
  have e2 : iblk m hO c 2 t = iblk m hO c 2 ⟨t.val - 1, Nat.lt_of_le_of_lt (Nat.sub_le _ _) t.isLt⟩ :=
    (iblk_2 m hO c t).trans ((dnSlab_congr _ (congrArg BitVec.toNat he) _ _).trans (iblk_2 m hO c ⟨t.val - 1, Nat.lt_of_le_of_lt (Nat.sub_le _ _) t.isLt⟩).symm)
  rw [e1, e2]
  exact (hk h0).1
theorem kept_hi (hO : Ok m) (c : Dev nD) (t : Fin (cfgM m hO).N) (y0 : Vec F S2x1024x512 .bf16) (y1 : Vec F S2x256x1024 .bf16)
    (hk : ∀ h : t.val ≠ 0, Kept m hO c ⟨t.val - 1, by omega⟩ y0 y1) (hf : ¬ FreshHi (c := c) (grid0.coords t) (tbl m 0)) :
    KeptHi (iblk m hO c 3 t) (iblk m hO c 4 t) y0 y1 := by
  obtain ⟨h0, he⟩ := same_hi m t hf
  have e3 : iblk m hO c 3 t = iblk m hO c 3 ⟨t.val - 1, Nat.lt_of_le_of_lt (Nat.sub_le _ _) t.isLt⟩ :=
    (iblk_3 m hO c t).trans ((upSlab_congr _ (congrArg BitVec.toNat he) _ _).trans (iblk_3 m hO c ⟨t.val - 1, Nat.lt_of_le_of_lt (Nat.sub_le _ _) t.isLt⟩).symm)
  have e4 : iblk m hO c 4 t = iblk m hO c 4 ⟨t.val - 1, Nat.lt_of_le_of_lt (Nat.sub_le _ _) t.isLt⟩ :=
    (iblk_4 m hO c t).trans ((dnSlab_congr _ (congrArg BitVec.toNat he) _ _).trans (iblk_4 m hO c ⟨t.val - 1, Nat.lt_of_le_of_lt (Nat.sub_le _ _) t.isLt⟩).symm)
  rw [e3, e4]
  exact (hk h0).2

/-- The current staging memrefs. -/
abbrev st (hO : Ok m) (t : Fin (cfgM m hO).N) (w : Fin (cfgM m hO).W) := ((cfgM m hO).win w).stage ((cfgM m hO).slots t w)

/-- The windows' buffers and what goes with them, before the body and after it. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st m hO t 0) fullShare ((dats m hO 0 c).before 0 t d))
    ∗ (∃ d, owns (c : Thread nD τ) (st m hO t 1) fullShare ((dats m hO 0 c).before 1 t d))
    ∗ (∃ d, owns (c : Thread nD τ) (st m hO t 2) fullShare ((dats m hO 0 c).before 2 t d))
    ∗ (∃ d, owns (c : Thread nD τ) (st m hO t 3) fullShare ((dats m hO 0 c).before 3 t d))
    ∗ (∃ d, owns (c : Thread nD τ) (st m hO t 4) fullShare ((dats m hO 0 c).before 4 t d))
    ∗ (∃ d, owns (c : Thread nD τ) (st m hO t 5) fullShare ((dats m hO 0 c).before 5 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (st m hO t 0) fullShare (iblk m hO c 0 t)
    ∗ owns (c : Thread nD τ) (st m hO t 1) fullShare (iblk m hO c 1 t)
    ∗ owns (c : Thread nD τ) (st m hO t 2) fullShare (iblk m hO c 2 t)
    ∗ owns (c : Thread nD τ) (st m hO t 3) fullShare (iblk m hO c 3 t)
    ∗ owns (c : Thread nD τ) (st m hO t 4) fullShare (iblk m hO c 4 t)
    ∗ owns (c : Thread nD τ) (st m hO t 5) fullShare (outAt m hO c t))

/-- Before any point the copies are at some contents, right for the last point where there was one. -/
def PhiOpen (hO : Ok m) (c : Dev nD) (t : Fin (cfgM m hO).N) : sProp 𝕄 :=
  iprop(iprop((∃ z0 z1, owns (c : Thread nD τ) upM fullShare z0 ∗ owns (c : Thread nD τ) dnM fullShare z1
      ∗ ⌜∀ h : t.val ≠ 0, Kept m hO c ⟨t.val - 1, by omega⟩ z0 z1⌝) ∗ (∃ r, prngReg c r)) ∗ Pipeline.ΦT pre0 (tbl m) c)
theorem PhiS_open (hO : Ok m) (c : Dev nD) (t : Fin (cfgM m hO).N) : PhiS m hO c t.val (Nat.le_of_lt t.isLt) ⊢ PhiOpen m hO c t := by
  unfold PhiOpen
  by_cases hz : t.val = 0
  · rw [PhiS_zero m hO c _ _ hz, PhiA_eq]
    iintro ⟨⟨⟨⟨%z0, HS0⟩, ⟨%z1, HS1⟩⟩, Hg⟩, HT⟩
    isplitl [HS0 HS1 Hg]
    · isplitl [HS0 HS1]
      · iexists z0; iexists z1
        isplitl [HS0]; · iexact HS0
        isplitl [HS1]; · iexact HS1
        ipureintro; exact fun h => absurd hz h
      iexact Hg
    iexact HT
  · rw [PhiS_pos m hO c _ _ hz]
    iintro ⟨⟨⟨%z0, %z1, HS0, HS1, %hk⟩, Hg⟩, HT⟩
    isplitl [HS0 HS1 Hg]
    · isplitl [HS0 HS1]
      · iexists z0; iexists z1
        isplitl [HS0]; · iexact HS0
        isplitl [HS1]; · iexact HS1
        ipureintro; exact fun _ => hk
      iexact Hg
    iexact HT

set_option maxHeartbeats 1000000 in
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3, before_4]
  rw [show (dats m hO 0 c).owesAt () t.succ = (dats m hO 0 c).owesAt () t.castSucc from rfl,
    show (dats m hO 0 c).Φ t.succ = PhiS m hO c (t.val + 1) t.isLt from rfl, PhiS_succ, PhiS_castSucc m hO c t]
  iintro ⟨HΦ, Ho, ⟨%d0, H0⟩, ⟨%d1, H1⟩, ⟨%d2, H2⟩, ⟨%d3, H3⟩, ⟨%d4, H4⟩, ⟨%d5, H5⟩⟩
  ihave HΦ := PhiS_open m hO c t $$ HΦ
  unfold PhiOpen
  rw [PhiT_eq]
  icases HΦ with ⟨⟨⟨%z0, %z1, HS0, HS1, %hk⟩, Hg⟩, ⟨HT0, HT1⟩⟩
  iapply (body_run c (grid0.coords t) _ _ _ _ _ _ _ _ _ _ _ _ _ _ _ _ (iblk m hO c 0 t) (iblk m hO c 1 t) (iblk m hO c 2 t) (iblk m hO c 3 t) (iblk m hO c 4 t)
    _ z0 z1 (tbl m 0) (tbl m 1) (kept_lo m hO c t z0 z1 hk) (kept_hi m hO c t z0 z1 hk) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  iintro %w0 %w1 ⟨HS0, HS1, H0, H1, H2, H3, H4, H5, HT0, HT1, %hw⟩
  isplitl [HS0 HS1 Hg HT0 HT1]
  · isplitl [HS0 HS1 Hg]
    · isplitl [HS0 HS1]
      · iexists w0; iexists w1
        isplitl [HS0]; · iexact HS0
        isplitl [HS1]; · iexact HS1
        ipureintro; exact hw
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have hf := flush_out (adm m hO) t
  dsimp only
  split
  · split
    · rename_i h
      exact Bool.noConfusion (h.symm.trans hf)
    · exact .rfl
  · exact .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
theorem hout (hO : Ok m) (c : Dev nD) : (dats m hO 0 c).Φ (Fin.last (cfgM m hO).N) ⊢ Pipeline.ΦA spec0 c := by
  have ht : (Fin.last (cfgM m hO).N).val ≠ 0 := by rw [Fin.val_last]; have : (cfgM m hO).N = 110 := N_0; omega
  rw [show (dats m hO 0 c).Φ (Fin.last (cfgM m hO).N) = PhiS m hO c (Fin.last (cfgM m hO).N).val (Nat.le_of_lt_succ (Fin.last (cfgM m hO).N).isLt) from rfl, PhiS_pos m hO c _ _ ht, PhiA_eq]
  iintro ⟨⟨⟨%z0, %z1, HS0, HS1, -⟩, Hg⟩, -⟩
  isplitl [HS0 HS1]
  · isplitl [HS0]
    · iexists _; iexact HS0
    iexists _; iexact HS1
  iexact Hg

/-! ## The run and the frame -/

set_option backward.isDefEq.respectTransparency.types false in
/-- Every run ends with each array at what the windows leave it, and every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- The arguments end as they began. -/
theorem kept_args (hO : Ok m) (r) (h : Pipeline.FramePost (Pipeline.pin pcfgs fun _ => adm m hO) (dats m hO) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m hO 0 c).arrAt_in 0 rfl _).trans (A_eq m hO c 0)),
    (h c).2 main_arg1 (by decide : main_arg1 ∈ Pipeline.restRefs sig spec0),
    (h c).2 main_arg2 (by decide : main_arg2 ∈ Pipeline.restRefs sig spec0),
    ((h c).1 1).trans (((dats m hO 0 c).arrAt_in 1 rfl _).trans (A_eq m hO c 1)),
    ((h c).1 2).trans (((dats m hO 0 c).arrAt_in 2 rfl _).trans (A_eq m hO c 2))⟩
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨kept_args m hO _ h.1, h.2⟩) (run_main m ρ hO)

end Cert.Expert

end
-- ==== Proof.Expert.Array.lean ====
/-
  Hand-written, untrusted. The expert call's output ARRAY after the run: every point writes one block of rows back, and the
  blocks tile the array. And the block of rows that a point reads.
-/
module

public import proofs.«01_k».proof.Proof.Expert.Pre
public import proofs.«01_k».proof.Proof.Expert.Frame
public import Idealize.ShloMosaic.Lib.Pipeline.Value

@[expose] public section

set_option maxRecDepth 16384

noncomputable section

namespace Cert.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (put window)
open Idealize.ShloMosaic.Pipeline (Dat Cfg Window)

variable {F : FTy → Type} [FloatOps F]
variable (m : (ℓ : Loc nD τ sig) → Buf (Elt F) ℓ) (ρ : Dev nD → PrngReg)

/-! # The blocks written -/

theorem map_out (t : Fin grid0.N) : cc0_transform_5 (grid0.coords t) = ![t.val, 0] := by
  have ht : t.val < 110 := Nat.lt_of_lt_of_eq t.isLt N_0
  show ![(BitVec.ofNat 32 (grid0.coords t 0).val).toNat, 0] = _
  rw [coord, BitVec.toNat_ofNat, Nat.mod_eq_of_lt (by omega)]
theorem map_out0 (t : Fin grid0.N) : cc0_transform_5 (grid0.coords t) (0 : Fin 2) = t.val := congrFun (map_out t) 0
theorem map_out1 (t : Fin grid0.N) : cc0_transform_5 (grid0.coords t) (1 : Fin 2) = 0 := congrFun (map_out t) 1

/-- The point that writes a row, and the row's place in its block. -/
def ptOf (i : S112640x1024.Idx) : Fin grid0.N := ⟨(i 0).val / 1024, Nat.lt_of_lt_of_eq (by have h : (i 0).val < 112640 := (i 0).isLt; omega) N_0.symm⟩
def locOf (i : S112640x1024.Idx) : S1024x1024.Idx := fun
  | 0 => ⟨(i 0).val % 1024, Nat.mod_lt _ (by decide)⟩
  | 1 => i 1

/-- The array the points leave. -/
def G (hO : Ok m) (c : Dev nD) : Vec F S112640x1024 .bf16 := fun i => outAt m hO c (ptOf i) (locOf i)

/-- A block of the array is what its point left. -/
theorem G_block (hO : Ok m) (c : Dev nD) (t : Fin grid0.N) (ix : Fin 2 → ℕ) (h : ix = ![t.val, 0]) (y : S1024x1024.Idx)
    (inb : ∀ a : Fin 2, ix a * S1024x1024.size a + 1 * (y a).val < S112640x1024.size a) :
    outAt m hO c t y = G m hO c (fun a => ⟨ix a * S1024x1024.size a + 1 * (y a).val, inb a⟩) := by
  subst h
  have hy0 : (y 0).val < 1024 := (y 0).isLt
  refine (congr (congrArg (outAt m hO c) (Fin.ext ?_)) (funext fun a => Fin.ext ?_)).symm
  · show (t.val * 1024 + 1 * (y 0).val) / 1024 = t.val; omega
  · match a with
    | ⟨0, _⟩ => show (t.val * 1024 + 1 * (y 0).val) % 1024 = (y 0).val; omega
    | ⟨1, _⟩ => show 0 * 1024 + 1 * (y 1).val = (y 1).val; omega

theorem flushed_eq (hO : Ok m) (c : Dev nD) (t : Fin (cfgM m hO).N) :
    (dats m hO 0 c).flushed 5 t = (((cfgM m hO).win 5).blk t).view.read (Elt F) (G m hO c) :=
  funext fun y => G_block m hO c t _ (map_out t) y _

theorem mem_blk (hO : Ok m) (t : Fin (cfgM m hO).N) (i : S112640x1024.Idx) :
    i ∈ (((cfgM m hO).win 5).blk t).view.set ↔ ∀ a : Fin 2, cc0_transform_5 (grid0.coords t) a * S1024x1024.size a ≤ (i a).val
      ∧ (i a).val < cc0_transform_5 (grid0.coords t) a * S1024x1024.size a + S1024x1024.size a := by
  have key : ∀ r : Rect S112640x1024, i ∈ ((View.whole main_v0).slice r).set ↔ i ∈ r.set := fun r => by rw [View.set_slice_whole]
  refine (key (((cfgM m hO).win 5).rect t)).trans ?_
  exact Rect.mem_set_unit

theorem covered (hO : Ok m) (i : S112640x1024.Idx) : ∃ t : Fin (cfgM m hO).N, ((cfgM m hO).win 5).flush t = true ∧ i ∈ (((cfgM m hO).win 5).blk t).view.set := by
  have h1 : (i 1).val < 1024 := (i 1).isLt
  refine ⟨ptOf i, flush_out (adm m hO) _, (mem_blk m hO (ptOf i) i).2 fun a => ?_⟩
  have e0 : cc0_transform_5 (grid0.coords (ptOf i)) (0 : Fin 2) = (i 0).val / 1024 := map_out0 (ptOf i)
  have e1 := map_out1 (ptOf i)
  match a with
  | ⟨0, _⟩ =>
    show cc0_transform_5 (grid0.coords (ptOf i)) (0 : Fin 2) * 1024 ≤ (i 0).val ∧ (i 0).val < cc0_transform_5 (grid0.coords (ptOf i)) (0 : Fin 2) * 1024 + 1024
    omega
  | ⟨1, _⟩ =>
    show cc0_transform_5 (grid0.coords (ptOf i)) (1 : Fin 2) * 1024 ≤ (i 1).val ∧ (i 1).val < cc0_transform_5 (grid0.coords (ptOf i)) (1 : Fin 2) * 1024 + 1024
    omega

theorem final (hO : Ok m) (c : Dev nD) : (dats m hO 0 c).arrAt 5 (cfgM m hO).N = G m hO c :=
  (dats m hO 0 c).arrAt_eq_of_cover 5 _ (fun t _ => flushed_eq m hO c t) (covered m hO)

/-- THE RUN: the result array, and the arguments as they were. -/
theorem run (hO : Ok m) : θ_run defs (onTc (τ := τ) (main (F := F))) ⟨m, fun _ => 0, ρ⟩ (fun r => ∀ c : Dev nD,
      r.2.mem ((c.tc : Thread nD τ).loc main_v0) = G m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final m hO c), kept_args m hO _ h.1 c⟩) (run_main m ρ hO)

/-! # The rows read -/

/-- Block `b` of the rows' array. -/
def rowsOf (A : Vec F S112640x1152 .bf16) (b : ℕ) (hb : b < 110) : Vec F S1024x1152 .bf16 := fun y =>
  A (fun
    | 0 => ⟨1024 * b + (y 0).val, by have h : (y 0).val < 1024 := (y 0).isLt; show 1024 * b + (y 0).val < 112640; omega⟩
    | 1 => y 1)
theorem read_rows (A : Vec F S112640x1152 .bf16) (ix : Fin 2 → ℕ) (b : ℕ) (hb : b < 110) (h : ix = ![b, 0]) (y : S1024x1152.Idx)
    (inb : ∀ a : Fin 2, ix a * S1024x1152.size a + 1 * (y a).val < S112640x1152.size a) :
    A (fun a => ⟨ix a * S1024x1152.size a + 1 * (y a).val, inb a⟩) = rowsOf A b hb y := by
  subst h
  exact congrArg A (funext fun a => Fin.ext (match a with
    | 0 => by show b * 1024 + 1 * (y 0).val = 1024 * b + (y 0).val; omega
    | 1 => by show 0 * 1152 + 1 * (y 1).val = (y 1).val; omega))

/-- Where either of a point's two tiles has rows, the point reads its own block. -/
theorem iblk_0 (hO : Ok m) (c : Dev nD) (t : Fin grid0.N) (a : ℕ) (ha : a + 1 < 2 ^ 31) (h : nv m = BitVec.ofNat 32 (a + 1)) (hta : 2 * t.val ≤ a) :
    iblk m hO c 0 t = rowsOf (V m c main_arg0) t.val (Nat.lt_of_lt_of_eq t.isLt N_0) :=
  funext fun y => read_rows (V m c main_arg0) _ _ (Nat.lt_of_lt_of_eq t.isLt N_0)
    ((map_x m t a ha h).trans (by rw [Nat.min_eq_left (by omega)])) y _

end Cert.Expert

end
-- ==== Proof.Expert.Pay.lean ====
/-
  Hand-written, untrusted. What one store of the expert call writes, read at a row and column: the row's activations in the
  expert's columns, weighted, times the column of the expert's second matrix.
-/
module

public import proofs.«01_k».proof.Proof.Expert.Frame
public import Idealize.ShloMosaic.Lib.IdealHost
public import Idealize.ShloMosaic.Lib.Pipeline.Value
public import Idealize.ShloMosaic.Lib.Pointwise.Tactic

@[expose] public section

set_option maxRecDepth 16384

noncomputable section

namespace Cert.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (put window)

open Idealize.ShloMosaic.ValueIdx (contrEquiv1)

/-! # One row of one expert -/

/-- The weight of a row at expert `e`, from its lanes beside the features: the gates' columns hold the first choice, its weight in
    two parts, and the second choice's weight in two parts. -/
def gate (e : BitVec 32) (g : Fin 128 → EReal) : EReal :=
  Scalar.select (FloatOps.cmpf (F := Ideal) (φ := .f32) .oeq (g 0) (FloatOps.sitofp (F := Ideal) .f32 e)) (g 1 + g 2) (g 3 + g 4)
/-- Column `f` of a row's first product. -/
def hid (x : Fin 1024 → EReal) (up : Fin 1024 → Fin 512 → EReal) (f : Fin 512) : EReal := ∑ k : Fin 1024, x k * up k f
/-- Its weighted activation: the first half's columns gate the second half's. -/
def act (x : Fin 1024 → EReal) (w : EReal) (up : Fin 1024 → Fin 512 → EReal) (f : Fin 256) : EReal :=
  hid x up ⟨f.val, by omega⟩ * Ideal.logistic (hid x up ⟨f.val, by omega⟩) * hid x up ⟨256 + f.val, by omega⟩ * w
/-- One column of the row's result. -/
def expertRow (x : Fin 1024 → EReal) (w : EReal) (up : Fin 1024 → Fin 512 → EReal) (down : Fin 256 → EReal) : EReal :=
  ∑ f : Fin 256, act x w up f * down f

/-! # The payload -/

theorem dotUp (l : FVec Ideal S512x1024 .bf16) (r : FVec Ideal S1024x512 .bf16) (a : Fin 512) (e : Fin 512) :
    matmul (F := Ideal) dot_S512x1024_S1024x512_S512x512_1_0_0_1_n_n none l r (constant S512x512 .f32 0x00000000#32) (ix2 a e)
      = ∑ k : Fin 1024, l (ix2 a k) * r (ix2 k e) := by
  refine (Ideal.matmul_constant_zero_apply dot_S512x1024_S1024x512_S512x512_1_0_0_1_n_n none l r (ix2 a e)).trans ?_
  rw [← (contrEquiv1 dot_S512x1024_S1024x512_S512x512_1_0_0_1_n_n 1024 rfl rfl).symm.sum_comp]
  refine Finset.sum_congr rfl fun k _ => congrArg₂ (· * ·) (congrArg l ?_) (congrArg r ?_) <;>
    exact funext fun i => Fin.ext (by match i with | ⟨0, _⟩ => rfl | ⟨1, _⟩ => rfl)

theorem dotDn (l : FVec Ideal S512x256 .bf16) (r : FVec Ideal S256x1024 .bf16) (a : Fin 512) (e : Fin 1024) :
    matmul (F := Ideal) dot_S512x256_S256x1024_S512x1024_1_0_0_1_n_n none l r (constant S512x1024 .f32 0x00000000#32) (ix2 a e)
      = ∑ k : Fin 256, l (ix2 a k) * r (ix2 k e) := by
  refine (Ideal.matmul_constant_zero_apply dot_S512x256_S256x1024_S512x1024_1_0_0_1_n_n none l r (ix2 a e)).trans ?_
  rw [← (contrEquiv1 dot_S512x256_S256x1024_S512x1024_1_0_0_1_n_n 256 rfl rfl).symm.sum_comp]
  refine Finset.sum_congr rfl fun k _ => congrArg₂ (· * ·) (congrArg l ?_) (congrArg r ?_) <;>
    exact funext fun i => Fin.ext (by match i with | ⟨0, _⟩ => rfl | ⟨1, _⟩ => rfl)

/-- A slab without its leading axis, and with it again. -/
theorem drop_up {α : Type} (x : S1x1024x512.Idx → α) (k : Fin 1024) (f : Fin 512) :
    shapeCast S1024x512 x shapeCasts_S1x1024x512_S1024x512 (ix2 k f) = x (ix3 0 k f) :=
  shapeCast_apply x _ _ (ix3 0 k f) (by
    rw [Shape.rowMajor_val_two, Shape.rowMajor_val_three]; show (0 * 1024 + k.val) * 512 + f.val = k.val * 512 + f.val; omega)
theorem keep_up {α : Type} (x : S1024x512.Idx → α) (k : Fin 1024) (f : Fin 512) :
    shapeCast S1x1024x512 x shapeCasts_S1024x512_S1x1024x512 (ix3 0 k f) = x (ix2 k f) :=
  shapeCast_apply x _ _ (ix2 k f) (by
    rw [Shape.rowMajor_val_two, Shape.rowMajor_val_three]; show k.val * 512 + f.val = (0 * 1024 + k.val) * 512 + f.val; omega)
theorem drop_dn {α : Type} (x : S1x256x1024.Idx → α) (k : Fin 256) (f : Fin 1024) :
    shapeCast S256x1024 x shapeCasts_S1x256x1024_S256x1024 (ix2 k f) = x (ix3 0 k f) :=
  shapeCast_apply x _ _ (ix3 0 k f) (by
    rw [Shape.rowMajor_val_two, Shape.rowMajor_val_three]; show (0 * 256 + k.val) * 1024 + f.val = k.val * 1024 + f.val; omega)
theorem keep_dn {α : Type} (x : S256x1024.Idx → α) (k : Fin 256) (f : Fin 1024) :
    shapeCast S1x256x1024 x shapeCasts_S256x1024_S1x256x1024 (ix3 0 k f) = x (ix2 k f) :=
  shapeCast_apply x _ _ (ix2 k f) (by
    rw [Shape.rowMajor_val_two, Shape.rowMajor_val_three]; show k.val * 1024 + f.val = (0 * 256 + k.val) * 1024 + f.val; omega)

theorem pay3_apply (u : Vec Ideal S1x1024x512 .f32) (k : Fin 1024) (f : Fin 512) : k0_pay3 (F := Ideal) u (ix3 0 k f) = u (ix3 0 k f) := by
  unfold k0_pay3
  exact (keep_up _ k f).trans (drop_up u k f)
theorem pay4_apply (d : Vec Ideal S1x256x1024 .f32) (k : Fin 256) (j : Fin 1024) : k0_pay4 (F := Ideal) d (ix3 0 k j) = d (ix3 0 k j) := by
  unfold k0_pay4
  exact (keep_dn _ k j).trans (drop_dn d k j)

/-- A lane beside the features, as the payload cuts it out. -/
theorem lane (g : FVec Ideal S512x128 .f32) (off : ℕ) (h : S512x128.Slices ![0, off] S512x1) (r : Fin 512) (ho : off < 128) :
    extractStridedSlice S512x1 ![0, off] g h (ix2 r 0) = g (ix2 r ⟨off, ho⟩) :=
  extractStridedSlice_apply ![0, off] g h (ix2 r 0) (ix2 r ⟨off, ho⟩) (fun a => by
    match a with
    | ⟨0, _⟩ => show r.val = 0 + r.val; omega
    | ⟨1, _⟩ => rfl)
theorem half_apply (x : FVec Ideal S512x512 .f32) (off : ℕ) (h : S512x512.Slices ![0, off] S512x256) (r : Fin 512) (f : Fin 256) (ho : off + f.val < 512) :
    extractStridedSlice S512x256 ![0, off] x h (ix2 r f) = x (ix2 r ⟨off + f.val, ho⟩) :=
  extractStridedSlice_apply ![0, off] x h (ix2 r f) (ix2 r ⟨off + f.val, ho⟩) (fun a => by
    match a with
    | ⟨0, _⟩ => show r.val = 0 + r.val; omega
    | ⟨1, _⟩ => rfl)
theorem spread (w : FVec Ideal S512x1 .f32) (r : Fin 512) (f : Fin 256) :
    broadcastTo S512x256 w broadcasts_S512x1_S512x256 (ix2 r f) = w (ix2 r 0) :=
  broadcastTo_apply w _ (ix2 r f) (ix2 r 0) (fun a => by
    match a with
    | ⟨0, _⟩ => rfl
    | ⟨1, _⟩ => rfl)

theorem pay5_apply (x : Vec Ideal S512x1024 .bf16) (g : Vec Ideal S512x128 .bf16) (e : BitVec 32) (u : Vec Ideal S1x1024x512 .bf16)
    (d : Vec Ideal S1x256x1024 .bf16) (r : Fin 512) (j : Fin 1024) : k0_pay5 (F := Ideal) x g e u d (ix2 r j)
      = expertRow (fun k => x (ix2 r k)) (gate e fun k => g (ix2 r k)) (fun k f => u (ix3 0 k f)) (fun f => d (ix3 0 f j)) := by
  have hh : ∀ f : Fin 512, matmul (F := Ideal) dot_S512x1024_S1024x512_S512x512_1_0_0_1_n_n none x
      (shapeCast S1024x512 u shapeCasts_S1x1024x512_S1024x512) (constant S512x512 .f32 0x00000000#32) (ix2 r f)
      = hid (fun k => x (ix2 r k)) (fun k f => u (ix3 0 k f)) f := fun f =>
    (dotUp x _ r f).trans (Finset.sum_congr rfl fun k _ => congrArg (x (ix2 r k) * ·) (drop_up u k f))
  unfold k0_pay5
  refine (dotDn _ _ r j).trans (Finset.sum_congr rfl fun f _ => congrArg₂ (· * ·) ?_ (drop_dn d f j))
  refine congrArg₂ (· * ·) (congrArg₂ (· * ·) (congrArg₂ (· * ·) ?_ (congrArg Ideal.logistic ?_)) ?_) ?_
  · refine (half_apply _ 0 _ r f (by omega)).trans ((hh _).trans (congrArg (hid _ _) (Fin.ext (Nat.zero_add _))))
  · refine (half_apply _ 0 _ r f (by omega)).trans ((hh _).trans (congrArg (hid _ _) (Fin.ext (Nat.zero_add _))))
  · exact (half_apply _ 256 _ r f (by omega)).trans (hh _)
  · refine (spread _ r f).trans ?_
    show Scalar.select (FloatOps.cmpf (F := Ideal) (φ := .f32) .oeq (extractStridedSlice S512x1 ![0, 0] (extf (F := Ideal) .f32 g bitsLt_bf16_f32) slices_S512x128_o0_0_S512x1 (ix2 r 0)) (FloatOps.sitofp (F := Ideal) .f32 e))
      (extractStridedSlice S512x1 ![0, 1] (extf (F := Ideal) .f32 g bitsLt_bf16_f32) slices_S512x128_o0_1_S512x1 (ix2 r 0)
        + extractStridedSlice S512x1 ![0, 2] (extf (F := Ideal) .f32 g bitsLt_bf16_f32) slices_S512x128_o0_2_S512x1 (ix2 r 0))
      (extractStridedSlice S512x1 ![0, 3] (extf (F := Ideal) .f32 g bitsLt_bf16_f32) slices_S512x128_o0_3_S512x1 (ix2 r 0)
        + extractStridedSlice S512x1 ![0, 4] (extf (F := Ideal) .f32 g bitsLt_bf16_f32) slices_S512x128_o0_4_S512x1 (ix2 r 0)) = _
    rw [lane _ 0 _ r (by omega), lane _ 1 _ r (by omega), lane _ 2 _ r (by omega), lane _ 3 _ r (by omega), lane _ 4 _ r (by omega)]
    rfl

/-- The same store of the second half. -/
theorem pay1_eq : k0_pay1 (F := Ideal) = k0_pay5 := rfl
theorem pay7_eq : k0_pay7 (F := Ideal) = k0_pay3 := rfl
theorem pay8_eq : k0_pay8 (F := Ideal) = k0_pay4 := rfl
theorem pay2_eq : k0_pay2 (F := Ideal) = k0_pay6 := rfl
/-- Where a tile has no rows, zeros. -/
theorem pay6_apply (y : S512x1024.Idx) : k0_pay6 (F := Ideal) y = 0 := Ideal.ofBits_zero .bf16

end Cert.Expert

end
-- ==== Proof.Expert.Value.lean ====
/-
  Hand-written, untrusted. The expert call's output array read at a row and column: a row of a tile that has rows is its expert's
  row, a row of a tile past them is zero.
-/
module

public import proofs.«01_k».proof.Proof.Expert.Array
public import proofs.«01_k».proof.Proof.Expert.Pay
public import Idealize.ShloMosaic.Lib.WordCmp

@[expose] public section

set_option maxRecDepth 16384

noncomputable section

namespace Cert.Expert

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (put window)

/-! # What row `p` of tile `n` holds -/

/-- The expert that a table names for tile `n`. -/
def expertOf (E : IVec S220 32) (n : Fin 220) : Fin 64 := ⟨(wordOf E n.val n.isLt).toNat % 64, Nat.mod_lt _ (by decide)⟩

/-- Row `p` of tile `n`, column `j`, from the arrays launched. -/
def tileVal (X : Vec Ideal S112640x1152 .bf16) (E : IVec S220 32) (K : IVec S1 32) (U : Vec Ideal S64x1024x512 .f32) (D : Vec Ideal S64x256x1024 .f32)
    (n : Fin 220) (p : Fin 512) (j : Fin 1024) : EReal :=
  if (BitVec.ofNat 32 n.val).toInt < (oneOf K).toInt then
    expertRow (fun k => X (ix2 (⟨512 * n.val + p.val, by omega⟩ : Fin 112640) (⟨k.val, by omega⟩ : Fin 1152)))
      (gate (wordOf E n.val n.isLt) fun k => X (ix2 (⟨512 * n.val + p.val, by omega⟩ : Fin 112640) (⟨1024 + k.val, by omega⟩ : Fin 1152)))
      (fun k f => U (ix3 (expertOf E n) k f)) (fun f => D (ix3 (expertOf E n) f j))
  else 0

variable (m : (ℓ : Loc nD τ sig) → Buf (Elt Ideal) ℓ)

theorem tileLo_word : ∀ n : Fin 110, Scalar.addi (Scalar.muli (BitVec.ofNat 32 n.val) 2#32) 0#32 = BitVec.ofNat 32 (2 * n.val) := by decide +kernel
theorem tileHi_word : ∀ n : Fin 110, Scalar.addi (Scalar.muli (BitVec.ofNat 32 n.val) 2#32) 1#32 = BitVec.ofNat 32 (2 * n.val + 1) := by decide +kernel
theorem tileLo_eq (t : Fin grid0.N) : tileLo (grid0.coords t) = BitVec.ofNat 32 (2 * t.val) :=
  (tileLo_word (grid0.coords t 0)).trans (by rw [coord])
theorem tileHi_eq (t : Fin grid0.N) : tileHi (grid0.coords t) = BitVec.ofNat 32 (2 * t.val + 1) :=
  (tileHi_word (grid0.coords t 0)).trans (by rw [coord])

/-- A tile below the count of tiles with rows, as naturals. -/
theorem lt_count (n a : ℕ) (hn : n < 220) (ha : a + 1 < 2 ^ 31) (h : (BitVec.ofNat 32 n).toInt < (BitVec.ofNat 32 (a + 1)).toInt) : n ≤ a := by
  rw [WordCmp.toInt_ofNat_of_lt (by omega), WordCmp.toInt_ofNat_of_lt ha] at h
  omega

/-- Rows and lanes cut out of a block of rows. -/
theorem cut_rows (A : Vec Ideal S112640x1152 .bf16) (b : ℕ) (hb : b < 110) (o : ℕ) (inb) (n : Fin 220) (p : Fin 512) (k : Fin 1024) (hn : 512 * n.val = 1024 * b + o) :
    window (s := S1024x1152) (rowsOf A b hb) ![o, 0] S512x1024.size inb (ix2 p k)
      = A (ix2 (⟨512 * n.val + p.val, by omega⟩ : Fin 112640) (⟨k.val, by omega⟩ : Fin 1152)) :=
  congrArg A (funext fun a => Fin.ext (match a with
    | 0 => by show 1024 * b + (o + 1 * p.val) = 512 * n.val + p.val; omega
    | 1 => by show 0 + 1 * k.val = k.val; omega))
theorem cut_lanes (A : Vec Ideal S112640x1152 .bf16) (b : ℕ) (hb : b < 110) (o : ℕ) (inb) (n : Fin 220) (p : Fin 512) (k : Fin 128) (hn : 512 * n.val = 1024 * b + o) :
    window (s := S1024x1152) (rowsOf A b hb) ![o, 1024] S512x128.size inb (ix2 p k)
      = A (ix2 (⟨512 * n.val + p.val, by omega⟩ : Fin 112640) (⟨1024 + k.val, by omega⟩ : Fin 1152)) :=
  congrArg A (funext fun a => Fin.ext (match a with
    | 0 => by show 1024 * b + (o + 1 * p.val) = 512 * n.val + p.val; omega
    | 1 => by show 1024 + 1 * k.val = 1024 + k.val; omega))

/-- The array at row `p` of tile `n`. -/
abbrev spec (c : Dev nD) (n : Fin 220) (p : Fin 512) (j : Fin 1024) : EReal :=
  tileVal (V m c main_arg0) (tbl m 0) (tbl m 1) (V m c main_arg3) (V m c main_arg4) n p j

/-- A half's payload over the block read and its expert's slabs. -/
theorem half_val (c : Dev nD) (b : ℕ) (hb : b < 110) (o : ℕ) (inb inb') (n : Fin 220) (hn : 512 * n.val = 1024 * b + o) (p : Fin 512) (j : Fin 1024)
    (hlt : (BitVec.ofNat 32 n.val).toInt < (nv m).toInt) (hU hD) :
    k0_pay5 (F := Ideal) (window (s := S1024x1152) (rowsOf (V m c main_arg0) b hb) ![o, 0] S512x1024.size inb)
      (window (s := S1024x1152) (rowsOf (V m c main_arg0) b hb) ![o, 1024] S512x128.size inb') (te m n.val n.isLt)
      (k0_pay3 (upSlab (V m c main_arg3) (te m n.val n.isLt).toNat hU)) (k0_pay4 (dnSlab (V m c main_arg4) (te m n.val n.isLt).toNat hD)) (ix2 p j)
      = spec m c n p j := by
  have he : ∀ h, (⟨(te m n.val n.isLt).toNat, h⟩ : Fin 64) = expertOf (tbl m 0) n := fun h => Fin.ext (Nat.mod_eq_of_lt h).symm
  refine (pay5_apply _ _ _ _ _ p j).trans ((if_pos hlt).trans ?_).symm
  refine (congr (congr (congr (congrArg expertRow (funext fun k => ?_)) (congrArg (gate _) (funext fun k => ?_))) (funext fun k => funext fun f => ?_)) (funext fun f => ?_)).symm
  · exact cut_rows _ b hb o inb n p k hn
  · exact cut_lanes _ b hb o inb' n p k hn
  · refine (pay3_apply _ k f).trans (congrArg (V m c main_arg3) (funext fun a => ?_))
    match a with
    | 0 => exact he hU
    | 1 => rfl
    | 2 => rfl
  · refine (pay4_apply _ f j).trans (congrArg (V m c main_arg4) (funext fun a => ?_))
    match a with
    | 0 => exact he hD
    | 1 => rfl
    | 2 => rfl

theorem lo_val (hT : Tables m) (hO : Ok m) (c : Dev nD) (t : Fin grid0.N) (p : Fin 512) (j : Fin 1024) :
    outLo (c := c) (grid0.coords t) (tbl m 0) (tbl m 1) (iblk m hO c 0 t) (iblk m hO c 1 t) (iblk m hO c 2 t) (ix2 p j)
      = spec m c ⟨2 * t.val, (tile_lt t).1⟩ p j := by
  obtain ⟨a, ha, hn⟩ := hT.2
  have hc := cond2_iff (grid0.coords t) (nvAt (c := c) (tbl m 1))
  rw [nvAt_eq, tileLo_eq] at hc
  unfold outLo
  rw [nvAt_eq]
  by_cases h : (BitVec.ofNat 32 (2 * t.val)).toInt < (nv m).toInt
  · rw [if_pos (hc.2 h), teAt_eq m _ _ (2 * t.val) ((off3_eq _).trans (by rw [coord])) (tile_lt t).1]
    have h2 : 2 * t.val ≤ a := lt_count _ a (tile_lt t).1 ha (hn ▸ h)
    rw [iblk_0 m hO c t a ha hn h2, iblk_1, iblk_2]
    exact half_val m c t.val (Nat.lt_of_lt_of_eq t.isLt N_0) 0 _ _ ⟨2 * t.val, (tile_lt t).1⟩ (by show 512 * (2 * t.val) = 1024 * t.val + 0; omega) p j h _ _
  · rw [if_neg (fun hh => h (hc.1 hh))]
    exact (pay6_apply _).trans (if_neg h).symm

theorem hi_val (hT : Tables m) (hO : Ok m) (c : Dev nD) (t : Fin grid0.N) (p : Fin 512) (j : Fin 1024) :
    outHi (c := c) (grid0.coords t) (tbl m 0) (tbl m 1) (iblk m hO c 0 t) (iblk m hO c 3 t) (iblk m hO c 4 t) (ix2 p j)
      = spec m c ⟨2 * t.val + 1, (tile_lt t).2⟩ p j := by
  obtain ⟨a, ha, hn⟩ := hT.2
  have hc := cond5_iff (grid0.coords t) (nvAt (c := c) (tbl m 1))
  rw [nvAt_eq, tileHi_eq] at hc
  unfold outHi
  rw [nvAt_eq]
  by_cases h : (BitVec.ofNat 32 (2 * t.val + 1)).toInt < (nv m).toInt
  · rw [if_pos (hc.2 h), teAt_eq m _ _ (2 * t.val + 1) ((off6_eq _).trans (by rw [coord])) (tile_lt t).2, pay1_eq, pay7_eq, pay8_eq]
    have h2 : 2 * t.val + 1 ≤ a := lt_count _ a (tile_lt t).2 ha (hn ▸ h)
    rw [iblk_0 m hO c t a ha hn (by omega), iblk_3, iblk_4]
    exact half_val m c t.val (Nat.lt_of_lt_of_eq t.isLt N_0) 512 _ _ ⟨2 * t.val + 1, (tile_lt t).2⟩ (by show 512 * (2 * t.val + 1) = 1024 * t.val + 512; omega) p j h _ _
  · rw [if_neg (fun hh => h (hc.1 hh)), pay2_eq]
    exact (pay6_apply _).trans (if_neg h).symm

/-- A stack of two blocks read in either. -/
theorem stack_lo (a b : Vec Ideal S512x1024 .bf16) (y : S1024x1024.Idx) (p : Fin 512) (j : Fin 1024) (h0 : (y 0).val = p.val) (h1 : y 1 = j) :
    stack a b y = a (ix2 p j) := by
  have hp := p.isLt
  unfold stack
  rw [dif_pos (by omega)]
  exact congrArg a (funext fun i => match i with
    | 0 => Fin.ext h0
    | 1 => h1)
theorem stack_hi (a b : Vec Ideal S512x1024 .bf16) (y : S1024x1024.Idx) (p : Fin 512) (j : Fin 1024) (h0 : (y 0).val = 512 + p.val) (h1 : y 1 = j) :
    stack a b y = b (ix2 p j) := by
  unfold stack
  rw [dif_neg (by omega)]
  exact congrArg b (funext fun i => match i with
    | 0 => Fin.ext (by show (y 0).val - 512 = p.val; omega)
    | 1 => h1)

/-- THE WRITTEN ARRAY at row `p` of tile `n`, column `j`. -/
theorem array (hT : Tables m) (hO : Ok m) (c : Dev nD) (n : Fin 220) (p : Fin 512) (j : Fin 1024) :
    G m hO c (ix2 (⟨512 * n.val + p.val, by omega⟩ : Fin 112640) j) = spec m c n p j := by
  have hp := p.isLt
  have hN := n.isLt
  by_cases hev : n.val % 2 = 0
  · refine (stack_lo _ _ _ p j (by show (512 * n.val + p.val) % 1024 = p.val; omega) rfl).trans
      ((lo_val m hT hO c (ptOf _) p j).trans (congrArg (spec m c · p j) (Fin.ext ?_)))
    show 2 * ((512 * n.val + p.val) / 1024) = n.val; omega
  · refine (stack_hi _ _ _ p j (by show (512 * n.val + p.val) % 1024 = 512 + p.val; omega) rfl).trans
      ((hi_val m hT hO c (ptOf _) p j).trans (congrArg (spec m c · p j) (Fin.ext ?_)))
    show 2 * ((512 * n.val + p.val) / 1024) + 1 = n.val; omega

end Cert.Expert

end
-- ==== Proof.Expert.Ref3.lean ====
/-
  Hand-written, untrusted. What the REFERENCE's experts compute, read at a row and column, and that the kernel's array holds it.
-/
module

public import proofs.«01_k».proof.Proof.Expert.Value
public import proofs.«01_k».proof.Proof.Gen.Reference3Ideal.Read

@[expose] public section

set_option maxRecDepth 16384

noncomputable section

namespace Cert.Reference3Ideal.Expert

open Idealize.ShloMosaic Idealize.SL.Sem
open Cert.Reference3Ideal Cert.Reference3Ideal.Gen Cert.Reference3Ideal.Read
open Cert.Expert (gate hid act expertRow expertOf tileVal wordOf oneOf)

/-! # A slab per tile -/

/-- Slabs of a `[64, A, B]` array picked by a word per tile, read at an index: the slab that the tile's word names. -/
theorem slab {α : Type} {A B : ℕ} (d : GatherDims ⟨3, ![64, A, B]⟩ ⟨2, ![220, 1]⟩ ⟨3, ![220, A, B]⟩) (hoff : d.offsetDims = [1, 2])
    (hcoll : d.collapsedSliceDims = [0]) (hob : d.operandBatchingDims = []) (hsb : d.startIndicesBatchingDims = [])
    (hsim : d.startIndexMap = [0]) (hivd : d.indexVectorDim = 1) (hss : d.sliceSizes = ![1, A, B])
    (x : (⟨3, ![64, A, B]⟩ : Shape).Idx → α) (idx : IVec ⟨2, ![220, 1]⟩ 32) (n : Fin 220) (a : Fin A) (b : Fin B) (e : Fin 64)
    (he : (idx (ix2 n (0 : Fin 1))).toInt = e.val) : Host.gather d x idx (ix3 n a b) = x (ix3 e a b) := by
  obtain ⟨d1, d2, d3, d4, d5, d6, d7, wf⟩ := d
  dsimp only at hoff hcoll hob hsb hsim hivd hss
  subst hoff hcoll hob hsb hsim hivd hss
  unfold Host.gather
  refine congrArg x (funext fun i => Fin.ext ?_)
  show GatherDims.start _ (ix3 n a b) idx i + GatherDims.batchCoord _ (ix3 n a b) i + GatherDims.offCoord _ (ix3 n a b) i = _
  rw [GatherDims.batchCoord_eq_zero _ _ _ List.not_mem_nil]
  match i with
  | ⟨0, _⟩ =>
    rw [GatherDims.offCoord_eq_zero _ _ _ (fun h => ((GatherDims.mem_sKept _ _).mp h).1 (List.mem_singleton.mpr rfl))]
    simp only [Nat.add_zero]
    unfold GatherDims.start
    have hsi : ∀ q, GatherDims.siIdx (⟨[1, 2], [0], [], [], [0], 1, ![1, A, B], wf⟩ : GatherDims ⟨3, ![64, A, B]⟩ ⟨2, ![220, 1]⟩ ⟨3, ![220, A, B]⟩) (ix3 n a b) q = ix2 n (0 : Fin 1) := fun q => by
      funext k; refine Fin.ext ?_
      match k with
      | ⟨0, _⟩ => rfl
      | ⟨1, _⟩ => show q.val = 0; exact Nat.lt_one_iff.mp q.isLt
    split
    · rw [hsi, he]
      show min (Int.toNat (e.val : ℤ)) (64 - 1) = e.val
      have := e.isLt
      omega
    · exact absurd (List.mem_singleton.mpr rfl) ‹_›
  | ⟨1, _⟩ =>
    unfold GatherDims.start
    rw [dif_neg (by show ¬ (1 : Fin 3) ∈ [(0 : Fin 3)]; decide)]
    simp only [Nat.zero_add]
    rfl
  | ⟨2, _⟩ =>
    unfold GatherDims.start
    rw [dif_neg (by show ¬ (2 : Fin 3) ∈ [(0 : Fin 3)]; decide)]
    simp only [Nat.zero_add]
    rfl

variable (x0 : (⟨S112640x1152, .bf16⟩ : BufTy).Contents (Elt Ideal)) (x1 : (⟨S220, .i32⟩ : BufTy).Contents (Elt Ideal))
  (x2 : (⟨S1, .i32⟩ : BufTy).Contents (Elt Ideal)) (x3 : (⟨S64x1024x512, .f32⟩ : BufTy).Contents (Elt Ideal)) (x4 : (⟨S64x256x1024, .f32⟩ : BufTy).Contents (Elt Ideal))

/-! # Word, weight and row of a tile -/

theorem word_at (n : Fin 220) : (x1 : IVec S220 32) (ix1 n) = wordOf x1 n.val n.isLt :=
  congrArg (x1 : IVec S220 32) (funext fun a => match a with | ⟨0, _⟩ => rfl)

/-- An expert's word is not negative, so it indexes as it is. -/
theorem plain (w : BitVec 32) (h : w.toNat < 64) : Scalar.select (IntOp.cmpi .slt w 0#32) (IntOp.addi w 64#32) w = w ∧ w.toInt = w.toNat := by
  have hi : w.toInt = w.toNat := BitVec.toInt_eq_toNat_of_lt (by omega)
  refine ⟨?_, hi⟩
  have hz : ¬ w.slt 0#32 = true := by
    rw [BitVec.slt_iff_toInt_lt, hi]; simp
  have : IntOp.cmpi .slt w 0#32 = 0#1 := by
    simp only [IntOp.cmpi, hz]; rfl
  rw [this]; rfl

variable (hE : ∀ k hk, (wordOf x1 k hk).toNat < 64)
include hE

theorem index_at (n : Fin 220) : (val_main_v28 (F := Ideal) x1 (ix2 n 0)).toInt = (expertOf x1 n).val
    ∧ (val_main_v43 (F := Ideal) x1 (ix2 n 0)).toInt = (expertOf x1 n).val := by
  have h28 : idx_main_v28 (ix2 n 0) = ix1 n := funext fun a => match a with | ⟨0, _⟩ => rfl
  have h43 : idx_main_v43 (ix2 n 0) = ix1 n := funext fun a => match a with | ⟨0, _⟩ => rfl
  have hw := hE n.val n.isLt
  obtain ⟨hs, hi⟩ := plain (wordOf x1 n.val n.isLt) hw
  have hv : (expertOf x1 n).val = (wordOf x1 n.val n.isLt).toNat := Nat.mod_eq_of_lt (by omega)
  constructor
  · rw [val_main_v28_apply, h28, val_main_v27_apply, val_main_v24_apply, val_main_v26_apply, val_main_v23_apply, val_main_c_apply, val_main_v25_apply, val_main_c_0_apply, word_at x1 n, hs, hi, hv]
  · rw [val_main_v43_apply, h43, val_main_v42_apply, val_main_v39_apply, val_main_v41_apply, val_main_v38_apply, val_main_c_1_apply, val_main_v40_apply, val_main_c_2_apply, word_at x1 n, hs, hi, hv]

theorem up_at (n : Fin 220) (k : Fin 1024) (f : Fin 512) : val_main_v29 (F := Ideal) x1 x3 (ix3 n k f) = x3 (ix3 (expertOf x1 n) k f) :=
  slab _ rfl rfl rfl rfl rfl rfl rfl x3 _ n k f _ (index_at x1 hE n).1
theorem down_at (n : Fin 220) (f : Fin 256) (j : Fin 1024) : val_main_v44 (F := Ideal) x1 x4 (ix3 n f j) = x4 (ix3 (expertOf x1 n) f j) :=
  slab _ rfl rfl rfl rfl rfl rfl rfl x4 _ n f j _ (index_at x1 hE n).2

omit hE in
theorem row_at (n : Fin 220) (p : Fin 512) (k : Fin 1024) : val_main_v2 (F := Ideal) x0 (ix3 n p k)
    = x0 (ix2 (⟨512 * n.val + p.val, by omega⟩ : Fin 112640) (⟨k.val, by omega⟩ : Fin 1152)) := by
  have hk := k.isLt
  rw [val_main_v2_apply, val_main_v1_apply, val_main_v0_apply]
  refine congrArg x0 (funext fun a => Fin.ext ?_)
  match a with
  | ⟨0, _⟩ => show ((n.val * 512 + p.val) * 1024 + k.val) / 1024 = 512 * n.val + p.val; omega
  | ⟨1, _⟩ => show ((n.val * 512 + p.val) * 1024 + k.val) % 1024 = k.val; omega
omit hE in
theorem lane_at (n : Fin 220) (p : Fin 512) (k : Fin 128) : val_main_v5 (F := Ideal) x0 (ix3 n p k)
    = x0 (ix2 (⟨512 * n.val + p.val, by omega⟩ : Fin 112640) (⟨1024 + k.val, by omega⟩ : Fin 1152)) := by
  have hk := k.isLt
  rw [val_main_v5_apply, val_main_v4_apply, val_main_v3_apply]
  refine congrArg x0 (funext fun a => Fin.ext ?_)
  match a with
  | ⟨0, _⟩ => show ((n.val * 512 + p.val) * 128 + k.val) / 128 = 512 * n.val + p.val; omega
  | ⟨1, _⟩ => show 1024 + ((n.val * 512 + p.val) * 128 + k.val) % 128 = 1024 + k.val; omega

/-- The lanes of tile `n`'s row `p` beside its features. -/
abbrev lanes (n : Fin 220) (p : Fin 512) (k : Fin 128) : EReal :=
  x0 (ix2 (⟨512 * n.val + p.val, by omega⟩ : Fin 112640) (⟨1024 + k.val, by omega⟩ : Fin 1152))

omit hE in
theorem weight_at (n : Fin 220) (p : Fin 512) : val_main_v22 (F := Ideal) x0 x1 (ix2 n p) = gate (wordOf x1 n.val n.isLt) (lanes x0 n p) := by
  have hp := p.isLt
  have h0 : idx_main_v6 (idx_main_v7 (ix2 n p)) = ix3 n p 0 := funext fun a => Fin.ext (match a with
    | ⟨0, _⟩ => by show (n.val * 512 + p.val) / 512 = n.val; omega
    | ⟨1, _⟩ => by show (n.val * 512 + p.val) / 1 % 512 = p.val; omega
    | ⟨2, _⟩ => rfl)
  have h1 : idx_main_v12 (idx_main_v13 (ix2 n p)) = ix3 n p 1 := funext fun a => Fin.ext (match a with
    | ⟨0, _⟩ => by show (n.val * 512 + p.val) / 512 = n.val; omega
    | ⟨1, _⟩ => by show (n.val * 512 + p.val) / 1 % 512 = p.val; omega
    | ⟨2, _⟩ => rfl)
  have h2 : idx_main_v14 (idx_main_v15 (ix2 n p)) = ix3 n p 2 := funext fun a => Fin.ext (match a with
    | ⟨0, _⟩ => by show (n.val * 512 + p.val) / 512 = n.val; omega
    | ⟨1, _⟩ => by show (n.val * 512 + p.val) / 1 % 512 = p.val; omega
    | ⟨2, _⟩ => rfl)
  have h3 : idx_main_v17 (idx_main_v18 (ix2 n p)) = ix3 n p 3 := funext fun a => Fin.ext (match a with
    | ⟨0, _⟩ => by show (n.val * 512 + p.val) / 512 = n.val; omega
    | ⟨1, _⟩ => by show (n.val * 512 + p.val) / 1 % 512 = p.val; omega
    | ⟨2, _⟩ => rfl)
  have h4 : idx_main_v19 (idx_main_v20 (ix2 n p)) = ix3 n p 4 := funext fun a => Fin.ext (match a with
    | ⟨0, _⟩ => by show (n.val * 512 + p.val) / 512 = n.val; omega
    | ⟨1, _⟩ => by show (n.val * 512 + p.val) / 1 % 512 = p.val; omega
    | ⟨2, _⟩ => rfl)
  have h8 : idx_main_v8 (idx_main_v10 (ix2 n p)) = ix1 n := funext fun a => match a with | ⟨0, _⟩ => rfl
  rw [val_main_v22_apply, val_main_v11_apply, val_main_v7_apply, val_main_v6_apply, h0, val_main_v10_apply, val_main_v9_apply, val_main_v8_apply, h8,
    val_main_v16_apply, val_main_v13_apply, val_main_v12_apply, h1, val_main_v15_apply, val_main_v14_apply, h2,
    val_main_v21_apply, val_main_v18_apply, val_main_v17_apply, h3, val_main_v20_apply, val_main_v19_apply, h4,
    lane_at, lane_at, lane_at, lane_at, lane_at, word_at x1 n]
  rfl

/-! # The experts -/

/-- Tile `n`'s row `p`, and its expert's first matrix. -/
abbrev feats (n : Fin 220) (p : Fin 512) (k : Fin 1024) : EReal :=
  x0 (ix2 (⟨512 * n.val + p.val, by omega⟩ : Fin 112640) (⟨k.val, by omega⟩ : Fin 1152))
abbrev ups (n : Fin 220) (k : Fin 1024) (f : Fin 512) : EReal := x3 (ix3 (expertOf x1 n) k f)

theorem hid_at (n : Fin 220) (p : Fin 512) (f : Fin 512) : val_main_v30 (F := Ideal) x0 x1 x3 (ix3 n p f) = hid (feats x0 n p) (ups x1 x3 n) f := by
  rw [val_main_v30_apply]
  refine Finset.sum_congr rfl fun k _ => congrArg₂ (· * ·) ?_ ?_
  · have hi : lidx_main_v30 (ix3 n p f) k = ix3 n p k := funext fun a => by match a with | ⟨0, _⟩ => rfl | ⟨1, _⟩ => rfl | ⟨2, _⟩ => rfl
    rw [hi, row_at]
  · have hi : ridx_main_v30 (ix3 n p f) k = ix3 n k f := funext fun a => by match a with | ⟨0, _⟩ => rfl | ⟨1, _⟩ => rfl | ⟨2, _⟩ => rfl
    rw [hi, up_at x1 x3 hE]

theorem act_at (n : Fin 220) (p : Fin 512) (f : Fin 256) : val_main_v37 (F := Ideal) x0 x1 x3 (ix3 n p f)
    = act (feats x0 n p) (gate (wordOf x1 n.val n.isLt) (lanes x0 n p)) (ups x1 x3 n) f := by
  have h31 : val_main_v31 (F := Ideal) x0 x1 x3 (ix3 n p f) = hid (feats x0 n p) (ups x1 x3 n) ⟨f.val, by omega⟩ := by
    rw [val_main_v31_apply, ← hid_at x0 x1 x3 hE]
    exact congrArg _ (funext fun a => by match a with | ⟨0, _⟩ => rfl | ⟨1, _⟩ => rfl | ⟨2, _⟩ => rfl)
  have h32 : val_main_v32 (F := Ideal) x0 x1 x3 (ix3 n p f) = hid (feats x0 n p) (ups x1 x3 n) ⟨256 + f.val, by omega⟩ := by
    rw [val_main_v32_apply, ← hid_at x0 x1 x3 hE]
    exact congrArg _ (funext fun a => by match a with | ⟨0, _⟩ => rfl | ⟨1, _⟩ => rfl | ⟨2, _⟩ => rfl)
  have h36 : idx_main_v35 (idx_main_v36 (ix3 n p f)) = ix2 n p := funext fun a => by match a with | ⟨0, _⟩ => rfl | ⟨1, _⟩ => rfl
  rw [val_main_v37_apply, val_main_v34_apply, val_main_v33_apply, val_main_call1_v5_apply, val_main_call1_v4_apply, val_main_call1_cst_0_apply,
    val_main_call1_v3_apply, val_main_call1_v2_apply, val_main_call1_cst_apply, val_main_call1_v1_apply, val_main_call1_v0_apply, h31, h32,
    val_main_v36_apply, val_main_v35_apply, h36, weight_at]
  show hid _ _ _ * Ideal.div (Ideal.ofBits .f32 0x3F800000#32) (Ideal.ofBits .f32 0x3F800000#32 + Ideal.exp (-hid _ _ _)) * hid _ _ _ * gate _ _ = _
  rw [Ideal.ofBits_one_f32]
  rfl

theorem tile_at (n : Fin 220) (p : Fin 512) (j : Fin 1024) : val_main_v51 (F := Ideal) x0 x1 x2 x3 x4 (ix3 n p j) = tileVal x0 x1 x2 x3 x4 n p j := by
  have h45 : val_main_v45 (F := Ideal) x0 x1 x3 x4 (ix3 n p j) = expertRow (feats x0 n p) (gate (wordOf x1 n.val n.isLt) (lanes x0 n p)) (ups x1 x3 n)
      (fun f => x4 (ix3 (expertOf x1 n) f j)) := by
    rw [val_main_v45_apply]
    refine Finset.sum_congr rfl fun f _ => congrArg₂ (· * ·) ?_ ?_
    · have hi : lidx_main_v45 (ix3 n p j) f = ix3 n p f := funext fun a => by match a with | ⟨0, _⟩ => rfl | ⟨1, _⟩ => rfl | ⟨2, _⟩ => rfl
      rw [hi, act_at x0 x1 x3 hE]
    · have hi : ridx_main_v45 (ix3 n p j) f = ix3 n f j := funext fun a => by match a with | ⟨0, _⟩ => rfl | ⟨1, _⟩ => rfl | ⟨2, _⟩ => rfl
      rw [hi, down_at x1 x4 hE]
  have hc : val_main_call2_v1 (F := Ideal) x2 (ix3 n p j) = IntOp.cmpi .slt (BitVec.ofNat 32 n.val) (oneOf x2) := by
    rw [val_main_call2_v1_apply, val_main_v50_apply, val_main_v47_apply, val_main_v46_apply, val_main_v49_apply, val_main_v48_apply]
    exact congrArg (IntOp.cmpi .slt (BitVec.ofNat 32 n.val)) (congrArg (x2 : IVec S1 32) (funext fun a => match a with | ⟨0, _⟩ => rfl))
  rw [val_main_v51_apply, hc, h45, val_main_call2_v2_apply, val_main_call2_v0_apply, val_main_cst_apply]
  unfold tileVal
  by_cases h : (BitVec.ofNat 32 n.val).toInt < (oneOf x2).toInt
  · rw [if_pos h]
    have h1 : IntOp.cmpi .slt (BitVec.ofNat 32 n.val) (oneOf x2) = 1#1 := by
      simp only [IntOp.cmpi, BitVec.slt_iff_toInt_lt.mpr h]; rfl
    rw [h1]; rfl
  · rw [if_neg h]
    have h1 : IntOp.cmpi .slt (BitVec.ofNat 32 n.val) (oneOf x2) = 0#1 := by
      simp only [IntOp.cmpi, show (BitVec.ofNat 32 n.val).slt (oneOf x2) = false from Bool.eq_false_iff.mpr fun hh => h (BitVec.slt_iff_toInt_lt.mp hh)]; rfl
    rw [h1]
    exact Ideal.ofBits_zero_f32

theorem result_at (n : Fin 220) (p : Fin 512) (j : Fin 1024) : val_main_v53 (F := Ideal) x0 x1 x2 x3 x4 (ix2 (⟨512 * n.val + p.val, by omega⟩ : Fin 112640) j)
    = tileVal x0 x1 x2 x3 x4 n p j := by
  have hp := p.isLt
  have hj := j.isLt
  have hi : idx_main_v53 (ix2 (⟨512 * n.val + p.val, by omega⟩ : Fin 112640) j) = ix3 n p j := funext fun a => Fin.ext (match a with
    | ⟨0, _⟩ => by show ((512 * n.val + p.val) * 1024 + j.val) / 524288 = n.val; omega
    | ⟨1, _⟩ => by show ((512 * n.val + p.val) * 1024 + j.val) / 1024 % 512 = p.val; omega
    | ⟨2, _⟩ => by show ((512 * n.val + p.val) * 1024 + j.val) % 1024 = j.val; omega)
  rw [val_main_v53_apply, hi, val_main_v52_apply, tile_at x0 x1 x2 x3 x4 hE]
  rfl

omit hE in
/-- THE RESULTS AGREE: the reference over the launched arrays is the array that the kernel leaves. -/
theorem equal (m : (ℓ : Loc Cert.Kernel3Ideal.nD Cert.Kernel3Ideal.τ Cert.Kernel3Ideal.sig) → Buf (Elt Ideal) ℓ) (c : Dev Cert.Kernel3Ideal.nD)
    (hT : Cert.Expert.Tables m) (hO : Cert.Expert.Ok m) :
    val_main_v53 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)) = Cert.Expert.G m hO c := by
  obtain rfl : c = 0 := Subsingleton.elim _ _
  funext i
  have h0 : (i 0).val < 112640 := (i 0).isLt
  have hi : i = ix2 (⟨512 * ((i 0).val / 512) + (i 0).val % 512, by omega⟩ : Fin 112640) (i 1 : Fin 1024) := funext fun a => Fin.ext (match a with
    | ⟨0, _⟩ => by show (i 0).val = 512 * ((i 0).val / 512) + (i 0).val % 512; omega
    | ⟨1, _⟩ => rfl)
  rw [hi]
  exact (result_at _ _ _ _ _ hT.1 ⟨(i 0).val / 512, by omega⟩ ⟨(i 0).val % 512, Nat.mod_lt _ (by decide)⟩ (i 1)).trans
    (Cert.Expert.array m hT hO 0 ⟨(i 0).val / 512, by omega⟩ ⟨(i 0).val % 512, Nat.mod_lt _ (by decide)⟩ (i 1)).symm

end Cert.Reference3Ideal.Expert

end
-- ==== Proof.Merge.lean ====
/-
  Hand-written, untrusted. The merge of the three branches, ONE GRID POINT: the point writes its block of frames with the
  gated branches' projection added, and the modulated norms of the same frames; each entry read as its sums over the
  extended reals.
-/
module

public import proofs.«01_k».proof.Proof.Gen.Kernel4Ideal.Frame
public import Idealize.ShloMosaic.Lib.Pointwise.Index
public import Idealize.ShloMosaic.Lib.Pointwise.Tactic
public import Idealize.ShloMosaic.Lib.ValueIdxCore
public import Idealize.ShloMosaic.Lib.Pipeline.ReadBack
public import Idealize.ShloMosaic.Lib.Pipeline.ValueKit.Acc
public import Idealize.ShloMosaic.Lib.Pipeline.ValueKit.Tiles

@[expose] public section

set_option maxRecDepth 16384

noncomputable section

namespace Cert.Kernel4Ideal.Merge

open Idealize.ShloMosaic Idealize.SL.Sem
open Idealize.ShloMosaic.ValueIdx (contrEquiv1)
open Cert.Kernel4Ideal Cert.Kernel4Ideal.Gen

section
variable {F : FTy → Type} [FloatOps F]

/-- Each branch's stretch of the gates' biases. -/
def bias0 (x : Vec F S1x3072 .f32) : Vec F S1x1024 .f32 := View.ld x (Rect.unit ![0, 0] S1x1024.size inb_S1x3072_S1x1024_0_0)
def bias1 (x : Vec F S1x3072 .f32) : Vec F S1x1024 .f32 := View.ld x (Rect.unit ![0, 1024] S1x1024.size inb_S1x3072_S1x1024_0_1024)
def bias2 (x : Vec F S1x3072 .f32) : Vec F S1x1024 .f32 := View.ld x (Rect.unit ![0, 2048] S1x1024.size inb_S1x3072_S1x1024_0_2048)

/-- The rows of a sequence's six modulation rows that scale the projection, shift the norms and scale them. -/
def modRow2 (x : Vec F S1x6x1024 .f32) : Vec F S1x1x1024 .f32 := View.ld x (Rect.unit ![0, 2, 0] S1x1x1024.size inb_S1x6x1024_S1x1x1024_0_2_0)
def modRow3 (x : Vec F S1x6x1024 .f32) : Vec F S1x1x1024 .f32 := View.ld x (Rect.unit ![0, 3, 0] S1x1x1024.size inb_S1x6x1024_S1x1x1024_0_3_0)
def modRow4 (x : Vec F S1x6x1024 .f32) : Vec F S1x1x1024 .f32 := View.ld x (Rect.unit ![0, 4, 0] S1x1x1024.size inb_S1x6x1024_S1x1x1024_0_4_0)

variable (x0 : Vec F S512x1024 .f32) (x1 x2 x3 : Vec F S512x512 .bf16) (x4 x5 x6 : Vec F S512x1024 .bf16) (x7 : Vec F S1x3072 .f32)
    (x8 : Vec F S1x6x1024 .f32) (x9 x10 x11 : Vec F S512x1024 .bf16) (x12 : Vec F S1024x1024 .bf16) (x13 : Vec F S1x1024 .f32)

/-- The new frames of a block. -/
def newBlock : FVec F S512x1024 .f32 :=
  k0_pay5 (k0_pay3 x4 (bias0 x7) x1 x9 x5 (bias1 x7) x2 x10) (k0_pay4 x6 (bias2 x7)) x3 x11 x12 x0 (modRow2 x8)

/-- Their modulated norms. -/
def normBlock : FVec F S512x1024 .bf16 :=
  k0_pay9 (k0_pay6 (k0_pay3 x4 (bias0 x7) x1 x9 x5 (bias1 x7) x2 x10) (k0_pay4 x6 (bias2 x7)) x3 x11 x12 x0 (modRow2 x8) x13)
    (k0_pay7 (modRow4 x8)) (Scalar.ofBits .f32 0x3F800000#32) (modRow3 x8)

variable (x14 : Vec F S1024x256 .bf16) (x15 : Vec F S1x128 .f32) (c : Dev nD) (i : grid0.Coords)
    (arg1 : Memref sig .tc .vmem S512x1024 .f32) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole) (arg8 : Memref sig .tc .vmem S1x3072 .f32) (harg8 : arg8.IsWhole)
    (arg9 : Memref sig .tc .vmem S1x6x1024 .f32) (harg9 : arg9.IsWhole) (arg10 : Memref sig .tc .vmem S512x1024 .bf16) (harg10 : arg10.IsWhole)
    (arg11 : Memref sig .tc .vmem S512x1024 .bf16) (harg11 : arg11.IsWhole) (arg12 : Memref sig .tc .vmem S512x1024 .bf16) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1024x256 .bf16) (harg15 : arg15.IsWhole) (arg16 : Memref sig .tc .vmem S1x128 .f32) (harg16 : arg16.IsWhole)
    (arg17 : Memref sig .tc .vmem S512x1024 .f32) (harg17 : arg17.IsWhole) (arg18 : Memref sig .tc .vmem S512x1024 .bf16) (harg18 : arg18.IsWhole)
    (arg19 : Memref sig .tc .vmem S512x128 .f32) (harg19 : arg19.IsWhole) (arg20 : Memref sig .tc .vmem S1x1x128 .f32) (harg20 : arg20.IsWhole)
    (arg21 : Memref sig .tc .vmem S512x512 .bf16) (harg21 : arg21.IsWhole)

/-- Output 16 at the first point. -/
theorem out_A_16 (hc0 : cond0_0 i) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 x8 x9 x10 x11 x12 x13 x14 x15 = newBlock x0 x1 x2 x3 x4 x5 x6 x7 x8 x9 x10 x11 x12 := by
  unfold out0_A_16; rw [View.read_writes_junk_eq_canon]; unfold kernelRun0_A; dsimp only; sl_unfold_words
  simp (config := {decide := true}) only [↓View.readCov_skip, ↓View.readCov_cons_toLoadRect, ↓View.readCov_fill, View.readAt_eq_ld, Memref.IsWhole.read_unread, View.ld_unit_lit', View.canon_cons_unit_lit']
  rfl

/-- Output 17 at the first point. -/
theorem out_A_17 (hc0 : cond0_0 i) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 x8 x9 x10 x11 x12 x13 x14 x15 = normBlock x0 x1 x2 x3 x4 x5 x6 x7 x8 x9 x10 x11 x12 x13 := by
  unfold out0_A_17; rw [View.read_writes_junk_eq_canon]; unfold kernelRun0_A; dsimp only; sl_unfold_words
  simp (config := {decide := true}) only [↓View.readCov_skip, ↓View.readCov_cons_toLoadRect, ↓View.readCov_fill, View.readAt_eq_ld, Memref.IsWhole.read_unread, View.ld_unit_lit', View.canon_cons_unit_lit']
  rfl

/-- Output 16 at a later point. -/
theorem out_B_16 (hc0 : ¬cond0_0 i) (S : Vec F S512x512 .bf16) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 x8 x9 x10 x11 x12 x13 x14 x15 S = newBlock x0 x1 x2 x3 x4 x5 x6 x7 x8 x9 x10 x11 x12 := by
  unfold out0_B_16; rw [View.read_writes_junk_eq_canon]; unfold kernelRun0_B; dsimp only; sl_unfold_words
  simp (config := {decide := true}) only [↓View.readCov_skip, ↓View.readCov_cons_toLoadRect, ↓View.readCov_fill, View.readAt_eq_ld, Memref.IsWhole.read_unread, View.ld_unit_lit', View.canon_cons_unit_lit']
  rfl

/-- Output 17 at a later point. -/
theorem out_B_17 (hc0 : ¬cond0_0 i) (S : Vec F S512x512 .bf16) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 x8 x9 x10 x11 x12 x13 x14 x15 S = normBlock x0 x1 x2 x3 x4 x5 x6 x7 x8 x9 x10 x11 x12 x13 := by
  unfold out0_B_17; rw [View.read_writes_junk_eq_canon]; unfold kernelRun0_B; dsimp only; sl_unfold_words
  simp (config := {decide := true}) only [↓View.readCov_skip, ↓View.readCov_cons_toLoadRect, ↓View.readCov_fill, View.readAt_eq_ld, Memref.IsWhole.read_unread, View.ld_unit_lit', View.canon_cons_unit_lit']
  rfl
end

/-! ## Read at an index -/

/-- What one frame's new value and norm are computed from. -/
structure Row where
  x : Fin 1024 → EReal
  gate : Fin 3 → Fin 1024 → EReal
  ret : Fin 512 → EReal
  conv : Fin 512 → EReal
  att : Fin 512 → EReal
  bias : Fin 3 → Fin 1024 → EReal
  mod : Fin 6 → Fin 1024 → EReal
  wr : Fin 512 → Fin 1024 → EReal
  wc : Fin 512 → Fin 1024 → EReal
  wa : Fin 512 → Fin 1024 → EReal
  wo : Fin 1024 → Fin 1024 → EReal
  gain : Fin 1024 → EReal

/-- Branch `q`'s gate. -/
def Row.sig (R : Row) (q : Fin 3) (k : Fin 1024) : EReal := Ideal.logistic (R.gate q k + R.bias q k)

/-- The gated branches' sum. -/
def Row.mixed (R : Row) (k : Fin 1024) : EReal :=
  R.sig 0 k * (∑ a, R.ret a * R.wr a k) + R.sig 1 k * (∑ a, R.conv a * R.wc a k) + R.sig 2 k * (∑ a, R.att a * R.wa a k)

/-- The new frame. -/
def Row.new (R : Row) (j : Fin 1024) : EReal := R.x j + R.mod 2 j * ∑ k, R.mixed k * R.wo k j

/-- Its modulated norm. -/
def Row.norm (R : Row) (j : Fin 1024) : EReal :=
  R.new j * Ideal.rsqrt (Ideal.div (∑ a, R.new a * R.new a) (Ideal.ofBits .f32 0x44800000#32) + Ideal.ofBits .f32 0x358637BD#32)
    * R.gain j * (Ideal.ofBits .f32 0x3F800000#32 + R.mod 4 j) + R.mod 3 j

theorem dotBranch (l : FVec Ideal S512x512 .bf16) (r : FVec Ideal S512x1024 .bf16) (a : Fin 512) (e : Fin 1024) :
    matmul (F := Ideal) dot_S512x512_S512x1024_S512x1024_1_0_0_1_n_n none l r (constant S512x1024 .f32 0x00000000#32) (ix2 a e)
      = ∑ k : Fin 512, l (ix2 a k) * r (ix2 k e) := by
  refine (Ideal.matmul_constant_zero_apply dot_S512x512_S512x1024_S512x1024_1_0_0_1_n_n none l r (ix2 a e)).trans ?_
  rw [← (contrEquiv1 dot_S512x512_S512x1024_S512x1024_1_0_0_1_n_n 512 rfl rfl).symm.sum_comp]
  refine Finset.sum_congr rfl fun k _ => congrArg₂ (· * ·) (congrArg l ?_) (congrArg r ?_) <;>
    exact funext fun i => Fin.ext (by match i with | ⟨0, _⟩ => rfl | ⟨1, _⟩ => rfl)

theorem dotOut (l : FVec Ideal S512x1024 .bf16) (r : FVec Ideal S1024x1024 .bf16) (a : Fin 512) (e : Fin 1024) :
    matmul (F := Ideal) dot_S512x1024_S1024x1024_S512x1024_1_0_0_1_n_n none l r (constant S512x1024 .f32 0x00000000#32) (ix2 a e)
      = ∑ k : Fin 1024, l (ix2 a k) * r (ix2 k e) := by
  refine (Ideal.matmul_constant_zero_apply dot_S512x1024_S1024x1024_S512x1024_1_0_0_1_n_n none l r (ix2 a e)).trans ?_
  rw [← (contrEquiv1 dot_S512x1024_S1024x1024_S512x1024_1_0_0_1_n_n 1024 rfl rfl).symm.sum_comp]
  refine Finset.sum_congr rfl fun k _ => congrArg₂ (· * ·) (congrArg l ?_) (congrArg r ?_) <;>
    exact funext fun i => Fin.ext (by match i with | ⟨0, _⟩ => rfl | ⟨1, _⟩ => rfl)

theorem cast_col {α : Type} (x : S512.Idx → α) (r : Fin 512) :
    shapeCast S512x1 x shapeCasts_S512_S512x1 (ix2 r 0) = x (ix1 r) :=
  shapeCast_apply x _ _ (ix1 r) (by
    rw [Shape.rowMajor_val_two, Shape.rowMajor_val_one]; show r.val = r.val * 1 + 0; omega)

theorem cast_row {α : Type} (x : S1x1x1024.Idx → α) (k : Fin 1024) :
    shapeCast S1x1024 x shapeCasts_S1x1x1024_S1x1024 (ix2 0 k) = x (ix3 0 0 k) :=
  shapeCast_apply x _ _ (ix3 0 0 k) (by
    rw [Shape.rowMajor_val_two, Shape.rowMajor_val_three]; show (0 * 1 + 0) * 1024 + k.val = 0 * 1024 + k.val; omega)

theorem row_sum (x : FVec Ideal S512x1024 .f32) (r : Fin 512) (h1 h2) :
    multiReduction (F := Ideal) .add [1] S512 x 0x00000000#32 reduces_S512x1024_S512 h1 h2 (ix1 r) = ∑ e : Fin 1024, x (ix2 r e) := by
  refine (Ideal.multiReduction_add_single _ _ _ _ _ _).trans ?_
  refine Finset.sum_congr rfl fun k _ => congrArg x ?_
  exact funext fun i => Fin.ext (by match i with | ⟨0, _⟩ => rfl | ⟨1, _⟩ => rfl)

/-- The gated retention and convolution. -/
theorem pay3_apply (g0 : Vec Ideal S512x1024 .bf16) (b0 : Vec Ideal S1x1024 .f32) (y0 : Vec Ideal S512x512 .bf16) (w0 : Vec Ideal S512x1024 .bf16)
    (g1 : Vec Ideal S512x1024 .bf16) (b1 : Vec Ideal S1x1024 .f32) (y1 : Vec Ideal S512x512 .bf16) (w1 : Vec Ideal S512x1024 .bf16) (r : Fin 512) (k : Fin 1024) :
    k0_pay3 (F := Ideal) g0 b0 y0 w0 g1 b1 y1 w1 (ix2 r k)
      = Ideal.logistic (g0 (ix2 r k) + b0 (ix2 0 k)) * (∑ a : Fin 512, y0 (ix2 r a) * w0 (ix2 a k))
        + Ideal.logistic (g1 (ix2 r k) + b1 (ix2 0 k)) * (∑ a : Fin 512, y1 (ix2 r a) * w1 (ix2 a k)) := by
  unfold k0_pay3
  rw [← dotBranch, ← dotBranch]
  simp only [shapeCast_self]
  pointwise

theorem pay4_apply (g : Vec Ideal S512x1024 .bf16) (b : Vec Ideal S1x1024 .f32) (r : Fin 512) (k : Fin 1024) :
    k0_pay4 (F := Ideal) g b (ix2 r k) = g (ix2 r k) + b (ix2 0 k) := by
  unfold k0_pay4
  simp only [shapeCast_self]
  pointwise

theorem pay5_apply (u v : FVec Ideal S512x1024 .f32) (y : Vec Ideal S512x512 .bf16) (w : Vec Ideal S512x1024 .bf16) (wo : Vec Ideal S1024x1024 .bf16)
    (x : Vec Ideal S512x1024 .f32) (s : Vec Ideal S1x1x1024 .f32) (r : Fin 512) (j : Fin 1024) :
    k0_pay5 (F := Ideal) u v y w wo x s (ix2 r j)
      = x (ix2 r j) + s (ix3 0 0 j) * ∑ k : Fin 1024,
          (u (ix2 r k) + Ideal.logistic (v (ix2 r k)) * ∑ a : Fin 512, y (ix2 r a) * w (ix2 a k)) * wo (ix2 k j) := by
  have hm : ∀ k : Fin 1024, u (ix2 r k) + Ideal.logistic (v (ix2 r k)) * (∑ a : Fin 512, y (ix2 r a) * w (ix2 a k))
      = (truncf .bf16 (addf u (mulf (logistic v) (matmul (F := Ideal) dot_S512x512_S512x1024_S512x1024_1_0_0_1_n_n none y w
          (constant S512x1024 .f32 0x00000000#32)))) bitsLt_bf16_f32 : FVec Ideal S512x1024 .bf16) (ix2 r k) := fun k => by
    rw [← dotBranch]; rfl
  simp only [hm]
  rw [← dotOut]
  unfold k0_pay5
  simp only [shapeCast_self]
  pointwise
  rw [cast_row]

theorem pay6_apply (u v : FVec Ideal S512x1024 .f32) (y : Vec Ideal S512x512 .bf16) (w : Vec Ideal S512x1024 .bf16) (wo : Vec Ideal S1024x1024 .bf16)
    (x : Vec Ideal S512x1024 .f32) (s : Vec Ideal S1x1x1024 .f32) (g : Vec Ideal S1x1024 .f32) (r : Fin 512) (j : Fin 1024)
    (N : FVec Ideal S512x1024 .f32) (hN : k0_pay5 (F := Ideal) u v y w wo x s = N) :
    k0_pay6 (F := Ideal) u v y w wo x s g (ix2 r j)
      = N (ix2 r j) * Ideal.rsqrt (Ideal.div (∑ a : Fin 1024, N (ix2 r a) * N (ix2 r a)) (Ideal.ofBits .f32 0x44800000#32)
          + Ideal.ofBits .f32 0x358637BD#32) * g (ix2 0 j) := by
  unfold k0_pay6
  rw [hN]
  have hv : ∀ e : Fin 1024, mulf (F := Ideal) (φ := .f32) N N (ix2 r e) = N (ix2 r e) * N (ix2 r e) := fun e => rfl
  have := row_sum (mulf (F := Ideal) (φ := .f32) N N) r (.inl rfl) rfl
  simp only [hv] at this
  rw [← this]
  simp only [shapeCast_self]
  pointwise
  rw [cast_col]

theorem pay9_apply (N : FVec Ideal S512x1024 .f32) (s b : Vec Ideal S1x1x1024 .f32) (r : Fin 512) (j : Fin 1024) :
    k0_pay9 (F := Ideal) N (k0_pay7 s) (Scalar.ofBits .f32 0x3F800000#32) b (ix2 r j)
      = N (ix2 r j) * (Ideal.ofBits .f32 0x3F800000#32 + s (ix3 0 0 j)) + b (ix3 0 0 j) := by
  unfold k0_pay9 k0_pay8 k0_pay7
  pointwise
  rw [cast_row, cast_row]

variable (x0 : Vec Ideal S512x1024 .f32) (x1 x2 x3 : Vec Ideal S512x512 .bf16) (x4 x5 x6 : Vec Ideal S512x1024 .bf16) (x7 : Vec Ideal S1x3072 .f32)
    (x8 : Vec Ideal S1x6x1024 .f32) (x9 x10 x11 : Vec Ideal S512x1024 .bf16) (x12 : Vec Ideal S1024x1024 .bf16) (x13 : Vec Ideal S1x1024 .f32) (r : Fin 512)

/-- The data of row `r` of a point's blocks. -/
def rowOf : Row where
  x k := x0 (ix2 r k)
  gate q k := if q = 0 then x4 (ix2 r k) else if q = 1 then x5 (ix2 r k) else x6 (ix2 r k)
  ret a := x1 (ix2 r a)
  conv a := x2 (ix2 r a)
  att a := x3 (ix2 r a)
  bias q k := x7 (ix2 0 (⟨1024 * q.val + k.val, by omega⟩ : Fin 3072))
  mod q k := x8 (ix3 0 q k)
  wr a k := x9 (ix2 a k)
  wc a k := x10 (ix2 a k)
  wa a k := x11 (ix2 a k)
  wo k j := x12 (ix2 k j)
  gain k := x13 (ix2 0 k)

theorem newBlock_apply (j : Fin 1024) : newBlock (F := Ideal) x0 x1 x2 x3 x4 x5 x6 x7 x8 x9 x10 x11 x12 (ix2 r j) = (rowOf x0 x1 x2 x3 x4 x5 x6 x7 x8 x9 x10 x11 x12 x13 r).new j := by
  refine (pay5_apply ..).trans ?_
  have e0 : ∀ k : Fin 1024, bias0 x7 (ix2 0 k) = x7 (ix2 0 (⟨1024 * (0 : Fin 3).val + k.val, by show 1024 * 0 + k.val < 3072; omega⟩ : Fin 3072)) := fun k =>
    congrArg x7 (funext fun a => Fin.ext (by match a with | ⟨0, _⟩ => rfl | ⟨1, _⟩ => show 0 + 1 * k.val = 1024 * 0 + k.val; omega))
  have e1 : ∀ k : Fin 1024, bias1 x7 (ix2 0 k) = x7 (ix2 0 (⟨1024 * (1 : Fin 3).val + k.val, by show 1024 * 1 + k.val < 3072; omega⟩ : Fin 3072)) := fun k =>
    congrArg x7 (funext fun a => Fin.ext (by match a with | ⟨0, _⟩ => rfl | ⟨1, _⟩ => show 1024 + 1 * k.val = 1024 * 1 + k.val; omega))
  have e2 : ∀ k : Fin 1024, bias2 x7 (ix2 0 k) = x7 (ix2 0 (⟨1024 * (2 : Fin 3).val + k.val, by show 1024 * 2 + k.val < 3072; omega⟩ : Fin 3072)) := fun k =>
    congrArg x7 (funext fun a => Fin.ext (by match a with | ⟨0, _⟩ => rfl | ⟨1, _⟩ => show 2048 + 1 * k.val = 1024 * 2 + k.val; omega))
  have em : modRow2 x8 (ix3 0 0 j) = x8 (ix3 0 2 j) :=
    congrArg x8 (funext fun a => Fin.ext (by match a with | ⟨0, _⟩ => rfl | ⟨1, _⟩ => rfl | ⟨2, _⟩ => show 0 + 1 * j.val = j.val; omega))
  rw [em]
  simp only [pay3_apply, pay4_apply, e0, e1, e2]
  rfl

theorem normBlock_apply (j : Fin 1024) : normBlock (F := Ideal) x0 x1 x2 x3 x4 x5 x6 x7 x8 x9 x10 x11 x12 x13 (ix2 r j) = (rowOf x0 x1 x2 x3 x4 x5 x6 x7 x8 x9 x10 x11 x12 x13 r).norm j := by
  refine (pay9_apply ..).trans ?_
  rw [pay6_apply _ _ _ _ _ _ _ _ r j (newBlock (F := Ideal) x0 x1 x2 x3 x4 x5 x6 x7 x8 x9 x10 x11 x12) rfl]
  have e3 : modRow3 x8 (ix3 0 0 j) = x8 (ix3 0 3 j) :=
    congrArg x8 (funext fun a => Fin.ext (by match a with | ⟨0, _⟩ => rfl | ⟨1, _⟩ => rfl | ⟨2, _⟩ => show 0 + 1 * j.val = j.val; omega))
  have e4 : modRow4 x8 (ix3 0 0 j) = x8 (ix3 0 4 j) :=
    congrArg x8 (funext fun a => Fin.ext (by match a with | ⟨0, _⟩ => rfl | ⟨1, _⟩ => rfl | ⟨2, _⟩ => show 0 + 1 * j.val = j.val; omega))
  rw [e3, e4]
  simp only [newBlock_apply x0 x1 x2 x3 x4 x5 x6 x7 x8 x9 x10 x11 x12 x13]
  rfl

end Cert.Kernel4Ideal.Merge

end
-- ==== Proof.MergeArray.lean ====
/-
  Hand-written, untrusted. What the merge's two ARRAYS hold: the blocks its points read are the launched arrays' rows, so
  every entry is its frame's new value, and its norm.
-/
module

public import proofs.«01_k».proof.Proof.Merge
public import proofs.«01_k».proof.Proof.Gen.Kernel4Ideal.Value
public import Idealize.ShloMosaic.Lib.StableHlo.RunRead

@[expose] public section

set_option maxRecDepth 16384

noncomputable section

namespace Cert.Kernel4Ideal.Merge

open Idealize.ShloMosaic Idealize.ShloMosaic.TcCoe Idealize.SL.Sem
open Cert.Kernel4Ideal Cert.Kernel4Ideal.Gen Cert.Kernel4Ideal.Value

variable (m : (ℓ : Loc nD τ sig) → Buf (Elt Ideal) ℓ) (c : Dev nD)

/-! ## The windows' blocks read at the launch memory -/

theorem lt_N (t : Fin cfg0.N) : t.val < 64 := lt_of_lt_of_eq t.isLt N_0

theorem ix_0 : ∀ t : Fin cfg0.N, win0_0.index t (0 : Fin 2) = t.val ∧ win0_0.index t (1 : Fin 2) = 0 := (by decide +kernel : ∀ t : Fin grid0.N, _)
theorem ix_1 : ∀ t : Fin cfg0.N, win0_1.index t (0 : Fin 2) = t.val ∧ win0_1.index t (1 : Fin 2) = 0 := (by decide +kernel : ∀ t : Fin grid0.N, _)
theorem ix_2 : ∀ t : Fin cfg0.N, win0_2.index t (0 : Fin 2) = t.val ∧ win0_2.index t (1 : Fin 2) = 0 := (by decide +kernel : ∀ t : Fin grid0.N, _)
theorem ix_3 : ∀ t : Fin cfg0.N, win0_3.index t (0 : Fin 2) = t.val ∧ win0_3.index t (1 : Fin 2) = 0 := (by decide +kernel : ∀ t : Fin grid0.N, _)
theorem ix_4 : ∀ t : Fin cfg0.N, win0_4.index t (0 : Fin 2) = t.val ∧ win0_4.index t (1 : Fin 2) = 0 := (by decide +kernel : ∀ t : Fin grid0.N, _)
theorem ix_5 : ∀ t : Fin cfg0.N, win0_5.index t (0 : Fin 2) = t.val ∧ win0_5.index t (1 : Fin 2) = 1 := (by decide +kernel : ∀ t : Fin grid0.N, _)
theorem ix_6 : ∀ t : Fin cfg0.N, win0_6.index t (0 : Fin 2) = t.val ∧ win0_6.index t (1 : Fin 2) = 2 := (by decide +kernel : ∀ t : Fin grid0.N, _)
theorem ix_7 : ∀ t : Fin cfg0.N, win0_7.index t (0 : Fin 2) = 0 ∧ win0_7.index t (1 : Fin 2) = 0 := (by decide +kernel : ∀ t : Fin grid0.N, _)
theorem ix_8 : ∀ t : Fin cfg0.N, win0_8.index t (0 : Fin 3) = t.val / 4 ∧ win0_8.index t (1 : Fin 3) = 0 ∧ win0_8.index t (2 : Fin 3) = 0 :=
  (by decide +kernel : ∀ t : Fin grid0.N, _)
theorem ix_9 : ∀ t : Fin cfg0.N, win0_9.index t (0 : Fin 2) = 0 ∧ win0_9.index t (1 : Fin 2) = 0 := (by decide +kernel : ∀ t : Fin grid0.N, _)
theorem ix_10 : ∀ t : Fin cfg0.N, win0_10.index t (0 : Fin 2) = 0 ∧ win0_10.index t (1 : Fin 2) = 0 := (by decide +kernel : ∀ t : Fin grid0.N, _)
theorem ix_11 : ∀ t : Fin cfg0.N, win0_11.index t (0 : Fin 2) = 0 ∧ win0_11.index t (1 : Fin 2) = 0 := (by decide +kernel : ∀ t : Fin grid0.N, _)
theorem ix_12 : ∀ t : Fin cfg0.N, win0_12.index t (0 : Fin 2) = 0 ∧ win0_12.index t (1 : Fin 2) = 0 := (by decide +kernel : ∀ t : Fin grid0.N, _)
theorem ix_13 : ∀ t : Fin cfg0.N, win0_13.index t (0 : Fin 2) = 0 ∧ win0_13.index t (1 : Fin 2) = 0 := (by decide +kernel : ∀ t : Fin grid0.N, _)

/-- The frames, one array of rows. -/
theorem V_x (b : Fin 16) (f : Fin 2048) (k : Fin 1024) :
    V m c main_v10 (ix2 (⟨2048 * b.val + f.val, by omega⟩ : Fin 32768) k) = m ((c : Thread nD τ).loc main_arg0) (ix3 b f k) := by
  show StableHlo.after hostOps0 (fun b => m (c, b)) (Proc.devRef .tc main_v10) (ix2 _ k) = _
  after_reads_simp
  refine shapeCast_apply _ _ _ (ix3 b f k) ?_
  show (S16x2048x1024.rowMajor (ix3 b f k)).val = (S32768x1024.rowMajor (ix2 _ k)).val
  rw [Shape.rowMajor_val_two, Shape.rowMajor_val_three]
  show (b.val * 2048 + f.val) * 1024 + k.val = (2048 * b.val + f.val) * 1024 + k.val; omega

/-- The modulation rows of a sequence. -/
theorem V_mod (b : Fin 16) (q : Fin 6) (k : Fin 1024) :
    V m c main_v11 (ix3 b q k) = m ((c : Thread nD τ).loc main_arg6) (ix2 b (⟨1024 * q.val + k.val, by omega⟩ : Fin 6144)) := by
  show StableHlo.after hostOps0 (fun b => m (c, b)) (Proc.devRef .tc main_v11) (ix3 b q k) = _
  after_reads_simp
  refine shapeCast_apply _ _ _ (ix2 b (⟨1024 * q.val + k.val, by omega⟩ : Fin 6144)) ?_
  show (S16x6144.rowMajor (ix2 b _)).val = (S16x6x1024.rowMajor (ix3 b q k)).val
  rw [Shape.rowMajor_val_two, Shape.rowMajor_val_three]
  show b.val * 6144 + (1024 * q.val + k.val) = (b.val * 6 + q.val) * 1024 + k.val; omega

/-- The gates' biases and the gains reach the kernel as one row each. -/
theorem V_bias (k : Fin 3072) : V m c main_v16 (ix2 0 k) = m ((c : Thread nD τ).loc main_arg5) (ix1 k) := by
  show StableHlo.after hostOps0 (fun b => m (c, b)) (Proc.devRef .tc main_v16) (ix2 0 k) = _
  after_reads_simp
  refine shapeCast_apply _ _ _ (ix1 k) ?_
  show (S3072.rowMajor (ix1 k)).val = (S1x3072.rowMajor (ix2 0 k)).val
  rw [Shape.rowMajor_val_two, Shape.rowMajor_val_one]; show k.val = 0 * 3072 + k.val; omega
theorem V_gain (k : Fin 1024) : V m c main_v17 (ix2 0 k) = m ((c : Thread nD τ).loc main_arg11) (ix1 k) := by
  show StableHlo.after hostOps0 (fun b => m (c, b)) (Proc.devRef .tc main_v17) (ix2 0 k) = _
  after_reads_simp
  refine shapeCast_apply _ _ _ (ix1 k) ?_
  show (S1024.rowMajor (ix1 k)).val = (S1x1024.rowMajor (ix2 0 k)).val
  rw [Shape.rowMajor_val_two, Shape.rowMajor_val_one]; show k.val = 0 * 1024 + k.val; omega

/-- The weights reach it in the narrow type, which over the extended reals changes nothing. -/
theorem V_wr (i : S512x1024.Idx) : V m c main_v12 i = m ((c : Thread nD τ).loc main_arg7) i := by
  show StableHlo.after hostOps0 (fun b => m (c, b)) (Proc.devRef .tc main_v12) i = _
  after_reads_simp
  rfl
theorem V_wc (i : S512x1024.Idx) : V m c main_v13 i = m ((c : Thread nD τ).loc main_arg8) i := by
  show StableHlo.after hostOps0 (fun b => m (c, b)) (Proc.devRef .tc main_v13) i = _
  after_reads_simp
  rfl
theorem V_wa (i : S512x1024.Idx) : V m c main_v14 i = m ((c : Thread nD τ).loc main_arg9) i := by
  show StableHlo.after hostOps0 (fun b => m (c, b)) (Proc.devRef .tc main_v14) i = _
  after_reads_simp
  rfl
theorem V_wo (i : S1024x1024.Idx) : V m c main_v15 i = m ((c : Thread nD τ).loc main_arg10) i := by
  show StableHlo.after hostOps0 (fun b => m (c, b)) (Proc.devRef .tc main_v15) i = _
  after_reads_simp
  rfl

/-- The sequence and the frame that point `t`'s row `r` holds. -/
abbrev seqOf (t : Fin cfg0.N) : Fin 16 := ⟨t.val / 4, by have := lt_N t; omega⟩
abbrev frameOf (t : Fin cfg0.N) (r : Fin 512) : Fin 2048 := ⟨512 * (t.val % 4) + r.val, by omega⟩
abbrev rowIx (b : Fin 16) (f : Fin 2048) : Fin 32768 := ⟨2048 * b.val + f.val, by omega⟩

theorem read_x (t : Fin cfg0.N) (r : Fin 512) (k : Fin 1024) : iblk m c 0 t (ix2 r k)
    = m ((c : Thread nD τ).loc main_arg0) (ix3 (seqOf t) (frameOf t r) k) := by
  obtain ⟨e0, e1⟩ := ix_0 t
  rw [← V_x m c]
  refine congrArg (V m c main_v10) (funext fun a => Fin.ext ?_)
  match a with
  | ⟨0, _⟩ => show win0_0.index t (0 : Fin 2) * 512 + 1 * r.val = 2048 * (t.val / 4) + (512 * (t.val % 4) + r.val); omega
  | ⟨1, _⟩ => show win0_0.index t (1 : Fin 2) * 1024 + 1 * k.val = k.val; omega

theorem read_ret (t : Fin cfg0.N) (r a : Fin 512) : iblk m c 1 t (ix2 r a)
    = m ((c : Thread nD τ).loc main_arg2) (ix2 (rowIx (seqOf t) (frameOf t r)) a) := by
  obtain ⟨e0, e1⟩ := ix_1 t
  refine congrArg (m ((c : Thread nD τ).loc main_arg2)) (funext fun i => Fin.ext ?_)
  match i with
  | ⟨0, _⟩ => show win0_1.index t (0 : Fin 2) * 512 + 1 * r.val = 2048 * (t.val / 4) + (512 * (t.val % 4) + r.val); omega
  | ⟨1, _⟩ => show win0_1.index t (1 : Fin 2) * 512 + 1 * a.val = a.val; omega
theorem read_conv (t : Fin cfg0.N) (r a : Fin 512) : iblk m c 2 t (ix2 r a)
    = m ((c : Thread nD τ).loc main_arg3) (ix2 (rowIx (seqOf t) (frameOf t r)) a) := by
  obtain ⟨e0, e1⟩ := ix_2 t
  refine congrArg (m ((c : Thread nD τ).loc main_arg3)) (funext fun i => Fin.ext ?_)
  match i with
  | ⟨0, _⟩ => show win0_2.index t (0 : Fin 2) * 512 + 1 * r.val = 2048 * (t.val / 4) + (512 * (t.val % 4) + r.val); omega
  | ⟨1, _⟩ => show win0_2.index t (1 : Fin 2) * 512 + 1 * a.val = a.val; omega
theorem read_att (t : Fin cfg0.N) (r a : Fin 512) : iblk m c 3 t (ix2 r a)
    = m ((c : Thread nD τ).loc main_arg4) (ix2 (rowIx (seqOf t) (frameOf t r)) a) := by
  obtain ⟨e0, e1⟩ := ix_3 t
  refine congrArg (m ((c : Thread nD τ).loc main_arg4)) (funext fun i => Fin.ext ?_)
  match i with
  | ⟨0, _⟩ => show win0_3.index t (0 : Fin 2) * 512 + 1 * r.val = 2048 * (t.val / 4) + (512 * (t.val % 4) + r.val); omega
  | ⟨1, _⟩ => show win0_3.index t (1 : Fin 2) * 512 + 1 * a.val = a.val; omega

/-- The three column blocks of the projected frames, none of them cut. -/
theorem read_g0 (t : Fin cfg0.N) (r : Fin 512) (k : Fin 1024) : X0_4 m c t (ix2 r k)
    = m ((c : Thread nD τ).loc main_arg1) (ix2 (rowIx (seqOf t) (frameOf t r)) (⟨k.val, by omega⟩ : Fin 7680)) := by
  obtain ⟨e0, e1⟩ := ix_4 t
  unfold X0_4 Pipeline.Window.fill
  rw [dif_pos (moved0_4 t (ix2 r k))]
  refine congrArg (m ((c : Thread nD τ).loc main_arg1)) (funext fun i => Fin.ext ?_)
  match i with
  | ⟨0, _⟩ => show win0_4.index t (0 : Fin 2) * 512 + 1 * r.val = 2048 * (t.val / 4) + (512 * (t.val % 4) + r.val); omega
  | ⟨1, _⟩ => show win0_4.index t (1 : Fin 2) * 1024 + 1 * k.val = k.val; omega
theorem read_g1 (t : Fin cfg0.N) (r : Fin 512) (k : Fin 1024) : X0_5 m c t (ix2 r k)
    = m ((c : Thread nD τ).loc main_arg1) (ix2 (rowIx (seqOf t) (frameOf t r)) (⟨1024 + k.val, by omega⟩ : Fin 7680)) := by
  obtain ⟨e0, e1⟩ := ix_5 t
  unfold X0_5 Pipeline.Window.fill
  rw [dif_pos (moved0_5 t (ix2 r k))]
  refine congrArg (m ((c : Thread nD τ).loc main_arg1)) (funext fun i => Fin.ext ?_)
  match i with
  | ⟨0, _⟩ => show win0_5.index t (0 : Fin 2) * 512 + 1 * r.val = 2048 * (t.val / 4) + (512 * (t.val % 4) + r.val); omega
  | ⟨1, _⟩ => show win0_5.index t (1 : Fin 2) * 1024 + 1 * k.val = 1024 + k.val; omega
theorem read_g2 (t : Fin cfg0.N) (r : Fin 512) (k : Fin 1024) : X0_6 m c t (ix2 r k)
    = m ((c : Thread nD τ).loc main_arg1) (ix2 (rowIx (seqOf t) (frameOf t r)) (⟨2048 + k.val, by omega⟩ : Fin 7680)) := by
  obtain ⟨e0, e1⟩ := ix_6 t
  unfold X0_6 Pipeline.Window.fill
  rw [dif_pos (moved0_6 t (ix2 r k))]
  refine congrArg (m ((c : Thread nD τ).loc main_arg1)) (funext fun i => Fin.ext ?_)
  match i with
  | ⟨0, _⟩ => show win0_6.index t (0 : Fin 2) * 512 + 1 * r.val = 2048 * (t.val / 4) + (512 * (t.val % 4) + r.val); omega
  | ⟨1, _⟩ => show win0_6.index t (1 : Fin 2) * 1024 + 1 * k.val = 2048 + k.val; omega

theorem read_bias (t : Fin cfg0.N) (k : Fin 3072) : iblk m c 7 t (ix2 0 k) = m ((c : Thread nD τ).loc main_arg5) (ix1 k) := by
  obtain ⟨e0, e1⟩ := ix_7 t
  rw [← V_bias m c]
  refine congrArg (V m c main_v16) (funext fun a => Fin.ext ?_)
  match a with
  | ⟨0, _⟩ => show win0_7.index t (0 : Fin 2) * 1 + 1 * 0 = 0; omega
  | ⟨1, _⟩ => show win0_7.index t (1 : Fin 2) * 3072 + 1 * k.val = k.val; omega

theorem read_mod (t : Fin cfg0.N) (q : Fin 6) (k : Fin 1024) : iblk m c 8 t (ix3 0 q k)
    = m ((c : Thread nD τ).loc main_arg6) (ix2 (seqOf t) (⟨1024 * q.val + k.val, by omega⟩ : Fin 6144)) := by
  obtain ⟨e0, e1, e2⟩ := ix_8 t
  rw [← V_mod m c]
  refine congrArg (V m c main_v11) (funext fun a => Fin.ext ?_)
  match a with
  | ⟨0, _⟩ => show win0_8.index t (0 : Fin 3) * 1 + 1 * 0 = t.val / 4; omega
  | ⟨1, _⟩ => show win0_8.index t (1 : Fin 3) * 6 + 1 * q.val = q.val; omega
  | ⟨2, _⟩ => show win0_8.index t (2 : Fin 3) * 1024 + 1 * k.val = k.val; omega

theorem read_wr (t : Fin cfg0.N) (a : Fin 512) (k : Fin 1024) : iblk m c 9 t (ix2 a k) = m ((c : Thread nD τ).loc main_arg7) (ix2 a k) := by
  obtain ⟨e0, e1⟩ := ix_9 t
  rw [← V_wr m c]
  refine congrArg (V m c main_v12) (funext fun i => Fin.ext ?_)
  match i with
  | ⟨0, _⟩ => show win0_9.index t (0 : Fin 2) * 512 + 1 * a.val = a.val; omega
  | ⟨1, _⟩ => show win0_9.index t (1 : Fin 2) * 1024 + 1 * k.val = k.val; omega
theorem read_wc (t : Fin cfg0.N) (a : Fin 512) (k : Fin 1024) : iblk m c 10 t (ix2 a k) = m ((c : Thread nD τ).loc main_arg8) (ix2 a k) := by
  obtain ⟨e0, e1⟩ := ix_10 t
  rw [← V_wc m c]
  refine congrArg (V m c main_v13) (funext fun i => Fin.ext ?_)
  match i with
  | ⟨0, _⟩ => show win0_10.index t (0 : Fin 2) * 512 + 1 * a.val = a.val; omega
  | ⟨1, _⟩ => show win0_10.index t (1 : Fin 2) * 1024 + 1 * k.val = k.val; omega
theorem read_wa (t : Fin cfg0.N) (a : Fin 512) (k : Fin 1024) : iblk m c 11 t (ix2 a k) = m ((c : Thread nD τ).loc main_arg9) (ix2 a k) := by
  obtain ⟨e0, e1⟩ := ix_11 t
  rw [← V_wa m c]
  refine congrArg (V m c main_v14) (funext fun i => Fin.ext ?_)
  match i with
  | ⟨0, _⟩ => show win0_11.index t (0 : Fin 2) * 512 + 1 * a.val = a.val; omega
  | ⟨1, _⟩ => show win0_11.index t (1 : Fin 2) * 1024 + 1 * k.val = k.val; omega
theorem read_wo (t : Fin cfg0.N) (a k : Fin 1024) : iblk m c 12 t (ix2 a k) = m ((c : Thread nD τ).loc main_arg10) (ix2 a k) := by
  obtain ⟨e0, e1⟩ := ix_12 t
  rw [← V_wo m c]
  refine congrArg (V m c main_v15) (funext fun i => Fin.ext ?_)
  match i with
  | ⟨0, _⟩ => show win0_12.index t (0 : Fin 2) * 1024 + 1 * a.val = a.val; omega
  | ⟨1, _⟩ => show win0_12.index t (1 : Fin 2) * 1024 + 1 * k.val = k.val; omega
theorem read_gain (t : Fin cfg0.N) (k : Fin 1024) : iblk m c 13 t (ix2 0 k) = m ((c : Thread nD τ).loc main_arg11) (ix1 k) := by
  obtain ⟨e0, e1⟩ := ix_13 t
  rw [← V_gain m c]
  refine congrArg (V m c main_v17) (funext fun a => Fin.ext ?_)
  match a with
  | ⟨0, _⟩ => show win0_13.index t (0 : Fin 2) * 1 + 1 * 0 = 0; omega
  | ⟨1, _⟩ => show win0_13.index t (1 : Fin 2) * 1024 + 1 * k.val = k.val; omega

/-! ## Over the points -/

/-- The data of frame `f` of sequence `b`, from the launched arrays. -/
def rowAt (b : Fin 16) (f : Fin 2048) : Row where
  x k := m ((c : Thread nD τ).loc main_arg0) (ix3 b f k)
  gate q k := m ((c : Thread nD τ).loc main_arg1) (ix2 (rowIx b f) (⟨1024 * q.val + k.val, by omega⟩ : Fin 7680))
  ret a := m ((c : Thread nD τ).loc main_arg2) (ix2 (rowIx b f) a)
  conv a := m ((c : Thread nD τ).loc main_arg3) (ix2 (rowIx b f) a)
  att a := m ((c : Thread nD τ).loc main_arg4) (ix2 (rowIx b f) a)
  bias q k := m ((c : Thread nD τ).loc main_arg5) (ix1 (⟨1024 * q.val + k.val, by omega⟩ : Fin 3072))
  mod q k := m ((c : Thread nD τ).loc main_arg6) (ix2 b (⟨1024 * q.val + k.val, by omega⟩ : Fin 6144))
  wr a k := m ((c : Thread nD τ).loc main_arg7) (ix2 a k)
  wc a k := m ((c : Thread nD τ).loc main_arg8) (ix2 a k)
  wa a k := m ((c : Thread nD τ).loc main_arg9) (ix2 a k)
  wo k j := m ((c : Thread nD τ).loc main_arg10) (ix2 k j)
  gain k := m ((c : Thread nD τ).loc main_arg11) (ix1 k)

/-- The blocks read at point `t` hold its frames' data. -/
theorem rows (t : Fin cfg0.N) (r : Fin 512) :
    rowOf (iblk m c 0 t) (iblk m c 1 t) (iblk m c 2 t) (iblk m c 3 t) (X0_4 m c t) (X0_5 m c t) (X0_6 m c t) (iblk m c 7 t) (iblk m c 8 t)
      (iblk m c 9 t) (iblk m c 10 t) (iblk m c 11 t) (iblk m c 12 t) (iblk m c 13 t) r = rowAt m c (seqOf t) (frameOf t r) := by
  have hg : ∀ (q : Fin 3) (k : Fin 1024), (if q = 0 then X0_4 m c t (ix2 r k) else if q = 1 then X0_5 m c t (ix2 r k) else X0_6 m c t (ix2 r k) : EReal)
      = m ((c : Thread nD τ).loc main_arg1) (ix2 (rowIx (seqOf t) (frameOf t r)) (⟨1024 * q.val + k.val, by omega⟩ : Fin 7680)) := fun q k => by
    match q with
    | ⟨0, _⟩ =>
      refine (if_pos rfl).trans ((read_g0 m c t r k).trans (congrArg _ (congrArg (ix2 _) (Fin.ext ?_))))
      show k.val = 1024 * 0 + k.val; omega
    | ⟨1, _⟩ =>
      refine (if_neg (show ¬(1 : Fin 3) = 0 by decide)).trans ((if_pos rfl).trans ((read_g1 m c t r k).trans (congrArg _ (congrArg (ix2 _) (Fin.ext ?_)))))
      show 1024 + k.val = 1024 * 1 + k.val; omega
    | ⟨2, _⟩ =>
      refine (if_neg (show ¬(2 : Fin 3) = 0 by decide)).trans ((if_neg (show ¬(2 : Fin 3) = 1 by decide)).trans
        ((read_g2 m c t r k).trans (congrArg _ (congrArg (ix2 _) (Fin.ext ?_)))))
      show 2048 + k.val = 1024 * 2 + k.val; omega
  unfold rowOf rowAt
  simp only [hg, read_x, read_ret, read_conv, read_att, read_bias, read_mod, read_wr, read_wc, read_wa, read_wo, read_gain]

/-- The blocks written at point `t`. -/
theorem written16 (t : Fin cfg0.N) (r : Fin 512) (j : Fin 1024) : (outsAt0 m c t.val t.isLt).1 (ix2 r j)
    = (rowAt m c (seqOf t) (frameOf t r)).new j := by
  rw [← rows m c t r]
  by_cases h0 : t.val % 64 = 0
  · rw [outsAt0_A m c t h0, out_A_16]; exact newBlock_apply ..
  · rw [outsAt0_B m c t h0, out_B_16]; exact newBlock_apply ..
theorem written17 (t : Fin cfg0.N) (r : Fin 512) (j : Fin 1024) : (outsAt0 m c t.val t.isLt).2.1 (ix2 r j)
    = (rowAt m c (seqOf t) (frameOf t r)).norm j := by
  rw [← rows m c t r]
  by_cases h0 : t.val % 64 = 0
  · rw [outsAt0_A m c t h0, out_A_17]; exact normBlock_apply ..
  · rw [outsAt0_B m c t h0, out_B_17]; exact normBlock_apply ..

/-- The point and the row that hold frame `f` of sequence `b`. -/
theorem point_of (b : Fin 16) (f : Fin 2048) (h : (2048 * b.val + f.val) / 512 < cfg0.N) :
    rowAt m c (seqOf ⟨(2048 * b.val + f.val) / 512, h⟩) (frameOf ⟨(2048 * b.val + f.val) / 512, h⟩ ⟨(2048 * b.val + f.val) % 512, by omega⟩) = rowAt m c b f :=
  congrArg₂ (rowAt m c) (Fin.ext (by show (2048 * b.val + f.val) / 512 / 4 = b.val; omega))
    (Fin.ext (by show 512 * ((2048 * b.val + f.val) / 512 % 4) + (2048 * b.val + f.val) % 512 = f.val; omega))

/-- THE FRAMES WRITTEN, at frame `f` of sequence `b`. -/
theorem array16 (b : Fin 16) (f : Fin 2048) (j : Fin 1024) : G16 m c (ix2 (rowIx b f) j) = (rowAt m c b f).new j := by
  have hb := b.isLt; have hf := f.isLt; have hj := j.isLt
  have hp : pt16Of (ix2 (rowIx b f) j) = (2048 * b.val + f.val) / 512 := by
    show 1 * ((2048 * b.val + f.val) / 512 - 0) + 1 * (j.val / 1024 - 0) = _; omega
  have hlt : (2048 * b.val + f.val) / 512 < cfg0.N := lt_of_lt_of_eq (by omega : (2048 * b.val + f.val) / 512 < 64) N_0.symm
  have hl : loc16Of (ix2 (rowIx b f) j) = ix2 (⟨(2048 * b.val + f.val) % 512, by omega⟩ : Fin 512) j := by
    funext a
    match a with
    | ⟨0, _⟩ => rfl
    | ⟨1, _⟩ => exact Fin.ext (Nat.mod_eq_of_lt hj)
  unfold G16
  rw [dif_pos (by rw [hp]; exact hlt), hl]
  have key := written16 m c ⟨(2048 * b.val + f.val) / 512, hlt⟩ ⟨(2048 * b.val + f.val) % 512, by omega⟩ j
  rw [outsAt0_sweep, point_of] at key
  rw [fold0_congr m c (pt16Of (ix2 (rowIx b f) j)) (by rw [Nat.zero_add, hp]; exact hlt) ((2048 * b.val + f.val) / 512)
    (by rw [Nat.zero_add]; exact hlt) hp]
  exact key

/-- THE NORMS WRITTEN. -/
theorem array17 (b : Fin 16) (f : Fin 2048) (j : Fin 1024) : G17 m c (ix2 (rowIx b f) j) = (rowAt m c b f).norm j := by
  have hb := b.isLt; have hf := f.isLt; have hj := j.isLt
  have hp : pt17Of (ix2 (rowIx b f) j) = (2048 * b.val + f.val) / 512 := by
    show 1 * ((2048 * b.val + f.val) / 512 - 0) + 1 * (j.val / 1024 - 0) = _; omega
  have hlt : (2048 * b.val + f.val) / 512 < cfg0.N := lt_of_lt_of_eq (by omega : (2048 * b.val + f.val) / 512 < 64) N_0.symm
  have hl : loc17Of (ix2 (rowIx b f) j) = ix2 (⟨(2048 * b.val + f.val) % 512, by omega⟩ : Fin 512) j := by
    funext a
    match a with
    | ⟨0, _⟩ => rfl
    | ⟨1, _⟩ => exact Fin.ext (Nat.mod_eq_of_lt hj)
  unfold G17
  rw [dif_pos (by rw [hp]; exact hlt), hl]
  have key := written17 m c ⟨(2048 * b.val + f.val) / 512, hlt⟩ ⟨(2048 * b.val + f.val) % 512, by omega⟩ j
  rw [outsAt0_sweep, point_of] at key
  rw [fold0_congr m c (pt17Of (ix2 (rowIx b f) j)) (by rw [Nat.zero_add, hp]; exact hlt) ((2048 * b.val + f.val) / 512)
    (by rw [Nat.zero_add]; exact hlt) hp]
  exact key

end Cert.Kernel4Ideal.Merge

end
-- ==== Proof.Ref4.lean ====
/-
  Hand-written, untrusted. What the REFERENCE's merge computes, read at one frame and column, and that the kernel's two
  arrays hold it.
-/
module

public import proofs.«01_k».proof.Proof.MergeArray
public import proofs.«01_k».proof.Proof.Gen.Reference4Ideal.Read
public import Idealize.ShloMosaic.Lib.IdealHost

@[expose] public section

set_option maxRecDepth 16384

noncomputable section

namespace Cert.Reference4Ideal.Merge

open Idealize.ShloMosaic Idealize.SL.Sem
open Cert.Reference4Ideal Cert.Reference4Ideal.Gen Cert.Reference4Ideal.Read
open Cert.Kernel4Ideal.Merge (Row Row.sig Row.mixed Row.new Row.norm rowIx array16 array17)

variable (x0 : (⟨S16x2048x1024, .f32⟩ : BufTy).Contents (Elt Ideal)) (x1 : (⟨S32768x7680, .bf16⟩ : BufTy).Contents (Elt Ideal))
  (x2 x3 x4 : (⟨S32768x512, .bf16⟩ : BufTy).Contents (Elt Ideal)) (x5 : (⟨S3072, .f32⟩ : BufTy).Contents (Elt Ideal))
  (x6 : (⟨S16x6144, .f32⟩ : BufTy).Contents (Elt Ideal)) (x7 x8 x9 : (⟨S512x1024, .f32⟩ : BufTy).Contents (Elt Ideal))
  (x10 : (⟨S1024x1024, .f32⟩ : BufTy).Contents (Elt Ideal)) (x11 : (⟨S1024, .f32⟩ : BufTy).Contents (Elt Ideal))

/-- The data of frame `f` of sequence `b`. -/
def rowAt (b : Fin 16) (f : Fin 2048) : Row where
  x k := x0 (ix3 b f k)
  gate q k := x1 (ix2 (rowIx b f) (⟨1024 * q.val + k.val, by omega⟩ : Fin 7680))
  ret a := x2 (ix2 (rowIx b f) a)
  conv a := x3 (ix2 (rowIx b f) a)
  att a := x4 (ix2 (rowIx b f) a)
  bias q k := x5 (ix1 (⟨1024 * q.val + k.val, by omega⟩ : Fin 3072))
  mod q k := x6 (ix2 b (⟨1024 * q.val + k.val, by omega⟩ : Fin 6144))
  wr a k := x7 (ix2 a k)
  wc a k := x8 (ix2 a k)
  wa a k := x9 (ix2 a k)
  wo k j := x10 (ix2 k j)
  gain k := x11 (ix1 k)

/-- A branch's gate: the quotient of one by one and the exponential of the gate's negation. -/
theorem sig_at (b : Fin 16) (f : Fin 2048) (q : Fin 3) (k : Fin 1024) :
    val_main_v24 (F := Ideal) x1 x5 (ix4 b f q k) = (rowAt x0 x1 x2 x3 x4 x5 x6 x7 x8 x9 x10 x11 b f).sig q k := by
  have hb := b.isLt; have hf := f.isLt; have hq := q.isLt; have hk := k.isLt
  have h18 : idx_main_v18 (ix4 b f q k) = ix3 b f (⟨1024 * q.val + k.val, by omega⟩ : Fin 3072) := funext fun a => Fin.ext (by
    match a with
    | ⟨0, _⟩ => show (((b.val * 2048 + f.val) * 3 + q.val) * 1024 + k.val) / 6291456 = b.val; omega
    | ⟨1, _⟩ => show (((b.val * 2048 + f.val) * 3 + q.val) * 1024 + k.val) / 3072 % 2048 = f.val; omega
    | ⟨2, _⟩ => show (((b.val * 2048 + f.val) * 3 + q.val) * 1024 + k.val) % 3072 = 1024 * q.val + k.val; omega)
  have h5 : idx_main_v3 (idx_main_v5 (ix3 b f (⟨1024 * q.val + k.val, by omega⟩ : Fin 3072)))
      = ix2 (rowIx b f) (⟨1024 * q.val + k.val, by omega⟩ : Fin 7680) := funext fun a => Fin.ext (by
    match a with
    | ⟨0, _⟩ => show ((b.val * 2048 + f.val) * 3072 + (1024 * q.val + k.val)) / 3072 = 2048 * b.val + f.val; omega
    | ⟨1, _⟩ => show ((b.val * 2048 + f.val) * 3072 + (1024 * q.val + k.val)) % 3072 = 1024 * q.val + k.val; omega)
  have h16 : idx_main_v15 (idx_main_v16 (ix3 b f (⟨1024 * q.val + k.val, by omega⟩ : Fin 3072))) = ix1 (⟨1024 * q.val + k.val, by omega⟩ : Fin 3072) :=
    funext fun a => by match a with | ⟨0, _⟩ => rfl
  rw [val_main_v24_apply, val_main_v23_apply, val_main_cst_0_apply, val_main_v22_apply, val_main_v21_apply, val_main_cst_apply, val_main_v20_apply,
    val_main_v19_apply, val_main_v18_apply, h18, val_main_v17_apply, val_main_v5_apply, val_main_v4_apply, val_main_v3_apply, h5,
    val_main_v16_apply, val_main_v15_apply, h16]
  show Ideal.div (Ideal.ofBits .f32 0x3F800000#32) (Ideal.ofBits .f32 0x3F800000#32 + Ideal.exp (-(_ + _))) = _
  rw [Ideal.ofBits_one_f32]
  rfl

theorem ret_at (b : Fin 16) (f : Fin 2048) (k : Fin 1024) : val_main_v8 (F := Ideal) x2 x7 (ix3 b f k)
    = ∑ a, (rowAt x0 x1 x2 x3 x4 x5 x6 x7 x8 x9 x10 x11 b f).ret a * (rowAt x0 x1 x2 x3 x4 x5 x6 x7 x8 x9 x10 x11 b f).wr a k := by
  have hb := b.isLt; have hf := f.isLt
  rw [val_main_v8_apply]
  refine Finset.sum_congr rfl fun a _ => ?_
  have ha := a.isLt
  have hl : idx_main_v7 (lidx_main_v8 (ix3 b f k) a) = ix2 (rowIx b f) a := funext fun i => Fin.ext (by
    match i with
    | ⟨0, _⟩ => show ((b.val * 2048 + f.val) * 512 + a.val) / 512 = 2048 * b.val + f.val; omega
    | ⟨1, _⟩ => show ((b.val * 2048 + f.val) * 512 + a.val) % 512 = a.val; omega)
  have hr : ridx_main_v8 (ix3 b f k) a = ix2 a k := funext fun a => by match a with | ⟨0, _⟩ => rfl | ⟨1, _⟩ => rfl
  rw [val_main_v7_apply, hl, hr]
  rfl

theorem conv_at (b : Fin 16) (f : Fin 2048) (k : Fin 1024) : val_main_v11 (F := Ideal) x3 x8 (ix3 b f k)
    = ∑ a, (rowAt x0 x1 x2 x3 x4 x5 x6 x7 x8 x9 x10 x11 b f).conv a * (rowAt x0 x1 x2 x3 x4 x5 x6 x7 x8 x9 x10 x11 b f).wc a k := by
  have hb := b.isLt; have hf := f.isLt
  rw [val_main_v11_apply]
  refine Finset.sum_congr rfl fun a _ => ?_
  have ha := a.isLt
  have hl : idx_main_v10 (lidx_main_v11 (ix3 b f k) a) = ix2 (rowIx b f) a := funext fun i => Fin.ext (by
    match i with
    | ⟨0, _⟩ => show ((b.val * 2048 + f.val) * 512 + a.val) / 512 = 2048 * b.val + f.val; omega
    | ⟨1, _⟩ => show ((b.val * 2048 + f.val) * 512 + a.val) % 512 = a.val; omega)
  have hr : ridx_main_v11 (ix3 b f k) a = ix2 a k := funext fun a => by match a with | ⟨0, _⟩ => rfl | ⟨1, _⟩ => rfl
  rw [val_main_v10_apply, hl, hr]
  rfl

theorem att_at (b : Fin 16) (f : Fin 2048) (k : Fin 1024) : val_main_v14 (F := Ideal) x4 x9 (ix3 b f k)
    = ∑ a, (rowAt x0 x1 x2 x3 x4 x5 x6 x7 x8 x9 x10 x11 b f).att a * (rowAt x0 x1 x2 x3 x4 x5 x6 x7 x8 x9 x10 x11 b f).wa a k := by
  have hb := b.isLt; have hf := f.isLt
  rw [val_main_v14_apply]
  refine Finset.sum_congr rfl fun a _ => ?_
  have ha := a.isLt
  have hl : idx_main_v13 (lidx_main_v14 (ix3 b f k) a) = ix2 (rowIx b f) a := funext fun i => Fin.ext (by
    match i with
    | ⟨0, _⟩ => show ((b.val * 2048 + f.val) * 512 + a.val) / 512 = 2048 * b.val + f.val; omega
    | ⟨1, _⟩ => show ((b.val * 2048 + f.val) * 512 + a.val) % 512 = a.val; omega)
  have hr : ridx_main_v14 (ix3 b f k) a = ix2 a k := funext fun a => by match a with | ⟨0, _⟩ => rfl | ⟨1, _⟩ => rfl
  rw [val_main_v13_apply, hl, hr]
  rfl

/-- The gated branches' sum. -/
theorem mixed_at (b : Fin 16) (f : Fin 2048) (k : Fin 1024) : val_main_v35 (F := Ideal) x1 x2 x3 x4 x5 x7 x8 x9 (ix3 b f k)
    = (rowAt x0 x1 x2 x3 x4 x5 x6 x7 x8 x9 x10 x11 b f).mixed k := by
  have hb := b.isLt; have hf := f.isLt; have hk := k.isLt
  have h0 : idx_main_v25 (idx_main_v26 (ix3 b f k)) = ix4 b f 0 k := funext fun a => Fin.ext (by
    match a with
    | ⟨0, _⟩ => show ((b.val * 2048 + f.val) * 1024 + k.val) / 2097152 = b.val; omega
    | ⟨1, _⟩ => show ((b.val * 2048 + f.val) * 1024 + k.val) / 1024 % 2048 = f.val; omega
    | ⟨2, _⟩ => rfl
    | ⟨3, _⟩ => show ((b.val * 2048 + f.val) * 1024 + k.val) % 1024 = k.val; omega)
  have h1 : idx_main_v28 (idx_main_v29 (ix3 b f k)) = ix4 b f 1 k := funext fun a => Fin.ext (by
    match a with
    | ⟨0, _⟩ => show ((b.val * 2048 + f.val) * 1024 + k.val) / 2097152 = b.val; omega
    | ⟨1, _⟩ => show ((b.val * 2048 + f.val) * 1024 + k.val) / 1024 % 2048 = f.val; omega
    | ⟨2, _⟩ => rfl
    | ⟨3, _⟩ => show ((b.val * 2048 + f.val) * 1024 + k.val) % 1024 = k.val; omega)
  have h2 : idx_main_v32 (idx_main_v33 (ix3 b f k)) = ix4 b f 2 k := funext fun a => Fin.ext (by
    match a with
    | ⟨0, _⟩ => show ((b.val * 2048 + f.val) * 1024 + k.val) / 2097152 = b.val; omega
    | ⟨1, _⟩ => show ((b.val * 2048 + f.val) * 1024 + k.val) / 1024 % 2048 = f.val; omega
    | ⟨2, _⟩ => rfl
    | ⟨3, _⟩ => show ((b.val * 2048 + f.val) * 1024 + k.val) % 1024 = k.val; omega)
  rw [val_main_v35_apply, val_main_v31_apply, val_main_v27_apply, val_main_v26_apply, val_main_v25_apply, h0, sig_at x0 x1 x2 x3 x4 x5 x6 x7 x8 x9 x10 x11, ret_at x0 x1 x2 x3 x4 x5 x6 x7 x8 x9 x10 x11,
    val_main_v30_apply, val_main_v29_apply, val_main_v28_apply, h1, sig_at x0 x1 x2 x3 x4 x5 x6 x7 x8 x9 x10 x11, conv_at x0 x1 x2 x3 x4 x5 x6 x7 x8 x9 x10 x11,
    val_main_v34_apply, val_main_v33_apply, val_main_v32_apply, h2, sig_at x0 x1 x2 x3 x4 x5 x6 x7 x8 x9 x10 x11, att_at x0 x1 x2 x3 x4 x5 x6 x7 x8 x9 x10 x11]
  rfl

/-- THE NEW FRAME. -/
theorem new_at (b : Fin 16) (f : Fin 2048) (j : Fin 1024) : val_main_v40 (F := Ideal) x0 x1 x2 x3 x4 x5 x6 x7 x8 x9 x10 (ix3 b f j)
    = (rowAt x0 x1 x2 x3 x4 x5 x6 x7 x8 x9 x10 x11 b f).new j := by
  have hp : val_main_v37 (F := Ideal) x1 x2 x3 x4 x5 x7 x8 x9 x10 (ix3 b f j) = ∑ k, (rowAt x0 x1 x2 x3 x4 x5 x6 x7 x8 x9 x10 x11 b f).mixed k * (rowAt x0 x1 x2 x3 x4 x5 x6 x7 x8 x9 x10 x11 b f).wo k j := by
    rw [val_main_v37_apply]
    refine Finset.sum_congr rfl fun k _ => ?_
    have hl : lidx_main_v37 (ix3 b f j) k = ix3 b f k := funext fun a => by match a with | ⟨0, _⟩ => rfl | ⟨1, _⟩ => rfl | ⟨2, _⟩ => rfl
    have hr : ridx_main_v37 (ix3 b f j) k = ix2 k j := funext fun a => by match a with | ⟨0, _⟩ => rfl | ⟨1, _⟩ => rfl
    rw [hl, hr, mixed_at x0 x1 x2 x3 x4 x5 x6 x7 x8 x9 x10 x11]
    rfl
  have hm : idx_main_v0 (idx_main_v36 (idx_main_v38 (ix3 b f j))) = ix2 b (⟨1024 * (2 : Fin 6).val + j.val, by show 1024 * 2 + j.val < 6144; omega⟩ : Fin 6144) :=
    funext fun a => by match a with | ⟨0, _⟩ => rfl | ⟨1, _⟩ => rfl
  rw [val_main_v40_apply, val_main_v39_apply, val_main_v38_apply, val_main_v36_apply, val_main_v0_apply, hm, hp]
  rfl

/-- The reciprocal root mean square of the new frame. -/
theorem rms_at (b : Fin 16) (f : Fin 2048) : val_main_v48 (F := Ideal) x0 x1 x2 x3 x4 x5 x6 x7 x8 x9 x10 (ix3 b f 0)
    = Ideal.rsqrt (Ideal.div (∑ a, (rowAt x0 x1 x2 x3 x4 x5 x6 x7 x8 x9 x10 x11 b f).new a * (rowAt x0 x1 x2 x3 x4 x5 x6 x7 x8 x9 x10 x11 b f).new a)
        (Ideal.ofBits .f32 0x44800000#32) + Ideal.ofBits .f32 0x358637BD#32) := by
  have hs : val_main_v42 (F := Ideal) x0 x1 x2 x3 x4 x5 x6 x7 x8 x9 x10 (ix2 b f) = ∑ a, (rowAt x0 x1 x2 x3 x4 x5 x6 x7 x8 x9 x10 x11 b f).new a * (rowAt x0 x1 x2 x3 x4 x5 x6 x7 x8 x9 x10 x11 b f).new a := by
    rw [val_main_v42_apply, val_main_cst_1_apply]
    refine (congrArg (· + _) (show FloatOps.ofBits (F := Ideal) .f32 0x00000000#32 = 0 from Ideal.ofBits_zero_f32)).trans ?_
    rw [zero_add]
    refine Finset.sum_congr rfl fun k _ => ?_
    have hi : idx_main_v42 (ix2 b f) k = ix3 b f k := funext fun a => by match a with | ⟨0, _⟩ => rfl | ⟨1, _⟩ => rfl | ⟨2, _⟩ => rfl
    rw [val_main_v41_apply, hi, new_at x0 x1 x2 x3 x4 x5 x6 x7 x8 x9 x10 x11]
    rfl
  have h43 : idx_main_v43 (ix3 b f 0) = ix2 b f := funext fun a => by match a with | ⟨0, _⟩ => rfl | ⟨1, _⟩ => rfl
  rw [val_main_v48_apply, val_main_v47_apply, val_main_v45_apply, val_main_v46_apply, val_main_v44_apply, val_main_cst_2_apply, val_main_cst_3_apply,
    val_main_v43_apply, h43, hs]
  rfl

/-- ITS MODULATED NORM. -/
theorem norm_at (b : Fin 16) (f : Fin 2048) (j : Fin 1024) : val_main_v61 (F := Ideal) x0 x1 x2 x3 x4 x5 x6 x7 x8 x9 x10 x11 (ix3 b f j)
    = (rowAt x0 x1 x2 x3 x4 x5 x6 x7 x8 x9 x10 x11 b f).norm j := by
  have h49 : idx_main_v49 (ix3 b f j) = ix3 b f 0 := funext fun a => by match a with | ⟨0, _⟩ => rfl | ⟨1, _⟩ => rfl | ⟨2, _⟩ => rfl
  have h51 : idx_main_v51 (idx_main_v52 (ix3 b f j)) = ix1 j := funext fun a => by match a with | ⟨0, _⟩ => rfl
  have h2 : idx_main_v2 (idx_main_v54 (idx_main_v57 (ix3 b f j))) = ix2 b (⟨1024 * (4 : Fin 6).val + j.val, by show 1024 * 4 + j.val < 6144; omega⟩ : Fin 6144) :=
    funext fun a => by match a with | ⟨0, _⟩ => rfl | ⟨1, _⟩ => rfl
  have h1 : idx_main_v1 (idx_main_v59 (idx_main_v60 (ix3 b f j))) = ix2 b (⟨1024 * (3 : Fin 6).val + j.val, by show 1024 * 3 + j.val < 6144; omega⟩ : Fin 6144) :=
    funext fun a => by match a with | ⟨0, _⟩ => rfl | ⟨1, _⟩ => rfl
  rw [val_main_v61_apply, val_main_v58_apply, val_main_v53_apply, val_main_v50_apply, val_main_v49_apply, h49, rms_at x0 x1 x2 x3 x4 x5 x6 x7 x8 x9 x10 x11, new_at x0 x1 x2 x3 x4 x5 x6 x7 x8 x9 x10 x11,
    val_main_v52_apply, val_main_v51_apply, h51, val_main_v57_apply, val_main_v56_apply, val_main_v55_apply, val_main_cst_4_apply,
    val_main_v54_apply, val_main_v2_apply, h2, val_main_v60_apply, val_main_v59_apply, val_main_v1_apply, h1]
  rfl

theorem row_of (b : Fin 16) (f : Fin 2048) (j : Fin 1024) : idx_main_v62 (ix2 (rowIx b f) j) = ix3 b f j := by
  have hb := b.isLt; have hf := f.isLt; have hj := j.isLt
  exact funext fun a => Fin.ext (by
    match a with
    | ⟨0, _⟩ => show ((2048 * b.val + f.val) * 1024 + j.val) / 2097152 = b.val; omega
    | ⟨1, _⟩ => show ((2048 * b.val + f.val) * 1024 + j.val) / 1024 % 2048 = f.val; omega
    | ⟨2, _⟩ => show ((2048 * b.val + f.val) * 1024 + j.val) % 1024 = j.val; omega)

theorem result_x (b : Fin 16) (f : Fin 2048) (j : Fin 1024) :
    val_main_v62 (F := Ideal) x0 x1 x2 x3 x4 x5 x6 x7 x8 x9 x10 (ix2 (rowIx b f) j) = (rowAt x0 x1 x2 x3 x4 x5 x6 x7 x8 x9 x10 x11 b f).new j := by
  rw [val_main_v62_apply, row_of, new_at x0 x1 x2 x3 x4 x5 x6 x7 x8 x9 x10 x11]
theorem result_h (b : Fin 16) (f : Fin 2048) (j : Fin 1024) :
    val_main_v64 (F := Ideal) x0 x1 x2 x3 x4 x5 x6 x7 x8 x9 x10 x11 (ix2 (rowIx b f) j) = (rowAt x0 x1 x2 x3 x4 x5 x6 x7 x8 x9 x10 x11 b f).norm j := by
  rw [val_main_v64_apply, val_main_v63_apply]
  exact (congrArg (val_main_v61 (F := Ideal) x0 x1 x2 x3 x4 x5 x6 x7 x8 x9 x10 x11) (row_of b f j)).trans (norm_at ..)

section
variable (m : (ℓ : Loc Cert.Kernel4Ideal.nD Cert.Kernel4Ideal.τ Cert.Kernel4Ideal.sig) → Buf (Elt Ideal) ℓ) (c : Dev Cert.Kernel4Ideal.nD)

/-- A row of the results is a frame of a sequence. -/
theorem index_eq (i : S32768x1024.Idx) : i = ix2 (rowIx ⟨(i 0).val / 2048, by have h0 : (i 0).val < 32768 := (i 0).isLt; omega⟩ ⟨(i 0).val % 2048, by omega⟩)
    (i 1 : Fin 1024) := funext fun a => Fin.ext (by
  match a with
  | ⟨0, _⟩ => show (i 0).val = 2048 * ((i 0).val / 2048) + (i 0).val % 2048; omega
  | ⟨1, _⟩ => rfl)

/-- The array the kernel is launched with as its argument. -/
abbrev at4 (r : Ref Cert.Kernel4Ideal.sig .tc) := m ((c.tc : Thread Cert.Kernel4Ideal.nD Cert.Kernel4Ideal.τ).loc r)

/-- Every entry of the kernel's new frames is the reference's. -/
theorem equal_x : val_main_v62 (F := Ideal) (at4 m c Cert.Kernel4Ideal.main_arg0) (at4 m c Cert.Kernel4Ideal.main_arg1) (at4 m c Cert.Kernel4Ideal.main_arg2)
      (at4 m c Cert.Kernel4Ideal.main_arg3) (at4 m c Cert.Kernel4Ideal.main_arg4) (at4 m c Cert.Kernel4Ideal.main_arg5)
      (at4 m c Cert.Kernel4Ideal.main_arg6) (at4 m c Cert.Kernel4Ideal.main_arg7) (at4 m c Cert.Kernel4Ideal.main_arg8)
      (at4 m c Cert.Kernel4Ideal.main_arg9) (at4 m c Cert.Kernel4Ideal.main_arg10)
    = Cert.Kernel4Ideal.Value.G16 m c := by
  funext i
  rw [index_eq i]
  exact (result_x _ _ _ _ _ _ _ _ _ _ _ (at4 m c Cert.Kernel4Ideal.main_arg11) _ _ _).trans (array16 m c _ _ _).symm

/-- Every entry of its norms is the reference's. -/
theorem equal_h : val_main_v64 (F := Ideal) (at4 m c Cert.Kernel4Ideal.main_arg0) (at4 m c Cert.Kernel4Ideal.main_arg1) (at4 m c Cert.Kernel4Ideal.main_arg2)
      (at4 m c Cert.Kernel4Ideal.main_arg3) (at4 m c Cert.Kernel4Ideal.main_arg4) (at4 m c Cert.Kernel4Ideal.main_arg5)
      (at4 m c Cert.Kernel4Ideal.main_arg6) (at4 m c Cert.Kernel4Ideal.main_arg7) (at4 m c Cert.Kernel4Ideal.main_arg8)
      (at4 m c Cert.Kernel4Ideal.main_arg9) (at4 m c Cert.Kernel4Ideal.main_arg10) (at4 m c Cert.Kernel4Ideal.main_arg11)
    = Cert.Kernel4Ideal.Value.G17 m c := by
  funext i
  rw [index_eq i]
  exact (result_h _ _ _ _ _ _ _ _ _ _ _ _ _ _ _).trans (array17 m c _ _ _).symm
end

end Cert.Reference4Ideal.Merge

end
-- ==== Proof.Adaln.lean ====
/-
  Hand-written, untrusted. The modulation's product: each grid point writes one layer's block of columns, the product split
  into three that over the extended reals are one, its low halves being zero where the entries are numbers; and the ARRAY,
  whose every entry is its sum.
-/
module

public import proofs.«01_k».proof.Proof.Gen.Kernel5Ideal.Frame
public import proofs.«01_k».proof.Proof.Gen.Kernel5Ideal.Value
public import Idealize.ShloMosaic.Lib.Pointwise.Index
public import Idealize.ShloMosaic.Lib.Pointwise.Tactic
public import Idealize.ShloMosaic.Lib.ValueIdxCore
public import Idealize.ShloMosaic.Lib.Pipeline.ReadBack
public import Idealize.ShloMosaic.Lib.Pipeline.ValueKit.Acc
public import Idealize.ShloMosaic.Lib.Pipeline.ValueKit.Tiles
public import Idealize.ShloMosaic.Lib.StableHlo.RunRead

@[expose] public section

set_option maxRecDepth 16384

noncomputable section

namespace Cert.Kernel5Ideal.Adaln

open Idealize.ShloMosaic Idealize.ShloMosaic.TcCoe Idealize.SL.Sem
open Idealize.ShloMosaic.ValueIdx (contrEquiv1)
open Cert.Kernel5Ideal Cert.Kernel5Ideal.Gen Cert.Kernel5Ideal.Value

/-! ## One grid point -/

/-- An entry of the conditioning times its logistic. -/
def silu (c : EReal) : EReal := c * Ideal.logistic c

/-- A column of the modulation: the conditioning's activations times the column's weights, and its bias. -/
def mod (C W : Fin 1024 → EReal) (b : EReal) : EReal := (∑ k, silu (C k) * W k) + b

theorem silu_real {c : EReal} (h : c = ((c.toReal : ℝ) : EReal)) : silu c - silu c = 0 := by
  unfold silu
  rw [h, Ideal.logistic_coe, ← EReal.coe_mul, ← EReal.coe_sub, sub_self, EReal.coe_zero]

theorem sub_real {w : EReal} (h : w = ((w.toReal : ℝ) : EReal)) : w - w = 0 := by
  rw [h, ← EReal.coe_sub, sub_self, EReal.coe_zero]

theorem dot_at (l : FVec Ideal S16x1024 .bf16) (r : FVec Ideal S1024x1536 .bf16) (b : Fin 16) (e : Fin 1536) :
    matmul (F := Ideal) dot_S16x1024_S1024x1536_S16x1536_1_0_0_1_n_n none l r (constant S16x1536 .f32 0x00000000#32) (ix2 b e)
      = ∑ k : Fin 1024, l (ix2 b k) * r (ix2 k e) := by
  refine (Ideal.matmul_constant_zero_apply dot_S16x1024_S1024x1536_S16x1536_1_0_0_1_n_n none l r (ix2 b e)).trans ?_
  rw [← (contrEquiv1 dot_S16x1024_S1024x1536_S16x1536_1_0_0_1_n_n 1024 rfl rfl).symm.sum_comp]
  refine Finset.sum_congr rfl fun k _ => congrArg₂ (· * ·) (congrArg l ?_) (congrArg r ?_) <;>
    exact funext fun i => Fin.ext (by match i with | ⟨0, _⟩ => rfl | ⟨1, _⟩ => rfl)

theorem cast_w {α : Type} (x : S1x1024x1536.Idx → α) (k : Fin 1024) (e : Fin 1536) :
    shapeCast S1024x1536 x shapeCasts_S1x1024x1536_S1024x1536 (ix2 k e) = x (ix3 0 k e) :=
  shapeCast_apply x _ _ (ix3 0 k e) (by
    rw [Shape.rowMajor_val_two, Shape.rowMajor_val_three]; show (0 * 1024 + k.val) * 1536 + e.val = k.val * 1536 + e.val; omega)

theorem cast_b {α : Type} (x : S1x1x1536.Idx → α) (e : Fin 1536) :
    shapeCast S1x1536 x shapeCasts_S1x1x1536_S1x1536 (ix2 0 e) = x (ix3 0 0 e) :=
  shapeCast_apply x _ _ (ix3 0 0 e) (by
    rw [Shape.rowMajor_val_two, Shape.rowMajor_val_three]; show (0 * 1 + 0) * 1536 + e.val = 0 * 1536 + e.val; omega)

theorem cast_o {α : Type} (x : S16x1536.Idx → α) (b : Fin 16) (e : Fin 1536) :
    shapeCast S1x16x1536 x shapeCasts_S16x1536_S1x16x1536 (ix3 0 b e) = x (ix2 b e) :=
  shapeCast_apply x _ _ (ix2 b e) (by
    rw [Shape.rowMajor_val_two, Shape.rowMajor_val_three]; show b.val * 1536 + e.val = (0 * 16 + b.val) * 1536 + e.val; omega)

theorem pay1_apply (x : Vec Ideal S16x1024 .f32) (w : Vec Ideal S1x1024x1536 .f32) (y : Vec Ideal S1x1x1536 .f32) (b : Fin 16) (e : Fin 1536)
    (hx : ∀ k, x (ix2 b k) = (((x (ix2 b k)).toReal : ℝ) : EReal)) (hw : ∀ k, w (ix3 0 k e) = (((w (ix3 0 k e)).toReal : ℝ) : EReal)) :
    k0_pay1 (F := Ideal) x w y (ix3 0 b e) = mod (fun k => x (ix2 b k)) (fun k => w (ix3 0 k e)) (y (ix3 0 0 e)) := by
  unfold k0_pay1
  refine (cast_o _ b e).trans ?_
  show (matmul (F := Ideal) dot_S16x1024_S1024x1536_S16x1536_1_0_0_1_n_n none _ _ _ (ix2 b e)
    + matmul (F := Ideal) dot_S16x1024_S1024x1536_S16x1536_1_0_0_1_n_n none _ _ _ (ix2 b e)
    + matmul (F := Ideal) dot_S16x1024_S1024x1536_S16x1536_1_0_0_1_n_n none _ _ _ (ix2 b e)) + shapeCast S1x1536 y shapeCasts_S1x1x1536_S1x1536 _ = _
  rw [dot_at, dot_at, dot_at]
  have e1 : ∀ k : Fin 1024, (silu (x (ix2 b k)) - silu (x (ix2 b k))) * w (ix3 0 k e) = 0 := fun k => by rw [silu_real (hx k), zero_mul]
  have e2 : ∀ k : Fin 1024, silu (x (ix2 b k)) * (w (ix3 0 k e) - w (ix3 0 k e)) = 0 := fun k => by rw [sub_real (hw k), mul_zero]
  have s1 := Finset.sum_congr rfl fun k (_ : k ∈ (Finset.univ : Finset (Fin 1024))) => e1 k
  have s2 := Finset.sum_congr rfl fun k (_ : k ∈ (Finset.univ : Finset (Fin 1024))) => e2 k
  rw [Finset.sum_const_zero] at s1 s2
  unfold mod
  refine congrArg₂ (· + ·) (Eq.trans (congrArg₂ (· + ·) (congrArg₂ (· + ·) (Finset.sum_congr rfl fun k _ => ?_) ?_) ?_) ((add_zero _).trans (add_zero _))) ?_
  · exact congrArg (silu (x (ix2 b k)) * ·) (cast_w w k e)
  · refine Eq.trans (Finset.sum_congr rfl fun k _ => ?_) s1
    exact congrArg ((silu (x (ix2 b k)) - silu (x (ix2 b k))) * ·) (cast_w w k e)
  · refine Eq.trans (Finset.sum_congr rfl fun k _ => ?_) s2
    exact congrArg (fun v : EReal => silu (x (ix2 b k)) * (v - v)) (cast_w w k e)
  · refine Eq.trans (congrArg _ ?_) (cast_b y e)
    exact funext fun a => Fin.ext (by match a with | ⟨0, _⟩ => rfl | ⟨1, _⟩ => rfl)

theorem out_eq (x0 : Vec Ideal S16x1024 .f32) (x1 : Vec Ideal S1x1024x1536 .f32) (x2 : Vec Ideal S1x1x1536 .f32) :
    out0_3 (F := Ideal) x0 x1 x2 = k0_pay1 x0 x1 x2 := by
  unfold out0_3
  simp (config := {decide := true}) only [View.ld_unit_lit', View.canon_cons_unit_lit']

/-! ## The array -/

variable (m : (ℓ : Loc nD τ sig) → Buf (Elt Ideal) ℓ) (c : Dev nD)

theorem lt_N (t : Fin cfg0.N) : t.val < 8 := lt_of_lt_of_eq t.isLt N_0

theorem ix_0 : ∀ t : Fin cfg0.N, win0_0.index t (0 : Fin 2) = 0 ∧ win0_0.index t (1 : Fin 2) = 0 := (by decide +kernel : ∀ t : Fin grid0.N, _)
theorem ix_1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, _)
theorem ix_2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, _)
theorem ix_3 : ∀ t : Fin cfg0.N, win0_3.index t (0 : Fin 3) = t.val / 4 ∧ win0_3.index t (1 : Fin 3) = 0 ∧ win0_3.index t (2 : Fin 3) = t.val % 4 :=
  (by decide +kernel : ∀ t : Fin grid0.N, _)
theorem flush_3 : ∀ t : Fin cfg0.N, (cfg0.win 3).flush t = true := (by decide +kernel : ∀ t : Fin grid0.N, _)

/-- The biases reach the kernel as one row a layer. -/
theorem V_bias (l : Fin 2) (n : Fin 6144) : V m c main_v0 (ix3 l 0 n) = m ((c : Thread nD τ).loc main_arg2) (ix2 l n) := by
  show StableHlo.after hostOps0 (fun b => m (c, b)) (Proc.devRef .tc main_v0) (ix3 l 0 n) = _
  after_reads_simp
  refine shapeCast_apply _ _ _ (ix2 l n) ?_
  show (S2x6144.rowMajor (ix2 l n)).val = (S2x1x6144.rowMajor (ix3 l 0 n)).val
  rw [Shape.rowMajor_val_two, Shape.rowMajor_val_three]
  show l.val * 6144 + n.val = (l.val * 1 + 0) * 6144 + n.val; omega

/-- The layer and the column of point `t`'s column `e`. -/
abbrev layerOf (t : Fin cfg0.N) : Fin 2 := ⟨t.val / 4, by have := lt_N t; omega⟩
abbrev colOf (t : Fin cfg0.N) (e : Fin 1536) : Fin 6144 := ⟨1536 * (t.val % 4) + e.val, by omega⟩

theorem read_c (t : Fin cfg0.N) (b : Fin 16) (k : Fin 1024) : iblk m c 0 t (ix2 b k) = m ((c : Thread nD τ).loc main_arg0) (ix2 b k) := by
  obtain ⟨e0, e1⟩ := ix_0 t
  refine congrArg (m ((c : Thread nD τ).loc main_arg0)) (funext fun i => Fin.ext ?_)
  match i with
  | ⟨0, _⟩ => show win0_0.index t (0 : Fin 2) * 16 + 1 * b.val = b.val; omega
  | ⟨1, _⟩ => show win0_0.index t (1 : Fin 2) * 1024 + 1 * k.val = k.val; omega
theorem read_w (t : Fin cfg0.N) (k : Fin 1024) (e : Fin 1536) : iblk m c 1 t (ix3 0 k e)
    = m ((c : Thread nD τ).loc main_arg1) (ix3 (layerOf t) k (colOf t e)) := by
  obtain ⟨e0, e1, e2⟩ := ix_1 t
  refine congrArg (m ((c : Thread nD τ).loc main_arg1)) (funext fun i => Fin.ext ?_)
  match i with
  | ⟨0, _⟩ => show win0_1.index t (0 : Fin 3) * 1 + 1 * 0 = t.val / 4; omega
  | ⟨1, _⟩ => show win0_1.index t (1 : Fin 3) * 1024 + 1 * k.val = k.val; omega
  | ⟨2, _⟩ => show win0_1.index t (2 : Fin 3) * 1536 + 1 * e.val = 1536 * (t.val % 4) + e.val; omega
theorem read_b (t : Fin cfg0.N) (e : Fin 1536) : iblk m c 2 t (ix3 0 0 e)
    = m ((c : Thread nD τ).loc main_arg2) (ix2 (layerOf t) (colOf t e)) := by
  obtain ⟨e0, e1, e2⟩ := ix_2 t
  rw [← V_bias m c]
  refine congrArg (V m c main_v0) (funext fun i => Fin.ext ?_)
  match i with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 1536 + 1 * e.val = 1536 * (t.val % 4) + e.val; omega

/-- Column `n` of sequence `b`'s modulation in layer `l`. -/
def modAt (l : Fin 2) (b : Fin 16) (n : Fin 6144) : EReal :=
  mod (fun k => m ((c : Thread nD τ).loc main_arg0) (ix2 b k)) (fun k => m ((c : Thread nD τ).loc main_arg1) (ix3 l k n))
    (m ((c : Thread nD τ).loc main_arg2) (ix2 l n))

/-- The launched conditioning and weights are numbers. -/
def Numbers : Prop :=
  (∀ (b : Fin 16) (k : Fin 1024), (m ((c : Thread nD τ).loc main_arg0) (ix2 b k) : EReal) = ((EReal.toReal (m ((c : Thread nD τ).loc main_arg0) (ix2 b k)) : ℝ) : EReal))
  ∧ ∀ (l : Fin 2) (k : Fin 1024) (n : Fin 6144), (m ((c : Thread nD τ).loc main_arg1) (ix3 l k n) : EReal) = ((EReal.toReal (m ((c : Thread nD τ).loc main_arg1) (ix3 l k n)) : ℝ) : EReal)

/-- The block written at point `t`. -/
theorem written (h : Numbers m c) (t : Fin cfg0.N) (b : Fin 16) (e : Fin 1536) :
    out0_3 (F := Ideal) (iblk m c 0 t) (iblk m c 1 t) (iblk m c 2 t) (ix3 0 b e) = modAt m c (layerOf t) b (colOf t e) := by
  rw [out_eq]
  refine (pay1_apply _ _ _ b e (fun k => ?_) (fun k => ?_)).trans ?_
  · rw [read_c]; exact h.1 b k
  · rw [read_w]; exact h.2 _ k _
  · rw [read_b]
    simp only [read_c, read_w]
    rfl

/-- THE WRITTEN ARRAY at layer `l`, sequence `b`, column `n`. -/
theorem array (h : Numbers m c) (l : Fin 2) (b : Fin 16) (n : Fin 6144) : (dats m 0 c).arrAt 3 cfg0.N (ix3 l b n) = modAt m c l b n := by
  have hl := l.isLt; have hn := n.isLt
  have hlt : 4 * l.val + n.val / 1536 < cfg0.N := lt_of_lt_of_eq (by omega : 4 * l.val + n.val / 1536 < 8) N_0.symm
  let t : Fin cfg0.N := ⟨4 * l.val + n.val / 1536, hlt⟩
  let e : Fin 1536 := ⟨n.val % 1536, by omega⟩
  have hb := congrFun (blocks3 m c t (flush_3 t)) (ix3 0 b e)
  rw [flushed3] at hb
  obtain ⟨e0, e1, e2⟩ := ix_3 t
  have hw := written m c h t b e
  have el : layerOf t = l := Fin.ext (by show (4 * l.val + n.val / 1536) / 4 = l.val; omega)
  have en : colOf t e = n := Fin.ext (by show 1536 * ((4 * l.val + n.val / 1536) % 4) + n.val % 1536 = n.val; omega)
  rw [el, en] at hw
  refine Eq.trans (congrArg ((dats m 0 c).arrAt 3 cfg0.N) (funext fun a => Fin.ext ?_)) (hb.trans hw)
  match a with
  | ⟨0, _⟩ => show l.val = win0_3.index t (0 : Fin 3) * 1 + 1 * 0; rw [e0]; show l.val = (4 * l.val + n.val / 1536) / 4 * 1 + 1 * 0; omega
  | ⟨1, _⟩ => show b.val = win0_3.index t (1 : Fin 3) * 16 + 1 * b.val; omega
  | ⟨2, _⟩ =>
    show n.val = win0_3.index t (2 : Fin 3) * 1536 + 1 * (n.val % 1536)
    rw [e2]; show n.val = (4 * l.val + n.val / 1536) % 4 * 1536 + 1 * (n.val % 1536); omega

end Cert.Kernel5Ideal.Adaln

end
-- ==== Proof.Ref5.lean ====
/-
  Hand-written, untrusted. What the REFERENCE's modulation computes, read at one layer, sequence and column, and that the
  kernel's array holds it where the conditioning and the weights are numbers.
-/
module

public import proofs.«01_k».proof.Proof.Adaln
public import proofs.«01_k».proof.Proof.Equal
public import proofs.«01_k».proof.Proof.Gen.Reference5Ideal.Read
public import proofs.«01_k».proof.Proof.Gen.Pre_conditioning
public import Idealize.ShloMosaic.Lib.IdealHost

@[expose] public section

set_option maxRecDepth 16384

noncomputable section

namespace Cert.Reference5Ideal.Adaln

open Idealize.ShloMosaic Idealize.SL.Sem
open Cert.Reference5Ideal Cert.Reference5Ideal.Gen Cert.Reference5Ideal.Read
open Cert.Kernel5Ideal.Adaln (silu mod modAt Numbers)

variable (x0 : (⟨S16x1024, .f32⟩ : BufTy).Contents (Elt Ideal)) (x1 : (⟨S2x1024x6144, .f32⟩ : BufTy).Contents (Elt Ideal))
  (x2 : (⟨S2x6144, .f32⟩ : BufTy).Contents (Elt Ideal))

/-- The activations, computed once for each layer. -/
theorem silu0_at (i : S16x1024.Idx) : val_main_v0 (F := Ideal) x0 i = silu (x0 i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  show x0 i * Ideal.div (Ideal.ofBits .f32 0x3F800000#32) (Ideal.ofBits .f32 0x3F800000#32 + Ideal.exp (-(x0 i))) = _
  rw [Ideal.ofBits_one_f32]
  rfl
theorem silu1_at (i : S16x1024.Idx) : val_main_v9 (F := Ideal) x0 i = silu (x0 i) := by
  rw [val_main_v9_apply, val_main_call1_v5_apply, val_main_call1_v4_apply, val_main_call1_cst_0_apply, val_main_call1_v3_apply,
    val_main_call1_v2_apply, val_main_call1_cst_apply, val_main_call1_v1_apply, val_main_call1_v0_apply]
  show x0 i * Ideal.div (Ideal.ofBits .f32 0x3F800000#32) (Ideal.ofBits .f32 0x3F800000#32 + Ideal.exp (-(x0 i))) = _
  rw [Ideal.ofBits_one_f32]
  rfl

/-- The first layer's rows. -/
theorem v8_at (b : Fin 16) (n : Fin 6144) : val_main_v8 (F := Ideal) x0 x1 x2 (ix2 b n)
    = mod (fun k => x0 (ix2 b k)) (fun k => x1 (ix3 0 k n)) (x2 (ix2 0 n)) := by
  have hn := n.isLt
  have hb : idx_main_v4 (idx_main_v5 (idx_main_v6 (idx_main_v7 (ix2 b n)))) = ix2 0 n := funext fun a => Fin.ext (by
    match a with
    | ⟨0, _⟩ => rfl
    | ⟨1, _⟩ => show n.val % 6144 = n.val; omega)
  rw [val_main_v8_apply, val_main_v3_apply, val_main_v7_apply, val_main_v6_apply, val_main_v5_apply, val_main_v4_apply, hb]
  refine congrArg (· + x2 (ix2 0 n)) (Finset.sum_congr rfl fun k _ => ?_)
  have hk := k.isLt
  have hl : lidx_main_v3 (ix2 b n) k = ix2 b k := funext fun a => by match a with | ⟨0, _⟩ => rfl | ⟨1, _⟩ => rfl
  have hw : idx_main_v1 (idx_main_v2 (ridx_main_v3 (ix2 b n) k)) = ix3 0 k n := funext fun a => Fin.ext (by
    match a with
    | ⟨0, _⟩ => rfl
    | ⟨1, _⟩ => show (k.val * 6144 + n.val) / 6144 % 1024 = k.val; omega
    | ⟨2, _⟩ => show (k.val * 6144 + n.val) % 6144 = n.val; omega)
  rw [hl, silu0_at, val_main_v2_apply, val_main_v1_apply, hw]

/-- The second layer's rows. -/
theorem v17_at (b : Fin 16) (n : Fin 6144) : val_main_v17 (F := Ideal) x0 x1 x2 (ix2 b n)
    = mod (fun k => x0 (ix2 b k)) (fun k => x1 (ix3 1 k n)) (x2 (ix2 1 n)) := by
  have hn := n.isLt
  have hb : idx_main_v13 (idx_main_v14 (idx_main_v15 (idx_main_v16 (ix2 b n)))) = ix2 1 n := funext fun a => Fin.ext (by
    match a with
    | ⟨0, _⟩ => rfl
    | ⟨1, _⟩ => show n.val % 6144 = n.val; omega)
  rw [val_main_v17_apply, val_main_v12_apply, val_main_v16_apply, val_main_v15_apply, val_main_v14_apply, val_main_v13_apply, hb]
  refine congrArg (· + x2 (ix2 1 n)) (Finset.sum_congr rfl fun k _ => ?_)
  have hk := k.isLt
  have hl : lidx_main_v12 (ix2 b n) k = ix2 b k := funext fun a => by match a with | ⟨0, _⟩ => rfl | ⟨1, _⟩ => rfl
  have hw : idx_main_v10 (idx_main_v11 (ridx_main_v12 (ix2 b n) k)) = ix3 1 k n := funext fun a => Fin.ext (by
    match a with
    | ⟨0, _⟩ => rfl
    | ⟨1, _⟩ => show (k.val * 6144 + n.val) / 6144 % 1024 = k.val; omega
    | ⟨2, _⟩ => show (k.val * 6144 + n.val) % 6144 = n.val; omega)
  rw [hl, silu1_at, val_main_v11_apply, val_main_v10_apply, hw]

/-- THE RESULT at layer `l`, sequence `b`, column `n`. -/
theorem result (l : Fin 2) (b : Fin 16) (n : Fin 6144) : val_main_v20 (F := Ideal) x0 x1 x2 (ix3 l b n)
    = mod (fun k => x0 (ix2 b k)) (fun k => x1 (ix3 l k n)) (x2 (ix2 l n)) := by
  unfold val_main_v20
  match l with
  | 0 =>
    refine (concatenate_pair_apply_left (0 : Fin S2x16x6144.rank) (val_main_v18 (F := Ideal) x0 x1 x2) (val_main_v19 (F := Ideal) x0 x1 x2)
      concatenates_S1x16x6144_S1x16x6144_S2x16x6144_d0 (ix3 0 b n) rfl (ix3 0 b n) (fun a => by
      match a with | ⟨0, _⟩ => rfl | ⟨1, _⟩ => rfl | ⟨2, _⟩ => rfl)).trans ?_
    rw [val_main_v18_apply]
    refine Eq.trans (congrArg _ (funext fun a => ?_)) (v8_at x0 x1 x2 b n)
    match a with | ⟨0, _⟩ => rfl | ⟨1, _⟩ => rfl
  | 1 =>
    refine (concatenate_pair_apply_right (0 : Fin S2x16x6144.rank) (val_main_v18 (F := Ideal) x0 x1 x2) (val_main_v19 (F := Ideal) x0 x1 x2)
      concatenates_S1x16x6144_S1x16x6144_S2x16x6144_d0 (ix3 1 b n) rfl rfl (ix3 0 b n) (fun a ha => by
      match a with | ⟨0, _⟩ => exact absurd rfl ha | ⟨1, _⟩ => rfl | ⟨2, _⟩ => rfl) rfl).trans ?_
    rw [val_main_v19_apply]
    refine Eq.trans (congrArg _ (funext fun a => ?_)) (v17_at x0 x1 x2 b n)
    match a with | ⟨0, _⟩ => rfl | ⟨1, _⟩ => rfl

/-- Every entry of the kernel's array is the reference's. -/
theorem equal (m : (ℓ : Loc Cert.Kernel5Ideal.nD Cert.Kernel5Ideal.τ Cert.Kernel5Ideal.sig) → Buf (Elt Ideal) ℓ) (c : Dev Cert.Kernel5Ideal.nD)
    (h : (Cert.Pre_conditioning.fn (F := Ideal) (m ((c.tc : Thread Cert.Kernel5Ideal.nD Cert.Kernel5Ideal.τ).loc Cert.Kernel5Ideal.main_arg0))
        (m ((c.tc : Thread Cert.Kernel5Ideal.nD Cert.Kernel5Ideal.τ).loc Cert.Kernel5Ideal.main_arg1))
        (m ((c.tc : Thread Cert.Kernel5Ideal.nD Cert.Kernel5Ideal.τ).loc Cert.Kernel5Ideal.main_arg2))).1 = (fun _ => 1#1)
      ∧ (Cert.Pre_conditioning.fn (F := Ideal) (m ((c.tc : Thread Cert.Kernel5Ideal.nD Cert.Kernel5Ideal.τ).loc Cert.Kernel5Ideal.main_arg0))
        (m ((c.tc : Thread Cert.Kernel5Ideal.nD Cert.Kernel5Ideal.τ).loc Cert.Kernel5Ideal.main_arg1))
        (m ((c.tc : Thread Cert.Kernel5Ideal.nD Cert.Kernel5Ideal.τ).loc Cert.Kernel5Ideal.main_arg2))).2 = (fun _ => 1#1)) :
    val_main_v20 (F := Ideal) (m ((c.tc : Thread Cert.Kernel5Ideal.nD Cert.Kernel5Ideal.τ).loc Cert.Kernel5Ideal.main_arg0))
        (m ((c.tc : Thread Cert.Kernel5Ideal.nD Cert.Kernel5Ideal.τ).loc Cert.Kernel5Ideal.main_arg1))
        (m ((c.tc : Thread Cert.Kernel5Ideal.nD Cert.Kernel5Ideal.τ).loc Cert.Kernel5Ideal.main_arg2))
      = (Cert.Kernel5Ideal.Gen.dats m 0 c).arrAt 3 Cert.Kernel5Ideal.cfg0.N := by
  have hN : Numbers m c := ⟨fun b k => Cert.Retention.real_of_finite _ (congrFun h.1 (ix2 b k)),
    fun l k n => Cert.Retention.real_of_finite _ (congrFun h.2 (ix3 l k n))⟩
  funext i
  have hi : i = ix3 (i 0 : Fin 2) (i 1 : Fin 16) (i 2 : Fin 6144) := funext fun a => by match a with | ⟨0, _⟩ => rfl | ⟨1, _⟩ => rfl | ⟨2, _⟩ => rfl
  rw [hi]
  exact (result _ _ _ (i 0) (i 1) (i 2)).trans (Cert.Kernel5Ideal.Adaln.array m c hN (i 0) (i 1) (i 2)).symm

end Cert.Reference5Ideal.Adaln

end
-- ==== Proof.ConvState.lean ====
/-
  Hand-written, untrusted. The causal convolution's STATE at one grid point: the kept rows with the block's gated rows
  behind them, the copies of it shifted by one to seven rows, and what a tap reads of either: the state's rows from that tap's on.
-/
module

public import proofs.«01_k».proof.Proof.Gen.Kernel6Ideal.Value
public import Idealize.ShloMosaic.Lib.Pipeline.ReadBack
public import Idealize.ShloMosaic.Lib.Pipeline.ValueKit.Acc
public import Idealize.ShloMosaic.Lib.Pipeline.ValueKit.Tiles
public import Idealize.ShloMosaic.Lib.Pointwise.Index
public import Idealize.ShloMosaic.Lib.Pointwise.Tactic
public import Idealize.ShloMosaic.Lib.ValueIdxCore

@[expose] public section

set_option maxRecDepth 16384

noncomputable section

namespace Cert.Kernel6Ideal.Conv

open Idealize.ShloMosaic Idealize.SL.Sem
open Cert.Kernel6Ideal Cert.Kernel6Ideal.Gen

variable {F : FTy → Type} [FloatOps F]
variable (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S31x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S544x512 .f32) (harg9 : arg9.IsWhole) (arg10 : Memref sig .tc .vmem S7x544x512 .f32) (harg10 : arg10.IsWhole)
  (x0 : Vec F S512x512 .bf16) (x1 : Vec F S512x512 .bf16) (x2 : Vec F S31x512 .f32) (x3 : Vec F S1x512 .f32) (x4 : Vec F S1x512 .f32) (x5 : Vec F S1x512 .f32)

/-- The state a grid point works on: 32 rows of history, then the block's 512 gated rows. -/
def Zof (h : Vec F S32x512 .f32) (g : Vec F S512x512 .f32) : Vec F S544x512 .f32 := fun y =>
  if hy : (y 0).val < 32 then h (ix2 (⟨(y 0).val, hy⟩ : Fin 32) (y 1 : Fin 512))
  else g (ix2 (⟨(y 0).val - 32, by have := (y 0).isLt; change (y 0).val < 544 at this; omega⟩ : Fin 512) (y 1 : Fin 512))

/-- The first 32 rows of a state. -/
def histOf (S : Vec F S544x512 .f32) : Vec F S32x512 .f32 := fun x => S (ix2 (⟨(x 0).val, by have := (x 0).isLt; change (x 0).val < 32 at this; omega⟩ : Fin 544) (x 1 : Fin 512))

theorem canon_blk (g : Vec F S512x512 .f32) (L : List (View.Piece (Elt F) S544x512 .f32)) (y : S544x512.Idx) (h : Vec F S32x512 .f32)
    (hL : (y 0).val < 32 → View.canon L y = h (ix2 (⟨(y 0).val % 32, by omega⟩ : Fin 32) (y 1 : Fin 512))) :
    View.canon (⟨Rect.unit (s := S544x512) ![32, 0] S512x512.size inb_S544x512_S512x512_32_0, g⟩ :: L) y = Zof h g y := by
  have h0 : (y 0).val < 544 := (y 0).isLt
  have h1 : (y 1).val < 512 := (y 1).isLt
  by_cases hy : (y 0).val < 32
  · rw [View.canon_cons_of_not_mem _ _ (by
      rw [Rect.mem_set_unit]; intro hh; have := (hh 0).1; change 32 ≤ (y 0).val at this; omega), hL hy]
    unfold Zof; rw [dif_pos hy]
    exact congrArg h (congrArg (fun q => ix2 q _) (Fin.ext (Nat.mod_eq_of_lt hy)))
  · have he : y = (Rect.unit (s := S544x512) ![32, 0] S512x512.size inb_S544x512_S512x512_32_0).emb (ix2 (⟨(y 0).val - 32, by omega⟩ : Fin 512) (y 1 : Fin 512)) :=
      funext fun a => Fin.ext (by match a with | ⟨0, _⟩ => show (y 0).val = 32 + 1 * ((y 0).val - 32); omega | ⟨1, _⟩ => show (y 1).val = 0 + 1 * (y 1).val; omega)
    conv_lhs => rw [he]
    rw [View.canon_cons_emb]
    unfold Zof; rw [dif_neg hy]

theorem zcanon_A (g : Vec F S512x512 .f32) (h : Vec F S32x512 .f32) :
    View.canon (s := S544x512) (e := .f32) (Val := Elt F) [⟨Rect.unit (s := S544x512) ![32, 0] S512x512.size inb_S544x512_S512x512_32_0, g⟩,
      ⟨Rect.unit (s := S544x512) ![0, 0] S32x512.size inb_S544x512_S32x512_0_0, h⟩] = Zof h g := by
  funext y
  have h1 : (y 1).val < 512 := (y 1).isLt
  refine canon_blk g _ y h fun hy => ?_
  have he : y = (Rect.unit (s := S544x512) ![0, 0] S32x512.size inb_S544x512_S32x512_0_0).emb (ix2 (⟨(y 0).val % 32, by omega⟩ : Fin 32) (y 1 : Fin 512)) :=
    funext fun a => Fin.ext (by match a with | ⟨0, _⟩ => show (y 0).val = 0 + 1 * ((y 0).val % 32); omega | ⟨1, _⟩ => show (y 1).val = 0 + 1 * (y 1).val; omega)
  conv_lhs => rw [he]
  rw [View.canon_cons_emb]

/-- A load of the state in the first case. -/
theorem zread_A (v : View sig .tc .vmem S544x512 .f32) (g : Vec F S512x512 .f32) (h : Vec F S32x512 .f32) (r : Rect S544x512) :
    v.readCov [⟨Rect.unit (s := S544x512) ![32, 0] S512x512.size inb_S544x512_S512x512_32_0, g⟩,
      ⟨Rect.unit (s := S544x512) ![0, 0] S32x512.size inb_S544x512_S32x512_0_0, h⟩] r.toLoadRect = View.ld (Zof h g) r := by
  rw [View.readCov_eq_canon', zcanon_A]

/-- A load past the history in the second. -/
theorem zread_B (v : View sig .tc .vmem S544x512 .f32) (g : Vec F S512x512 .f32) (h : Vec F S32x512 .f32) (off size : Fin 2 → ℕ) (inb)
    (ho : 32 ≤ off 0) :
    v.readCov [⟨Rect.unit (s := S544x512) ![32, 0] S512x512.size inb_S544x512_S512x512_32_0, g⟩] (Rect.unit (s := S544x512) off size inb).toLoadRect
      = View.ld (Zof h g) (Rect.unit (s := S544x512) off size inb) := by
  rw [View.readCov_eq_canon']
  funext j
  refine canon_blk g _ _ h fun hy => absurd hy ?_
  show ¬ (off 0 + 1 * (j 0).val < 32)
  omega

/-- A load that reaches into the kept history. -/
theorem zread_S (m : Memref sig .tc .vmem S544x512 .f32) (hm : m.IsWhole) (g : Vec F S512x512 .f32) (S : Vec F S544x512 .f32) (r : Rect S544x512) :
    m.view.readAt (Elt F) r.toLoadRect (m.view.writes (Elt F) (hm.unread S) [⟨Rect.unit (s := S544x512) ![32, 0] S512x512.size inb_S544x512_S512x512_32_0, g⟩])
      = View.ld (Zof (histOf S) g) r := by
  funext j
  rw [View.readAt_apply]
  show _ = Zof (histOf S) g (r.idx j)
  change View.read (Elt F) m.view _ (r.idx j) = _
  generalize r.idx j = y
  have h0 : (y 0).val < 544 := (y 0).isLt
  by_cases hy : (y 0).val < 32
  · rw [View.writes_cons, View.read_slice_write_of_not_mem _ _ _ _ (by
      rw [Rect.map_emb_univ, Rect.mem_set_unit]; intro hh; have := (hh 0).1; change 32 ≤ (y 0).val at this; omega), View.writes_nil, hm.read_unread]
    unfold Zof histOf; rw [dif_pos hy]
    exact congrArg S (eq_ix2 _)
  · have he : y = (Rect.unit (s := S544x512) ![32, 0] S512x512.size inb_S544x512_S512x512_32_0).emb (ix2 (⟨(y 0).val - 32, by omega⟩ : Fin 512) (y 1 : Fin 512)) :=
      funext fun a => Fin.ext (by match a with | ⟨0, _⟩ => show (y 0).val = 32 + 1 * ((y 0).val - 32); omega | ⟨1, _⟩ => show (y 1).val = 0 + 1 * (y 1).val; omega)
    conv_lhs => rw [he]
    rw [View.read_writes_cons_emb]
    unfold Zof; rw [dif_neg hy]

/-- A block of 128 rows of a shifted copy: the state's rows from the shift on, or what was stored before. -/
theorem shifted128 (Z : Vec F S544x512 .f32) (a q o : ℕ) (inb inb' h) (L : List (View.Piece (Elt F) S7x544x512 .f32)) (y : S7x544x512.Idx)
    (hy : (y 1).val < 536) (hi : (y 1).val + (y 0).val + 1 < 544) (ho : q + a + 1 = o) (hn : q + 128 ≤ 536)
    (hlt : 536 * (y 0).val + (y 1).val < 536 * a + q + 128)
    (hL : 536 * (y 0).val + (y 1).val < 536 * a + q → View.canon L y = Z (ix2 (⟨(y 1).val + (y 0).val + 1, hi⟩ : Fin 544) (y 2 : Fin 512))) :
    View.canon (⟨Rect.unit (s := S7x544x512) ![a, q, 0] S1x128x512.size inb,
        shapeCast S1x128x512 (View.ld Z (Rect.unit (s := S544x512) ![o, 0] S128x512.size inb')) h⟩ :: L) y
      = Z (ix2 (⟨(y 1).val + (y 0).val + 1, hi⟩ : Fin 544) (y 2 : Fin 512)) := by
  have h2 : (y 2).val < 512 := (y 2).isLt
  by_cases hq : 536 * (y 0).val + (y 1).val < 536 * a + q
  · rw [View.canon_cons_of_not_mem _ _ (by
      rw [Rect.mem_set_unit]; intro hh
      have h0 := (hh 0).1; have h1 := (hh 1).1
      change a ≤ (y 0).val at h0; change q ≤ (y 1).val at h1; omega), hL hq]
  · have ha : (y 0).val = a := by omega
    have he : y = (Rect.unit (s := S7x544x512) ![a, q, 0] S1x128x512.size inb).emb (ix3 (0 : Fin 1) (⟨(y 1).val - q, by omega⟩ : Fin 128) (y 2 : Fin 512)) :=
      funext fun d => Fin.ext (by
        match d with
        | ⟨0, _⟩ => show (y 0).val = a + 1 * 0; omega
        | ⟨1, _⟩ => show (y 1).val = q + 1 * ((y 1).val - q); omega
        | ⟨2, _⟩ => show (y 2).val = 0 + 1 * (y 2).val; omega)
    conv_lhs => rw [he]
    rw [View.canon_cons_emb]
    refine (shapeCast_apply (s := S128x512) (t := S1x128x512) _ h (ix3 (0 : Fin 1) (⟨(y 1).val - q, by omega⟩ : Fin 128) (y 2 : Fin 512)) (ix2 (⟨(y 1).val - q, by omega⟩ : Fin 128) (y 2 : Fin 512)) (by
      rw [Shape.rowMajor_val_two, Shape.rowMajor_val_three]; show ((y 1).val - q) * 512 + (y 2).val = (0 * 128 + ((y 1).val - q)) * 512 + (y 2).val; omega)).trans ?_
    refine congrArg Z (funext fun d => Fin.ext ?_)
    match d with
    | ⟨0, _⟩ => show o + 1 * ((y 1).val - q) = (y 1).val + (y 0).val + 1; omega
    | ⟨1, _⟩ => show 0 + 1 * (y 2).val = (y 2).val; omega

/-- A block of 24 rows of a shifted copy: the state's rows from the shift on, or what was stored before. -/
theorem shifted24 (Z : Vec F S544x512 .f32) (a q o : ℕ) (inb inb' h) (L : List (View.Piece (Elt F) S7x544x512 .f32)) (y : S7x544x512.Idx)
    (hy : (y 1).val < 536) (hi : (y 1).val + (y 0).val + 1 < 544) (ho : q + a + 1 = o) (hn : q + 24 ≤ 536)
    (hlt : 536 * (y 0).val + (y 1).val < 536 * a + q + 24)
    (hL : 536 * (y 0).val + (y 1).val < 536 * a + q → View.canon L y = Z (ix2 (⟨(y 1).val + (y 0).val + 1, hi⟩ : Fin 544) (y 2 : Fin 512))) :
    View.canon (⟨Rect.unit (s := S7x544x512) ![a, q, 0] S1x24x512.size inb,
        shapeCast S1x24x512 (View.ld Z (Rect.unit (s := S544x512) ![o, 0] S24x512.size inb')) h⟩ :: L) y
      = Z (ix2 (⟨(y 1).val + (y 0).val + 1, hi⟩ : Fin 544) (y 2 : Fin 512)) := by
  have h2 : (y 2).val < 512 := (y 2).isLt
  by_cases hq : 536 * (y 0).val + (y 1).val < 536 * a + q
  · rw [View.canon_cons_of_not_mem _ _ (by
      rw [Rect.mem_set_unit]; intro hh
      have h0 := (hh 0).1; have h1 := (hh 1).1
      change a ≤ (y 0).val at h0; change q ≤ (y 1).val at h1; omega), hL hq]
  · have ha : (y 0).val = a := by omega
    have he : y = (Rect.unit (s := S7x544x512) ![a, q, 0] S1x24x512.size inb).emb (ix3 (0 : Fin 1) (⟨(y 1).val - q, by omega⟩ : Fin 24) (y 2 : Fin 512)) :=
      funext fun d => Fin.ext (by
        match d with
        | ⟨0, _⟩ => show (y 0).val = a + 1 * 0; omega
        | ⟨1, _⟩ => show (y 1).val = q + 1 * ((y 1).val - q); omega
        | ⟨2, _⟩ => show (y 2).val = 0 + 1 * (y 2).val; omega)
    conv_lhs => rw [he]
    rw [View.canon_cons_emb]
    refine (shapeCast_apply (s := S24x512) (t := S1x24x512) _ h (ix3 (0 : Fin 1) (⟨(y 1).val - q, by omega⟩ : Fin 24) (y 2 : Fin 512)) (ix2 (⟨(y 1).val - q, by omega⟩ : Fin 24) (y 2 : Fin 512)) (by
      rw [Shape.rowMajor_val_two, Shape.rowMajor_val_three]; show ((y 1).val - q) * 512 + (y 2).val = (0 * 24 + ((y 1).val - q)) * 512 + (y 2).val; omega)).trans ?_
    refine congrArg Z (funext fun d => Fin.ext ?_)
    match d with
    | ⟨0, _⟩ => show o + 1 * ((y 1).val - q) = (y 1).val + (y 0).val + 1; omega
    | ⟨1, _⟩ => show 0 + 1 * (y 2).val = (y 2).val; omega

/-- Sixty-four rows of the shifted copy `a`, from row `o`. -/
def shiftTap (Z : Vec F S544x512 .f32) (a o : ℕ) (h : o + 64 ≤ 536) (ha : a < 7) : Vec F S1x64x512 .f32 := fun x =>
  Z (ix2 (⟨o + (x 1).val + a + 1, by have := (x 1).isLt; change (x 1).val < 64 at this; omega⟩ : Fin 544) (x 2 : Fin 512))

/-- Thirty-five stored blocks are the shifted copies of the state. -/
theorem copies (Z : Vec F S544x512 .f32) (a o : ℕ) (inb) (ho : o + 64 ≤ 536) (ha : a < 7) (L : List (View.Piece (Elt F) S7x544x512 .f32))
    (hL : ∀ y : S7x544x512.Idx, (y 1).val < 536 → ∀ hi : (y 1).val + (y 0).val + 1 < 544,
      View.canon L y = Z (ix2 (⟨(y 1).val + (y 0).val + 1, hi⟩ : Fin 544) (y 2 : Fin 512))) (v : View sig .tc .vmem S7x544x512 .f32) :
    v.readCov L (Rect.unit (s := S7x544x512) ![a, o, 0] S1x64x512.size inb).toLoadRect = shiftTap Z a o ho ha := by
  rw [View.readCov_eq_canon']
  funext x
  have b0 : (x 0).val < 1 := (x 0).isLt
  have b1 : (x 1).val < 64 := (x 1).isLt
  refine (hL _ (show o + 1 * (x 1).val < 536 by omega) (show o + 1 * (x 1).val + (a + 1 * (x 0).val) + 1 < 544 by omega)).trans ?_
  refine congrArg Z (funext fun d => Fin.ext ?_)
  match d with
  | ⟨0, _⟩ => show o + 1 * (x 1).val + (a + 1 * (x 0).val) + 1 = o + (x 1).val + a + 1; omega
  | ⟨1, _⟩ => show 0 + 1 * (x 2).val = (x 2).val; omega

set_option maxHeartbeats 4000000 in
/-- A load of the shifted copies in the first case. -/
theorem zs_A (a o : ℕ) (inb) (ho : o + 64 ≤ 536) (ha : a < 7) :
    arg10.view.readCov (kernelRun0_A.sl.HS1_35 c arg2 harg2 arg3 harg3 arg9 x0 x1) (Rect.unit (s := S7x544x512) ![a, o, 0] S1x64x512.size inb).toLoadRect
      = shiftTap (Zof k0_pay3 (k0_pay4 x0 x1)) a o ho ha := by
  refine copies (F := F) _ a o inb ho ha _ (fun y hy hi => ?_) _
  have h0 : (y 0).val < 7 := (y 0).isLt
  sl_unfold_words
  simp (config := {decide := true}) only [↓zread_S, View.readAt_eq_ld, Memref.IsWhole.read_unread, View.ld_unit_lit', ↓zread_A, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39]
  refine shifted24 (F := F) _ _ _ _ _ _ _ _ _ hy hi rfl (by decide) (show 536 * (y 0).val + (y 1).val < 536 * 6 + 512 + 24 by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted24 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted24 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted24 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted24 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted24 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted24 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  exact absurd hlt (by omega)

set_option maxHeartbeats 4000000 in
/-- The same in the second. -/
theorem zs_B (S : Vec F S544x512 .f32) (a o : ℕ) (inb) (ho : o + 64 ≤ 536) (ha : a < 7) :
    arg10.view.readCov (kernelRun0_B.sl.HS1_35 c arg2 harg2 arg3 harg3 arg9 harg9 x0 x1 S) (Rect.unit (s := S7x544x512) ![a, o, 0] S1x64x512.size inb).toLoadRect
      = shiftTap (Zof (histOf S) (k0_pay4 x0 x1)) a o ho ha := by
  refine copies (F := F) _ a o inb ho ha _ (fun y hy hi => ?_) _
  have h0 : (y 0).val < 7 := (y 0).isLt
  sl_unfold_words
  simp (config := {decide := true}) only [↓zread_S, View.readAt_eq_ld, Memref.IsWhole.read_unread, View.ld_unit_lit', ↓zread_B _ _ (histOf S), k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39]
  refine shifted24 (F := F) _ _ _ _ _ _ _ _ _ hy hi rfl (by decide) (show 536 * (y 0).val + (y 1).val < 536 * 6 + 512 + 24 by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted24 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted24 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted24 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted24 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted24 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted24 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  refine shifted128 (F := F) _ _ _ _ _ _ _ _ _ hy hi rfl (by decide) (by omega) fun hlt => ?_
  exact absurd hlt (by omega)

/-- Sixty-four rows of the state from row `o`. -/
def tapAt (Z : Vec F S544x512 .f32) (o : ℕ) : FVec F S64x512 .f32 := fun x =>
  Z (ix2 (⟨(o + (x 0).val) % 544, Nat.mod_lt _ (by decide)⟩ : Fin 544) (x 1 : Fin 512))

/-- The weights of tap `j`. -/
def wRow (w : Vec F S31x512 .f32) (j : ℕ) : FVec F S1x512 .f32 := fun x =>
  w (ix2 (⟨j % 31, Nat.mod_lt _ (by decide)⟩ : Fin 31) (x 1 : Fin 512))

theorem ld_tap (Z : Vec F S544x512 .f32) (o : ℕ) (inb) : View.ld Z (Rect.unit (s := S544x512) ![o, 0] S64x512.size inb) = tapAt Z o := by
  funext x
  have h := inb 0
  have hx : (x 0).val < 64 := (x 0).isLt
  change o + 64 ≤ 544 at h
  refine congrArg Z (funext fun d => Fin.ext ?_)
  match d with
  | ⟨0, _⟩ => show o + 1 * (x 0).val = (o + (x 0).val) % 544; omega
  | ⟨1, _⟩ => show 0 + 1 * (x 1).val = (x 1).val; omega

theorem cast_tap (Z : Vec F S544x512 .f32) (a o : ℕ) (h ha hc) : shapeCast (s := S1x64x512) (α := F .f32) S64x512 (shiftTap Z a o h ha) hc = tapAt Z (o + a + 1) := by
  funext x
  have hx : (x 0).val < 64 := (x 0).isLt
  refine (shapeCast_apply (s := S1x64x512) (t := S64x512) _ hc x (ix3 (0 : Fin 1) (x 0 : Fin 64) (x 1 : Fin 512)) (by
    rw [Shape.rowMajor_val_two, Shape.rowMajor_val_three]; show (0 * 64 + (x 0).val) * 512 + (x 1).val = (x 0).val * 512 + (x 1).val; omega)).trans ?_
  refine congrArg Z (funext fun d => Fin.ext ?_)
  match d with
  | ⟨0, _⟩ => show o + (x 0).val + a + 1 = (o + a + 1 + (x 0).val) % 544; omega
  | ⟨1, _⟩ => rfl

theorem read_row (m : Memref sig .tc .vmem S31x512 .f32) (hm : m.IsWhole) (w : Vec F S31x512 .f32) (j : ℕ) (inb) :
    m.view.readAt (Elt F) (Rect.unit (s := S31x512) ![j, 0] S1x512.size inb).toLoadRect (hm.unread w) = wRow w j := by
  rw [View.readAt_eq_ld, hm.read_unread]
  funext x
  have h := inb 0
  have hx : (x 0).val < 1 := (x 0).isLt
  change j + 1 ≤ 31 at h
  refine congrArg w (funext fun d => Fin.ext ?_)
  match d with
  | ⟨0, _⟩ => show j + 1 * (x 0).val = j % 31; omega
  | ⟨1, _⟩ => show 0 + 1 * (x 1).val = (x 1).val; omega

/-- The first `n` taps of the convolution, of the rows from `r`. -/
def accum (Z : Vec F S544x512 .f32) (w : Vec F S31x512 .f32) (r : ℕ) : ℕ → FVec F S64x512 .f32
  | 0 => broadcast S64x512 (Scalar.ofBits .f32 0x00000000#32)
  | n + 1 => addf (accum Z w r n) (mulf (tapAt Z (r + 2 + n)) (broadcastTo S64x512 (wRow w n) broadcasts_S1x512_S64x512))

/-- A block of rows less its means. -/
def centered (x : FVec F S64x512 .f32) : FVec F S64x512 .f32 :=
  subf x (broadcastTo S64x512 (divf (shapeCast S64x1 (multiReduction .add [1] S64 x 0x00000000#32 reduces_S64x512_S64 (.inl rfl) rfl) shapeCasts_S64_S64x1)
    (broadcast S64x1 (Scalar.ofBits .f32 0x44000000#32))) broadcasts_S64x1_S64x512)

/-- A centered block over its deviations, scaled and shifted. -/
def scaled (x : FVec F S64x512 .f32) (g b : FVec F S1x512 .f32) : FVec F S64x512 .f32 :=
  addf (mulf (mulf x (broadcastTo S64x512 (rsqrt (addf (divf (shapeCast S64x1 (multiReduction .add [1] S64 (mulf x x) 0x00000000#32 reduces_S64x512_S64 (.inl rfl) rfl) shapeCasts_S64_S64x1)
    (broadcast S64x1 (Scalar.ofBits .f32 0x44000000#32))) (broadcast S64x1 (Scalar.ofBits .f32 0x358637BD#32)))) broadcasts_S64x1_S64x512))
    (broadcastTo S64x512 g broadcasts_S1x512_S64x512)) (broadcastTo S64x512 b broadcasts_S1x512_S64x512)

/-- What the kernel stores for the rows from `r`. -/
def tile (Z : Vec F S544x512 .f32) (w : Vec F S31x512 .f32) (bias g b : FVec F S1x512 .f32) (r : ℕ) : FVec F S64x512 .bf16 :=
  truncf .bf16 (mulf (scaled (centered (addf (accum Z w r 31) (broadcastTo S64x512 bias broadcasts_S1x512_S64x512))) g b)
    (logistic (scaled (centered (addf (accum Z w r 31) (broadcastTo S64x512 bias broadcasts_S1x512_S64x512))) g b))) bitsLt_bf16_f32

/-- The eight stores of a grid point. -/
def assembled (Z : Vec F S544x512 .f32) (w : Vec F S31x512 .f32) (bias g b : FVec F S1x512 .f32) : Vec F S512x512 .bf16 :=
  View.canon (s := S512x512) (e := .bf16) (Val := Elt F) [
    ⟨Rect.unit ![448, 0] S64x512.size inb_S512x512_S64x512_448_0, tile Z w bias g b 448⟩,
    ⟨Rect.unit ![384, 0] S64x512.size inb_S512x512_S64x512_384_0, tile Z w bias g b 384⟩,
    ⟨Rect.unit ![320, 0] S64x512.size inb_S512x512_S64x512_320_0, tile Z w bias g b 320⟩,
    ⟨Rect.unit ![256, 0] S64x512.size inb_S512x512_S64x512_256_0, tile Z w bias g b 256⟩,
    ⟨Rect.unit ![192, 0] S64x512.size inb_S512x512_S64x512_192_0, tile Z w bias g b 192⟩,
    ⟨Rect.unit ![128, 0] S64x512.size inb_S512x512_S64x512_128_0, tile Z w bias g b 128⟩,
    ⟨Rect.unit ![64, 0] S64x512.size inb_S512x512_S64x512_64_0, tile Z w bias g b 64⟩,
    ⟨Rect.unit ![0, 0] S64x512.size inb_S512x512_S64x512_0_0, tile Z w bias g b 0⟩]

/-! The same loads with the blocks' sizes spelled out. -/

theorem zs_A' (a o : ℕ) (inb) (ho : o + 64 ≤ 536) (ha : a < 7) :
    arg10.view.readCov (kernelRun0_A.sl.HS1_35 c arg2 harg2 arg3 harg3 arg9 x0 x1) (Rect.unit (s := S7x544x512) ![a, o, 0] ![1, 64, 512] inb).toLoadRect
      = shiftTap (Zof k0_pay3 (k0_pay4 x0 x1)) a o ho ha :=
  zs_A c arg2 harg2 arg3 harg3 arg9 arg10 x0 x1 a o inb ho ha

theorem zs_B' (S : Vec F S544x512 .f32) (a o : ℕ) (inb) (ho : o + 64 ≤ 536) (ha : a < 7) :
    arg10.view.readCov (kernelRun0_B.sl.HS1_35 c arg2 harg2 arg3 harg3 arg9 harg9 x0 x1 S) (Rect.unit (s := S7x544x512) ![a, o, 0] ![1, 64, 512] inb).toLoadRect
      = shiftTap (Zof (histOf S) (k0_pay4 x0 x1)) a o ho ha :=
  zs_B c arg2 harg2 arg3 harg3 arg9 harg9 arg10 x0 x1 S a o inb ho ha

theorem zread_A' (v : View sig .tc .vmem S544x512 .f32) (g : Vec F S512x512 .f32) (h : Vec F S32x512 .f32) (r : Rect S544x512) :
    v.readCov [⟨Rect.unit (s := S544x512) ![32, 0] ![512, 512] inb_S544x512_S512x512_32_0, g⟩,
      ⟨Rect.unit (s := S544x512) ![0, 0] ![32, 512] inb_S544x512_S32x512_0_0, h⟩] r.toLoadRect = View.ld (Zof h g) r :=
  zread_A v g h r

theorem zread_B' (v : View sig .tc .vmem S544x512 .f32) (g : Vec F S512x512 .f32) (h : Vec F S32x512 .f32) (off size : Fin 2 → ℕ) (inb)
    (ho : 32 ≤ off 0) :
    v.readCov [⟨Rect.unit (s := S544x512) ![32, 0] ![512, 512] inb_S544x512_S512x512_32_0, g⟩] (Rect.unit (s := S544x512) off size inb).toLoadRect
      = View.ld (Zof h g) (Rect.unit (s := S544x512) off size inb) :=
  zread_B v g h off size inb ho

theorem zread_S' (m : Memref sig .tc .vmem S544x512 .f32) (hm : m.IsWhole) (g : Vec F S512x512 .f32) (S : Vec F S544x512 .f32) (r : Rect S544x512) :
    m.view.readAt (Elt F) r.toLoadRect (m.view.writes (Elt F) (hm.unread S) [⟨Rect.unit (s := S544x512) ![32, 0] ![512, 512] inb_S544x512_S512x512_32_0, g⟩])
      = View.ld (Zof (histOf S) g) r :=
  zread_S m hm g S r

theorem read_row' (m : Memref sig .tc .vmem S31x512 .f32) (hm : m.IsWhole) (w : Vec F S31x512 .f32) (j : ℕ) (inb) :
    m.view.readAt (Elt F) (Rect.unit (s := S31x512) ![j, 0] ![1, 512] inb).toLoadRect (hm.unread w) = wRow w j :=
  read_row m hm w j inb

theorem ld_tap' (Z : Vec F S544x512 .f32) (o : ℕ) (inb) : View.ld Z (Rect.unit (s := S544x512) ![o, 0] ![64, 512] inb) = tapAt Z o :=
  ld_tap Z o inb

end Cert.Kernel6Ideal.Conv

end
-- ==== Proof.ConvPoint.lean ====
/-
  Hand-written, untrusted. What one grid point of the causal convolution writes and keeps: a block whose every row is the
  sum over the taps of the state's rows, biased, normed and gated, and the last of the block's gated rows for the next point.
-/
module

public import proofs.«01_k».proof.Proof.ConvState
public import Idealize.ShloMosaic.Lib.Pipeline.ReadBack
public import Idealize.ShloMosaic.Lib.Pipeline.ValueKit.Acc
public import Idealize.ShloMosaic.Lib.Pipeline.ValueKit.Tiles
public import Idealize.ShloMosaic.Lib.Pointwise.Index
public import Idealize.ShloMosaic.Lib.Pointwise.Tactic
public import Idealize.ShloMosaic.Lib.ValueIdxCore

@[expose] public section

set_option maxRecDepth 16384

noncomputable section

namespace Cert.Kernel6Ideal.Conv

open Idealize.ShloMosaic Idealize.SL.Sem
open Cert.Kernel6Ideal Cert.Kernel6Ideal.Gen

variable {F : FTy → Type} [FloatOps F]
variable (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S31x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S544x512 .f32) (harg9 : arg9.IsWhole) (arg10 : Memref sig .tc .vmem S7x544x512 .f32) (harg10 : arg10.IsWhole)
  (x0 : Vec F S512x512 .bf16) (x1 : Vec F S512x512 .bf16) (x2 : Vec F S31x512 .f32) (x3 : Vec F S1x512 .f32) (x4 : Vec F S1x512 .f32) (x5 : Vec F S1x512 .f32)

open kernelRun0_A.sl in
set_option maxHeartbeats 8000000 in
/-- The block written at a sequence's first point, whose kept rows are zeros. -/
theorem out_A (hc0 : cond0_0 i) :
    out0_A_6 c i arg2 harg2 arg3 harg3 arg4 harg4 arg5 harg5 arg6 harg6 arg7 harg7 arg8 harg8 arg9 harg9 arg10 harg10 hc0 x0 x1 x2 x3 x4 x5
      = assembled (Zof k0_pay3 (k0_pay4 x0 x1)) x2 x3 x4 x5 := by
  unfold out0_A_6; rw [View.read_writes_junk_eq_canon]; unfold kernelRun0_A; dsimp only
  simp only [r, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, v148, v153, v160, v167, v174, v181, v188, v195, v201, v208, v215, v222, v229, v236, v243, v250, v256, v263, v270, v277, v284, v291, v298, v305, v311, v318, v325, v332, v339, v346, v353, v360, v399, v406, v413, v420, v427, v434, v441, v447, v454, v461, v468, v475, v482, v489, v496, v502, v509, v516, v523, v530, v537, v544, v551, v557, v564, v571, v578, v585, v592, v599, v606, v645, v652, v659, v666, v673, v680, v687, v693, v700, v707, v714, v721, v728, v735, v742, v748, v755, v762, v769, v776, v783, v790, v797, v803, v810, v817, v824, v831, v838, v845, v852, v891, v898, v905, v912, v919, v926, v933, v939, v946, v953, v960, v967, v974, v981, v988, v994, v1001, v1008, v1015, v1022, v1029, v1036, v1043, v1049, v1056, v1063, v1070, v1077, v1084, v1091, v1098, v1137, v1144, v1151, v1158, v1165, v1172, v1179, v1185, v1192, v1199, v1206, v1213, v1220, v1227, v1234, v1240, v1247, v1254, v1261, v1268, v1275, v1282, v1289, v1295, v1302, v1309, v1316, v1323, v1330, v1337, v1344, v1383, v1390, v1397, v1404, v1411, v1418, v1425, v1431, v1438, v1445, v1452, v1459, v1466, v1473, v1480, v1486, v1493, v1500, v1507, v1514, v1521, v1528, v1535, v1541, v1548, v1555, v1562, v1569, v1576, v1583, v1590, v1629, v1636, v1643, v1650, v1657, v1664, v1671, v1677, v1684, v1691, v1698, v1705, v1712, v1719, v1726, v1732, v1739, v1746, v1753, v1760, v1767, v1774, v1781, v1787, v1794, v1801, v1808, v1815, v1822, v1829, v1836, v1875, v1882, v1889, v1896, v1903, v1910, v1917, v1923, v1930, v1937, v1944, v1951, v1958, v1965, v1972, v1978, v1985, v1992, v1999, v2006, v2013, v2020, v2027, v2033, v2040, v2047, v2054, v2061, v2068, v2075, v2082, v2120]
  simp (config := {decide := true}) only [↓zs_A', ↓read_row', HS0_2]
  simp (config := {decide := true}) only [↓zread_A', ↓ld_tap', View.readAt_eq_ld, Memref.IsWhole.read_unread, View.ld_unit_lit', cast_tap]
  simp only [k0_pay1, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, shapeCast_self, cast_tap]
  simp only [assembled, tile, scaled, centered, accum]

open kernelRun0_B.sl in
set_option maxHeartbeats 8000000 in
/-- The block written at any other point, over the rows that the point before kept. -/
theorem out_B (hc0 : ¬ cond0_0 i) (S : Vec F S544x512 .f32) :
    out0_B_6 c i arg2 harg2 arg3 harg3 arg4 harg4 arg5 harg5 arg6 harg6 arg7 harg7 arg8 harg8 arg9 harg9 arg10 harg10 hc0 x0 x1 x2 x3 x4 x5 S
      = assembled (Zof (histOf S) (k0_pay4 x0 x1)) x2 x3 x4 x5 := by
  unfold out0_B_6; rw [View.read_writes_junk_eq_canon]; unfold kernelRun0_B; dsimp only
  simp only [r, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, r_100, r_101, r_102, v148, v153, v160, v167, v174, v181, v188, v201, v208, v215, v222, v229, v236, v243, v256, v263, v270, v277, v284, v291, v298, v311, v318, v325, v332, v339, v346, v353, v360, v399, v406, v413, v420, v427, v434, v441, v447, v454, v461, v468, v475, v482, v489, v496, v502, v509, v516, v523, v530, v537, v544, v551, v557, v564, v571, v578, v585, v592, v599, v606, v645, v652, v659, v666, v673, v680, v687, v693, v700, v707, v714, v721, v728, v735, v742, v748, v755, v762, v769, v776, v783, v790, v797, v803, v810, v817, v824, v831, v838, v845, v852, v891, v898, v905, v912, v919, v926, v933, v939, v946, v953, v960, v967, v974, v981, v988, v994, v1001, v1008, v1015, v1022, v1029, v1036, v1043, v1049, v1056, v1063, v1070, v1077, v1084, v1091, v1098, v1137, v1144, v1151, v1158, v1165, v1172, v1179, v1185, v1192, v1199, v1206, v1213, v1220, v1227, v1234, v1240, v1247, v1254, v1261, v1268, v1275, v1282, v1289, v1295, v1302, v1309, v1316, v1323, v1330, v1337, v1344, v1383, v1390, v1397, v1404, v1411, v1418, v1425, v1431, v1438, v1445, v1452, v1459, v1466, v1473, v1480, v1486, v1493, v1500, v1507, v1514, v1521, v1528, v1535, v1541, v1548, v1555, v1562, v1569, v1576, v1583, v1590, v1629, v1636, v1643, v1650, v1657, v1664, v1671, v1677, v1684, v1691, v1698, v1705, v1712, v1719, v1726, v1732, v1739, v1746, v1753, v1760, v1767, v1774, v1781, v1787, v1794, v1801, v1808, v1815, v1822, v1829, v1836, v1875, v1882, v1889, v1896, v1903, v1910, v1917, v1923, v1930, v1937, v1944, v1951, v1958, v1965, v1972, v1978, v1985, v1992, v1999, v2006, v2013, v2020, v2027, v2033, v2040, v2047, v2054, v2061, v2068, v2075, v2082, v2120]
  simp (config := {decide := true}) only [↓zs_B', ↓read_row', HS0_1]
  simp (config := {decide := true}) only [↓zread_S', ↓zread_B' _ _ (histOf S), ↓ld_tap', View.readAt_eq_ld, Memref.IsWhole.read_unread, View.ld_unit_lit', cast_tap]
  simp only [k0_pay1, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, shapeCast_self, cast_tap]
  simp only [assembled, tile, scaled, centered, accum]

/-! ## The history a point keeps -/

/-- The last 32 of a block's gated rows. -/
def lastRows (g : Vec F S512x512 .f32) : Vec F S32x512 .f32 := fun x =>
  g (ix2 (⟨480 + (x 0).val, by have := (x 0).isLt; change (x 0).val < 32 at this; omega⟩ : Fin 512) (x 1 : Fin 512))

/-- The first 32 rows of a state to which they were written last. -/
theorem hist_canon (p : Vec F S32x512 .f32) (L : List (View.Piece (Elt F) S544x512 .f32)) :
    histOf (View.canon (⟨Rect.unit (s := S544x512) ![0, 0] S32x512.size inb_S544x512_S32x512_0_0, p⟩ :: L)) = p := by
  funext x
  have b0 : (x 0).val < 32 := (x 0).isLt
  have he : (ix2 (⟨(x 0).val, by omega⟩ : Fin 544) (x 1 : Fin 512) : S544x512.Idx)
      = (Rect.unit (s := S544x512) ![0, 0] S32x512.size inb_S544x512_S32x512_0_0).emb x := funext fun d => Fin.ext (by
    match d with
    | ⟨0, _⟩ => show (x 0).val = 0 + 1 * (x 0).val; omega
    | ⟨1, _⟩ => show (x 1).val = 0 + 1 * (x 1).val; omega)
  unfold histOf
  rw [he, View.canon_cons_emb]

/-- The rows read for it are the last gated ones. -/
theorem ld_last (h : Vec F S32x512 .f32) (g : Vec F S512x512 .f32) (inb) :
    View.ld (Zof h g) (Rect.unit (s := S544x512) ![512, 0] ![32, 512] inb) = lastRows g := by
  funext x
  have b0 : (x 0).val < 32 := (x 0).isLt
  show Zof h g ((Rect.unit (s := S544x512) ![512, 0] ![32, 512] inb).idx x) = _
  unfold Zof
  rw [dif_neg (by show ¬ (512 + 1 * (x 0).val < 32); omega)]
  refine congrArg g (funext fun d => Fin.ext ?_)
  match d with
  | ⟨0, _⟩ => show 512 + 1 * (x 0).val - 32 = 480 + (x 0).val; omega
  | ⟨1, _⟩ => show 0 + 1 * (x 1).val = (x 1).val; omega

/-- The kept rows after either kind of point. -/
theorem kept_A (hc0 : cond0_0 i) :
    histOf (sout0_A_0 c i arg2 harg2 arg3 harg3 arg4 harg4 arg5 harg5 arg6 harg6 arg7 harg7 arg8 harg8 arg9 harg9 arg10 harg10 hc0 x0 x1 x2 x3 x4 x5)
      = lastRows (k0_pay4 x0 x1) := by
  unfold sout0_A_0; rw [View.read_writes_junk_eq_canon]; unfold kernelRun0_A; dsimp only; sl_unfold_words
  refine (hist_canon _ _).trans ?_
  simp (config := {decide := true}) only [↓zread_A, k0_pay2, shapeCast_self, View.readAt_eq_ld, Memref.IsWhole.read_unread, View.ld_unit_lit', ld_last]

theorem kept_B (hc0 : ¬ cond0_0 i) (S : Vec F S544x512 .f32) :
    histOf (sout0_B_0 c i arg2 harg2 arg3 harg3 arg4 harg4 arg5 harg5 arg6 harg6 arg7 harg7 arg8 harg8 arg9 harg9 arg10 harg10 hc0 x0 x1 x2 x3 x4 x5 S)
      = lastRows (k0_pay4 x0 x1) := by
  unfold sout0_B_0; rw [View.read_writes_junk_eq_canon]; unfold kernelRun0_B; dsimp only; sl_unfold_words
  refine (hist_canon _ _).trans ?_
  simp (config := {decide := true}) only [↓zread_B _ _ (histOf S), k0_pay2, shapeCast_self, View.readAt_eq_ld, Memref.IsWhole.read_unread, View.ld_unit_lit', ld_last]

/-! ## Read at an index, over the extended reals -/

/-- A running sum from zero. -/
def run (f : ℕ → EReal) : ℕ → EReal
  | 0 => Ideal.ofBits .f32 0x00000000#32
  | n + 1 => run f n + f n

/-- A value times its logistic. -/
def silu (y : EReal) : EReal := y * Ideal.logistic y

/-- A row's mean. -/
def mean (C : Fin 512 → EReal) : EReal := Ideal.div (∑ a, C a) (Ideal.ofBits .f32 0x44000000#32)

/-- A row's layer norm at column `k`. -/
def lnorm (C : Fin 512 → EReal) (g b : EReal) (k : Fin 512) : EReal :=
  (C k - mean C) * Ideal.rsqrt (mean (fun a => (C a - mean C) * (C a - mean C)) + Ideal.ofBits .f32 0x358637BD#32) * g + b

theorem cast_col (x : S64.Idx → EReal) (r : Fin 64) (h) : shapeCast S64x1 x h (ix2 r 0) = x (ix1 r) :=
  shapeCast_apply x _ _ (ix1 r) (by
    rw [Shape.rowMajor_val_two, Shape.rowMajor_val_one]; show r.val = r.val * 1 + 0; omega)

theorem row_sum (x : FVec Ideal S64x512 .f32) (r : Fin 64) (h1 h2) :
    multiReduction (F := Ideal) .add [1] S64 x 0x00000000#32 reduces_S64x512_S64 h1 h2 (ix1 r) = ∑ e : Fin 512, x (ix2 r e) := by
  refine (Ideal.multiReduction_add_single _ _ _ _ _ _).trans ?_
  refine Finset.sum_congr rfl fun k _ => congrArg x ?_
  exact funext fun i => Fin.ext (by match i with | ⟨0, _⟩ => rfl | ⟨1, _⟩ => rfl)

theorem centered_apply (x : FVec Ideal S64x512 .f32) (r : Fin 64) (k : Fin 512) :
    centered (F := Ideal) x (ix2 r k) = x (ix2 r k) - mean (fun a => x (ix2 r a)) := by
  unfold centered mean
  rw [← row_sum x r (.inl rfl) rfl]
  pointwise
  rw [cast_col]

theorem scaled_apply (x : FVec Ideal S64x512 .f32) (g b : FVec Ideal S1x512 .f32) (r : Fin 64) (k : Fin 512) :
    scaled (F := Ideal) x g b (ix2 r k)
      = x (ix2 r k) * Ideal.rsqrt (mean (fun a => x (ix2 r a) * x (ix2 r a)) + Ideal.ofBits .f32 0x358637BD#32) * g (ix2 0 k) + b (ix2 0 k) := by
  unfold scaled mean
  have hv : ∀ e : Fin 512, mulf (F := Ideal) (φ := .f32) x x (ix2 r e) = x (ix2 r e) * x (ix2 r e) := fun e => rfl
  have := row_sum (mulf (F := Ideal) (φ := .f32) x x) r (.inl rfl) rfl
  simp only [hv] at this
  rw [← this]
  pointwise
  rw [cast_col]

theorem accum_apply (Z : Vec Ideal S544x512 .f32) (w : Vec Ideal S31x512 .f32) (r : ℕ) (ρ : Fin 64) (k : Fin 512) : ∀ n,
    accum (F := Ideal) Z w r n (ix2 ρ k)
      = run (fun j => Z (ix2 (⟨(r + 2 + j + ρ.val) % 544, Nat.mod_lt _ (by decide)⟩ : Fin 544) k) * w (ix2 (⟨j % 31, Nat.mod_lt _ (by decide)⟩ : Fin 31) k)) n
  | 0 => rfl
  | n + 1 => by
    show accum (F := Ideal) Z w r n (ix2 ρ k) + tapAt Z (r + 2 + n) (ix2 ρ k) * broadcastTo S64x512 (wRow w n) broadcasts_S1x512_S64x512 (ix2 ρ k) = _
    rw [accum_apply Z w r ρ k n]
    refine congrArg₂ (· + ·) rfl (congrArg₂ (· * ·) rfl ?_)
    pointwise
    rfl

/-- What the kernel stores at row `ρ` of the rows from `r`. -/
theorem tile_apply (Z : Vec Ideal S544x512 .f32) (w : Vec Ideal S31x512 .f32) (bias g b : FVec Ideal S1x512 .f32) (r : ℕ) (ρ : Fin 64) (k : Fin 512) :
    tile (F := Ideal) Z w bias g b r (ix2 ρ k)
      = silu (lnorm (fun a => run (fun j => Z (ix2 (⟨(r + 2 + j + ρ.val) % 544, Nat.mod_lt _ (by decide)⟩ : Fin 544) a)
          * w (ix2 (⟨j % 31, Nat.mod_lt _ (by decide)⟩ : Fin 31) a)) 31 + bias (ix2 0 a)) (g (ix2 0 k)) (b (ix2 0 k)) k) := by
  have hC : ∀ a : Fin 512, addf (F := Ideal) (φ := .f32) (accum Z w r 31) (broadcastTo S64x512 bias broadcasts_S1x512_S64x512) (ix2 ρ a)
      = run (fun j => Z (ix2 (⟨(r + 2 + j + ρ.val) % 544, Nat.mod_lt _ (by decide)⟩ : Fin 544) a)
          * w (ix2 (⟨j % 31, Nat.mod_lt _ (by decide)⟩ : Fin 31) a)) 31 + bias (ix2 0 a) := fun a => by
    show accum (F := Ideal) Z w r 31 (ix2 ρ a) + broadcastTo S64x512 bias broadcasts_S1x512_S64x512 (ix2 ρ a) = _
    rw [accum_apply]
    refine congrArg₂ (· + ·) rfl ?_
    pointwise
  show silu (scaled (F := Ideal) (centered (addf (accum Z w r 31) (broadcastTo S64x512 bias broadcasts_S1x512_S64x512))) g b (ix2 ρ k)) = _
  rw [scaled_apply]
  simp only [centered_apply, hC]
  rfl

theorem assembled_apply (Z : Vec Ideal S544x512 .f32) (w : Vec Ideal S31x512 .f32) (bias g b : FVec Ideal S1x512 .f32) (R k : Fin 512) :
    assembled (F := Ideal) Z w bias g b (ix2 R k)
      = silu (lnorm (fun a => run (fun j => Z (ix2 (⟨(R.val + 2 + j) % 544, Nat.mod_lt _ (by decide)⟩ : Fin 544) a)
          * w (ix2 (⟨j % 31, Nat.mod_lt _ (by decide)⟩ : Fin 31) a)) 31 + bias (ix2 0 a)) (g (ix2 0 k)) (b (ix2 0 k)) k) := by
  unfold assembled
  refine View.canon_eq_of_allAt _ _ _ (View.cover_of_tiled_head _ _ _ rfl _) ?_
  have key : ∀ r : ℕ, View.TileAt (Val := Elt Ideal) (e := .bf16) (ix2 R k : S512x512.Idx) ![r, 0] S64x512.size (tile Z w bias g b r)
      (silu (lnorm (fun a => run (fun j => Z (ix2 (⟨(R.val + 2 + j) % 544, Nat.mod_lt _ (by decide)⟩ : Fin 544) a)
          * w (ix2 (⟨j % 31, Nat.mod_lt _ (by decide)⟩ : Fin 31) a)) 31 + bias (ix2 0 a)) (g (ix2 0 k)) (b (ix2 0 k)) k)) := fun r x hx => by
    have h0 : R.val = r + (x 0).val := hx 0
    have h1 : k.val = 0 + (x 1).val := hx 1
    have hxe : x = ix2 (x 0 : Fin 64) k := (eq_ix2 x).trans (congrArg (ix2 (x 0 : Fin 64)) (Fin.ext (by show (x 1).val = k.val; omega)))
    rw [hxe]
    refine (tile_apply Z w bias g b r (x 0 : Fin 64) k).trans ?_
    have e : ∀ j : ℕ, (r + 2 + j + (x 0).val) = R.val + 2 + j := fun j => by omega
    simp only [e]
  exact View.allAt_cons_unit _ _ _ _ _ (key 448) <| View.allAt_cons_unit _ _ _ _ _ (key 384) <| View.allAt_cons_unit _ _ _ _ _ (key 320) <|
    View.allAt_cons_unit _ _ _ _ _ (key 256) <| View.allAt_cons_unit _ _ _ _ _ (key 192) <| View.allAt_cons_unit _ _ _ _ _ (key 128) <|
    View.allAt_cons_unit _ _ _ _ _ (key 64) <| View.allAt_cons_unit _ _ _ _ _ (key 0) <| View.allAt_nil _ _

/-- The gated rows. -/
theorem gate_apply (x0 x1 : Vec Ideal S512x512 .bf16) (r k : Fin 512) :
    k0_pay4 (F := Ideal) x0 x1 (ix2 r k) = x0 (ix2 r k) * Ideal.logistic (x1 (ix2 r k)) := by
  unfold k0_pay4
  simp only [shapeCast_self]
  pointwise

end Cert.Kernel6Ideal.Conv

end
-- ==== Proof.ConvArray.lean ====
/-
  Hand-written, untrusted. What the causal convolution's ARRAY holds: the blocks its points read are the first
  projection's rows and columns, the rows kept are the gated rows just before the next point's, so every entry is the
  sum over the taps of the sequence's gated rows, zero before its first frame, biased, normed and gated.
-/
module

public import proofs.«01_k».proof.Proof.ConvPoint
public import Idealize.ShloMosaic.Lib.StableHlo.RunRead

@[expose] public section

set_option maxRecDepth 16384

noncomputable section

namespace Cert.Kernel6Ideal.Conv

open Idealize.ShloMosaic Idealize.ShloMosaic.TcCoe Idealize.SL.Sem
open Cert.Kernel6Ideal Cert.Kernel6Ideal.Gen Cert.Kernel6Ideal.Value

/-! ## The convolution of one sequence, from its arrays -/

/-- The gated row of frame `f` of sequence `b`. -/
def gateOf (P : Fin 32768 → Fin 7680 → EReal) (b : Fin 16) (f : Fin 2048) (k : Fin 512) : EReal :=
  P ⟨2048 * b.val + f.val, by omega⟩ ⟨5120 + k.val, by omega⟩ * Ideal.logistic (P ⟨2048 * b.val + f.val, by omega⟩ ⟨5632 + k.val, by omega⟩)

/-- The sequence's gated rows after thirty rows of zeros. -/
def padOf (P : Fin 32768 → Fin 7680 → EReal) (b : Fin 16) (p : ℕ) (k : Fin 512) : EReal :=
  if p < 30 then 0 else if h : p - 30 < 2048 then gateOf P b ⟨p - 30, h⟩ k else 0

/-- The taps' sum at frame `f`. -/
def tapsOf (P : Fin 32768 → Fin 7680 → EReal) (W : Fin 31 → Fin 512 → EReal) (b : Fin 16) (f : ℕ) (k : Fin 512) : EReal :=
  run (fun j => padOf P b (f + j) k * W ⟨j % 31, Nat.mod_lt _ (by decide)⟩ k) 31

/-- The entry at frame `f`, column `k`. -/
def convOf (P : Fin 32768 → Fin 7680 → EReal) (W : Fin 31 → Fin 512 → EReal) (B G N : Fin 512 → EReal) (b : Fin 16) (f : ℕ) (k : Fin 512) : EReal :=
  silu (lnorm (fun a => tapsOf P W b f a + B a) (G k) (N k) k)

theorem run_congr (f g : ℕ → EReal) : ∀ n : ℕ, (∀ j < n, f j = g j) → run f n = run g n
  | 0, _ => rfl
  | n + 1, h => by
    show run f n + f n = run g n + g n
    rw [run_congr f g n (fun j hj => h j (by omega)), h n (by omega)]

variable (m : (ℓ : Loc nD τ sig) → Buf (Elt Ideal) ℓ) (c : Dev nD)

/-- The launched arrays, by row and column. -/
def P (r : Fin 32768) (k : Fin 7680) : EReal := m ((c : Thread nD τ).loc main_arg0) (ix2 r k)
def W (j : Fin 31) (k : Fin 512) : EReal := m ((c : Thread nD τ).loc main_arg1) (ix3 j 0 k)
def B (k : Fin 512) : EReal := m ((c : Thread nD τ).loc main_arg2) (ix1 k)
def G (k : Fin 512) : EReal := m ((c : Thread nD τ).loc main_arg3) (ix1 k)
def N (k : Fin 512) : EReal := m ((c : Thread nD τ).loc main_arg4) (ix1 k)

/-! ## The windows' blocks read at the launch memory -/

theorem ix_0 : ∀ t : Fin cfg0.N, win0_0.index t (0 : Fin 2) = t.val ∧ win0_0.index t (1 : Fin 2) = 10 :=
  (by decide +kernel : ∀ t : Fin grid0.N, _)
theorem ix_1 : ∀ t : Fin cfg0.N, win0_1.index t (0 : Fin 2) = t.val ∧ win0_1.index t (1 : Fin 2) = 11 :=
  (by decide +kernel : ∀ t : Fin grid0.N, _)
theorem ix_2 : ∀ t : Fin cfg0.N, win0_2.index t (0 : Fin 2) = 0 ∧ win0_2.index t (1 : Fin 2) = 0 :=
  (by decide +kernel : ∀ t : Fin grid0.N, _)
theorem ix_3 : ∀ t : Fin cfg0.N, win0_3.index t (0 : Fin 2) = 0 ∧ win0_3.index t (1 : Fin 2) = 0 :=
  (by decide +kernel : ∀ t : Fin grid0.N, _)
theorem ix_4 : ∀ t : Fin cfg0.N, win0_4.index t (0 : Fin 2) = 0 ∧ win0_4.index t (1 : Fin 2) = 0 :=
  (by decide +kernel : ∀ t : Fin grid0.N, _)
theorem ix_5 : ∀ t : Fin cfg0.N, win0_5.index t (0 : Fin 2) = 0 ∧ win0_5.index t (1 : Fin 2) = 0 :=
  (by decide +kernel : ∀ t : Fin grid0.N, _)

theorem lt_N (t : Fin cfg0.N) : t.val < 64 := lt_of_lt_of_eq t.isLt N_0

theorem V_p : V m c main_arg0 = m ((c : Thread nD τ).loc main_arg0) := by
  show StableHlo.after hostOps0 (fun b => m (c, b)) (Proc.devRef .tc main_arg0) = _
  after_reads_simp

/-- The taps reach the kernel as rows, -/
theorem V_w (j : Fin 31) (k : Fin 512) : V m c main_v0 (ix2 j k) = W m c j k := by
  show StableHlo.after hostOps0 (fun b => m (c, b)) (Proc.devRef .tc main_v0) (ix2 j k) = _
  after_reads_simp
  refine shapeCast_apply _ _ _ (ix3 j 0 k) ?_
  show (S31x1x512.rowMajor (ix3 j 0 k)).val = (S31x512.rowMajor (ix2 j k)).val
  rw [Shape.rowMajor_val_two, Shape.rowMajor_val_three]
  show (j.val * 1 + 0) * 512 + k.val = j.val * 512 + k.val; omega

/-- the bias, the norm's gains and offsets as one row each. -/
theorem V_b (k : Fin 512) : V m c main_v1 (ix2 0 k) = B m c k := by
  show StableHlo.after hostOps0 (fun b => m (c, b)) (Proc.devRef .tc main_v1) (ix2 0 k) = _
  after_reads_simp
  refine shapeCast_apply _ _ _ (ix1 k) ?_
  show (S512.rowMajor (ix1 k)).val = (S1x512.rowMajor (ix2 0 k)).val
  rw [Shape.rowMajor_val_two, Shape.rowMajor_val_one]; show k.val = 0 * 512 + k.val; omega
theorem V_g (k : Fin 512) : V m c main_v2 (ix2 0 k) = G m c k := by
  show StableHlo.after hostOps0 (fun b => m (c, b)) (Proc.devRef .tc main_v2) (ix2 0 k) = _
  after_reads_simp
  refine shapeCast_apply _ _ _ (ix1 k) ?_
  show (S512.rowMajor (ix1 k)).val = (S1x512.rowMajor (ix2 0 k)).val
  rw [Shape.rowMajor_val_two, Shape.rowMajor_val_one]; show k.val = 0 * 512 + k.val; omega
theorem V_n (k : Fin 512) : V m c main_v3 (ix2 0 k) = N m c k := by
  show StableHlo.after hostOps0 (fun b => m (c, b)) (Proc.devRef .tc main_v3) (ix2 0 k) = _
  after_reads_simp
  refine shapeCast_apply _ _ _ (ix1 k) ?_
  show (S512.rowMajor (ix1 k)).val = (S1x512.rowMajor (ix2 0 k)).val
  rw [Shape.rowMajor_val_two, Shape.rowMajor_val_one]; show k.val = 0 * 512 + k.val; omega

theorem read_a (t : Fin cfg0.N) (r k : Fin 512) : iblk m c 0 t (ix2 r k)
    = P m c (⟨512 * t.val + r.val, by have := lt_N t; omega⟩) (⟨5120 + k.val, by omega⟩) := by
  obtain ⟨e0, e1⟩ := ix_0 t
  unfold P; rw [← V_p m c]
  refine congrArg (V m c main_arg0) (funext fun a => Fin.ext ?_)
  match a with
  | ⟨0, _⟩ => show win0_0.index t (0 : Fin 2) * 512 + 1 * r.val = 512 * t.val + r.val; omega
  | ⟨1, _⟩ => show win0_0.index t (1 : Fin 2) * 512 + 1 * k.val = 5120 + k.val; omega
theorem read_b (t : Fin cfg0.N) (r k : Fin 512) : iblk m c 1 t (ix2 r k)
    = P m c (⟨512 * t.val + r.val, by have := lt_N t; omega⟩) (⟨5632 + k.val, by omega⟩) := by
  obtain ⟨e0, e1⟩ := ix_1 t
  unfold P; rw [← V_p m c]
  refine congrArg (V m c main_arg0) (funext fun a => Fin.ext ?_)
  match a with
  | ⟨0, _⟩ => show win0_1.index t (0 : Fin 2) * 512 + 1 * r.val = 512 * t.val + r.val; omega
  | ⟨1, _⟩ => show win0_1.index t (1 : Fin 2) * 512 + 1 * k.val = 5632 + k.val; omega
theorem read_w (t : Fin cfg0.N) (j : Fin 31) (k : Fin 512) : iblk m c 2 t (ix2 j k) = W m c j k := by
  obtain ⟨e0, e1⟩ := ix_2 t
  rw [← V_w m c]
  refine congrArg (V m c main_v0) (funext fun a => Fin.ext ?_)
  match a with
  | ⟨0, _⟩ => show win0_2.index t (0 : Fin 2) * 31 + 1 * j.val = j.val; omega
  | ⟨1, _⟩ => show win0_2.index t (1 : Fin 2) * 512 + 1 * k.val = k.val; omega
theorem read_bias (t : Fin cfg0.N) (k : Fin 512) : iblk m c 3 t (ix2 0 k) = B m c k := by
  obtain ⟨e0, e1⟩ := ix_3 t
  rw [← V_b m c]
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 512 + 1 * k.val = k.val; omega
theorem read_g (t : Fin cfg0.N) (k : Fin 512) : iblk m c 4 t (ix2 0 k) = G m c k := by
  obtain ⟨e0, e1⟩ := ix_4 t
  rw [← V_g m c]
  refine congrArg (V m c main_v2) (funext fun a => Fin.ext ?_)
  match a with
  | ⟨0, _⟩ => show win0_4.index t (0 : Fin 2) * 1 + 1 * 0 = 0; omega
  | ⟨1, _⟩ => show win0_4.index t (1 : Fin 2) * 512 + 1 * k.val = k.val; omega
theorem read_n (t : Fin cfg0.N) (k : Fin 512) : iblk m c 5 t (ix2 0 k) = N m c k := by
  obtain ⟨e0, e1⟩ := ix_5 t
  rw [← V_n m c]
  refine congrArg (V m c main_v3) (funext fun a => Fin.ext ?_)
  match a with
  | ⟨0, _⟩ => show win0_5.index t (0 : Fin 2) * 1 + 1 * 0 = 0; omega
  | ⟨1, _⟩ => show win0_5.index t (1 : Fin 2) * 512 + 1 * k.val = k.val; omega

/-! ## Over the points -/

/-- The gated rows of point `t`'s block. -/
theorem gated (t : Fin cfg0.N) (r k : Fin 512) : k0_pay4 (iblk m c 0 t) (iblk m c 1 t) (ix2 r k)
    = gateOf (P m c) ⟨t.val / 4, by have := lt_N t; omega⟩ ⟨512 * (t.val % 4) + r.val, by omega⟩ k := by
  have := lt_N t
  refine (gate_apply ..).trans ?_
  rw [read_a, read_b]
  unfold gateOf
  have e : (⟨512 * t.val + r.val, by omega⟩ : Fin 32768) = ⟨2048 * (t.val / 4) + (512 * (t.val % 4) + r.val), by omega⟩ := Fin.ext (by show 512 * t.val + r.val = 2048 * (t.val / 4) + (512 * (t.val % 4) + r.val); omega)
  rw [e]

/-- The rows kept after point `t` are the last of its gated rows. -/
theorem kept (t : Fin cfg0.N) : histOf (outsAt0 m c t.val t.isLt).2 = lastRows (k0_pay4 (iblk m c 0 t) (iblk m c 1 t)) := by
  by_cases h0 : t.val % 4 = 0
  · rw [outsAt0_A m c t h0]; dsimp only; rw [kept_A]
  · rw [outsAt0_B m c t h0]; dsimp only; rw [kept_B]

/-- The rows point `t` convolves: the kept ones, zeros at a sequence's first block, then its own. -/
def histAt (t : Fin cfg0.N) : Vec Ideal S32x512 .f32 :=
  if t.val % 4 = 0 then k0_pay3 (F := Ideal) else histOf (outsAt0 m c (t.val - 1) (Nat.lt_of_le_of_lt (Nat.sub_le _ _) t.isLt)).2

theorem rows (t : Fin cfg0.N) (q : Fin 544) (h2 : 2 ≤ q.val) (k : Fin 512) :
    Zof (histAt m c t) (k0_pay4 (iblk m c 0 t) (iblk m c 1 t)) (ix2 q k)
      = padOf (P m c) ⟨t.val / 4, by have := lt_N t; omega⟩ (512 * (t.val % 4) + q.val - 2) k := by
  have hN := lt_N t; have hq := q.isLt
  unfold padOf Zof
  by_cases hl : q.val < 32
  · rw [dif_pos (show ((ix2 q k : S544x512.Idx) 0).val < 32 from hl)]
    unfold histAt
    by_cases h0 : t.val % 4 = 0
    · rw [if_pos h0, if_pos (by omega)]
      exact Ideal.ofBits_zero_f32
    · rw [if_neg h0, if_neg (by omega), dif_pos (by omega)]
      have hp : t.val - 1 < cfg0.N := Nat.lt_of_le_of_lt (Nat.sub_le _ _) t.isLt
      rw [kept m c ⟨t.val - 1, hp⟩]
      refine (gated m c ⟨t.val - 1, hp⟩ ⟨480 + q.val, by omega⟩ k).trans ?_
      refine congrArg₂ (fun b f => gateOf (P m c) b f k) (Fin.ext ?_) (Fin.ext ?_)
      · show (t.val - 1) / 4 = t.val / 4; omega
      · show 512 * ((t.val - 1) % 4) + (480 + q.val) = 512 * (t.val % 4) + q.val - 2 - 30; omega
  · rw [dif_neg (show ¬ ((ix2 q k : S544x512.Idx) 0).val < 32 from hl), if_neg (by omega), dif_pos (by omega)]
    refine (gated m c t ⟨q.val - 32, by omega⟩ k).trans ?_
    refine congrArg (fun f => gateOf (P m c) _ f k) (Fin.ext ?_)
    show 512 * (t.val % 4) + (q.val - 32) = 512 * (t.val % 4) + q.val - 2 - 30; omega

/-- The block written at point `t`. -/
theorem written (t : Fin cfg0.N) (R k : Fin 512) : (outsAt0 m c t.val t.isLt).1 (ix2 R k)
    = convOf (P m c) (W m c) (B m c) (G m c) (N m c) ⟨t.val / 4, by have := lt_N t; omega⟩ (512 * (t.val % 4) + R.val) k := by
  have hR := R.isLt
  have ho : (outsAt0 m c t.val t.isLt).1 = assembled (Zof (histAt m c t) (k0_pay4 (iblk m c 0 t) (iblk m c 1 t)))
      (iblk m c 2 t) (iblk m c 3 t) (iblk m c 4 t) (iblk m c 5 t) := by
    unfold histAt
    by_cases h0 : t.val % 4 = 0
    · rw [if_pos h0, outsAt0_A m c t h0]; dsimp only; rw [out_A]
    · rw [if_neg h0, outsAt0_B m c t h0]; dsimp only; rw [out_B]
  rw [ho]
  refine (assembled_apply ..).trans ?_
  unfold convOf
  rw [read_g, read_n]
  refine congrArg (fun C => silu (lnorm C (G m c k) (N m c k) k)) (funext fun a => ?_)
  rw [read_bias]
  refine congrArg (· + B m c a) (run_congr _ _ 31 fun j hj => ?_)
  rw [rows m c t _ (by show 2 ≤ (R.val + 2 + j) % 544; omega), read_w]
  refine congrArg (fun p => padOf (P m c) _ p a * _) ?_
  show 512 * (t.val % 4) + (R.val + 2 + j) % 544 - 2 = 512 * (t.val % 4) + R.val + j; omega

/-- THE WRITTEN ARRAY at frame `f` of sequence `b`, column `k`. -/
theorem array (b : Fin 16) (f : Fin 2048) (k : Fin 512) : G6 m c (ix2 (⟨2048 * b.val + f.val, by omega⟩ : Fin 32768) k)
    = convOf (P m c) (W m c) (B m c) (G m c) (N m c) b f.val k := by
  have hb := b.isLt; have hf := f.isLt; have hk := k.isLt
  have hp : pt6Of (ix2 (⟨2048 * b.val + f.val, by omega⟩ : Fin 32768) k) = (2048 * b.val + f.val) / 512 := by
    show 1 * ((2048 * b.val + f.val) / 512 - 0) + 1 * (k.val / 512 - 0) = _; omega
  have hlt : (2048 * b.val + f.val) / 512 < cfg0.N := lt_of_lt_of_eq (by omega : (2048 * b.val + f.val) / 512 < 64) N_0.symm
  have hl : loc6Of (ix2 (⟨2048 * b.val + f.val, by omega⟩ : Fin 32768) k) = ix2 (⟨(2048 * b.val + f.val) % 512, by omega⟩ : Fin 512) k :=
    funext fun a => Fin.ext (by
      match a with
      | ⟨0, _⟩ => rfl
      | ⟨1, _⟩ => show k.val % 512 = k.val; omega)
  unfold G6
  rw [dif_pos (by rw [hp]; exact hlt), hl]
  have key := written m c ⟨(2048 * b.val + f.val) / 512, hlt⟩ ⟨(2048 * b.val + f.val) % 512, by omega⟩ k
  rw [outsAt0_sweep] at key
  have hc := fold0_congr m c (pt6Of (ix2 (⟨2048 * b.val + f.val, by omega⟩ : Fin 32768) k)) (by rw [Nat.zero_add, hp]; exact hlt)
    ((2048 * b.val + f.val) / 512) (by rw [Nat.zero_add]; exact hlt) hp
  rw [hc, key]
  have e1 : (⟨(2048 * b.val + f.val) / 512 / 4, by omega⟩ : Fin 16) = b := Fin.ext (by
    show (2048 * b.val + f.val) / 512 / 4 = b.val; omega)
  have e2 : 512 * ((2048 * b.val + f.val) / 512 % 4) + (2048 * b.val + f.val) % 512 = f.val := by omega
  exact congrArg₂ (fun b f => convOf (P m c) (W m c) (B m c) (G m c) (N m c) b f k) e1 e2

end Cert.Kernel6Ideal.Conv

end
-- ==== Proof.Ref6.lean ====
/-
  Hand-written, untrusted. What the REFERENCE's causal convolution computes, read at one sequence, frame and column, and
  that the kernel's array holds it.
-/
module

public import proofs.«01_k».proof.Proof.ConvArray
public import proofs.«01_k».proof.Proof.Gen.Reference6Ideal.Read
public import Idealize.ShloMosaic.Lib.IdealHost
public import Idealize.ShloMosaic.Lib.KernelVsHost

@[expose] public section

set_option maxRecDepth 16384

noncomputable section

namespace Cert.Reference6Ideal.Conv

open Idealize.ShloMosaic Idealize.SL.Sem
open Cert.Reference6Ideal Cert.Reference6Ideal.Gen Cert.Reference6Ideal.Read
open Cert.Kernel6Ideal.Conv (run silu mean lnorm gateOf padOf tapsOf convOf)

variable (x0 : (⟨S32768x7680, .bf16⟩ : BufTy).Contents (Elt Ideal)) (x1 : (⟨S31x1x512, .f32⟩ : BufTy).Contents (Elt Ideal))
  (x2 x3 x4 : (⟨S512, .f32⟩ : BufTy).Contents (Elt Ideal))

/-- The arrays, by row and column. -/
def Pr (r : Fin 32768) (k : Fin 7680) : EReal := x0 (ix2 r k)
def Wr (j : Fin 31) (k : Fin 512) : EReal := x1 (ix3 j 0 k)

variable (b : Fin 16) (f : Fin 2048) (k : Fin 512)

/-- The gated row of a frame. -/
theorem gate_at : val_main_v11 (F := Ideal) x0 (ix3 b f k) = gateOf (Pr x0) b f k := by
  have hb := b.isLt; have hf := f.isLt; have hk := k.isLt
  have h3 : idx_main_v0 (idx_main_v2 (idx_main_v3 (ix3 b f k))) = ix2 (⟨2048 * b.val + f.val, by omega⟩ : Fin 32768) (⟨5120 + k.val, by omega⟩ : Fin 7680) :=
    funext fun a => Fin.ext (by
      match a with
      | ⟨0, _⟩ => show ((b.val * 2048 + f.val) * 1024 + k.val) / 1024 = 2048 * b.val + f.val; omega
      | ⟨1, _⟩ => show 5120 + ((b.val * 2048 + f.val) * 1024 + k.val) % 1024 = 5120 + k.val; omega)
  have h4 : idx_main_v0 (idx_main_v2 (idx_main_v4 (ix3 b f k))) = ix2 (⟨2048 * b.val + f.val, by omega⟩ : Fin 32768) (⟨5632 + k.val, by omega⟩ : Fin 7680) :=
    funext fun a => Fin.ext (by
      match a with
      | ⟨0, _⟩ => show ((b.val * 2048 + f.val) * 1024 + (512 + k.val)) / 1024 = 2048 * b.val + f.val; omega
      | ⟨1, _⟩ => show 5120 + ((b.val * 2048 + f.val) * 1024 + (512 + k.val)) % 1024 = 5632 + k.val; omega)
  rw [val_main_v11_apply, val_main_v3_apply, val_main_v2_apply, val_main_v1_apply, val_main_v0_apply, h3, val_main_v10_apply, val_main_v9_apply,
    val_main_cst_0_apply, val_main_v8_apply, val_main_v7_apply, val_main_cst_apply, val_main_v6_apply, val_main_v5_apply, val_main_v4_apply,
    val_main_v2_apply, val_main_v1_apply, val_main_v0_apply, h4]
  show Pr x0 _ _ * Ideal.div (Ideal.ofBits .f32 0x3F800000#32) (Ideal.ofBits .f32 0x3F800000#32 + Ideal.exp (-(Pr x0 _ _))) = _
  rw [Ideal.ofBits_one_f32]
  rfl

/-- The rows of zeros before the first frame. -/
theorem pad_at (p : Fin 2078) : val_main_v12 (F := Ideal) x0 (ix3 b p k) = padOf (Pr x0) b p.val k := by
  have hp := p.isLt
  unfold val_main_v12 padOf
  by_cases h : p.val < 30
  · rw [if_pos h]
    refine (pad_apply_of_not_inside _ _ _ _ _ _ _ (ix3 b p k) (1 : Fin 3) (fun hc => absurd (show 30 ≤ p.val from hc.1) (by omega))).trans ?_
    show (((0#32 : BitVec 32).toInt : ℝ) : EReal) = 0
    simp
  · rw [if_neg h, dif_pos (by omega)]
    refine (pad_apply_of_inside _ _ _ _ _ _ _ (ix3 b p k) (ix3 b (⟨p.val - 30, by omega⟩ : Fin 2048) k) (fun a => ?_)).trans (gate_at x0 b _ k)
    match a with
    | ⟨0, _⟩ => show b.val = 0 + b.val * (0 + 1); omega
    | ⟨1, _⟩ => show p.val = 30 + (p.val - 30) * (0 + 1); omega
    | ⟨2, _⟩ => show k.val = 0 + k.val * (0 + 1); omega

/-! ## The taps, added one at a time -/

/-- The product of one tap. -/
def tapOf (j : ℕ) : EReal := padOf (Pr x0) b (f.val + j) k * Wr x1 ⟨j % 31, Nat.mod_lt _ (by decide)⟩ k

/-- One tap more: the products of the rows `j` places later with the tap's row of weights. -/
theorem tap (j : ℕ) (hj : j < 31) (hs : S16x2078x512.Slices ![0, j, 0] S16x2048x512) (hw : S31x1x512.Slices ![j, 0, 0] S1x1x512)
    (acc : FVec Ideal S16x2048x512 .f32) (ha : acc (ix3 b f k) = run (tapOf x0 x1 b f k) j) :
    addf acc (mulf (extractStridedSlice S16x2048x512 ![0, j, 0] (val_main_v12 (F := Ideal) x0) hs)
      (broadcastInDim S16x2048x512 ![0, 1, 2] bcast_S1x1x512_S16x2048x512_0_1_2 (broadcastInDim S1x1x512 ![2] bcast_S512_S1x1x512_2
        (shapeCast S512 (extractStridedSlice S1x1x512 ![j, 0, 0] x1 hw) shapeCasts_S1x1x512_S512)))) (ix3 b f k)
      = run (tapOf x0 x1 b f k) (j + 1) := by
  have hf := f.isLt
  have ez : extractStridedSlice S16x2048x512 ![0, j, 0] (val_main_v12 (F := Ideal) x0) hs (ix3 b f k) = padOf (Pr x0) b (f.val + j) k := by
    refine (extractStridedSlice_apply ![0, j, 0] _ hs (ix3 b f k) (ix3 b (⟨f.val + j, by omega⟩ : Fin 2078) k) (fun a => ?_)).trans (pad_at x0 b k _)
    match a with
    | ⟨0, _⟩ => show b.val = 0 + b.val; omega
    | ⟨1, _⟩ => show f.val + j = j + f.val; omega
    | ⟨2, _⟩ => show k.val = 0 + k.val; omega
  have ew : broadcastInDim S16x2048x512 ![0, 1, 2] bcast_S1x1x512_S16x2048x512_0_1_2 (broadcastInDim S1x1x512 ![2] bcast_S512_S1x1x512_2
      (shapeCast S512 (extractStridedSlice S1x1x512 ![j, 0, 0] x1 hw) shapeCasts_S1x1x512_S512)) (ix3 b f k) = Wr x1 ⟨j % 31, Nat.mod_lt _ (by decide)⟩ k := by
    refine (broadcastInDim_apply _ _ _ (ix3 b f k) (ix3 0 0 k : S1x1x512.Idx) (fun a => ?_)).trans ?_
    · match a with | ⟨0, _⟩ => rfl | ⟨1, _⟩ => rfl | ⟨2, _⟩ => rfl
    refine (broadcastInDim_apply _ _ _ (ix3 0 0 k : S1x1x512.Idx) (ix1 k : S512.Idx) (fun a => ?_)).trans ?_
    · match a with | ⟨0, _⟩ => rfl
    refine (shapeCast_apply _ _ (ix1 k : S512.Idx) (ix3 0 0 k : S1x1x512.Idx) ?_).trans ?_
    · show (S1x1x512.rowMajor (ix3 0 0 k)).val = (S512.rowMajor (ix1 k)).val
      rw [Shape.rowMajor_val_three, Shape.rowMajor_val_one]; show (0 * 1 + 0) * 512 + k.val = k.val; omega
    refine extractStridedSlice_apply ![j, 0, 0] x1 hw (ix3 0 0 k) (ix3 (⟨j % 31, Nat.mod_lt _ (by decide)⟩ : Fin 31) 0 k) (fun a => ?_)
    match a with
    | ⟨0, _⟩ => show j % 31 = j + 0; omega
    | ⟨1, _⟩ => rfl
    | ⟨2, _⟩ => show k.val = 0 + k.val; omega
  show acc (ix3 b f k) + _ * _ = run (tapOf x0 x1 b f k) j + tapOf x0 x1 b f k j
  rw [ha, ez, ew]
  rfl

/-- All the taps, from zero. -/
theorem taps_at : val_main_v230 (F := Ideal) x0 x1 (ix3 b f k) = tapsOf (Pr x0) (Wr x1) b f.val k := by
  have t := tap x0 x1 b f k
  have z : val_main_v19 (F := Ideal) (ix3 b f k) = run (tapOf x0 x1 b f k) 0 := by rw [val_main_v19_apply, val_main_cst_1_apply]; rfl
  exact t 30 (by decide) _ _ _ <| t 29 (by decide) _ _ _ <| t 28 (by decide) _ _ _ <| t 27 (by decide) _ _ _ <| t 26 (by decide) _ _ _ <|
    t 25 (by decide) _ _ _ <| t 24 (by decide) _ _ _ <| t 23 (by decide) _ _ _ <| t 22 (by decide) _ _ _ <| t 21 (by decide) _ _ _ <|
    t 20 (by decide) _ _ _ <| t 19 (by decide) _ _ _ <| t 18 (by decide) _ _ _ <| t 17 (by decide) _ _ _ <| t 16 (by decide) _ _ _ <|
    t 15 (by decide) _ _ _ <| t 14 (by decide) _ _ _ <| t 13 (by decide) _ _ _ <| t 12 (by decide) _ _ _ <| t 11 (by decide) _ _ _ <|
    t 10 (by decide) _ _ _ <| t 9 (by decide) _ _ _ <| t 8 (by decide) _ _ _ <| t 7 (by decide) _ _ _ <| t 6 (by decide) _ _ _ <|
    t 5 (by decide) _ _ _ <| t 4 (by decide) _ _ _ <| t 3 (by decide) _ _ _ <| t 2 (by decide) _ _ _ <| t 1 (by decide) _ _ _ <|
    t 0 (by decide) _ _ _ z

/-! ## The bias, the norm and the gate -/

/-- The convolved row with its bias. -/
def rowOf (a : Fin 512) : EReal := tapsOf (Pr x0) (Wr x1) b f.val a + x2 (ix1 a)

/-- The convolved row. -/
theorem v233_at : val_main_v233 (F := Ideal) x0 x1 x2 (ix3 b f k) = rowOf x0 x1 x2 b f k := by
  have h : idx_main_v231 (idx_main_v232 (ix3 b f k)) = ix1 k := funext fun a => by match a with | ⟨0, _⟩ => rfl
  rw [val_main_v233_apply, taps_at, val_main_v232_apply, val_main_v231_apply, h]
  rfl

/-- Its mean, -/
theorem mean_at : val_main_v237 (F := Ideal) x0 x1 x2 (ix3 b f 0) = mean (rowOf x0 x1 x2 b f) := by
  have h : idx_main_v235 (ix3 b f 0) = ix2 b f := funext fun a => by match a with | ⟨0, _⟩ => rfl | ⟨1, _⟩ => rfl
  have hs : val_main_v234 (F := Ideal) x0 x1 x2 (ix2 b f) = ∑ a : Fin 512, rowOf x0 x1 x2 b f a := by
    rw [val_main_v234_apply, val_main_cst_2_apply]
    refine (congrArg (· + _) (show FloatOps.ofBits (F := Ideal) .f32 0x00000000#32 = 0 from Ideal.ofBits_zero_f32)).trans ?_
    rw [zero_add]
    refine Finset.sum_congr rfl fun a _ => ?_
    have hi : idx_main_v234 (ix2 b f) a = ix3 b f a := funext fun d => by match d with | ⟨0, _⟩ => rfl | ⟨1, _⟩ => rfl | ⟨2, _⟩ => rfl
    rw [hi, v233_at]
  rw [val_main_v237_apply, val_main_v235_apply, h, hs, val_main_v236_apply, val_main_cst_3_apply]
  rfl

/-- its distance from the mean, -/
theorem v239_at : val_main_v239 (F := Ideal) x0 x1 x2 (ix3 b f k) = rowOf x0 x1 x2 b f k - mean (rowOf x0 x1 x2 b f) := by
  have h : idx_main_v238 (ix3 b f k) = ix3 b f 0 := funext fun a => by match a with | ⟨0, _⟩ => rfl | ⟨1, _⟩ => rfl | ⟨2, _⟩ => rfl
  rw [val_main_v239_apply, v233_at, val_main_v238_apply, h, mean_at]
  rfl

/-- its variance, -/
theorem var_at : val_main_v244 (F := Ideal) x0 x1 x2 (ix3 b f 0)
    = mean (fun a => (rowOf x0 x1 x2 b f a - mean (rowOf x0 x1 x2 b f)) * (rowOf x0 x1 x2 b f a - mean (rowOf x0 x1 x2 b f))) := by
  have h : idx_main_v242 (ix3 b f 0) = ix2 b f := funext fun a => by match a with | ⟨0, _⟩ => rfl | ⟨1, _⟩ => rfl
  have hs : val_main_v241 (F := Ideal) x0 x1 x2 (ix2 b f)
      = ∑ a : Fin 512, (rowOf x0 x1 x2 b f a - mean (rowOf x0 x1 x2 b f)) * (rowOf x0 x1 x2 b f a - mean (rowOf x0 x1 x2 b f)) := by
    rw [val_main_v241_apply, val_main_cst_4_apply]
    refine (congrArg (· + _) (show FloatOps.ofBits (F := Ideal) .f32 0x00000000#32 = 0 from Ideal.ofBits_zero_f32)).trans ?_
    rw [zero_add]
    refine Finset.sum_congr rfl fun a _ => ?_
    have hi : idx_main_v241 (ix2 b f) a = ix3 b f a := funext fun d => by match d with | ⟨0, _⟩ => rfl | ⟨1, _⟩ => rfl | ⟨2, _⟩ => rfl
    rw [hi, val_main_v240_apply, v239_at]
    rfl
  rw [val_main_v244_apply, val_main_v242_apply, h, hs, val_main_v243_apply, val_main_cst_5_apply]
  rfl

/-- its norm. -/
theorem norm_at : val_main_v257 (F := Ideal) x0 x1 x2 x3 x4 (ix3 b f k) = lnorm (rowOf x0 x1 x2 b f) (x3 (ix1 k)) (x4 (ix1 k)) k := by
  have h5 : idx_main_v245 (ix3 b f k) = ix3 b f 0 := funext fun a => by match a with | ⟨0, _⟩ => rfl | ⟨1, _⟩ => rfl | ⟨2, _⟩ => rfl
  have h0 : idx_main_v250 (ix3 b f k) = ix3 b f 0 := funext fun a => by match a with | ⟨0, _⟩ => rfl | ⟨1, _⟩ => rfl | ⟨2, _⟩ => rfl
  have hg : idx_main_v252 (idx_main_v253 (ix3 b f k)) = ix1 k := funext fun a => by match a with | ⟨0, _⟩ => rfl
  have hn : idx_main_v255 (idx_main_v256 (ix3 b f k)) = ix1 k := funext fun a => by match a with | ⟨0, _⟩ => rfl
  rw [val_main_v257_apply, val_main_v254_apply, val_main_v251_apply, val_main_v246_apply, v233_at, val_main_v245_apply, h5, mean_at,
    val_main_v250_apply, h0, val_main_v249_apply, val_main_v248_apply, var_at, val_main_v247_apply, val_main_cst_6_apply,
    val_main_v253_apply, val_main_v252_apply, hg, val_main_v256_apply, val_main_v255_apply, hn]
  rfl

/-- THE RESULT at frame `f` of sequence `b`, column `k`. -/
theorem result : val_main_v260 (F := Ideal) x0 x1 x2 x3 x4 (ix2 (⟨2048 * b.val + f.val, by omega⟩ : Fin 32768) k)
    = convOf (Pr x0) (Wr x1) (fun a => x2 (ix1 a)) (fun a => x3 (ix1 a)) (fun a => x4 (ix1 a)) b f.val k := by
  have hb := b.isLt; have hf := f.isLt; have hk := k.isLt
  have hi : idx_main_v260 (ix2 (⟨2048 * b.val + f.val, by omega⟩ : Fin 32768) k) = ix3 b f k := funext fun a => Fin.ext (by
    match a with
    | ⟨0, _⟩ => show ((2048 * b.val + f.val) * 512 + k.val) / 1048576 = b.val; omega
    | ⟨1, _⟩ => show ((2048 * b.val + f.val) * 512 + k.val) / 512 % 2048 = f.val; omega
    | ⟨2, _⟩ => show ((2048 * b.val + f.val) * 512 + k.val) % 512 = k.val; omega)
  rw [val_main_v260_apply, hi, val_main_v259_apply, val_main_v258_apply, val_main_call1_v5_apply, val_main_call1_v4_apply, val_main_call1_cst_0_apply,
    val_main_call1_v3_apply, val_main_call1_v2_apply, val_main_call1_cst_apply, val_main_call1_v1_apply, val_main_call1_v0_apply, norm_at]
  generalize hY : lnorm (rowOf x0 x1 x2 b f) (x3 (ix1 k)) (x4 (ix1 k)) k = Y
  show Y * Ideal.div (Ideal.ofBits .f32 0x3F800000#32) (Ideal.ofBits .f32 0x3F800000#32 + Ideal.exp (-Y)) = _
  rw [Ideal.ofBits_one_f32, ← hY]
  rfl

/-- Every entry of the kernel's array is the reference's. -/
theorem equal (m : (ℓ : Loc Cert.Kernel6Ideal.nD Cert.Kernel6Ideal.τ Cert.Kernel6Ideal.sig) → Buf (Elt Ideal) ℓ) (c : Dev Cert.Kernel6Ideal.nD) :
    val_main_v260 (F := Ideal) (m ((c.tc : Thread Cert.Kernel6Ideal.nD Cert.Kernel6Ideal.τ).loc Cert.Kernel6Ideal.main_arg0))
        (m ((c.tc : Thread Cert.Kernel6Ideal.nD Cert.Kernel6Ideal.τ).loc Cert.Kernel6Ideal.main_arg1))
        (m ((c.tc : Thread Cert.Kernel6Ideal.nD Cert.Kernel6Ideal.τ).loc Cert.Kernel6Ideal.main_arg2))
        (m ((c.tc : Thread Cert.Kernel6Ideal.nD Cert.Kernel6Ideal.τ).loc Cert.Kernel6Ideal.main_arg3))
        (m ((c.tc : Thread Cert.Kernel6Ideal.nD Cert.Kernel6Ideal.τ).loc Cert.Kernel6Ideal.main_arg4))
      = Cert.Kernel6Ideal.Value.G6 m c := by
  funext i
  have h0 : (i 0).val < 32768 := (i 0).isLt
  have hi : i = ix2 (⟨2048 * (⟨(i 0).val / 2048, by omega⟩ : Fin 16).val + (⟨(i 0).val % 2048, by omega⟩ : Fin 2048).val,
      by show 2048 * ((i 0).val / 2048) + (i 0).val % 2048 < 32768; omega⟩ : Fin 32768) (i 1 : Fin 512) := funext fun a => Fin.ext (by
    match a with
    | ⟨0, _⟩ => show (i 0).val = 2048 * ((i 0).val / 2048) + (i 0).val % 2048; omega
    | ⟨1, _⟩ => rfl)
  rw [hi]
  refine (result _ _ _ _ _ ⟨(i 0).val / 2048, by omega⟩ ⟨(i 0).val % 2048, by omega⟩ (i 1)).trans ?_
  exact (Cert.Kernel6Ideal.Conv.array m c ⟨(i 0).val / 2048, by omega⟩ ⟨(i 0).val % 2048, by omega⟩ (i 1)).symm

end Cert.Reference6Ideal.Conv

end
-- ==== Proof.lean ====
/-
  Hand-written, untrusted. The proof of `Cert.Claim` (proof/Defs.lean): the frames of the programs, the named constants, and
  the equality of each kernel call's result with the reference's: the retention (Proof/Equal.lean), the normed first
  projection (Proof/Ref2.lean), the experts (Proof/Expert/Ref3.lean), the merge of the branches (Proof/Ref4.lean),
  the modulation (Proof/Ref5.lean), the causal convolution (Proof/Ref6.lean).
-/
module

public import proofs.«01_k».proof.Defs
public import proofs.«01_k».proof.Proof.Gen.Kernel.Frame
public import proofs.«01_k».proof.Proof.Gen.KernelIdeal.Frame
public import proofs.«01_k».proof.Proof.Equal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Ref2
public import proofs.«01_k».proof.Proof.Gen.Kernel3
public import proofs.«01_k».proof.Proof.Gen.Kernel3Ideal.Launch
public import proofs.«01_k».proof.Proof.Gen.Kernel3Ideal.Skeleton
public import proofs.«01_k».proof.Proof.Gen.Reference3Ideal.Run
public import proofs.«01_k».proof.Proof.Gen.Reference3Ideal.Read
public import proofs.«01_k».proof.Proof.Gen.Pre_tables
public import proofs.«01_k».proof.Proof.Expert.Ref3
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Ref4
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_conditioning
public import proofs.«01_k».proof.Proof.Ref5
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Ref6

@[expose] public section

noncomputable section

namespace Cert.Proof

open Idealize.ShloMosaic Idealize.SL.Sem

/-- The reference runs, its arguments end unchanged and, as it declares none, every semaphore counter is at zero. -/
theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- The constants named in the idealized kernel are those it was printed with. -/
theorem preserves : Cert.preserves_Kernel_KernelIdeal :=
  ⟨IdealRules.named_const.statement Cert.KernelIdeal.κ "lg0" .f32 0xBD020AEC#32 _ rfl,
    IdealRules.named_const.statement Cert.KernelIdeal.κ "lg1" .f32 0xBC8102B3#32 _ rfl,
    IdealRules.named_const.statement Cert.KernelIdeal.κ "lg2" .f32 0xBC0080AC#32 _ rfl,
    IdealRules.named_const.statement Cert.KernelIdeal.κ "lg3" .f32 0xBB80402B#32 _ rfl,
    IdealRules.named_const.statement Cert.KernelIdeal.κ "gc0" .f32 0x399ACCA1#32 _ rfl,
    IdealRules.named_const.statement Cert.KernelIdeal.κ "gc1" .f32 0x3C9160A5#32 _ rfl,
    IdealRules.named_const.statement Cert.KernelIdeal.κ "gc2" .f32 0x3E097FCE#32 _ rfl,
    IdealRules.named_const.statement Cert.KernelIdeal.κ "gc3" .f32 0x3EBBFC5D#32 _ rfl⟩

/-- From equal arguments the idealized kernel and the reference end with the same retention. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.KernelIdeal.Value.G6 m c, Cert.KernelIdeal.Value.run (F := Ideal) m g, ?_⟩
  refine (θ_run (Cert.ReferenceIdeal.defs (F := Ideal)) _ _).mono (fun r h c => ?_) (Cert.ReferenceIdeal.Value.run (F := Ideal) m' g')
  obtain ⟨hv, h0, h1, h2⟩ := h c
  refine ⟨hv.trans ?_, h0, h1, h2⟩
  rw [Cert.ReferenceIdeal.Read.val_main_v97_eq, (hargs c).1, (hargs c).2.1, (hargs c).2.2]
  exact Cert.Retention.equal m c (hpre c)

/-- The reference of the first projection likewise. -/
theorem frame_reference2 : Cert.quiescent_Reference2Ideal (hReference2Ideal := Cert.Reference2Ideal.Gen.facts) := fun m g _ =>
  (θ_run (Cert.Reference2Ideal.defs (F := Ideal)) _ _).mono (fun r h => ⟨fun c => (h c).2, sem_eq_zero_of_no_sems (by decide) r.2⟩)
    (Cert.Reference2Ideal.Value.run (F := Ideal) m g)

/-- From equal arguments the idealized kernel and the reference end with the same first projection. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Value.G4 m c, Cert.Kernel2Ideal.Value.run (F := Ideal) m g, ?_⟩
  refine (θ_run (Cert.Reference2Ideal.defs (F := Ideal)) _ _).mono (fun r h c => ?_) (Cert.Reference2Ideal.Value.run (F := Ideal) m' g')
  obtain ⟨hv, h0, h1, h2, h3⟩ := h c
  refine ⟨hv.trans ?_, h0, h1, h2, h3⟩
  rw [Cert.Reference2Ideal.Read.val_main_v28_eq, (hargs c).1, (hargs c).2.1, (hargs c).2.2.1, (hargs c).2.2.2]
  exact Cert.Reference2Ideal.Proj.equal m c

/-- The precondition says what the experts' proofs assume of the tables. -/
theorem tables_of {F : FTy → Type} [FloatOps F] (m : (ℓ : Loc Cert.Kernel3Ideal.nD Cert.Kernel3Ideal.τ Cert.Kernel3Ideal.sig) → Buf (Elt F) ℓ)
    {x0 x3 x4} (h : (Cert.Pre_tables.fn (F := F) x0 (m (((0 : Dev Cert.Kernel3Ideal.nD).tc : Thread Cert.Kernel3Ideal.nD Cert.Kernel3Ideal.τ).loc Cert.Kernel3Ideal.main_arg1))
        (m (((0 : Dev Cert.Kernel3Ideal.nD).tc : Thread Cert.Kernel3Ideal.nD Cert.Kernel3Ideal.τ).loc Cert.Kernel3Ideal.main_arg2)) x3 x4).1 = (fun _ => 1#1)
      ∧ (Cert.Pre_tables.fn (F := F) x0 (m (((0 : Dev Cert.Kernel3Ideal.nD).tc : Thread Cert.Kernel3Ideal.nD Cert.Kernel3Ideal.τ).loc Cert.Kernel3Ideal.main_arg1))
        (m (((0 : Dev Cert.Kernel3Ideal.nD).tc : Thread Cert.Kernel3Ideal.nD Cert.Kernel3Ideal.τ).loc Cert.Kernel3Ideal.main_arg2)) x3 x4).2 = fun _ => 1#1) :
    Cert.Expert.Tables m :=
  ⟨fun k hk => Cert.Expert.experts_of _ _ _ _ _ h.1 k hk, Cert.Expert.count_of _ _ _ _ _ h.2⟩

/-- The expert call's bodies are the idealized one's, which has the same text. -/
theorem bodies_kernel3 : Cert.Kernel3.defs₀ (F := Bits) = Cert.Kernel3Ideal.defs₀ (F := Bits) := by
  unfold Cert.Kernel3.defs₀ Cert.Kernel3Ideal.defs₀
  refine congrArg _ ?_
  funext l
  match l with
  | 0 =>
    funext x
    obtain ⟨t, s⟩ := x
    rfl

theorem defs_kernel3 : Cert.Kernel3.defs (F := Bits) = Cert.Kernel3Ideal.defs (F := Bits) := by
  unfold Cert.Kernel3.defs Cert.Kernel3Ideal.defs
  exact congrArg (Pipeline.defs (Cert.Kernel3Ideal.pcfgs (F := Bits))) bodies_kernel3

/-- The expert call runs, its arguments end unchanged and every semaphore counter at zero. -/
theorem frame_kernel3 : Cert.quiescent_Kernel3 (hKernel3 := Cert.Kernel3.Gen.facts) (hPre_tables := Cert.Pre_tables.Gen.facts) := fun m g hp => by
  have h := Cert.Expert.frame (F := Bits) m g (Cert.Expert.ok_of m (tables_of m (hp 0)))
  rw [← defs_kernel3] at h
  exact h

theorem frame_kernel3_ideal : Cert.quiescent_Kernel3Ideal (hKernel3Ideal := Cert.Kernel3Ideal.Gen.facts) (hPre_tables := Cert.Pre_tables.Gen.facts) := fun m g hp =>
  Cert.Expert.frame (F := Ideal) m g (Cert.Expert.ok_of m (tables_of m (hp 0)))

/-- The reference of the experts. -/
theorem frame_reference3 : Cert.quiescent_Reference3Ideal (hReference3Ideal := Cert.Reference3Ideal.Gen.facts) (hPre_tables := Cert.Pre_tables.Gen.facts) := fun m g _ =>
  (θ_run (Cert.Reference3Ideal.defs (F := Ideal)) _ _).mono (fun r h => ⟨fun c => (h c).2, sem_eq_zero_of_no_sems (by decide) r.2⟩)
    (Cert.Reference3Ideal.Value.run (F := Ideal) m g)

/-- From equal arguments, with tables that name experts and some rows, the idealized kernel and the reference end with the same rows. -/
theorem algebraic3 : Cert.algebraic_Kernel3Ideal_Reference3Ideal (hKernel3Ideal := Cert.Kernel3Ideal.Gen.facts)
    (hReference3Ideal := Cert.Reference3Ideal.Gen.facts) (hPre_tables := Cert.Pre_tables.Gen.facts) := by
  intro m g m' g' hpre hargs
  have hT : Cert.Expert.Tables m := tables_of m (hpre 0)
  have hO := Cert.Expert.ok_of m hT
  refine ⟨fun c => Cert.Expert.G m hO c, Cert.Expert.run m g hO, ?_⟩
  refine (θ_run (Cert.Reference3Ideal.defs (F := Ideal)) _ _).mono (fun r h c => ?_) (Cert.Reference3Ideal.Value.run (F := Ideal) m' g')
  obtain ⟨hv, h0, h1, h2, h3, h4⟩ := h c
  refine ⟨hv.trans ?_, h0, h1, h2, h3, h4⟩
  rw [Cert.Reference3Ideal.Read.val_main_v53_eq, (hargs c).1, (hargs c).2.1, (hargs c).2.2.1, (hargs c).2.2.2.1, (hargs c).2.2.2.2]
  exact Cert.Reference3Ideal.Expert.equal m c hT hO

/-- The reference of the merge. -/
theorem frame_reference4 : Cert.quiescent_Reference4Ideal (hReference4Ideal := Cert.Reference4Ideal.Gen.facts) := fun m g _ =>
  (θ_run (Cert.Reference4Ideal.defs (F := Ideal)) _ _).mono (fun r h => ⟨fun c => (h c).2.2, sem_eq_zero_of_no_sems (by decide) r.2⟩)
    (Cert.Reference4Ideal.Value.run (F := Ideal) m g)

/-- From equal arguments the idealized kernel and the reference end with the same new frames and the same norms of them. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Value.G16 m c, fun c => Cert.Kernel4Ideal.Value.G17 m c,
    (θ_run (Cert.Kernel4Ideal.defs (F := Ideal)) _ _).mono (fun r h c => ⟨(h c).1, (h c).2.1, (h c).2.2.2.2⟩)
      (Cert.Kernel4Ideal.Value.run (F := Ideal) m g), ?_⟩
  refine (θ_run (Cert.Reference4Ideal.defs (F := Ideal)) _ _).mono (fun r h c => ?_) (Cert.Reference4Ideal.Value.run (F := Ideal) m' g')
  obtain ⟨hx, hh, hkept⟩ := h c
  obtain ⟨h0, h1, h2, h3, h4, h5, h6, h7, h8, h9, h10, h11, -⟩ := hargs c
  refine ⟨hx.trans ?_, hh.trans ?_, hkept⟩
  · rw [Cert.Reference4Ideal.Read.val_main_v62_eq, h0, h1, h2, h3, h4, h5, h6, h7, h8, h9, h10]
    exact Cert.Reference4Ideal.Merge.equal_x m c
  · rw [Cert.Reference4Ideal.Read.val_main_v64_eq, h0, h1, h2, h3, h4, h5, h6, h7, h8, h9, h10, h11]
    exact Cert.Reference4Ideal.Merge.equal_h m c

/-- The reference of the modulation. -/
theorem frame_reference5 : Cert.quiescent_Reference5Ideal (hReference5Ideal := Cert.Reference5Ideal.Gen.facts) := fun m g _ =>
  (θ_run (Cert.Reference5Ideal.defs (F := Ideal)) _ _).mono (fun r h => ⟨fun c => (h c).2, sem_eq_zero_of_no_sems (by decide) r.2⟩)
    (Cert.Reference5Ideal.Value.run (F := Ideal) m g)

/-- From equal arguments, the conditioning and the weights numbers, the idealized kernel and the reference end with the same
    modulation. -/
theorem algebraic5 : Cert.algebraic_Kernel5Ideal_Reference5Ideal_pre_conditioning (hKernel5Ideal := Cert.Kernel5Ideal.Gen.facts)
    (hReference5Ideal := Cert.Reference5Ideal.Gen.facts) (hPre_conditioning := Cert.Pre_conditioning.Gen.facts) := by
  intro m g m' g' hpre hargs
  refine ⟨fun c => (Cert.Kernel5Ideal.Gen.dats m 0 c).arrAt 3 Cert.Kernel5Ideal.cfg0.N, Cert.Kernel5Ideal.Value.run_blocks (F := Ideal) m g, ?_⟩
  refine (θ_run (Cert.Reference5Ideal.defs (F := Ideal)) _ _).mono (fun r h c => ?_) (Cert.Reference5Ideal.Value.run (F := Ideal) m' g')
  obtain ⟨hv, h0, h1, h2⟩ := h c
  refine ⟨hv.trans ?_, h0, h1, h2⟩
  rw [Cert.Reference5Ideal.Read.val_main_v20_eq, (hargs c).1, (hargs c).2.1, (hargs c).2.2]
  exact Cert.Reference5Ideal.Adaln.equal m c (hpre c)

/-- The reference of the convolution. -/
theorem frame_reference6 : Cert.quiescent_Reference6Ideal (hReference6Ideal := Cert.Reference6Ideal.Gen.facts) := fun m g _ =>
  (θ_run (Cert.Reference6Ideal.defs (F := Ideal)) _ _).mono (fun r h => ⟨fun c => (h c).2, sem_eq_zero_of_no_sems (by decide) r.2⟩)
    (Cert.Reference6Ideal.Value.run (F := Ideal) m g)

/-- From equal arguments the idealized kernel and the reference end with the same convolved frames. -/
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Value.G6 m c, Cert.Kernel6Ideal.Value.run (F := Ideal) m g, ?_⟩
  refine (θ_run (Cert.Reference6Ideal.defs (F := Ideal)) _ _).mono (fun r h c => ?_) (Cert.Reference6Ideal.Value.run (F := Ideal) m' g')
  obtain ⟨hv, hk⟩ := h c
  refine ⟨hv.trans ?_, hk⟩
  obtain ⟨h0, h1, h2, h3, h4⟩ := hargs c
  rw [Cert.Reference6Ideal.Read.val_main_v260_eq]
  show Cert.Reference6Ideal.Read.val_main_v260 (F := Ideal) (m' ((c.tc : Thread Cert.Reference6Ideal.nD Cert.Reference6Ideal.τ).loc Cert.Reference6Ideal.main_arg0))
    (m' ((c.tc : Thread Cert.Reference6Ideal.nD Cert.Reference6Ideal.τ).loc Cert.Reference6Ideal.main_arg1))
    (m' ((c.tc : Thread Cert.Reference6Ideal.nD Cert.Reference6Ideal.τ).loc Cert.Reference6Ideal.main_arg2))
    (m' ((c.tc : Thread Cert.Reference6Ideal.nD Cert.Reference6Ideal.τ).loc Cert.Reference6Ideal.main_arg3))
    (m' ((c.tc : Thread Cert.Reference6Ideal.nD Cert.Reference6Ideal.τ).loc Cert.Reference6Ideal.main_arg4)) = _
  rw [h0, h1, h2, h3, h4]
  exact Cert.Reference6Ideal.Conv.equal m c

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Pre_finite.Gen.facts, Cert.Pre_tables.Gen.facts, Cert.Pre_conditioning.Gen.facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.Kernel2.Gen.frame m g, fun m g _ => Cert.Kernel2Ideal.Gen.frame m g, frame_reference2,
    frame_kernel3, frame_kernel3_ideal, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, fun m g _ => Cert.Kernel5Ideal.Gen.frame m g,
    frame_reference5, fun m g _ => frame_reference5 m g trivial,
    fun m g _ => Cert.Kernel6.Gen.frame m g, fun m g _ => Cert.Kernel6Ideal.Gen.frame m g, frame_reference6,
    preserves, algebraic, trivial, algebraic2, trivial, algebraic3, trivial, algebraic4, trivial, algebraic5,
    trivial, algebraic6⟩

end Cert.Proof

end
